-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latent [hPre_finite_latent : Cert.Pre_finite_latent.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))) = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite_latent [hPre_finite_latent : Cert.Pre_finite_latent.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpFirst (m : (ℓ : Loc Cert.UpFirst.nD Cert.UpFirst.τ Cert.UpFirst.sig) → Buf (Elt Bits) ℓ) : Prop :=
  True

def Pre_UpFirstIdeal (m : (ℓ : Loc Cert.UpFirstIdeal.nD Cert.UpFirstIdeal.τ Cert.UpFirstIdeal.sig) → Buf (Elt Ideal) ℓ) : Prop :=
  True

def Pre_UpFirstReferenceIdeal (m : (ℓ : Loc Cert.UpFirstReferenceIdeal.nD Cert.UpFirstReferenceIdeal.τ Cert.UpFirstReferenceIdeal.sig) → Buf (Elt Ideal) ℓ) : Prop :=
  True

def Pre_UpSecond (m : (ℓ : Loc Cert.UpSecond.nD Cert.UpSecond.τ Cert.UpSecond.sig) → Buf (Elt Bits) ℓ) : Prop :=
  True

def Pre_UpSecondIdeal (m : (ℓ : Loc Cert.UpSecondIdeal.nD Cert.UpSecondIdeal.τ Cert.UpSecondIdeal.sig) → Buf (Elt Ideal) ℓ) : Prop :=
  True

def Pre_UpSecondReferenceIdeal (m : (ℓ : Loc Cert.UpSecondReferenceIdeal.nD Cert.UpSecondReferenceIdeal.τ Cert.UpSecondReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentIdeal_pre_finite_latent [hLatentIdeal : Cert.LatentIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latent m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3))
      ∧ r.2.sem = fun _ => 0)

def quiescent_LatentReferenceIdeal_pre_finite_latent [hLatentReferenceIdeal : Cert.LatentReferenceIdeal.Facts] [hPre_finite_latent : Cert.Pre_finite_latent.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite_latent m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_UpFirst [hUpFirst : Cert.UpFirst.Facts] : Prop :=
  ∀ (m : (ℓ : Loc Cert.UpFirst.nD Cert.UpFirst.τ Cert.UpFirst.sig) → Buf (Elt Bits) ℓ) (g : Dev Cert.UpFirst.nD → PrngReg), Pre_UpFirst m →
    θ_run (Cert.UpFirst.defs (F := Bits)) (onTc (τ := Cert.UpFirst.τ) (Cert.UpFirst.main (F := Bits))) ⟨m, fun _ => 0, g⟩ (fun r => (∀ c : Dev Cert.UpFirst.nD,
      r.2.mem ((c.tc : Thread Cert.UpFirst.nD Cert.UpFirst.τ).loc Cert.UpFirst.main_arg0) = m ((c.tc : Thread Cert.UpFirst.nD Cert.UpFirst.τ).loc Cert.UpFirst.main_arg0)
      ∧ r.2.mem ((c.tc : Thread Cert.UpFirst.nD Cert.UpFirst.τ).loc Cert.UpFirst.main_arg1) = m ((c.tc : Thread Cert.UpFirst.nD Cert.UpFirst.τ).loc Cert.UpFirst.main_arg1)
      ∧ r.2.mem ((c.tc : Thread Cert.UpFirst.nD Cert.UpFirst.τ).loc Cert.UpFirst.main_arg2) = m ((c.tc : Thread Cert.UpFirst.nD Cert.UpFirst.τ).loc Cert.UpFirst.main_arg2))
      ∧ r.2.sem = fun _ => 0)

def quiescent_UpFirstIdeal [hUpFirstIdeal : Cert.UpFirstIdeal.Facts] : Prop :=
  ∀ (m : (ℓ : Loc Cert.UpFirstIdeal.nD Cert.UpFirstIdeal.τ Cert.UpFirstIdeal.sig) → Buf (Elt Ideal) ℓ) (g : Dev Cert.UpFirstIdeal.nD → PrngReg), Pre_UpFirstIdeal m →
    θ_run (Cert.UpFirstIdeal.defs (F := Ideal)) (onTc (τ := Cert.UpFirstIdeal.τ) (Cert.UpFirstIdeal.main (F := Ideal))) ⟨m, fun _ => 0, g⟩ (fun r => (∀ c : Dev Cert.UpFirstIdeal.nD,
      r.2.mem ((c.tc : Thread Cert.UpFirstIdeal.nD Cert.UpFirstIdeal.τ).loc Cert.UpFirstIdeal.main_arg0) = m ((c.tc : Thread Cert.UpFirstIdeal.nD Cert.UpFirstIdeal.τ).loc Cert.UpFirstIdeal.main_arg0)
      ∧ r.2.mem ((c.tc : Thread Cert.UpFirstIdeal.nD Cert.UpFirstIdeal.τ).loc Cert.UpFirstIdeal.main_arg1) = m ((c.tc : Thread Cert.UpFirstIdeal.nD Cert.UpFirstIdeal.τ).loc Cert.UpFirstIdeal.main_arg1)
      ∧ r.2.mem ((c.tc : Thread Cert.UpFirstIdeal.nD Cert.UpFirstIdeal.τ).loc Cert.UpFirstIdeal.main_arg2) = m ((c.tc : Thread Cert.UpFirstIdeal.nD Cert.UpFirstIdeal.τ).loc Cert.UpFirstIdeal.main_arg2))
      ∧ r.2.sem = fun _ => 0)

def quiescent_UpFirstReferenceIdeal [hUpFirstReferenceIdeal : Cert.UpFirstReferenceIdeal.Facts] : Prop :=
  ∀ (m : (ℓ : Loc Cert.UpFirstReferenceIdeal.nD Cert.UpFirstReferenceIdeal.τ Cert.UpFirstReferenceIdeal.sig) → Buf (Elt Ideal) ℓ) (g : Dev Cert.UpFirstReferenceIdeal.nD → PrngReg), Pre_UpFirstReferenceIdeal m →
    θ_run (Cert.UpFirstReferenceIdeal.defs (F := Ideal)) (onTc (τ := Cert.UpFirstReferenceIdeal.τ) (Cert.UpFirstReferenceIdeal.main (F := Ideal))) ⟨m, fun _ => 0, g⟩ (fun r => (∀ c : Dev Cert.UpFirstReferenceIdeal.nD,
      r.2.mem ((c.tc : Thread Cert.UpFirstReferenceIdeal.nD Cert.UpFirstReferenceIdeal.τ).loc Cert.UpFirstReferenceIdeal.main_arg0) = m ((c.tc : Thread Cert.UpFirstReferenceIdeal.nD Cert.UpFirstReferenceIdeal.τ).loc Cert.UpFirstReferenceIdeal.main_arg0)
      ∧ r.2.mem ((c.tc : Thread Cert.UpFirstReferenceIdeal.nD Cert.UpFirstReferenceIdeal.τ).loc Cert.UpFirstReferenceIdeal.main_arg1) = m ((c.tc : Thread Cert.UpFirstReferenceIdeal.nD Cert.UpFirstReferenceIdeal.τ).loc Cert.UpFirstReferenceIdeal.main_arg1)
      ∧ r.2.mem ((c.tc : Thread Cert.UpFirstReferenceIdeal.nD Cert.UpFirstReferenceIdeal.τ).loc Cert.UpFirstReferenceIdeal.main_arg2) = m ((c.tc : Thread Cert.UpFirstReferenceIdeal.nD Cert.UpFirstReferenceIdeal.τ).loc Cert.UpFirstReferenceIdeal.main_arg2))
      ∧ r.2.sem = fun _ => 0)

def quiescent_UpSecond [hUpSecond : Cert.UpSecond.Facts] : Prop :=
  ∀ (m : (ℓ : Loc Cert.UpSecond.nD Cert.UpSecond.τ Cert.UpSecond.sig) → Buf (Elt Bits) ℓ) (g : Dev Cert.UpSecond.nD → PrngReg), Pre_UpSecond m →
    θ_run (Cert.UpSecond.defs (F := Bits)) (onTc (τ := Cert.UpSecond.τ) (Cert.UpSecond.main (F := Bits))) ⟨m, fun _ => 0, g⟩ (fun r => (∀ c : Dev Cert.UpSecond.nD,
      r.2.mem ((c.tc : Thread Cert.UpSecond.nD Cert.UpSecond.τ).loc Cert.UpSecond.main_arg0) = m ((c.tc : Thread Cert.UpSecond.nD Cert.UpSecond.τ).loc Cert.UpSecond.main_arg0)
      ∧ r.2.mem ((c.tc : Thread Cert.UpSecond.nD Cert.UpSecond.τ).loc Cert.UpSecond.main_arg1) = m ((c.tc : Thread Cert.UpSecond.nD Cert.UpSecond.τ).loc Cert.UpSecond.main_arg1)
      ∧ r.2.mem ((c.tc : Thread Cert.UpSecond.nD Cert.UpSecond.τ).loc Cert.UpSecond.main_arg2) = m ((c.tc : Thread Cert.UpSecond.nD Cert.UpSecond.τ).loc Cert.UpSecond.main_arg2))
      ∧ r.2.sem = fun _ => 0)

def quiescent_UpSecondIdeal [hUpSecondIdeal : Cert.UpSecondIdeal.Facts] : Prop :=
  ∀ (m : (ℓ : Loc Cert.UpSecondIdeal.nD Cert.UpSecondIdeal.τ Cert.UpSecondIdeal.sig) → Buf (Elt Ideal) ℓ) (g : Dev Cert.UpSecondIdeal.nD → PrngReg), Pre_UpSecondIdeal m →
    θ_run (Cert.UpSecondIdeal.defs (F := Ideal)) (onTc (τ := Cert.UpSecondIdeal.τ) (Cert.UpSecondIdeal.main (F := Ideal))) ⟨m, fun _ => 0, g⟩ (fun r => (∀ c : Dev Cert.UpSecondIdeal.nD,
      r.2.mem ((c.tc : Thread Cert.UpSecondIdeal.nD Cert.UpSecondIdeal.τ).loc Cert.UpSecondIdeal.main_arg0) = m ((c.tc : Thread Cert.UpSecondIdeal.nD Cert.UpSecondIdeal.τ).loc Cert.UpSecondIdeal.main_arg0)
      ∧ r.2.mem ((c.tc : Thread Cert.UpSecondIdeal.nD Cert.UpSecondIdeal.τ).loc Cert.UpSecondIdeal.main_arg1) = m ((c.tc : Thread Cert.UpSecondIdeal.nD Cert.UpSecondIdeal.τ).loc Cert.UpSecondIdeal.main_arg1)
      ∧ r.2.mem ((c.tc : Thread Cert.UpSecondIdeal.nD Cert.UpSecondIdeal.τ).loc Cert.UpSecondIdeal.main_arg2) = m ((c.tc : Thread Cert.UpSecondIdeal.nD Cert.UpSecondIdeal.τ).loc Cert.UpSecondIdeal.main_arg2))
      ∧ r.2.sem = fun _ => 0)

def quiescent_UpSecondReferenceIdeal [hUpSecondReferenceIdeal : Cert.UpSecondReferenceIdeal.Facts] : Prop :=
  ∀ (m : (ℓ : Loc Cert.UpSecondReferenceIdeal.nD Cert.UpSecondReferenceIdeal.τ Cert.UpSecondReferenceIdeal.sig) → Buf (Elt Ideal) ℓ) (g : Dev Cert.UpSecondReferenceIdeal.nD → PrngReg), Pre_UpSecondReferenceIdeal m →
    θ_run (Cert.UpSecondReferenceIdeal.defs (F := Ideal)) (onTc (τ := Cert.UpSecondReferenceIdeal.τ) (Cert.UpSecondReferenceIdeal.main (F := Ideal))) ⟨m, fun _ => 0, g⟩ (fun r => (∀ c : Dev Cert.UpSecondReferenceIdeal.nD,
      r.2.mem ((c.tc : Thread Cert.UpSecondReferenceIdeal.nD Cert.UpSecondReferenceIdeal.τ).loc Cert.UpSecondReferenceIdeal.main_arg0) = m ((c.tc : Thread Cert.UpSecondReferenceIdeal.nD Cert.UpSecondReferenceIdeal.τ).loc Cert.UpSecondReferenceIdeal.main_arg0)
      ∧ r.2.mem ((c.tc : Thread Cert.UpSecondReferenceIdeal.nD Cert.UpSecondReferenceIdeal.τ).loc Cert.UpSecondReferenceIdeal.main_arg1) = m ((c.tc : Thread Cert.UpSecondReferenceIdeal.nD Cert.UpSecondReferenceIdeal.τ).loc Cert.UpSecondReferenceIdeal.main_arg1)
      ∧ r.2.mem ((c.tc : Thread Cert.UpSecondReferenceIdeal.nD Cert.UpSecondReferenceIdeal.τ).loc Cert.UpSecondReferenceIdeal.main_arg2) = m ((c.tc : Thread Cert.UpSecondReferenceIdeal.nD Cert.UpSecondReferenceIdeal.τ).loc Cert.UpSecondReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v3)) (v1 : (c : Dev Cert.MlpIdeal.nD) → Buf (Elt Ideal) ((c.tc : Thread Cert.MlpIdeal.nD Cert.MlpIdeal.τ).loc Cert.MlpIdeal.main_v8)) (v2 : (c : Dev Cert.MlpIdeal.nD) → Buf (Elt Ideal) ((c.tc : Thread Cert.MlpIdeal.nD Cert.MlpIdeal.τ).loc Cert.MlpIdeal.main_v6)) (v3 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_v8) = v1 c
          ∧ r.2.mem ((c.tc : Thread Cert.MlpIdeal.nD Cert.MlpIdeal.τ).loc Cert.MlpIdeal.main_v6) = v2 c
          ∧ r.2.mem ((c.tc : Thread Cert.MlpIdeal.nD Cert.MlpIdeal.τ).loc Cert.MlpIdeal.main_v7) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v37) = v0 c
          ∧ r.2.mem ((c.tc : Thread Cert.MlpReferenceIdeal.nD Cert.MlpReferenceIdeal.τ).loc Cert.MlpReferenceIdeal.main_v84) = v1 c
          ∧ r.2.mem ((c.tc : Thread Cert.MlpReferenceIdeal.nD Cert.MlpReferenceIdeal.τ).loc Cert.MlpReferenceIdeal.main_v74) = v2 c
          ∧ r.2.mem ((c.tc : Thread Cert.MlpReferenceIdeal.nD Cert.MlpReferenceIdeal.τ).loc Cert.MlpReferenceIdeal.main_v85) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)
      ∧ m' ((c.tc : Thread Cert.ProjectionsReferenceIdeal.nD Cert.ProjectionsReferenceIdeal.τ).loc Cert.ProjectionsReferenceIdeal.main_arg6) = m ((c.tc : Thread Cert.ProjectionsIdeal.nD Cert.ProjectionsIdeal.τ).loc Cert.ProjectionsIdeal.main_arg6)) →
    ∃ (v0 : (c : Dev Cert.ProjectionsIdeal.nD) → Buf (Elt Ideal) ((c.tc : Thread Cert.ProjectionsIdeal.nD Cert.ProjectionsIdeal.τ).loc Cert.ProjectionsIdeal.main_v0)) (v1 : (c : Dev Cert.ProjectionsIdeal.nD) → Buf (Elt Ideal) ((c.tc : Thread Cert.ProjectionsIdeal.nD Cert.ProjectionsIdeal.τ).loc Cert.ProjectionsIdeal.main_v1)) (v2 : (c : Dev Cert.ProjectionsIdeal.nD) → Buf (Elt Ideal) ((c.tc : Thread Cert.ProjectionsIdeal.nD Cert.ProjectionsIdeal.τ).loc Cert.ProjectionsIdeal.main_v2)) (v3 : (c : Dev Cert.ProjectionsIdeal.nD) → Buf (Elt Ideal) ((c.tc : Thread Cert.ProjectionsIdeal.nD Cert.ProjectionsIdeal.τ).loc Cert.ProjectionsIdeal.main_v3)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v0) = v0 c
          ∧ r.2.mem ((c.tc : Thread Cert.ProjectionsIdeal.nD Cert.ProjectionsIdeal.τ).loc Cert.ProjectionsIdeal.main_v1) = v1 c
          ∧ r.2.mem ((c.tc : Thread Cert.ProjectionsIdeal.nD Cert.ProjectionsIdeal.τ).loc Cert.ProjectionsIdeal.main_v2) = v2 c
          ∧ r.2.mem ((c.tc : Thread Cert.ProjectionsIdeal.nD Cert.ProjectionsIdeal.τ).loc Cert.ProjectionsIdeal.main_v3) = v3 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v3) = v0 c
          ∧ r.2.mem ((c.tc : Thread Cert.ProjectionsReferenceIdeal.nD Cert.ProjectionsReferenceIdeal.τ).loc Cert.ProjectionsReferenceIdeal.main_v6) = v1 c
          ∧ r.2.mem ((c.tc : Thread Cert.ProjectionsReferenceIdeal.nD Cert.ProjectionsReferenceIdeal.τ).loc Cert.ProjectionsReferenceIdeal.main_v8) = v2 c
          ∧ r.2.mem ((c.tc : Thread Cert.ProjectionsReferenceIdeal.nD Cert.ProjectionsReferenceIdeal.τ).loc Cert.ProjectionsReferenceIdeal.main_v11) = v3 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5)
          ∧ r.2.mem ((c.tc : Thread Cert.ProjectionsReferenceIdeal.nD Cert.ProjectionsReferenceIdeal.τ).loc Cert.ProjectionsReferenceIdeal.main_arg6) = m' ((c.tc : Thread Cert.ProjectionsReferenceIdeal.nD Cert.ProjectionsReferenceIdeal.τ).loc Cert.ProjectionsReferenceIdeal.main_arg6))

def preserves_Latent_LatentIdeal : Prop :=
  IdealRules.named_const.Statement Cert.LatentIdeal.κ "scale_log2e" .f32 0x3E16C740#32 (((Real.sqrt 96)⁻¹ * (Real.log 2)⁻¹ : ℝ) : EReal)
  ∧ IdealRules.named_const.Statement Cert.LatentIdeal.κ "ln2" .f32 0x3F317218#32 ((Real.log 2 : ℝ) : EReal)
  ∧ IdealRules.named_const.Statement Cert.LatentIdeal.κ "log2e" .f32 0x3FB8AA3B#32 (((Real.log 2)⁻¹ : ℝ) : EReal)
  ∧ IdealRules.named_const.Statement Cert.LatentIdeal.κ "scale" .f32 0x3DD105EC#32 (((Real.sqrt 96)⁻¹ : ℝ) : EReal)

def algebraic_LatentIdeal_LatentReferenceIdeal_pre_finite_latent [hLatentIdeal : Cert.LatentIdeal.Facts] [hLatentReferenceIdeal : Cert.LatentReferenceIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_finite_latent m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v1_0)) (v1 : (c : Dev Cert.LatentIdeal.nD) → Buf (Elt Ideal) ((c.tc : Thread Cert.LatentIdeal.nD Cert.LatentIdeal.τ).loc Cert.LatentIdeal.main_v2_0)) (v2 : (c : Dev Cert.LatentIdeal.nD) → Buf (Elt Ideal) ((c.tc : Thread Cert.LatentIdeal.nD Cert.LatentIdeal.τ).loc Cert.LatentIdeal.main_v2_1)) (v3 : (c : Dev Cert.LatentIdeal.nD) → Buf (Elt Ideal) ((c.tc : Thread Cert.LatentIdeal.nD Cert.LatentIdeal.τ).loc Cert.LatentIdeal.main_v2_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v1_0) = v0 c
          ∧ r.2.mem ((c.tc : Thread Cert.LatentIdeal.nD Cert.LatentIdeal.τ).loc Cert.LatentIdeal.main_v2_0) = v1 c
          ∧ r.2.mem ((c.tc : Thread Cert.LatentIdeal.nD Cert.LatentIdeal.τ).loc Cert.LatentIdeal.main_v2_1) = v2 c
          ∧ r.2.mem ((c.tc : Thread Cert.LatentIdeal.nD Cert.LatentIdeal.τ).loc Cert.LatentIdeal.main_v2_2) = v3 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v69) = v0 c
          ∧ r.2.mem ((c.tc : Thread Cert.LatentReferenceIdeal.nD Cert.LatentReferenceIdeal.τ).loc Cert.LatentReferenceIdeal.main_v71) = v1 c
          ∧ r.2.mem ((c.tc : Thread Cert.LatentReferenceIdeal.nD Cert.LatentReferenceIdeal.τ).loc Cert.LatentReferenceIdeal.main_v72) = v2 c
          ∧ r.2.mem ((c.tc : Thread Cert.LatentReferenceIdeal.nD Cert.LatentReferenceIdeal.τ).loc Cert.LatentReferenceIdeal.main_v73) = v3 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpFirst_UpFirstIdeal : Prop :=
  True

def algebraic_UpFirstIdeal_UpFirstReferenceIdeal [hUpFirstIdeal : Cert.UpFirstIdeal.Facts] [hUpFirstReferenceIdeal : Cert.UpFirstReferenceIdeal.Facts] : Prop :=
  ∀ (m : (ℓ : Loc Cert.UpFirstIdeal.nD Cert.UpFirstIdeal.τ Cert.UpFirstIdeal.sig) → Buf (Elt Ideal) ℓ) (g : Dev Cert.UpFirstIdeal.nD → PrngReg)
    (m' : (ℓ : Loc Cert.UpFirstReferenceIdeal.nD Cert.UpFirstReferenceIdeal.τ Cert.UpFirstReferenceIdeal.sig) → Buf (Elt Ideal) ℓ) (g' : Dev Cert.UpFirstReferenceIdeal.nD → PrngReg), Pre_UpFirstIdeal m →
    (∀ c : Dev Cert.UpFirstIdeal.nD,
      m' ((c.tc : Thread Cert.UpFirstReferenceIdeal.nD Cert.UpFirstReferenceIdeal.τ).loc Cert.UpFirstReferenceIdeal.main_arg0) = m ((c.tc : Thread Cert.UpFirstIdeal.nD Cert.UpFirstIdeal.τ).loc Cert.UpFirstIdeal.main_arg0)
      ∧ m' ((c.tc : Thread Cert.UpFirstReferenceIdeal.nD Cert.UpFirstReferenceIdeal.τ).loc Cert.UpFirstReferenceIdeal.main_arg1) = m ((c.tc : Thread Cert.UpFirstIdeal.nD Cert.UpFirstIdeal.τ).loc Cert.UpFirstIdeal.main_arg1)
      ∧ m' ((c.tc : Thread Cert.UpFirstReferenceIdeal.nD Cert.UpFirstReferenceIdeal.τ).loc Cert.UpFirstReferenceIdeal.main_arg2) = m ((c.tc : Thread Cert.UpFirstIdeal.nD Cert.UpFirstIdeal.τ).loc Cert.UpFirstIdeal.main_arg2)) →
    ∃ (v0 : (c : Dev Cert.UpFirstIdeal.nD) → Buf (Elt Ideal) ((c.tc : Thread Cert.UpFirstIdeal.nD Cert.UpFirstIdeal.τ).loc Cert.UpFirstIdeal.main_v0)),
      θ_run (Cert.UpFirstIdeal.defs (F := Ideal)) (onTc (τ := Cert.UpFirstIdeal.τ) (Cert.UpFirstIdeal.main (F := Ideal))) ⟨m, fun _ => 0, g⟩ (fun r => ∀ c : Dev Cert.UpFirstIdeal.nD,
          r.2.mem ((c.tc : Thread Cert.UpFirstIdeal.nD Cert.UpFirstIdeal.τ).loc Cert.UpFirstIdeal.main_v0) = v0 c
          ∧ r.2.mem ((c.tc : Thread Cert.UpFirstIdeal.nD Cert.UpFirstIdeal.τ).loc Cert.UpFirstIdeal.main_arg0) = m ((c.tc : Thread Cert.UpFirstIdeal.nD Cert.UpFirstIdeal.τ).loc Cert.UpFirstIdeal.main_arg0)
          ∧ r.2.mem ((c.tc : Thread Cert.UpFirstIdeal.nD Cert.UpFirstIdeal.τ).loc Cert.UpFirstIdeal.main_arg1) = m ((c.tc : Thread Cert.UpFirstIdeal.nD Cert.UpFirstIdeal.τ).loc Cert.UpFirstIdeal.main_arg1)
          ∧ r.2.mem ((c.tc : Thread Cert.UpFirstIdeal.nD Cert.UpFirstIdeal.τ).loc Cert.UpFirstIdeal.main_arg2) = m ((c.tc : Thread Cert.UpFirstIdeal.nD Cert.UpFirstIdeal.τ).loc Cert.UpFirstIdeal.main_arg2))
      ∧ θ_run (Cert.UpFirstReferenceIdeal.defs (F := Ideal)) (onTc (τ := Cert.UpFirstReferenceIdeal.τ) (Cert.UpFirstReferenceIdeal.main (F := Ideal))) ⟨m', fun _ => 0, g'⟩ (fun r => ∀ c : Dev Cert.UpFirstReferenceIdeal.nD,
          r.2.mem ((c.tc : Thread Cert.UpFirstReferenceIdeal.nD Cert.UpFirstReferenceIdeal.τ).loc Cert.UpFirstReferenceIdeal.main_v9) = v0 c
          ∧ r.2.mem ((c.tc : Thread Cert.UpFirstReferenceIdeal.nD Cert.UpFirstReferenceIdeal.τ).loc Cert.UpFirstReferenceIdeal.main_arg0) = m' ((c.tc : Thread Cert.UpFirstReferenceIdeal.nD Cert.UpFirstReferenceIdeal.τ).loc Cert.UpFirstReferenceIdeal.main_arg0)
          ∧ r.2.mem ((c.tc : Thread Cert.UpFirstReferenceIdeal.nD Cert.UpFirstReferenceIdeal.τ).loc Cert.UpFirstReferenceIdeal.main_arg1) = m' ((c.tc : Thread Cert.UpFirstReferenceIdeal.nD Cert.UpFirstReferenceIdeal.τ).loc Cert.UpFirstReferenceIdeal.main_arg1)
          ∧ r.2.mem ((c.tc : Thread Cert.UpFirstReferenceIdeal.nD Cert.UpFirstReferenceIdeal.τ).loc Cert.UpFirstReferenceIdeal.main_arg2) = m' ((c.tc : Thread Cert.UpFirstReferenceIdeal.nD Cert.UpFirstReferenceIdeal.τ).loc Cert.UpFirstReferenceIdeal.main_arg2))

def preserves_UpSecond_UpSecondIdeal : Prop :=
  True

def algebraic_UpSecondIdeal_UpSecondReferenceIdeal [hUpSecondIdeal : Cert.UpSecondIdeal.Facts] [hUpSecondReferenceIdeal : Cert.UpSecondReferenceIdeal.Facts] : Prop :=
  ∀ (m : (ℓ : Loc Cert.UpSecondIdeal.nD Cert.UpSecondIdeal.τ Cert.UpSecondIdeal.sig) → Buf (Elt Ideal) ℓ) (g : Dev Cert.UpSecondIdeal.nD → PrngReg)
    (m' : (ℓ : Loc Cert.UpSecondReferenceIdeal.nD Cert.UpSecondReferenceIdeal.τ Cert.UpSecondReferenceIdeal.sig) → Buf (Elt Ideal) ℓ) (g' : Dev Cert.UpSecondReferenceIdeal.nD → PrngReg), Pre_UpSecondIdeal m →
    (∀ c : Dev Cert.UpSecondIdeal.nD,
      m' ((c.tc : Thread Cert.UpSecondReferenceIdeal.nD Cert.UpSecondReferenceIdeal.τ).loc Cert.UpSecondReferenceIdeal.main_arg0) = m ((c.tc : Thread Cert.UpSecondIdeal.nD Cert.UpSecondIdeal.τ).loc Cert.UpSecondIdeal.main_arg0)
      ∧ m' ((c.tc : Thread Cert.UpSecondReferenceIdeal.nD Cert.UpSecondReferenceIdeal.τ).loc Cert.UpSecondReferenceIdeal.main_arg1) = m ((c.tc : Thread Cert.UpSecondIdeal.nD Cert.UpSecondIdeal.τ).loc Cert.UpSecondIdeal.main_arg1)
      ∧ m' ((c.tc : Thread Cert.UpSecondReferenceIdeal.nD Cert.UpSecondReferenceIdeal.τ).loc Cert.UpSecondReferenceIdeal.main_arg2) = m ((c.tc : Thread Cert.UpSecondIdeal.nD Cert.UpSecondIdeal.τ).loc Cert.UpSecondIdeal.main_arg2)) →
    ∃ (v0 : (c : Dev Cert.UpSecondIdeal.nD) → Buf (Elt Ideal) ((c.tc : Thread Cert.UpSecondIdeal.nD Cert.UpSecondIdeal.τ).loc Cert.UpSecondIdeal.main_v0)),
      θ_run (Cert.UpSecondIdeal.defs (F := Ideal)) (onTc (τ := Cert.UpSecondIdeal.τ) (Cert.UpSecondIdeal.main (F := Ideal))) ⟨m, fun _ => 0, g⟩ (fun r => ∀ c : Dev Cert.UpSecondIdeal.nD,
          r.2.mem ((c.tc : Thread Cert.UpSecondIdeal.nD Cert.UpSecondIdeal.τ).loc Cert.UpSecondIdeal.main_v0) = v0 c
          ∧ r.2.mem ((c.tc : Thread Cert.UpSecondIdeal.nD Cert.UpSecondIdeal.τ).loc Cert.UpSecondIdeal.main_arg0) = m ((c.tc : Thread Cert.UpSecondIdeal.nD Cert.UpSecondIdeal.τ).loc Cert.UpSecondIdeal.main_arg0)
          ∧ r.2.mem ((c.tc : Thread Cert.UpSecondIdeal.nD Cert.UpSecondIdeal.τ).loc Cert.UpSecondIdeal.main_arg1) = m ((c.tc : Thread Cert.UpSecondIdeal.nD Cert.UpSecondIdeal.τ).loc Cert.UpSecondIdeal.main_arg1)
          ∧ r.2.mem ((c.tc : Thread Cert.UpSecondIdeal.nD Cert.UpSecondIdeal.τ).loc Cert.UpSecondIdeal.main_arg2) = m ((c.tc : Thread Cert.UpSecondIdeal.nD Cert.UpSecondIdeal.τ).loc Cert.UpSecondIdeal.main_arg2))
      ∧ θ_run (Cert.UpSecondReferenceIdeal.defs (F := Ideal)) (onTc (τ := Cert.UpSecondReferenceIdeal.τ) (Cert.UpSecondReferenceIdeal.main (F := Ideal))) ⟨m', fun _ => 0, g'⟩ (fun r => ∀ c : Dev Cert.UpSecondReferenceIdeal.nD,
          r.2.mem ((c.tc : Thread Cert.UpSecondReferenceIdeal.nD Cert.UpSecondReferenceIdeal.τ).loc Cert.UpSecondReferenceIdeal.main_v9) = v0 c
          ∧ r.2.mem ((c.tc : Thread Cert.UpSecondReferenceIdeal.nD Cert.UpSecondReferenceIdeal.τ).loc Cert.UpSecondReferenceIdeal.main_arg0) = m' ((c.tc : Thread Cert.UpSecondReferenceIdeal.nD Cert.UpSecondReferenceIdeal.τ).loc Cert.UpSecondReferenceIdeal.main_arg0)
          ∧ r.2.mem ((c.tc : Thread Cert.UpSecondReferenceIdeal.nD Cert.UpSecondReferenceIdeal.τ).loc Cert.UpSecondReferenceIdeal.main_arg1) = m' ((c.tc : Thread Cert.UpSecondReferenceIdeal.nD Cert.UpSecondReferenceIdeal.τ).loc Cert.UpSecondReferenceIdeal.main_arg1)
          ∧ r.2.mem ((c.tc : Thread Cert.UpSecondReferenceIdeal.nD Cert.UpSecondReferenceIdeal.τ).loc Cert.UpSecondReferenceIdeal.main_arg2) = m' ((c.tc : Thread Cert.UpSecondReferenceIdeal.nD Cert.UpSecondReferenceIdeal.τ).loc Cert.UpSecondReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v7) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hProjections : Cert.Projections.Facts) (hProjectionsIdeal : Cert.ProjectionsIdeal.Facts) (hProjectionsReferenceIdeal : Cert.ProjectionsReferenceIdeal.Facts) (hLatent : Cert.Latent.Facts) (hLatentIdeal : Cert.LatentIdeal.Facts) (hLatentReferenceIdeal : Cert.LatentReferenceIdeal.Facts) (hDown : Cert.Down.Facts) (hDownIdeal : Cert.DownIdeal.Facts) (hDownReferenceIdeal : Cert.DownReferenceIdeal.Facts) (hUpFirst : Cert.UpFirst.Facts) (hUpFirstIdeal : Cert.UpFirstIdeal.Facts) (hUpFirstReferenceIdeal : Cert.UpFirstReferenceIdeal.Facts) (hUpSecond : Cert.UpSecond.Facts) (hUpSecondIdeal : Cert.UpSecondIdeal.Facts) (hUpSecondReferenceIdeal : Cert.UpSecondReferenceIdeal.Facts) (hOut : Cert.Out.Facts) (hOutIdeal : Cert.OutIdeal.Facts) (hOutReferenceIdeal : Cert.OutReferenceIdeal.Facts) (hIn : Cert.In.Facts) (hInIdeal : Cert.InIdeal.Facts) (hInReferenceIdeal : Cert.InReferenceIdeal.Facts) (hPre_finite : Cert.Pre_finite.Facts) (hPre_finite_latent : Cert.Pre_finite_latent.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_Latent (hLatent := hLatent)
    ∧ quiescent_LatentIdeal (hLatentIdeal := hLatentIdeal)
    ∧ quiescent_LatentIdeal_pre_finite_latent (hLatentIdeal := hLatentIdeal) (hPre_finite_latent := hPre_finite_latent)
    ∧ quiescent_LatentReferenceIdeal (hLatentReferenceIdeal := hLatentReferenceIdeal)
    ∧ quiescent_LatentReferenceIdeal_pre_finite_latent (hLatentReferenceIdeal := hLatentReferenceIdeal) (hPre_finite_latent := hPre_finite_latent)
    ∧ quiescent_Down (hDown := hDown)
    ∧ quiescent_DownIdeal (hDownIdeal := hDownIdeal)
    ∧ quiescent_DownReferenceIdeal (hDownReferenceIdeal := hDownReferenceIdeal)
    ∧ quiescent_UpFirst (hUpFirst := hUpFirst)
    ∧ quiescent_UpFirstIdeal (hUpFirstIdeal := hUpFirstIdeal)
    ∧ quiescent_UpFirstReferenceIdeal (hUpFirstReferenceIdeal := hUpFirstReferenceIdeal)
    ∧ quiescent_UpSecond (hUpSecond := hUpSecond)
    ∧ quiescent_UpSecondIdeal (hUpSecondIdeal := hUpSecondIdeal)
    ∧ quiescent_UpSecondReferenceIdeal (hUpSecondReferenceIdeal := hUpSecondReferenceIdeal)
    ∧ quiescent_Out (hOut := hOut)
    ∧ quiescent_OutIdeal (hOutIdeal := hOutIdeal)
    ∧ quiescent_OutReferenceIdeal (hOutReferenceIdeal := hOutReferenceIdeal)
    ∧ quiescent_In (hIn := hIn)
    ∧ quiescent_InIdeal (hInIdeal := hInIdeal)
    ∧ quiescent_InReferenceIdeal (hInReferenceIdeal := hInReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_Latent_LatentIdeal
    ∧ algebraic_LatentIdeal_LatentReferenceIdeal_pre_finite_latent (hLatentIdeal := hLatentIdeal) (hLatentReferenceIdeal := hLatentReferenceIdeal) (hPre_finite_latent := hPre_finite_latent)
    ∧ preserves_Down_DownIdeal
    ∧ algebraic_DownIdeal_DownReferenceIdeal (hDownIdeal := hDownIdeal) (hDownReferenceIdeal := hDownReferenceIdeal)
    ∧ preserves_UpFirst_UpFirstIdeal
    ∧ algebraic_UpFirstIdeal_UpFirstReferenceIdeal (hUpFirstIdeal := hUpFirstIdeal) (hUpFirstReferenceIdeal := hUpFirstReferenceIdeal)
    ∧ preserves_UpSecond_UpSecondIdeal
    ∧ algebraic_UpSecondIdeal_UpSecondReferenceIdeal (hUpSecondIdeal := hUpSecondIdeal) (hUpSecondReferenceIdeal := hUpSecondReferenceIdeal)
    ∧ preserves_Out_OutIdeal
    ∧ algebraic_OutIdeal_OutReferenceIdeal (hOutIdeal := hOutIdeal) (hOutReferenceIdeal := hOutReferenceIdeal)
    ∧ preserves_In_InIdeal
    ∧ algebraic_InIdeal_InReferenceIdeal (hInIdeal := hInIdeal) (hInReferenceIdeal := hInReferenceIdeal)
-- ==== Pre_finite.lean ====
abbrev S4x4096x64 : Shape := ⟨3, ![4, 4096, 64]⟩
abbrev S2x4096x64 : Shape := ⟨3, ![2, 4096, 64]⟩
abbrev S4096x1024 : Shape := ⟨2, ![4096, 1024]⟩
abbrev S_ : Shape := ⟨0, ![]⟩
abbrev S4096x256 : Shape := ⟨2, ![4096, 256]⟩

class Facts : Prop where
  bitsLt_bf16_f32 : FTy.bits .bf16 < FTy.bits .f32
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S2x4096x64 : S_.BroadcastsInDim S2x4096x64 (![] : Fin 0 → Fin S2x4096x64.rank)
  reducesTo_S2x4096x64_S_d0_1_2 : S2x4096x64.ReducesTo [0, 1, 2] S_
  slices_S4096x1024_S4096x256_0_256 : S4096x1024.Slices ![0, 256] S4096x256
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v16 : IVec S_ 1) (main_v17 : FVec F S4096x256 .f32) : IVec S_ 1 :=
  let main_v18 : FVec F S4096x256 .f32 := Host.absf main_v17
  let main_cst_4 : FVec F S_ .f32 := constant S_ .f32 0x7F800000#32
  let main_v19 : FVec F S4096x256 .f32 := broadcastInDim S4096x256 ![] bcast_S_S4096x256 main_cst_4
  let main_v20 : IVec S4096x256 1 := cmpf .olt main_v18 main_v19
  let main_c_5 : IVec S_ 1 := constantI S_ 1 1#1
  let main_v21 : IVec S_ 1 := (fun x v => Host.reduce IntOp.andi x v reducesTo_S4096x256_S_d0_1 h_S_) main_v20 main_c_5
  let main_v22 : IVec S_ 1 := andi main_v16 main_v21
  main_v22

def fn {F : FTy → Type} [FloatOps F] (main_arg0 : FVec F S4x4096x64 .bf16) (main_arg1 : FVec F S2x4096x64 .bf16) (main_arg2 : FVec F S2x4096x64 .bf16) (main_arg3 : FVec F S4096x1024 .f32) : IVec S_ 1 :=
  let main_v0 : FVec F S4x4096x64 .f32 := (extf .f32 · bitsLt_bf16_f32) main_arg0
  let main_v1 : FVec F S4x4096x64 .f32 := Host.absf main_v0
  let main_cst : FVec F S_ .f32 := constant S_ .f32 0x7F800000#32
  let main_v2 : FVec F S4x4096x64 .f32 := broadcastInDim S4x4096x64 ![] bcast_S_S4x4096x64 main_cst
  let main_v3 : IVec S4x4096x64 1 := cmpf .olt main_v1 main_v2
  let main_c : IVec S_ 1 := constantI S_ 1 1#1
  let main_v4 : IVec S_ 1 := (fun x v => Host.reduce IntOp.andi x v reducesTo_S4x4096x64_S_d0_1_2 h_S_) main_v3 main_c
  let main_v5 : FVec F S2x4096x64 .f32 := (extf .f32 · bitsLt_bf16_f32) main_arg1
  let main_v6 : FVec F S2x4096x64 .f32 := Host.absf main_v5
  let main_cst_0 : FVec F S_ .f32 := constant S_ .f32 0x7F800000#32
  let main_v7 : FVec F S2x4096x64 .f32 := broadcastInDim S2x4096x64 ![] bcast_S_S2x4096x64 main_cst_0
  let main_v8 : IVec S2x4096x64 1 := cmpf .olt main_v6 main_v7
  let main_c_1 : IVec S_ 1 := constantI S_ 1 1#1
  let main_v9 : IVec S_ 1 := (fun x v => Host.reduce IntOp.andi x v reducesTo_S2x4096x64_S_d0_1_2 h_S_) main_v8 main_c_1
  let main_v10 : IVec S_ 1 := andi main_v4 main_v9
  let main_v11 : FVec F S2x4096x64 .f32 := (extf .f32 · bitsLt_bf16_f32) main_arg2
  let main_v12 : FVec F S2x4096x64 .f32 := Host.absf main_v11
  let main_cst_2 : FVec F S_ .f32 := constant S_ .f32 0x7F800000#32
  let main_v13 : FVec F S2x4096x64 .f32 := broadcastInDim S2x4096x64 ![] bcast_S_S2x4096x64 main_cst_2
  let main_v14 : IVec S2x4096x64 1 := cmpf .olt main_v12 main_v13
  let main_c_3 : IVec S_ 1 := constantI S_ 1 1#1
  let main_v15 : IVec S_ 1 := (fun x v => Host.reduce IntOp.andi x v reducesTo_S2x4096x64_S_d0_1_2 h_S_) main_v14 main_c_3
  let main_v16 : IVec S_ 1 := andi main_v10 main_v15
  let main_v17 : FVec F S4096x256 .f32 := (extractStridedSlice S4096x256 ![0, 256] · slices_S4096x1024_S4096x256_0_256) main_arg3
  fn_part1 (F := F) main_v16 main_v17
-- ==== Pre_finite_latent.lean ====
abbrev S4x4096x128 : Shape := ⟨3, ![4, 4096, 128]⟩
abbrev S4x4096x64 : Shape := ⟨3, ![4, 4096, 64]⟩
abbrev S4096x1024 : Shape := ⟨2, ![4096, 1024]⟩
abbrev S_ : Shape := ⟨0, ![]⟩
abbrev S4096x256 : Shape := ⟨2, ![4096, 256]⟩

class Facts : Prop where
  bitsLt_bf16_f32 : FTy.bits .bf16 < FTy.bits .f32
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  slices_S4096x1024_S4096x256_0_768 : S4096x1024.Slices ![0, 768] S4096x256
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v16 : IVec S_ 1) (main_v17 : FVec F S4096x256 .f32) : IVec S_ 1 :=
  let main_v18 : FVec F S4096x256 .f32 := Host.absf main_v17
  let main_cst_4 : FVec F S_ .f32 := constant S_ .f32 0x7F800000#32
  let main_v19 : FVec F S4096x256 .f32 := broadcastInDim S4096x256 ![] bcast_S_S4096x256 main_cst_4
  let main_v20 : IVec S4096x256 1 := cmpf .olt main_v18 main_v19
  let main_c_5 : IVec S_ 1 := constantI S_ 1 1#1
  let main_v21 : IVec S_ 1 := (fun x v => Host.reduce IntOp.andi x v reducesTo_S4096x256_S_d0_1 h_S_) main_v20 main_c_5
  let main_v22 : IVec S_ 1 := andi main_v16 main_v21
  main_v22

def fn {F : FTy → Type} [FloatOps F] (main_arg0 : FVec F S4x4096x128 .bf16) (main_arg1 : FVec F S4x4096x128 .bf16) (main_arg2 : FVec F S4x4096x64 .bf16) (main_arg3 : FVec F S4096x1024 .f32) : IVec S_ 1 :=
  let main_v0 : FVec F S4x4096x128 .f32 := (extf .f32 · bitsLt_bf16_f32) main_arg0
  let main_v1 : FVec F S4x4096x128 .f32 := Host.absf main_v0
  let main_cst : FVec F S_ .f32 := constant S_ .f32 0x7F800000#32
  let main_v2 : FVec F S4x4096x128 .f32 := broadcastInDim S4x4096x128 ![] bcast_S_S4x4096x128 main_cst
  let main_v3 : IVec S4x4096x128 1 := cmpf .olt main_v1 main_v2
  let main_c : IVec S_ 1 := constantI S_ 1 1#1
  let main_v4 : IVec S_ 1 := (fun x v => Host.reduce IntOp.andi x v reducesTo_S4x4096x128_S_d0_1_2 h_S_) main_v3 main_c
  let main_v5 : FVec F S4x4096x128 .f32 := (extf .f32 · bitsLt_bf16_f32) main_arg1
  let main_v6 : FVec F S4x4096x128 .f32 := Host.absf main_v5
  let main_cst_0 : FVec F S_ .f32 := constant S_ .f32 0x7F800000#32
  let main_v7 : FVec F S4x4096x128 .f32 := broadcastInDim S4x4096x128 ![] bcast_S_S4x4096x128 main_cst_0
  let main_v8 : IVec S4x4096x128 1 := cmpf .olt main_v6 main_v7
  let main_c_1 : IVec S_ 1 := constantI S_ 1 1#1
  let main_v9 : IVec S_ 1 := (fun x v => Host.reduce IntOp.andi x v reducesTo_S4x4096x128_S_d0_1_2 h_S_) main_v8 main_c_1
  let main_v10 : IVec S_ 1 := andi main_v4 main_v9
  let main_v11 : FVec F S4x4096x64 .f32 := (extf .f32 · bitsLt_bf16_f32) main_arg2
  let main_v12 : FVec F S4x4096x64 .f32 := Host.absf main_v11
  let main_cst_2 : FVec F S_ .f32 := constant S_ .f32 0x7F800000#32
  let main_v13 : FVec F S4x4096x64 .f32 := broadcastInDim S4x4096x64 ![] bcast_S_S4x4096x64 main_cst_2
  let main_v14 : IVec S4x4096x64 1 := cmpf .olt main_v12 main_v13
  let main_c_3 : IVec S_ 1 := constantI S_ 1 1#1
  let main_v15 : IVec S_ 1 := (fun x v => Host.reduce IntOp.andi x v reducesTo_S4x4096x64_S_d0_1_2 h_S_) main_v14 main_c_3
  let main_v16 : IVec S_ 1 := andi main_v10 main_v15
  let main_v17 : FVec F S4096x256 .f32 := (extractStridedSlice S4096x256 ![0, 768] · slices_S4096x1024_S4096x256_0_768) main_arg3
  fn_part1 (F := F) main_v16 main_v17
-- ==== Kernel.lean ====
abbrev S4x4096x64 : Shape := ⟨3, ![4, 4096, 64]⟩
abbrev S2x4096x64 : Shape := ⟨3, ![2, 4096, 64]⟩
abbrev S4096x1024 : Shape := ⟨2, ![4096, 1024]⟩
abbrev S2x64x4096 : Shape := ⟨3, ![2, 64, 4096]⟩
abbrev S4096x256 : Shape := ⟨2, ![4096, 256]⟩
abbrev S4x4096x1 : Shape := ⟨3, ![4, 4096, 1]⟩
abbrev S2x512x64 : Shape := ⟨3, ![2, 512, 64]⟩
abbrev S1x4096x64 : Shape := ⟨3, ![1, 4096, 64]⟩
abbrev S1x64x4096 : Shape := ⟨3, ![1, 64, 4096]⟩
abbrev S512x128 : Shape := ⟨2, ![512, 128]⟩
abbrev S2x512x1 : Shape := ⟨3, ![2, 512, 1]⟩
abbrev S1x512x64 : Shape := ⟨3, ![1, 512, 64]⟩
abbrev S512x64 : Shape := ⟨2, ![512, 64]⟩
abbrev S1x512 : Shape := ⟨2, ![1, 512]⟩
abbrev S64x512 : Shape := ⟨2, ![64, 512]⟩
abbrev S4096x64 : Shape := ⟨2, ![4096, 64]⟩
abbrev S512x512 : Shape := ⟨2, ![512, 512]⟩
abbrev S512 : Shape := ⟨1, ![512]⟩
abbrev S64x4096 : Shape := ⟨2, ![64, 4096]⟩
abbrev S512x1 : Shape := ⟨2, ![512, 1]⟩
abbrev S1x512x1 : Shape := ⟨3, ![1, 512, 1]⟩
abbrev S2x256x64 : Shape := ⟨3, ![2, 256, 64]⟩
abbrev S256x128 : Shape := ⟨2, ![256, 128]⟩
abbrev S2x256x1 : Shape := ⟨3, ![2, 256, 1]⟩
abbrev S1x256x64 : Shape := ⟨3, ![1, 256, 64]⟩
abbrev S256x64 : Shape := ⟨2, ![256, 64]⟩
abbrev S1x256x1 : Shape := ⟨3, ![1, 256, 1]⟩
abbrev S256x1 : Shape := ⟨2, ![256, 1]⟩
abbrev S64x256 : Shape := ⟨2, ![64, 256]⟩
abbrev S256 : Shape := ⟨1, ![256]⟩
abbrev S256x512 : Shape := ⟨2, ![256, 512]⟩
abbrev S1x64x512 : Shape := ⟨3, ![1, 64, 512]⟩

abbrev nBuf : Space → Nat
  | .hbm => 10
  | .vmem => 28
  | .smem => 0
  | _ => 0

abbrev bufTy : (tb : Table) → Fin (tcTables nBuf tb) → BufTy
  | .hbm, ⟨0, _⟩ => ⟨S4x4096x64, .bf16⟩
  | .hbm, ⟨1, _⟩ => ⟨S2x4096x64, .bf16⟩
  | .hbm, ⟨2, _⟩ => ⟨S2x4096x64, .bf16⟩
  | .hbm, ⟨3, _⟩ => ⟨S4096x1024, .f32⟩
  | .hbm, ⟨4, _⟩ => ⟨S2x64x4096, .bf16⟩
  | .hbm, ⟨5, _⟩ => ⟨S4096x256, .f32⟩
  | .hbm, ⟨6, _⟩ => ⟨S4x4096x1, .f32⟩
  | .hbm, ⟨7, _⟩ => ⟨S4x4096x64, .f32⟩
  | .hbm, ⟨8, _⟩ => ⟨S2x64x4096, .f32⟩
  | .hbm, ⟨9, _⟩ => ⟨S2x64x4096, .f32⟩
  | .local _ .vmem, ⟨0, _⟩ => ⟨S2x512x64, .bf16⟩
  | .local _ .vmem, ⟨1, _⟩ => ⟨S2x512x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x64x4096, .bf16⟩
  | .local _ .vmem, ⟨5, _⟩ => ⟨S1x64x4096, .bf16⟩
  | .local _ .vmem, ⟨6, _⟩ => ⟨S512x128, .f32⟩
  | .local _ .vmem, ⟨7, _⟩ => ⟨S512x128, .f32⟩
  | .local _ .vmem, ⟨8, _⟩ => ⟨S2x512x1, .f32⟩
  | .local _ .vmem, ⟨9, _⟩ => ⟨S2x512x1, .f32⟩
  | .local _ .vmem, ⟨10, _⟩ => ⟨S2x256x64, .bf16⟩
  | .local _ .vmem, ⟨11, _⟩ => ⟨S2x256x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x4096x64, .bf16⟩
  | .local _ .vmem, ⟨16, _⟩ => ⟨S256x128, .f32⟩
  | .local _ .vmem, ⟨17, _⟩ => ⟨S256x128, .f32⟩
  | .local _ .vmem, ⟨18, _⟩ => ⟨S2x256x1, .f32⟩
  | .local _ .vmem, ⟨19, _⟩ => ⟨S2x256x1, .f32⟩
  | .local _ .vmem, ⟨20, _⟩ => ⟨S256x128, .f32⟩
  | .local _ .vmem, ⟨21, _⟩ => ⟨S256x128, .f32⟩
  | .local _ .vmem, ⟨22, _⟩ => ⟨S2x256x64, .f32⟩
  | .local _ .vmem, ⟨23, _⟩ => ⟨S2x256x64, .f32⟩
  | .local _ .vmem, ⟨24, _⟩ => ⟨S1x64x4096, .f32⟩
  | .local _ .vmem, ⟨25, _⟩ => ⟨S1x64x4096, .f32⟩
  | .local _ .vmem, ⟨26, _⟩ => ⟨S1x64x4096, .f32⟩
  | .local _ .vmem, ⟨27, _⟩ => ⟨S1x64x4096, .f32⟩
  | _, _ => ⟨S4x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x64x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x64x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale_log2e" => some (((1 / 8) * (Real.log 2)⁻¹ : ℝ) : EReal)
  | _ => none
-- ==== ReferenceIdeal.lean ====
abbrev S4x4096x64 : Shape := ⟨3, ![4, 4096, 64]⟩
abbrev S2x4096x64 : Shape := ⟨3, ![2, 4096, 64]⟩
abbrev S4096x1024 : Shape := ⟨2, ![4096, 1024]⟩
abbrev S4096x4x64 : Shape := ⟨3, ![4096, 4, 64]⟩
abbrev S4096x2x2x64 : Shape := ⟨4, ![4096, 2, 2, 64]⟩
abbrev S4096x2x64 : Shape := ⟨3, ![4096, 2, 64]⟩
abbrev S4096x256 : Shape := ⟨2, ![4096, 256]⟩
abbrev S2x4096x4096x2 : Shape := ⟨4, ![2, 4096, 4096, 2]⟩
abbrev S2x2x4096x4096 : Shape := ⟨4, ![2, 2, 4096, 4096]⟩
abbrev S_ : Shape := ⟨0, ![]⟩
abbrev S2x2x4096 : Shape := ⟨3, ![2, 2, 4096]⟩
abbrev S2x2x4096x1 : Shape := ⟨4, ![2, 2, 4096, 1]⟩
abbrev S2x64x2x4096 : Shape := ⟨4, ![2, 64, 2, 4096]⟩
abbrev S2x64x4096 : Shape := ⟨3, ![2, 64, 4096]⟩
abbrev S2x4096x2x64 : Shape := ⟨4, ![2, 4096, 2, 64]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x64, .bf16⟩
  | .hbm, ⟨1, _⟩ => ⟨S2x4096x64, .bf16⟩
  | .hbm, ⟨2, _⟩ => ⟨S2x4096x64, .bf16⟩
  | .hbm, ⟨3, _⟩ => ⟨S4096x1024, .f32⟩
  | .hbm, ⟨4, _⟩ => ⟨S4x4096x64, .f32⟩
  | .hbm, ⟨5, _⟩ => ⟨S4096x4x64, .f32⟩
  | .hbm, ⟨6, _⟩ => ⟨S4096x2x2x64, .f32⟩
  | .hbm, ⟨7, _⟩ => ⟨S2x4096x64, .f32⟩
  | .hbm, ⟨8, _⟩ => ⟨S4096x2x64, .f32⟩
  | .hbm, ⟨9, _⟩ => ⟨S2x4096x64, .f32⟩
  | .hbm, ⟨10, _⟩ => ⟨S4096x2x64, .f32⟩
  | .hbm, ⟨11, _⟩ => ⟨S4096x256, .f32⟩
  | .hbm, ⟨12, _⟩ => ⟨S4096x2x2x64, .f32⟩
  | .hbm, ⟨13, _⟩ => ⟨S2x4096x4096x2, .f32⟩
  | .hbm, ⟨14, _⟩ => ⟨S2x2x4096x4096, .f32⟩
  | .hbm, ⟨15, _⟩ => ⟨S_, .f32⟩
  | .hbm, ⟨16, _⟩ => ⟨S2x2x4096x4096, .f32⟩
  | .hbm, ⟨17, _⟩ => ⟨S2x2x4096x4096, .f32⟩
  | .hbm, ⟨18, _⟩ => ⟨S_, .f32⟩
  | .hbm, ⟨19, _⟩ => ⟨S2x2x4096, .f32⟩
  | .hbm, ⟨20, _⟩ => ⟨S2x2x4096x1, .f32⟩
  | .hbm, ⟨21, _⟩ => ⟨S2x2x4096x4096, .f32⟩
  | .hbm, ⟨22, _⟩ => ⟨S2x2x4096x4096, .i1⟩
  | .hbm, ⟨23, _⟩ => ⟨S2x2x4096x4096, .f32⟩
  | .hbm, ⟨24, _⟩ => ⟨S_, .f32⟩
  | .hbm, ⟨25, _⟩ => ⟨S2x2x4096, .f32⟩
  | .hbm, ⟨26, _⟩ => ⟨S_, .f32⟩
  | .hbm, ⟨27, _⟩ => ⟨S2x2x4096, .f32⟩
  | .hbm, ⟨28, _⟩ => ⟨S2x2x4096, .f32⟩
  | .hbm, ⟨29, _⟩ => ⟨S_, .f32⟩
  | .hbm, ⟨30, _⟩ => ⟨S2x2x4096, .f32⟩
  | .hbm, ⟨31, _⟩ => ⟨S2x2x4096, .i1⟩
  | .hbm, ⟨32, _⟩ => ⟨S_, .f32⟩
  | .hbm, ⟨33, _⟩ => ⟨S2x2x4096, .f32⟩
  | .hbm, ⟨34, _⟩ => ⟨S2x2x4096, .i1⟩
  | .hbm, ⟨35, _⟩ => ⟨S_, .f32⟩
  | .hbm, ⟨36, _⟩ => ⟨S2x2x4096, .f32⟩
  | .hbm, ⟨37, _⟩ => ⟨S_, .f32⟩
  | .hbm, ⟨38, _⟩ => ⟨S2x2x4096, .f32⟩
  | .hbm, ⟨39, _⟩ => ⟨S_, .f32⟩
  | .hbm, ⟨40, _⟩ => ⟨S2x2x4096, .f32⟩
  | .hbm, ⟨41, _⟩ => ⟨S2x2x4096, .f32⟩
  | .hbm, ⟨42, _⟩ => ⟨S2x2x4096, .f32⟩
  | .hbm, ⟨43, _⟩ => ⟨S2x2x4096x1, .f32⟩
  | .hbm, ⟨44, _⟩ => ⟨S2x2x4096x4096, .f32⟩
  | .hbm, ⟨45, _⟩ => ⟨S2x2x4096x4096, .f32⟩
  | .hbm, ⟨46, _⟩ => ⟨S2x2x4096x4096, .f32⟩
  | .hbm, ⟨47, _⟩ => ⟨S_, .f32⟩
  | .hbm, ⟨48, _⟩ => ⟨S2x2x4096, .f32⟩
  | .hbm, ⟨49, _⟩ => ⟨S2x2x4096x1, .f32⟩
  | .hbm, ⟨50, _⟩ => ⟨S2x2x4096x4096, .f32⟩
  | .hbm, ⟨51, _⟩ => ⟨S2x2x4096x4096, .f32⟩
  | .hbm, ⟨52, _⟩ => ⟨S2x2x4096x1, .f32⟩
  | .hbm, ⟨53, _⟩ => ⟨S_, .f32⟩
  | .hbm, ⟨54, _⟩ => ⟨S2x2x4096x1, .f32⟩
  | .hbm, ⟨55, _⟩ => ⟨S2x2x4096x1, .f32⟩
  | .hbm, ⟨56, _⟩ => ⟨S2x64x2x4096, .f32⟩
  | .hbm, ⟨57, _⟩ => ⟨S4096x2x2x64, .f32⟩
  | .hbm, ⟨58, _⟩ => ⟨S2x64x2x4096, .f32⟩
  | .hbm, ⟨59, _⟩ => ⟨S2x2x4096x4096, .f32⟩
  | .hbm, ⟨60, _⟩ => ⟨S2x64x4096, .f32⟩
  | .hbm, ⟨61, _⟩ => ⟨S4096x2x64, .f32⟩
  | .hbm, ⟨62, _⟩ => ⟨S2x2x4096x4096, .f32⟩
  | .hbm, ⟨63, _⟩ => ⟨S2x2x4096x4096, .f32⟩
  | .hbm, ⟨64, _⟩ => ⟨S2x2x4096x4096, .f32⟩
  | .hbm, ⟨65, _⟩ => ⟨S_, .f32⟩
  | .hbm, ⟨66, _⟩ => ⟨S2x2x4096, .f32⟩
  | .hbm, ⟨67, _⟩ => ⟨S2x2x4096x1, .f32⟩
  | .hbm, ⟨68, _⟩ => ⟨S2x2x4096x1, .f32⟩
  | .hbm, ⟨69, _⟩ => ⟨S2x2x4096x4096, .f32⟩
  | .hbm, ⟨70, _⟩ => ⟨S2x2x4096x4096, .f32⟩
  | .hbm, ⟨71, _⟩ => ⟨S_, .f32⟩
  | .hbm, ⟨72, _⟩ => ⟨S2x2x4096, .f32⟩
  | .hbm, ⟨73, _⟩ => ⟨S2x2x4096x4096, .f32⟩
  | .hbm, ⟨74, _⟩ => ⟨S2x2x4096x4096, .f32⟩
  | .hbm, ⟨75, _⟩ => ⟨S2x2x4096x4096, .f32⟩
  | .hbm, ⟨76, _⟩ => ⟨S_, .f32⟩
  | .hbm, ⟨77, _⟩ => ⟨S2x2x4096x4096, .f32⟩
  | .hbm, ⟨78, _⟩ => ⟨S2x2x4096x4096, .f32⟩
  | .hbm, ⟨79, _⟩ => ⟨S2x4096x4096x2, .f32⟩
  | .hbm, ⟨80, _⟩ => ⟨S2x4096x2x64, .f32⟩
  | .hbm, ⟨81, _⟩ => ⟨S4096x2x2x64, .f32⟩
  | .hbm, ⟨82, _⟩ => ⟨S2x4096x64, .f32⟩
  | .hbm, ⟨83, _⟩ => ⟨S4096x2x64, .f32⟩
  | .hbm, ⟨84, _⟩ => ⟨S4096x256, .f32⟩
  | .hbm, ⟨85, _⟩ => ⟨S4096x4x64, .f32⟩
  | .hbm, ⟨86, _⟩ => ⟨S4x4096x64, .f32⟩
  | .hbm, ⟨87, _⟩ => ⟨S2x64x4096, .f32⟩
  | .hbm, ⟨88, _⟩ => ⟨S2x64x4096, .f32⟩
  | _, _ => ⟨S4x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Mlp.lean ====
abbrev S4096x1024 : Shape := ⟨2, ![4096, 1024]⟩
abbrev S5632x1024 : Shape := ⟨2, ![5632, 1024]⟩
abbrev S2816x1024 : Shape := ⟨2, ![2816, 1024]⟩
abbrev S3x5632 : Shape := ⟨2, ![3, 5632]⟩
abbrev S1x5632 : Shape := ⟨2, ![1, 5632]⟩
abbrev S4096x2816 : Shape := ⟨2, ![4096, 2816]⟩
abbrev S512x1024 : Shape := ⟨2, ![512, 1024]⟩
abbrev S512x2816 : Shape := ⟨2, ![512, 2816]⟩
abbrev S4096x128 : Shape := ⟨2, ![4096, 128]⟩
abbrev S3x128 : Shape := ⟨2, ![3, 128]⟩
abbrev S1x128 : Shape := ⟨2, ![1, 128]⟩
abbrev S3x2816 : Shape := ⟨2, ![3, 2816]⟩
abbrev S1x2816 : Shape := ⟨2, ![1, 2816]⟩
abbrev S128 : Shape := ⟨1, ![128]⟩
abbrev S2x128 : Shape := ⟨2, ![2, 128]⟩

abbrev nBuf : Space → Nat
  | .hbm => 21
  | .vmem => 75
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S2816x1024, .bf16⟩
  | .hbm, ⟨3, _⟩ => ⟨S3x5632, .f32⟩
  | .hbm, ⟨4, _⟩ => ⟨S1x5632, .f32⟩
  | .hbm, ⟨5, _⟩ => ⟨S4096x1024, .bf16⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S4096x2816, .bf16⟩
  | .hbm, ⟨10, _⟩ => ⟨S4096x1024, .f32⟩
  | .hbm, ⟨11, _⟩ => ⟨S4096x2816, .f32⟩
  | .hbm, ⟨12, _⟩ => ⟨S4096x2816, .bf16⟩
  | .hbm, ⟨13, _⟩ => ⟨S4096x2816, .bf16⟩
  | .hbm, ⟨14, _⟩ => ⟨S3x2816, .f32⟩
  | .hbm, ⟨15, _⟩ => ⟨S3x2816, .f32⟩
  | .hbm, ⟨16, _⟩ => ⟨S1x2816, .f32⟩
  | .hbm, ⟨17, _⟩ => ⟨S1x2816, .f32⟩
  | .hbm, ⟨18, _⟩ => ⟨S3x5632, .f32⟩
  | .hbm, ⟨19, _⟩ => ⟨S1x5632, .f32⟩
  | .hbm, ⟨20, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | .local _ .vmem, ⟨5, _⟩ => ⟨S512x2816, .f32⟩
  | .local _ .vmem, ⟨6, _⟩ => ⟨S512x1024, .bf16⟩
  | .local _ .vmem, ⟨7, _⟩ => ⟨S512x1024, .bf16⟩
  | .local _ .vmem, ⟨8, _⟩ => ⟨S2816x1024, .bf16⟩
  | .local _ .vmem, ⟨9, _⟩ => ⟨S512x2816, .f32⟩
  | .local _ .vmem, ⟨10, _⟩ => ⟨S512x2816, .f32⟩
  | .local _ .vmem, ⟨11, _⟩ => ⟨S512x2816, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S3x128, .f32⟩
  | .local _ .vmem, ⟨17, _⟩ => ⟨S3x128, .f32⟩
  | .local _ .vmem, ⟨18, _⟩ => ⟨S3x128, .f32⟩
  | .local _ .vmem, ⟨19, _⟩ => ⟨S3x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S4096x128, .bf16⟩
  | .local _ .vmem, ⟨25, _⟩ => ⟨S4096x128, .bf16⟩
  | .local _ .vmem, ⟨26, _⟩ => ⟨S512x2816, .bf16⟩
  | .local _ .vmem, ⟨27, _⟩ => ⟨S512x2816, .bf16⟩
  | .local _ .vmem, ⟨28, _⟩ => ⟨S2816x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S2816x1024, .bf16⟩
  | .local _ .vmem, ⟨35, _⟩ => ⟨S512x2816, .f32⟩
  | .local _ .vmem, ⟨36, _⟩ => ⟨S512x2816, .f32⟩
  | .local _ .vmem, ⟨37, _⟩ => ⟨S512x2816, .f32⟩
  | .local _ .vmem, ⟨38, _⟩ => ⟨S4096x128, .f32⟩
  | .local _ .vmem, ⟨39, _⟩ => ⟨S4096x128, .f32⟩
  | .local _ .vmem, ⟨40, _⟩ => ⟨S4096x128, .f32⟩
  | .local _ .vmem, ⟨41, _⟩ => ⟨S4096x128, .f32⟩
  | .local _ .vmem, ⟨42, _⟩ => ⟨S3x128, .f32⟩
  | .local _ .vmem, ⟨43, _⟩ => ⟨S3x128, .f32⟩
  | .local _ .vmem, ⟨44, _⟩ => ⟨S3x128, .f32⟩
  | .local _ .vmem, ⟨45, _⟩ => ⟨S3x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S4096x128, .f32⟩
  | .local _ .vmem, ⟨51, _⟩ => ⟨S4096x128, .f32⟩
  | .local _ .vmem, ⟨52, _⟩ => ⟨S4096x128, .bf16⟩
  | .local _ .vmem, ⟨53, _⟩ => ⟨S4096x128, .bf16⟩
  | .local _ .vmem, ⟨54, _⟩ => ⟨S4096x128, .bf16⟩
  | .local _ .vmem, ⟨55, _⟩ => ⟨S4096x128, .bf16⟩
  | .local _ .vmem, ⟨56, _⟩ => ⟨S3x128, .f32⟩
  | .local _ .vmem, ⟨57, _⟩ => ⟨S3x128, .f32⟩
  | .local _ .vmem, ⟨58, _⟩ => ⟨S3x128, .f32⟩
  | .local _ .vmem, ⟨59, _⟩ => ⟨S3x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S512x2816, .bf16⟩
  | .local _ .vmem, ⟨65, _⟩ => ⟨S512x2816, .bf16⟩
  | .local _ .vmem, ⟨66, _⟩ => ⟨S2816x1024, .bf16⟩
  | .local _ .vmem, ⟨67, _⟩ => ⟨S512x2816, .bf16⟩
  | .local _ .vmem, ⟨68, _⟩ => ⟨S512x2816, .bf16⟩
  | .local _ .vmem, ⟨69, _⟩ => ⟨S2816x1024, .bf16⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc5_stg7_0 : Ref sig .tc := ⟨.vmem, 52, rfl⟩
abbrev cc5_stg7_1 : Ref sig .tc := ⟨.vmem, 53, rfl⟩
abbrev cc5_stg8_0 : Ref sig .tc := ⟨.vmem, 54, rfl⟩
abbrev cc5_stg8_1 : Ref sig .tc := ⟨.vmem, 55, rfl⟩
abbrev cc5_stg9_0 : Ref sig .tc := ⟨.vmem, 56, rfl⟩
abbrev cc5_stg9_1 : Ref sig .tc := ⟨.vmem, 57, rfl⟩
abbrev cc5_stg10_0 : Ref sig .tc := ⟨.vmem, 58, rfl⟩
abbrev cc5_stg10_1 : Ref sig .tc := ⟨.vmem, 59, rfl⟩
abbrev cc5_stg11_0 : Ref sig .tc := ⟨.vmem, 60, rfl⟩
abbrev cc5_stg11_1 : Ref sig .tc := ⟨.vmem, 61, rfl⟩
abbrev cc5_stg12_0 : Ref sig .tc := ⟨.vmem, 62, rfl⟩
abbrev cc5_stg12_1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg2_0 : Ref sig .tc := ⟨.vmem, 67, rfl⟩
abbrev cc6_stg2_1 : Ref sig .tc := ⟨.vmem, 68, rfl⟩
abbrev cc6_stg3_0 : Ref sig .tc := ⟨.vmem, 69, rfl⟩
abbrev cc6_stg4_0 : Ref sig .tc := ⟨.vmem, 70, rfl⟩
abbrev cc6_stg4_1 : Ref sig .tc := ⟨.vmem, 71, rfl⟩
abbrev cc6_stg5_0 : Ref sig .tc := ⟨.vmem, 72, rfl⟩
abbrev cc6_stg5_1 : Ref sig .tc := ⟨.vmem, 73, rfl⟩
abbrev cc6_scratch0 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc5_sem4_0 : DmaSem sig := 42
abbrev cc5_sem4_1 : DmaSem sig := 43
abbrev cc5_sem5_0 : DmaSem sig := 44
abbrev cc5_sem5_1 : DmaSem sig := 45
abbrev cc5_sem6_0 : DmaSem sig := 46
abbrev cc5_sem6_1 : DmaSem sig := 47
abbrev cc5_sem7_0 : DmaSem sig := 48
abbrev cc5_sem7_1 : DmaSem sig := 49
abbrev cc5_sem8_0 : DmaSem sig := 50
abbrev cc5_sem8_1 : DmaSem sig := 51
abbrev cc5_sem9_0 : DmaSem sig := 52
abbrev cc5_sem9_1 : DmaSem sig := 53
abbrev cc5_sem10_0 : DmaSem sig := 54
abbrev cc5_sem10_1 : DmaSem sig := 55
abbrev cc5_sem11_0 : DmaSem sig := 56
abbrev cc5_sem11_1 : DmaSem sig := 57
abbrev cc5_sem12_0 : DmaSem sig := 58
abbrev cc5_sem12_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem2_1 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem5_1 : DmaSem sig := 69

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def k1_cond2 (i : grid1.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![v0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![22], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4096x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨3, ![8, 1, 1], ![false, false, false]⟩

def k3_cond2 (i : grid3.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage3_0 : Fin 2 → Memref sig .tc .vmem S512x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 1], ![false, false, false]⟩

def k4_cond2 (i : grid4.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2816x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S512x2816 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![22], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_12 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S3x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S3x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4096x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S4096x128 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S4096x128 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S3x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S3x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev stage5_11 : Fin 2 → Memref sig .tc .vmem S1x128 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 2 → Memref sig .tc .vmem S1x128 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

abbrev grid6 : Pipeline.Grid := ⟨3, ![8, 1, 1], ![false, false, false]⟩

def k6_cond2 (i : grid6.Coords) : BitVec 1 :=
  let arg2 : BitVec 32 := BitVec.ofNat 32 (i 2).val
  let c0_i32_17 : BitVec 32 := 0#32
  let v21 : BitVec 1 := Scalar.cmpi .eq arg2 c0_i32_17
  let v22 : BitVec 32 := Scalar.extui v21
  let c0_i32_18 : BitVec 32 := 0#32
  let v23 : BitVec 1 := Scalar.cmpi .ne v22 c0_i32_18
  v23

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage6_0 : Fin 2 → Memref sig .tc .vmem S512x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S2816x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S512x2816 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false, true]

abbrev stage6_3 : Fin 1 → Memref sig .tc .vmem S2816x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, true, true]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, false]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, false]
-- ==== MlpReferenceIdeal.lean ====
abbrev S4096x1024 : Shape := ⟨2, ![4096, 1024]⟩
abbrev S5632x1024 : Shape := ⟨2, ![5632, 1024]⟩
abbrev S2816x1024 : Shape := ⟨2, ![2816, 1024]⟩
abbrev S3x5632 : Shape := ⟨2, ![3, 5632]⟩
abbrev S1x5632 : Shape := ⟨2, ![1, 5632]⟩
abbrev S5632 : Shape := ⟨1, ![5632]⟩
abbrev S1024x5632 : Shape := ⟨2, ![1024, 5632]⟩
abbrev S4096x5632 : Shape := ⟨2, ![4096, 5632]⟩
abbrev S_ : Shape := ⟨0, ![]⟩
abbrev S4095x5632 : Shape := ⟨2, ![4095, 5632]⟩
abbrev S4096x2816 : Shape := ⟨2, ![4096, 2816]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S2816x1024, .bf16⟩
  | .hbm, ⟨3, _⟩ => ⟨S3x5632, .f32⟩
  | .hbm, ⟨4, _⟩ => ⟨S1x5632, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S5632, .f32⟩
  | .hbm, ⟨9, _⟩ => ⟨S5632x1024, .f32⟩
  | .hbm, ⟨10, _⟩ => ⟨S1024x5632, .f32⟩
  | .hbm, ⟨11, _⟩ => ⟨S2816x1024, .f32⟩
  | .hbm, ⟨12, _⟩ => ⟨S4096x5632, .f32⟩
  | .hbm, ⟨13, _⟩ => ⟨S_, .f32⟩
  | .hbm, ⟨14, _⟩ => ⟨S1x5632, .f32⟩
  | .hbm, ⟨15, _⟩ => ⟨S4095x5632, .f32⟩
  | .hbm, ⟨16, _⟩ => ⟨S4096x5632, .f32⟩
  | .hbm, ⟨17, _⟩ => ⟨S_, .f32⟩
  | .hbm, ⟨18, _⟩ => ⟨S1x5632, .f32⟩
  | .hbm, ⟨19, _⟩ => ⟨S4095x5632, .f32⟩
  | .hbm, ⟨20, _⟩ => ⟨S4096x5632, .f32⟩
  | .hbm, ⟨21, _⟩ => ⟨S_, .f32⟩
  | .hbm, ⟨22, _⟩ => ⟨S1x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S1x5632, .f32⟩
  | .hbm, ⟨35, _⟩ => ⟨S5632, .f32⟩
  | .hbm, ⟨36, _⟩ => ⟨S1x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S1x5632, .f32⟩
  | .hbm, ⟨41, _⟩ => ⟨S4096x5632, .f32⟩
  | .hbm, ⟨42, _⟩ => ⟨S4096x5632, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S_, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x1024, .f32⟩
  | .hbm, ⟨60, _⟩ => ⟨S4096x1024, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S4096x5632, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S_, .f32⟩
  | .hbm, ⟨71, _⟩ => ⟨S4096x5632, .f32⟩
  | .hbm, ⟨72, _⟩ => ⟨S4096x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S5632, .f32⟩
  | .hbm, ⟨78, _⟩ => ⟨S4096x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S4096x5632, .f32⟩
  | .hbm, ⟨83, _⟩ => ⟨S4096x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S3x5632, .f32⟩
  | .hbm, ⟨89, _⟩ => ⟨S4096x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S4096x5632, .f32⟩
  | .hbm, ⟨94, _⟩ => ⟨S4096x5632, .f32⟩
  | .hbm, ⟨95, _⟩ => ⟨S_, .f32⟩
  | .hbm, ⟨96, _⟩ => ⟨S5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S4096x5632, .f32⟩
  | .hbm, ⟨102, _⟩ => ⟨S_, .f32⟩
  | .hbm, ⟨103, _⟩ => ⟨S5632, .f32⟩
  | .hbm, ⟨104, _⟩ => ⟨S1x5632, .f32⟩
  | .hbm, ⟨105, _⟩ => ⟨S4096x5632, .f32⟩
  | .hbm, ⟨106, _⟩ => ⟨S4096x5632, .f32⟩
  | .hbm, ⟨107, _⟩ => ⟨S_, .f32⟩
  | .hbm, ⟨108, _⟩ => ⟨S5632, .f32⟩
  | .hbm, ⟨109, _⟩ => ⟨S1x5632, .f32⟩
  | .hbm, ⟨110, _⟩ => ⟨S_, .f32⟩
  | .hbm, ⟨111, _⟩ => ⟨S3x5632, .f32⟩
  | .hbm, ⟨112, _⟩ => ⟨S3x5632, .f32⟩
  | .hbm, ⟨113, _⟩ => ⟨S4095x5632, .f32⟩
  | .hbm, ⟨114, _⟩ => ⟨S1x5632, .f32⟩
  | .hbm, ⟨115, _⟩ => ⟨S_, .f32⟩
  | .hbm, ⟨116, _⟩ => ⟨S4096x5632, .f32⟩
  | .hbm, ⟨117, _⟩ => ⟨S4096x5632, .f32⟩
  | .hbm, ⟨118, _⟩ => ⟨S1x5632, .f32⟩
  | .hbm, ⟨119, _⟩ => ⟨S4095x5632, .f32⟩
  | .hbm, ⟨120, _⟩ => ⟨S_, .f32⟩
  | .hbm, ⟨121, _⟩ => ⟨S4096x5632, .f32⟩
  | .hbm, ⟨122, _⟩ => ⟨S4096x5632, .f32⟩
  | .hbm, ⟨123, _⟩ => ⟨S4096x1024, .f32⟩
  | .hbm, ⟨124, _⟩ => ⟨S4096x1024, .f32⟩
  | .hbm, ⟨125, _⟩ => ⟨S1x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v34_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v34_1 : Ref sig .tc := ⟨.hbm, 55, rfl⟩
abbrev main_v34_0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_7 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_cst_14 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩

abbrev nD : Nat := 1
abbrev τ : Topo := Topo.v7x

variable {F : FTy → Type} [FloatOps F]
-- ==== Projections.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 11
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .bf16⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x2048, .bf16⟩
  | .local _ .vmem, ⟨19, _⟩ => ⟨S512x2048, .bf16⟩
  | .local _ .vmem, ⟨20, _⟩ => ⟨S2048x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def k1_cond2 (i : grid1.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def k2_cond2 (i : grid2.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def k3_cond2 (i : grid3.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== ProjectionsReferenceIdeal.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .bf16⟩
  | .hbm, ⟨7, _⟩ => ⟨S4096x1024, .f32⟩
  | .hbm, ⟨8, _⟩ => ⟨S2048x1024, .f32⟩
  | .hbm, ⟨9, _⟩ => ⟨S1024x2048, .f32⟩
  | .hbm, ⟨10, _⟩ => ⟨S4096x2048, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x2048, .f32⟩
  | .hbm, ⟨17, _⟩ => ⟨S4096x1024, .f32⟩
  | .hbm, ⟨18, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Latent.lean ====
abbrev S4x4096x128 : Shape := ⟨3, ![4, 4096, 128]⟩
abbrev S4x4096x64 : Shape := ⟨3, ![4, 4096, 64]⟩
abbrev S4096x1024 : Shape := ⟨2, ![4096, 1024]⟩
abbrev S4x64x4096 : Shape := ⟨3, ![4, 64, 4096]⟩
abbrev S4096x256 : Shape := ⟨2, ![4096, 256]⟩
abbrev S4x4096x1 : Shape := ⟨3, ![4, 4096, 1]⟩
abbrev S2x512x128 : Shape := ⟨3, ![2, 512, 128]⟩
abbrev S2x4096x128 : Shape := ⟨3, ![2, 4096, 128]⟩
abbrev S2x64x4096 : Shape := ⟨3, ![2, 64, 4096]⟩
abbrev S512x128 : Shape := ⟨2, ![512, 128]⟩
abbrev S2x512x1 : Shape := ⟨3, ![2, 512, 1]⟩
abbrev S1x512x128 : Shape := ⟨3, ![1, 512, 128]⟩
abbrev S1x512 : Shape := ⟨2, ![1, 512]⟩
abbrev S64x512 : Shape := ⟨2, ![64, 512]⟩
abbrev S1x4096x128 : Shape := ⟨3, ![1, 4096, 128]⟩
abbrev S4096x128 : Shape := ⟨2, ![4096, 128]⟩
abbrev S512x512 : Shape := ⟨2, ![512, 512]⟩
abbrev S512 : Shape := ⟨1, ![512]⟩
abbrev S1x64x4096 : Shape := ⟨3, ![1, 64, 4096]⟩
abbrev S64x4096 : Shape := ⟨2, ![64, 4096]⟩
abbrev S512x64 : Shape := ⟨2, ![512, 64]⟩
abbrev S512x1 : Shape := ⟨2, ![512, 1]⟩
abbrev S1x512x1 : Shape := ⟨3, ![1, 512, 1]⟩
abbrev S4x128x4096 : Shape := ⟨3, ![4, 128, 4096]⟩
abbrev S2x256x128 : Shape := ⟨3, ![2, 256, 128]⟩
abbrev S2x4096x64 : Shape := ⟨3, ![2, 4096, 64]⟩
abbrev S256x128 : Shape := ⟨2, ![256, 128]⟩
abbrev S2x256x1 : Shape := ⟨3, ![2, 256, 1]⟩
abbrev S2x128x4096 : Shape := ⟨3, ![2, 128, 4096]⟩
abbrev S1x256x128 : Shape := ⟨3, ![1, 256, 128]⟩
abbrev S256x64 : Shape := ⟨2, ![256, 64]⟩
abbrev S1x256x1 : Shape := ⟨3, ![1, 256, 1]⟩
abbrev S256x1 : Shape := ⟨2, ![256, 1]⟩
abbrev S64x256 : Shape := ⟨2, ![64, 256]⟩
abbrev S128x256 : Shape := ⟨2, ![128, 256]⟩
abbrev S256 : Shape := ⟨1, ![256]⟩
abbrev S256x512 : Shape := ⟨2, ![256, 512]⟩
abbrev S1x4096x64 : Shape := ⟨3, ![1, 4096, 64]⟩
abbrev S4096x64 : Shape := ⟨2, ![4096, 64]⟩
abbrev S1x64x512 : Shape := ⟨3, ![1, 64, 512]⟩
abbrev S1x128x512 : Shape := ⟨3, ![1, 128, 512]⟩
abbrev S128x512 : Shape := ⟨2, ![128, 512]⟩

abbrev nBuf : Space → Nat
  | .hbm => 10
  | .vmem => 28
  | .smem => 0
  | _ => 0

abbrev bufTy : (tb : Table) → Fin (tcTables nBuf tb) → BufTy
  | .hbm, ⟨0, _⟩ => ⟨S4x4096x128, .bf16⟩
  | .hbm, ⟨1, _⟩ => ⟨S4x4096x128, .bf16⟩
  | .hbm, ⟨2, _⟩ => ⟨S4x4096x64, .bf16⟩
  | .hbm, ⟨3, _⟩ => ⟨S4096x1024, .f32⟩
  | .hbm, ⟨4, _⟩ => ⟨S4x64x4096, .bf16⟩
  | .hbm, ⟨5, _⟩ => ⟨S4096x256, .f32⟩
  | .hbm, ⟨6, _⟩ => ⟨S4x4096x1, .f32⟩
  | .hbm, ⟨7, _⟩ => ⟨S4x4096x128, .f32⟩
  | .hbm, ⟨8, _⟩ => ⟨S4x128x4096, .f32⟩
  | .hbm, ⟨9, _⟩ => ⟨S4x64x4096, .f32⟩
  | .local _ .vmem, ⟨0, _⟩ => ⟨S2x512x128, .bf16⟩
  | .local _ .vmem, ⟨1, _⟩ => ⟨S2x512x128, .bf16⟩
  | .local _ .vmem, ⟨2, _⟩ => ⟨S2x4096x128, .bf16⟩
  | .local _ .vmem, ⟨3, _⟩ => ⟨S2x4096x128, .bf16⟩
  | .local _ .vmem, ⟨4, _⟩ => ⟨S2x64x4096, .bf16⟩
  | .local _ .vmem, ⟨5, _⟩ => ⟨S2x64x4096, .bf16⟩
  | .local _ .vmem, ⟨6, _⟩ => ⟨S512x128, .f32⟩
  | .local _ .vmem, ⟨7, _⟩ => ⟨S512x128, .f32⟩
  | .local _ .vmem, ⟨8, _⟩ => ⟨S2x512x1, .f32⟩
  | .local _ .vmem, ⟨9, _⟩ => ⟨S2x512x1, .f32⟩
  | .local _ .vmem, ⟨10, _⟩ => ⟨S2x256x128, .bf16⟩
  | .local _ .vmem, ⟨11, _⟩ => ⟨S2x256x128, .bf16⟩
  | .local _ .vmem, ⟨12, _⟩ => ⟨S2x4096x128, .bf16⟩
  | .local _ .vmem, ⟨13, _⟩ => ⟨S2x4096x128, .bf16⟩
  | .local _ .vmem, ⟨14, _⟩ => ⟨S2x4096x64, .bf16⟩
  | .local _ .vmem, ⟨15, _⟩ => ⟨S2x4096x64, .bf16⟩
  | .local _ .vmem, ⟨16, _⟩ => ⟨S256x128, .f32⟩
  | .local _ .vmem, ⟨17, _⟩ => ⟨S256x128, .f32⟩
  | .local _ .vmem, ⟨18, _⟩ => ⟨S2x256x1, .f32⟩
  | .local _ .vmem, ⟨19, _⟩ => ⟨S2x256x1, .f32⟩
  | .local _ .vmem, ⟨20, _⟩ => ⟨S256x128, .f32⟩
  | .local _ .vmem, ⟨21, _⟩ => ⟨S256x128, .f32⟩
  | .local _ .vmem, ⟨22, _⟩ => ⟨S2x256x128, .f32⟩
  | .local _ .vmem, ⟨23, _⟩ => ⟨S2x256x128, .f32⟩
  | .local _ .vmem, ⟨24, _⟩ => ⟨S2x128x4096, .f32⟩
  | .local _ .vmem, ⟨25, _⟩ => ⟨S2x128x4096, .f32⟩
  | .local _ .vmem, ⟨26, _⟩ => ⟨S2x64x4096, .f32⟩
  | .local _ .vmem, ⟨27, _⟩ => ⟨S2x64x4096, .f32⟩
  | _, _ => ⟨S4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2x64x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== LatentIdeal.lean ====
variable {F : FTy → Type} [FloatOps F] [Named F]
def κ : String → Option EReal := fun
  | "ln2" => some ((Real.log 2 : ℝ) : EReal)
  | "log2e" => some (((Real.log 2)⁻¹ : ℝ) : EReal)
  | "scale" => some (((Real.sqrt 96)⁻¹ : ℝ) : EReal)
  | "scale_log2e" => some (((Real.sqrt 96)⁻¹ * (Real.log 2)⁻¹ : ℝ) : EReal)
  | _ => none
-- ==== LatentReferenceIdeal.lean ====
abbrev S4x4096x128 : Shape := ⟨3, ![4, 4096, 128]⟩
abbrev S4x4096x64 : Shape := ⟨3, ![4, 4096, 64]⟩
abbrev S4096x1024 : Shape := ⟨2, ![4096, 1024]⟩
abbrev S4096x4x128 : Shape := ⟨3, ![4096, 4, 128]⟩
abbrev S4096x4x64 : Shape := ⟨3, ![4096, 4, 64]⟩
abbrev S_ : Shape := ⟨0, ![]⟩
abbrev S4096x256 : Shape := ⟨2, ![4096, 256]⟩
abbrev S4096x4x1x64 : Shape := ⟨4, ![4096, 4, 1, 64]⟩
abbrev S4096x4x1x128 : Shape := ⟨4, ![4096, 4, 1, 128]⟩
abbrev S4x4096x4096x1 : Shape := ⟨4, ![4, 4096, 4096, 1]⟩
abbrev S4x1x4096x4096 : Shape := ⟨4, ![4, 1, 4096, 4096]⟩
abbrev S4x1x4096 : Shape := ⟨3, ![4, 1, 4096]⟩
abbrev S4x1x4096x1 : Shape := ⟨4, ![4, 1, 4096, 1]⟩
abbrev S4x64x1x4096 : Shape := ⟨4, ![4, 64, 1, 4096]⟩
abbrev S4x64x4096 : Shape := ⟨3, ![4, 64, 4096]⟩
abbrev S4x4096 : Shape := ⟨2, ![4, 4096]⟩
abbrev S4x4096x1x128 : Shape := ⟨4, ![4, 4096, 1, 128]⟩
abbrev S4x128x4096 : Shape := ⟨3, ![4, 128, 4096]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x128, .bf16⟩
  | .hbm, ⟨1, _⟩ => ⟨S4x4096x128, .bf16⟩
  | .hbm, ⟨2, _⟩ => ⟨S4x4096x64, .bf16⟩
  | .hbm, ⟨3, _⟩ => ⟨S4096x1024, .f32⟩
  | .hbm, ⟨4, _⟩ => ⟨S4x4096x128, .f32⟩
  | .hbm, ⟨5, _⟩ => ⟨S4096x4x128, .f32⟩
  | .hbm, ⟨6, _⟩ => ⟨S4x4096x128, .f32⟩
  | .hbm, ⟨7, _⟩ => ⟨S4096x4x128, .f32⟩
  | .hbm, ⟨8, _⟩ => ⟨S4x4096x64, .f32⟩
  | .hbm, ⟨9, _⟩ => ⟨S4096x4x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x256, .f32⟩
  | .hbm, ⟨15, _⟩ => ⟨S4096x4x1x64, .f32⟩
  | .hbm, ⟨16, _⟩ => ⟨S4096x4x1x128, .f32⟩
  | .hbm, ⟨17, _⟩ => ⟨S4x4096x4096x1, .f32⟩
  | .hbm, ⟨18, _⟩ => ⟨S4x1x4096x4096, .f32⟩
  | .hbm, ⟨19, _⟩ => ⟨S4x1x4096x4096, .f32⟩
  | .hbm, ⟨20, _⟩ => ⟨S4x1x4096x4096, .f32⟩
  | .hbm, ⟨21, _⟩ => ⟨S_, .f32⟩
  | .hbm, ⟨22, _⟩ => ⟨S4x1x4096, .f32⟩
  | .hbm, ⟨23, _⟩ => ⟨S4x1x4096x1, .f32⟩
  | .hbm, ⟨24, _⟩ => ⟨S4x1x4096x4096, .f32⟩
  | .hbm, ⟨25, _⟩ => ⟨S4x1x4096x4096, .i1⟩
  | .hbm, ⟨26, _⟩ => ⟨S4x1x4096x4096, .f32⟩
  | .hbm, ⟨27, _⟩ => ⟨S_, .f32⟩
  | .hbm, ⟨28, _⟩ => ⟨S4x1x4096, .f32⟩
  | .hbm, ⟨29, _⟩ => ⟨S_, .f32⟩
  | .hbm, ⟨30, _⟩ => ⟨S4x1x4096, .f32⟩
  | .hbm, ⟨31, _⟩ => ⟨S4x1x4096, .f32⟩
  | .hbm, ⟨32, _⟩ => ⟨S_, .f32⟩
  | .hbm, ⟨33, _⟩ => ⟨S4x1x4096, .f32⟩
  | .hbm, ⟨34, _⟩ => ⟨S4x1x4096, .i1⟩
  | .hbm, ⟨35, _⟩ => ⟨S_, .f32⟩
  | .hbm, ⟨36, _⟩ => ⟨S4x1x4096, .f32⟩
  | .hbm, ⟨37, _⟩ => ⟨S4x1x4096, .i1⟩
  | .hbm, ⟨38, _⟩ => ⟨S_, .f32⟩
  | .hbm, ⟨39, _⟩ => ⟨S4x1x4096, .f32⟩
  | .hbm, ⟨40, _⟩ => ⟨S_, .f32⟩
  | .hbm, ⟨41, _⟩ => ⟨S4x1x4096, .f32⟩
  | .hbm, ⟨42, _⟩ => ⟨S_, .f32⟩
  | .hbm, ⟨43, _⟩ => ⟨S4x1x4096, .f32⟩
  | .hbm, ⟨44, _⟩ => ⟨S4x1x4096, .f32⟩
  | .hbm, ⟨45, _⟩ => ⟨S4x1x4096, .f32⟩
  | .hbm, ⟨46, _⟩ => ⟨S4x1x4096x1, .f32⟩
  | .hbm, ⟨47, _⟩ => ⟨S4x1x4096x4096, .f32⟩
  | .hbm, ⟨48, _⟩ => ⟨S4x1x4096x4096, .f32⟩
  | .hbm, ⟨49, _⟩ => ⟨S4x1x4096x4096, .f32⟩
  | .hbm, ⟨50, _⟩ => ⟨S_, .f32⟩
  | .hbm, ⟨51, _⟩ => ⟨S4x1x4096, .f32⟩
  | .hbm, ⟨52, _⟩ => ⟨S4x1x4096x1, .f32⟩
  | .hbm, ⟨53, _⟩ => ⟨S4x1x4096x4096, .f32⟩
  | .hbm, ⟨54, _⟩ => ⟨S4x1x4096x4096, .f32⟩
  | .hbm, ⟨55, _⟩ => ⟨S4x1x4096x1, .f32⟩
  | .hbm, ⟨56, _⟩ => ⟨S_, .f32⟩
  | .hbm, ⟨57, _⟩ => ⟨S4x1x4096x1, .f32⟩
  | .hbm, ⟨58, _⟩ => ⟨S4x1x4096x1, .f32⟩
  | .hbm, ⟨59, _⟩ => ⟨S4x64x1x4096, .f32⟩
  | .hbm, ⟨60, _⟩ => ⟨S4096x4x1x64, .f32⟩
  | .hbm, ⟨61, _⟩ => ⟨S4x64x1x4096, .f32⟩
  | .hbm, ⟨62, _⟩ => ⟨S4x1x4096x4096, .f32⟩
  | .hbm, ⟨63, _⟩ => ⟨S4x64x4096, .f32⟩
  | .hbm, ⟨64, _⟩ => ⟨S4096x4x64, .f32⟩
  | .hbm, ⟨65, _⟩ => ⟨S4x1x4096x4096, .f32⟩
  | .hbm, ⟨66, _⟩ => ⟨S4x1x4096x4096, .f32⟩
  | .hbm, ⟨67, _⟩ => ⟨S4x1x4096x4096, .f32⟩
  | .hbm, ⟨68, _⟩ => ⟨S_, .f32⟩
  | .hbm, ⟨69, _⟩ => ⟨S4x1x4096, .f32⟩
  | .hbm, ⟨70, _⟩ => ⟨S4x1x4096x1, .f32⟩
  | .hbm, ⟨71, _⟩ => ⟨S4x1x4096x1, .f32⟩
  | .hbm, ⟨72, _⟩ => ⟨S4x1x4096x4096, .f32⟩
  | .hbm, ⟨73, _⟩ => ⟨S4x1x4096x4096, .f32⟩
  | .hbm, ⟨74, _⟩ => ⟨S_, .f32⟩
  | .hbm, ⟨75, _⟩ => ⟨S4x4096, .f32⟩
  | .hbm, ⟨76, _⟩ => ⟨S4x1x4096, .f32⟩
  | .hbm, ⟨77, _⟩ => ⟨S4x1x4096x4096, .f32⟩
  | .hbm, ⟨78, _⟩ => ⟨S4x1x4096x4096, .f32⟩
  | .hbm, ⟨79, _⟩ => ⟨S4x1x4096x4096, .f32⟩
  | .hbm, ⟨80, _⟩ => ⟨S4x1x4096x4096, .f32⟩
  | .hbm, ⟨81, _⟩ => ⟨S4x1x4096x4096, .f32⟩
  | .hbm, ⟨82, _⟩ => ⟨S4x4096x4096x1, .f32⟩
  | .hbm, ⟨83, _⟩ => ⟨S4x4096x1x128, .f32⟩
  | .hbm, ⟨84, _⟩ => ⟨S4096x4x1x128, .f32⟩
  | .hbm, ⟨85, _⟩ => ⟨S4x4096x128, .f32⟩
  | .hbm, ⟨86, _⟩ => ⟨S4096x4x128, .f32⟩
  | .hbm, ⟨87, _⟩ => ⟨S4096x256, .f32⟩
  | .hbm, ⟨88, _⟩ => ⟨S4096x4x128, .f32⟩
  | .hbm, ⟨89, _⟩ => ⟨S4x4096x128, .f32⟩
  | .hbm, ⟨90, _⟩ => ⟨S4x128x4096, .f32⟩
  | .hbm, ⟨91, _⟩ => ⟨S4x64x4096, .f32⟩
  | _, _ => ⟨S4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Down.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpFirst.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFirstReferenceIdeal.lean ====
abbrev S4096x2816 : Shape := ⟨2, ![4096, 2816]⟩
abbrev S4096x1024 : Shape := ⟨2, ![4096, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S4096x1024, .f32⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== UpSecond.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpSecondReferenceIdeal.lean ====
abbrev S4096x2816 : Shape := ⟨2, ![4096, 2816]⟩
abbrev S4096x1024 : Shape := ⟨2, ![4096, 1024]⟩
abbrev S5632x1024 : Shape := ⟨2, ![5632, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S2816x1024, .bf16⟩
  | .hbm, ⟨4, _⟩ => ⟨S4096x1024, .f32⟩
  | .hbm, ⟨5, _⟩ => ⟨S4096x2816, .f32⟩
  | .hbm, ⟨6, _⟩ => ⟨S_, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.RealValues.lean ====
/- Extended reals that are real numbers: sums, maxima, quotients and the constants of the two programs, read at real operands. -/
module

public import Idealize.ShloMosaic.Lib.Pointwise

@[expose] public section

noncomputable section

namespace Cert.RealValues

open Idealize.ShloMosaic

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of `⊥` and of a nonempty finite family of reals is a real. -/
theorem fold_max_real {ι : Type} (s : Finset ι) (hs : s.Nonempty) (f : ι → ℝ) : ∃ r : ℝ, s.fold max (⊥ : EReal) (fun i => (f i : EReal)) = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- A maximum over an axis, taken from `⊥` over a nonempty set of reals, is a real. -/
theorem reduce_max_real {s t u : Shape} {axes : List (Fin s.rank)} (x : FVec Ideal s .f32) (init : FVec Ideal u .f32) (h : s.ReducesTo axes t)
    (hu : 0 < u.numel) (j : t.Idx) (f : s.Idx → ℝ) (hf : ∀ i, x i = (f i : EReal)) (h0 : init (Shape.Idx.first hu) = (⊥ : EReal))
    (i : s.Idx) (hi : h.drop i = j) : ∃ r : ℝ, Host.reduce (FloatOps.maximumf (F := Ideal) (φ := .f32)) x init h hu j = (r : EReal) := by
  rw [Host.reduce_eq_fold, h0, funext hf]
  exact fold_max_real _ ⟨i, Finset.mem_filter.mpr ⟨Finset.mem_univ _, hi⟩⟩ f

/-- A quotient of reals by a real other than zero. -/
theorem div_real {y : ℝ} (h : y ≠ 0) (x : ℝ) : Ideal.div (x : EReal) (y : EReal) = ((x / y : ℝ) : EReal) := by
  rw [Ideal.div_coe h, ← EReal.coe_mul, mul_one_div]

/-- The logarithm of a positive real. -/
theorem log_real {x : ℝ} (h : 0 < x) : Ideal.log (x : EReal) = (Real.log x : EReal) := by
  rw [Ideal.log_coe, if_neg (not_le.mpr h)]

/-- The word of one eighth. -/
theorem ofBits_eighth : Ideal.ofBits .f32 0x3E000000#32 = ((1 / 8 : ℝ) : EReal) := by
  simp [Ideal.ofBits, Ideal.ieee, -EReal.coe_mul]; norm_num

/-- The word of one. -/
theorem ofBits_one : Ideal.ofBits .f32 0x3F800000#32 = ((1 : ℝ) : EReal) := by
  simp [Ideal.ofBits, Ideal.ieee, -EReal.coe_mul]; norm_num

/-- The word of minus infinity. -/
theorem ofBits_bot : Ideal.ofBits .f32 0xFF800000#32 = (⊥ : EReal) := by
  simp [Ideal.ofBits, Ideal.ieee, -EReal.coe_mul]

/-- The word of plus infinity. -/
theorem ofBits_top : Ideal.ofBits .f32 0x7F800000#32 = (⊤ : EReal) := by
  simp [Ideal.ofBits, Ideal.ieee, -EReal.coe_mul]

end Cert.RealValues

end
-- ==== Proof.Finite.lean ====
/- What the precondition says: every element of the arguments that it names is a real number. -/
module

public import proofs.«01_k».proof.Defs
public import proofs.«01_k».proof.Proof.RealValues
public import Idealize.ShloMosaic.Lib.Pointwise
public import Idealize.ShloMosaic.Lib.ReduceAll

@[expose] public section

set_option maxRecDepth 16384

noncomputable section

namespace Cert.Finite

open Idealize.ShloMosaic Cert.RealValues Cert.Pre_finite

instance facts : Cert.Pre_finite.Facts where
  bitsLt_bf16_f32 := by decide
  bcast_S_S4x4096x64 := by decide
  reducesTo_S4x4096x64_S_d0_1_2 := by decide
  h_S_ := by decide
  bcast_S_S2x4096x64 := by decide
  reducesTo_S2x4096x64_S_d0_1_2 := by decide
  slices_S4096x1024_S4096x256_0_256 := by decide
  bcast_S_S4096x256 := by decide
  reducesTo_S4096x256_S_d0_1 := by decide

instance : Subsingleton S_.Idx := ⟨fun a b => funext fun k => k.elim0⟩

/-- A number whose absolute value is below infinity is real. -/
theorem real_of_lt (x : EReal) (h : Ideal.cmp .olt (max x (-x)) (Ideal.ofBits .f32 0x7F800000#32) = 1#1) : ∃ r : ℝ, x = (r : EReal) := by
  rw [ofBits_top] at h
  have h' : max x (-x) < ⊤ := (Ideal.cmp_olt_eq_one _ _).1 h
  induction x using EReal.rec with
  | bot => simp at h'
  | coe r => exact ⟨r, rfl⟩
  | top => simp at h'

variable (x0 : FVec Ideal S4x4096x64 .bf16) (x1 x2 : FVec Ideal S2x4096x64 .bf16) (x3 : FVec Ideal S4096x1024 .f32)

/-- The precondition, element by element. -/
theorem reals (h : Cert.Pre_finite.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ ∀ (i : Fin 4096) (j : Fin 256), ∃ r : ℝ, x3 (ix2 i ⟨256 + j.val, by omega⟩) = (r : EReal) := by
  have h0 := congrFun h (fun k => k.elim0)
  obtain ⟨h1, hg⟩ := IntOp.andi_eq_one.1 h0
  obtain ⟨h2, hv⟩ := IntOp.andi_eq_one.1 h1
  obtain ⟨hq, hk⟩ := IntOp.andi_eq_one.1 h2
  refine ⟨fun i => real_of_lt _ (Host.reduce_andi_all _ _ _ _ _ hq i), fun i => real_of_lt _ (Host.reduce_andi_all _ _ _ _ _ hk i),
    fun i => real_of_lt _ (Host.reduce_andi_all _ _ _ _ _ hv i), fun i j => ?_⟩
  have e := real_of_lt _ (Host.reduce_andi_all _ _ _ _ _ hg (ix2 i j))
  have e2 : extractStridedSlice S4096x256 ![0, 256] x3 facts.slices_S4096x1024_S4096x256_0_256 (ix2 i j) = x3 (ix2 i ⟨256 + j.val, by omega⟩) := by
    pointwise []
  rw [← e2]
  exact e

end Cert.Finite

end
-- ==== Proof.AttnMath.lean ====
/- The mathematics of one attention head over real numbers: scores, their softmax, the gradient of the softmax, and the gradients of the three
   operands, together with the identities by which a row's saved log-sum and output stand for the softmax and for the mean of its gradient. -/
module

public import Idealize.ShloMosaic.Lib.Pointwise

@[expose] public section

noncomputable section

namespace Cert.Attn

open Real

variable {I J D E : Type} [Fintype I] [Fintype J] [Fintype D] [Fintype E]

/-- The scaled score of query `i` against key `j`. -/
def score (c : ℝ) (q : I → D → ℝ) (k : J → D → ℝ) (i : I) (j : J) : ℝ := (∑ d, q i d * k j d) * c

/-- The sum of a row's exponentials. -/
def mass (s : I → J → ℝ) (i : I) : ℝ := ∑ j, exp (s i j)

/-- The softmax of a row. -/
def prob (s : I → J → ℝ) (i : I) (j : J) : ℝ := exp (s i j) / mass s i

/-- The attention's output: the softmax applied to the values. -/
def outp (s : I → J → ℝ) (v : J → E → ℝ) (i : I) (e : E) : ℝ := ∑ j, prob s i j * v j e

/-- The gradient of the softmax's entries: the output's gradient against the values. -/
def dprob (g : I → E → ℝ) (v : J → E → ℝ) (i : I) (j : J) : ℝ := ∑ e, g i e * v j e

/-- The mean of a row's gradient under the row's softmax. -/
def mean (s : I → J → ℝ) (dp : I → J → ℝ) (i : I) : ℝ := ∑ j, prob s i j * dp i j

/-- The gradient of the unscaled scores, times the scale `c`. -/
def dscore (c : ℝ) (s dp : I → J → ℝ) (i : I) (j : J) : ℝ := prob s i j * ((dp i j - mean s dp i) * c)

/-- The gradient of the query `i`. -/
def dquery (c : ℝ) (s dp : I → J → ℝ) (k : J → D → ℝ) (i : I) (d : D) : ℝ := ∑ j, dscore c s dp i j * k j d

/-- One head's part of the gradient of the key `j`. -/
def dkey (c : ℝ) (s dp : I → J → ℝ) (q : I → D → ℝ) (j : J) (d : D) : ℝ := ∑ i, q i d * dscore c s dp i j

/-- One head's part of the gradient of the value `j`. -/
def dvalue (s : I → J → ℝ) (g : I → E → ℝ) (j : J) (e : E) : ℝ := ∑ i, g i e * prob s i j

variable (s : I → J → ℝ)

theorem mass_pos [Nonempty J] (i : I) : 0 < mass s i :=
  Finset.sum_pos (fun _ _ => exp_pos _) Finset.univ_nonempty

/-- A row's exponentials taken relative to any number `M`. -/
theorem sum_shift (M : ℝ) (i : I) : ∑ j, exp (s i j - M) = mass s i * exp (-M) := by
  rw [mass, Finset.sum_mul]
  exact Finset.sum_congr rfl fun j _ => by rw [← exp_add, sub_eq_add_neg]

/-- The softmax does not depend on the number the row is taken relative to. -/
theorem prob_shift (M : ℝ) (i : I) (j : J) : exp (s i j - M) / ∑ j', exp (s i j' - M) = prob s i j := by
  rw [sum_shift, sub_eq_add_neg, exp_add, prob, mul_div_mul_right _ _ (exp_pos _).ne']

/-- The log of the shifted sum, shifted back, is the log of the row's sum. -/
theorem log_shift [Nonempty J] (M : ℝ) (i : I) : log (∑ j, exp (s i j - M)) + M = log (mass s i) := by
  rw [sum_shift, log_mul (mass_pos s i).ne' (exp_pos _).ne', log_exp]; ring

/-- The softmax out of the saved log-sum, by a power of two. -/
theorem prob_of_log [Nonempty J] (i : I) (j : J) (t c : ℝ) (h : t * c = s i j) :
    Real.rpow 2 (t * (c * (log 2)⁻¹) - log (mass s i) * (log 2)⁻¹) = prob s i j := by
  have h2 : log 2 ≠ 0 := (log_pos one_lt_two).ne'
  have e : t * (c * (log 2)⁻¹) - log (mass s i) * (log 2)⁻¹ = (s i j - log (mass s i)) * (log 2)⁻¹ := by rw [← h]; ring
  rw [e]
  rw [Real.rpow_eq_pow]
  rw [rpow_def_of_pos two_pos, mul_comm, mul_assoc, inv_mul_cancel₀ h2, mul_one, exp_sub, exp_log (mass_pos s i), prob]

/-- The output's gradient against the output is the mean of the softmax's gradient. -/
theorem delta_eq (g : I → E → ℝ) (v : J → E → ℝ) (i : I) : ∑ e, g i e * outp s v i e = mean s (dprob g v) i := by
  simp only [outp, mean, dprob, Finset.mul_sum]
  rw [Finset.sum_comm]
  exact Finset.sum_congr rfl fun j _ => Finset.sum_congr rfl fun e _ => by ring

/-- The gradient of the softmax as a quotient rule spells it, with the row taken relative to `M`. -/
theorem quotient_rule [Nonempty J] (c M : ℝ) (dp : I → J → ℝ) (i : I) (j : J) :
    ((dp i j / (∑ j', exp (s i j' - M)) + -(∑ j', dp i j' * (1 / (∑ j'', exp (s i j'' - M)) ^ 2) * exp (s i j' - M)))
      * exp (s i j - M)) * c = dscore c s dp i j := by
  have hL : (∑ j', exp (s i j' - M)) ≠ 0 := (Finset.sum_pos (fun _ _ => exp_pos _) Finset.univ_nonempty).ne'
  have hm : (∑ j', dp i j' * (1 / (∑ j'', exp (s i j'' - M)) ^ 2) * exp (s i j' - M))
      = mean s dp i / (∑ j', exp (s i j' - M)) := by
    rw [mean, Finset.sum_div]
    refine Finset.sum_congr rfl fun j' _ => ?_
    rw [← prob_shift s M i j']; field_simp
  rw [hm, dscore, ← prob_shift s M i j]; field_simp; ring

end Cert.Attn

end
-- ==== Proof.Tiles.lean ====
/- The backward kernel's arithmetic on one block of queries and one block of keys, read as real numbers: the scores, the softmax out of the saved
   log-sum, the gradient of the scores, and the three products that the gradients are sums of. -/
module

public import proofs.«01_k».proof.Proof.Gen.KernelIdeal.Skeleton
public import proofs.«01_k».proof.Proof.AttnMath
public import proofs.«01_k».proof.Proof.RealValues

@[expose] public section

set_option maxRecDepth 16384

noncomputable section

namespace Cert.Tiles

open Idealize.ShloMosaic Cert.KernelIdeal Cert.KernelIdeal.Gen Cert.Attn Cert.RealValues

/-- A matrix whose elements are the real numbers `f`. -/
def Re2 {a b : ℕ} {φ : FTy} (x : FVec Ideal ⟨2, ![a, b]⟩ φ) (f : Fin a → Fin b → ℝ) : Prop := ∀ i j, x (ix2 i j) = ((f i j : ℝ) : EReal)

/-- The factor that turns a product of a query and a key into a power of two. -/
abbrev cLog : ℝ := 1 / 8 * (Real.log 2)⁻¹

theorem named_scale : (Named.named κ "scale_log2e" 0x3E38AA3B#32 : Ideal .f32) = ((cLog : ℝ) : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

theorem named_ln2 : (Named.named κ "ln2" 0x3F317218#32 : Ideal .f32) = ((Real.log 2 : ℝ) : EReal) :=
  IdealRules.named_const.ideal_named_scalar _ _ _ _ rfl

/-! ## The operations on one block -/

/-- Products of queries and keys. -/
def scoresT (q : FVec Ideal S256x64 .bf16) (k : FVec Ideal S512x64 .bf16) : FVec Ideal S256x512 .f32 :=
  matmul dot_S256x64_S512x64_S256x512_1_1_0_0_n_n none q k (constant S256x512 .f32 0x00000000#32)

/-- The softmax out of the saved log-sum. -/
def probT (l : FVec Ideal S256x1 .f32) (s : FVec Ideal S256x512 .f32) : FVec Ideal S256x512 .f32 :=
  exp2 (subf (mulf s (broadcast S256x512 (Named.named κ "scale_log2e" 0x3E38AA3B#32))) (broadcastTo S256x512 l broadcasts_S256x1_S256x512))

/-- The gradient of the scores. -/
def dscoreT (d : FVec Ideal S256x1 .f32) (p g : FVec Ideal S256x512 .f32) : FVec Ideal S256x512 .bf16 :=
  truncf .bf16 (mulf p (mulf (subf g (broadcastTo S256x512 d broadcasts_S256x1_S256x512)) (broadcast S256x512 (Scalar.ofBits .f32 0x3E000000#32)))) bitsLt_bf16_f32

/-- A block of a gradient, with one product of a transposed block added. -/
def accT (x : FVec Ideal S64x256 .bf16) (y : FVec Ideal S256x512 .bf16) (old : FVec Ideal S1x64x512 .f32) : FVec Ideal S1x64x512 .f32 :=
  shapeCast S1x64x512 (addf (shapeCast S64x512 old shapeCasts_S1x64x512_S64x512) (matmul dot_S64x256_S256x512_S64x512_1_0_0_1_n_n none x y (constant S64x512 .f32 0x00000000#32))) shapeCasts_S64x512_S1x64x512

/-- The queries' gradient, with one block of keys added. -/
def dqT (a : FVec Ideal S256x64 .f32) (y : FVec Ideal S256x512 .bf16) (k : FVec Ideal S512x64 .bf16) : FVec Ideal S256x64 .f32 :=
  addf a (matmul dot_S256x512_S512x64_S256x64_1_0_0_1_n_n none y k (constant S256x64 .f32 0x00000000#32))

/-- The mean of the softmax's gradient, row by row. -/
def deltaT (g o : FVec Ideal S256x64 .f32) : FVec Ideal S256x1 .f32 :=
  shapeCast S256x1 (multiReduction .add [1] S256 (mulf g o) 0x00000000#32 reduces_S256x64_S256 (.inl rfl) rfl) shapeCasts_S256_S256x1

/-- The saved log-sum in base two. -/
def lseT (l : FVec Ideal S1x256x1 .f32) : FVec Ideal S256x1 .f32 :=
  mulf (shapeCast S256x1 l shapeCasts_S1x256x1_S256x1) (broadcast S256x1 (Named.named κ "log2e" 0x3FB8AA3B#32))

variable {q : FVec Ideal S256x64 .bf16} {g o : FVec Ideal S256x64 .f32} {k v : FVec Ideal S512x64 .bf16}
  {Q G O : Fin 256 → Fin 64 → ℝ} {K V : Fin 512 → Fin 64 → ℝ}

theorem scoresT_re (hq : Re2 q Q) (hk : Re2 k K) : Re2 (scoresT q k) fun i j => ∑ d, Q i d * K j d := by
  intro i j
  pointwise [scoresT]
  simp only [hq _ _, hk _ _, ← EReal.coe_mul, ← coe_sum]

theorem probT_re {l : FVec Ideal S256x1 .f32} {s : FVec Ideal S256x512 .f32} {L : Fin 256 → Fin 1 → ℝ} {S : Fin 256 → Fin 512 → ℝ}
    (hl : Re2 l L) (hs : Re2 s S) : Re2 (probT l s) fun i j => Real.rpow 2 (S i j * cLog - L i 0) := by
  intro i j
  pointwise [probT]
  rw [named_scale, hs, hl, ← EReal.coe_mul, ← EReal.coe_sub]
  exact Ideal.exp2_coe _

theorem dscoreT_re {d : FVec Ideal S256x1 .f32} {p e : FVec Ideal S256x512 .f32} {D : Fin 256 → Fin 1 → ℝ} {P E : Fin 256 → Fin 512 → ℝ}
    (hd : Re2 d D) (hp : Re2 p P) (he : Re2 e E) : Re2 (dscoreT d p e) fun i j => P i j * ((E i j - D i 0) * (1 / 8)) := by
  intro i j
  pointwise [dscoreT]
  rw [hp, he, hd, ofBits_eighth, ← EReal.coe_sub, ← EReal.coe_mul, ← EReal.coe_mul]

theorem accT_re {x : FVec Ideal S64x256 .bf16} {y : FVec Ideal S256x512 .bf16} {old : FVec Ideal S1x64x512 .f32} {X : Fin 64 → Fin 256 → ℝ}
    {Y : Fin 256 → Fin 512 → ℝ} (hx : Re2 x X) (hy : Re2 y Y) (z : Fin 1) (d : Fin 64) (j : Fin 512) (A : ℝ) (ho : old (ix3 0 d j) = (A : EReal)) :
    accT x y old (ix3 z d j) = ((A + ∑ i, X d i * Y i j : ℝ) : EReal) := by
  pointwise [accT]
  rw [ho]
  simp only [hx _ _, hy _ _, ← EReal.coe_mul, ← coe_sum, ← EReal.coe_add]

theorem dqT_re {a : FVec Ideal S256x64 .f32} {y : FVec Ideal S256x512 .bf16} {A : Fin 256 → Fin 64 → ℝ} {Y : Fin 256 → Fin 512 → ℝ}
    (ha : Re2 a A) (hy : Re2 y Y) (hk : Re2 k K) : Re2 (dqT a y k) fun i d => A i d + ∑ j, Y i j * K j d := by
  intro i d
  pointwise [dqT]
  rw [ha]
  simp only [hy _ _, hk _ _, ← EReal.coe_mul, ← coe_sum, ← EReal.coe_add]

theorem deltaT_re (hg : Re2 g G) (ho : Re2 o O) : Re2 (deltaT g o) fun i _ => ∑ d, G i d * O i d := by
  intro i z
  pointwise [deltaT]
  simp only [hg _ _, ho _ _, ← EReal.coe_mul, ← coe_sum]

theorem lseT_re {l : FVec Ideal S1x256x1 .f32} {L : Fin 256 → ℝ} (hl : ∀ i, l (ix3 0 i 0) = ((L i : ℝ) : EReal)) :
    Re2 (lseT l) fun i _ => L i * (Real.log 2)⁻¹ := by
  intro i z
  pointwise [lseT]
  rw [hl, named_log2e, ← EReal.coe_mul]

theorem trunc_re {a b : ℕ} {x : FVec Ideal ⟨2, ![a, b]⟩ .f32} {f : Fin a → Fin b → ℝ} (hx : Re2 x f) : Re2 (truncf .bf16 x bitsLt_bf16_f32) f :=
  fun i j => hx i j

end Cert.Tiles

end
-- ==== Proof.FwdTiles.lean ====
/- The forward kernel's arithmetic on one block of queries and one chunk of keys, read as real numbers: scores in base two, the running maximum, and
   the two running sums, each rescaled when the maximum changes. A state says that both sums are taken relative to one real number per query. -/
module

public import proofs.«01_k».proof.Proof.Tiles
public import Idealize.ShloMosaic.PureOps.Ideal.Laws
public import Idealize.ShloMosaic.Lib.ValueLayout

@[expose] public section

set_option maxRecDepth 16384

noncomputable section

namespace Cert.Tiles

open Idealize.ShloMosaic Cert.KernelIdeal Cert.KernelIdeal.Gen Cert.Attn Cert.RealValues

/-! ## The operations -/

/-- Scores of a chunk of keys (rows) against a block of queries (columns), in base two. -/
def scF (q k : FVec Ideal S512x64 .bf16) : FVec Ideal S512x512 .f32 :=
  mulf (matmul dot_S512x64_S512x64_S512x512_1_1_0_0_n_n none k q (constant S512x512 .f32 0x00000000#32))
    (broadcast S512x512 (Named.named κ "scale_log2e" 0x3E38AA3B#32))

/-- The running maximum with one more chunk. -/
def mxF (m : FVec Ideal S1x512 .f32) (t : FVec Ideal S512x512 .f32) : FVec Ideal S1x512 .f32 :=
  maximumf m (shapeCast S1x512 (multiReduction .maximumf [0] S512 t 0xFF800000#32 reduces_S512x512_S512 (.inl rfl) rfl) shapeCasts_S512_S1x512)

/-- The factor of what was summed before. -/
def alF (m m' : FVec Ideal S1x512 .f32) : FVec Ideal S1x512 .f32 := exp2 (subf m m')

/-- The chunk's powers of two relative to the maximum. -/
def prF (m' : FVec Ideal S1x512 .f32) (t : FVec Ideal S512x512 .f32) : FVec Ideal S512x512 .f32 :=
  exp2 (subf t (broadcastTo S512x512 m' broadcasts_S1x512_S512x512))

/-- The running sum of powers. -/
def lsF (m m' l : FVec Ideal S1x512 .f32) (t : FVec Ideal S512x512 .f32) : FVec Ideal S1x512 .f32 :=
  addf (mulf (alF m m') l)
    (shapeCast S1x512 (multiReduction .add [0] S512 (prF m' t) 0x00000000#32 reduces_S512x512_S512 (.inl rfl) rfl) shapeCasts_S512_S1x512)

/-- The running sum of values weighted by the powers. -/
def acF (m m' : FVec Ideal S1x512 .f32) (a : FVec Ideal S64x512 .f32) (t : FVec Ideal S512x512 .f32) (v : FVec Ideal S64x512 .bf16) : FVec Ideal S64x512 .f32 :=
  addf (mulf (broadcastTo S64x512 (alF m m') broadcasts_S1x512_S64x512) a)
    (matmul dot_S64x512_S512x512_S64x512_1_0_0_1_n_n none (shapeCast S64x512 v shapeCasts_S64x512_S64x512) (truncf .bf16 (prF m' t) bitsLt_bf16_f32)
      (constant S64x512 .f32 0x00000000#32))

/-- The quotient at the end. -/
def otF (l : FVec Ideal S1x512 .f32) (a : FVec Ideal S64x512 .f32) : FVec Ideal S64x512 .f32 :=
  mulf a (broadcastTo S64x512 (divf (broadcast S1x512 (Scalar.ofBits .f32 0x3F800000#32)) l) broadcasts_S1x512_S64x512)

/-- The log-sum at the end. -/
def lgF (m l : FVec Ideal S1x512 .f32) : FVec Ideal S1x512 .f32 :=
  addf (mulf m (broadcast S1x512 (Named.named κ "ln2" 0x3F317218#32))) (log l)

/-! ## Their values -/

theorem scF_re {q k : FVec Ideal S512x64 .bf16} {Q K : Fin 512 → Fin 64 → ℝ} (hq : Re2 q Q) (hk : Re2 k K) :
    Re2 (scF q k) fun j i => (∑ d, K j d * Q i d) * cLog := by
  intro j i
  pointwise [scF]
  rw [named_scale]
  simp only [hq _ _, hk _ _, ← EReal.coe_mul, ← coe_sum]

/-- A chunk's maximum over its keys is a real. -/
theorem max_real {t : FVec Ideal S512x512 .f32} {T : Fin 512 → Fin 512 → ℝ} (ht : Re2 t T) (i : Fin 512) :
    ∃ r : ℝ, multiReduction .maximumf [0] S512 t 0xFF800000#32 reduces_S512x512_S512 (.inl rfl) rfl (ix1 i) = (r : EReal) := by
  have e : (t ∘ reduces_S512x512_S512.lift (ix1 i)) = fun k : Fin 512 => ((T k i : ℝ) : EReal) := by
    funext k
    refine Eq.trans (congrArg t (?_ : _ = ix2 k i)) (ht k i)
    funext a
    fin_cases a <;> rfl
  obtain ⟨r, hr⟩ := fold_max_real (Finset.univ : Finset (Fin 512)) ⟨0, Finset.mem_univ _⟩ fun k => T k i
  refine ⟨r, (Ideal.multiReduction_maximumf_single t _ reduces_S512x512_S512 (.inl rfl) rfl (ix1 i)).trans ?_⟩
  rw [e]
  exact (congrArg (fun b : EReal => (Finset.univ : Finset (Fin 512)).fold max b fun k => ((T k i : ℝ) : EReal)) ofBits_bot).trans hr

/-- The running maximum at a query. -/
theorem mxF_at (m : FVec Ideal S1x512 .f32) (t : FVec Ideal S512x512 .f32) (i : Fin 512) :
    mxF m t (ix2 0 i) = max (m (ix2 0 i)) (multiReduction .maximumf [0] S512 t 0xFF800000#32 reduces_S512x512_S512 (.inl rfl) rfl (ix1 i)) := by
  exact congrArg (max _) (ValueIdx.shapeCast_a_1a_apply _ shapeCasts_S512_S1x512 0 i)

/-- What was kept, rescaled: a sum of powers relative to `a` becomes one relative to `b`. -/
theorem rescale {J : Type} (s : Finset J) (w T : J → ℝ) (a b : ℝ) :
    Real.rpow 2 (a - b) * ∑ j ∈ s, w j * Real.rpow 2 (T j - a) = ∑ j ∈ s, w j * Real.rpow 2 (T j - b) := by
  rw [Finset.mul_sum]
  refine Finset.sum_congr rfl fun j _ => ?_
  have e : Real.rpow 2 (T j - b) = Real.rpow 2 (a - b) * Real.rpow 2 (T j - a) := by
    simp only [Real.rpow_eq_pow]
    rw [← Real.rpow_add two_pos]
    congr 1
    ring
  rw [e]
  ring

variable (T : ℕ → Fin 512 → Fin 512 → ℝ) (V : ℕ → Fin 64 → Fin 512 → ℝ)

/-- After `n` chunks the maximum is a real `μ` for each query, and both sums are the sums over those chunks relative to it. -/
structure Run (n : ℕ) (m l : FVec Ideal S1x512 .f32) (a : FVec Ideal S64x512 .f32) (μ : Fin 512 → ℝ) : Prop where
  m : ∀ i, m (ix2 0 i) = ((μ i : ℝ) : EReal)
  l : ∀ i, l (ix2 0 i) = ((∑ c ∈ Finset.range n, ∑ j, Real.rpow 2 (T c j i - μ i) : ℝ) : EReal)
  a : ∀ d i, a (ix2 d i) = ((∑ c ∈ Finset.range n, ∑ j, V c d j * Real.rpow 2 (T c j i - μ i) : ℝ) : EReal)

variable {T V} {m l : FVec Ideal S1x512 .f32} {a : FVec Ideal S64x512 .f32} {t : FVec Ideal S512x512 .f32} {v : FVec Ideal S64x512 .bf16}

/-- The first chunk, begun from minus infinity and from sums that are zero. -/
theorem run_first (hm : ∀ i, m (ix2 0 i) = (⊥ : EReal)) (hl : ∀ i, l (ix2 0 i) = (0 : EReal)) (ha : ∀ d i, a (ix2 d i) = (0 : EReal)) (ht : Re2 t (T 0)) (hv : Re2 v (V 0)) :
    ∃ μ, Run T V 1 (mxF m t) (lsF m (mxF m t) l t) (acF m (mxF m t) a t v) μ := by
  choose r hr using max_real ht
  have hm' : ∀ i, mxF m t (ix2 0 i) = ((r i : ℝ) : EReal) := fun i => by
    rw [mxF_at, hm, hr]
    exact bot_sup_eq _
  generalize mxF m t = m' at hm' ⊢
  refine ⟨r, hm', fun i => ?_, fun d i => ?_⟩
  · pointwise [lsF, alF, prF]
    rw [hl, hm', mul_zero, zero_add, Finset.sum_range_one]
    simp only [ht _ _, ← EReal.coe_sub, coe_sum]
    exact Finset.sum_congr rfl fun j _ => Ideal.exp2_coe _
  · pointwise [acF, alF, prF]
    rw [ha, hm', mul_zero, zero_add, Finset.sum_range_one]
    simp only [ht _ _, hv _ _, ← EReal.coe_sub, coe_sum, EReal.coe_mul]
    exact Finset.sum_congr rfl fun j _ => congrArg (_ * ·) (Ideal.exp2_coe _)

/-- One more chunk. -/
theorem run_next {n : ℕ} (h : ∃ μ, Run T V n m l a μ) (ht : Re2 t (T n)) (hv : Re2 v (V n)) :
    ∃ μ, Run T V (n + 1) (mxF m t) (lsF m (mxF m t) l t) (acF m (mxF m t) a t v) μ := by
  obtain ⟨μ, h⟩ := h
  choose r hr using max_real ht
  have hm' : ∀ i, mxF m t (ix2 0 i) = ((max (μ i) (r i) : ℝ) : EReal) := fun i => by
    rw [mxF_at, h.m, hr]
    exact (EReal.coe_strictMono.monotone.map_max).symm
  generalize mxF m t = m' at hm' ⊢
  have ex : ∀ x : ℝ, (FloatOps.exp2 ((x : ℝ) : EReal) : Ideal .f32) = ((Real.rpow 2 x : ℝ) : EReal) := fun x => Ideal.exp2_coe x
  refine ⟨fun i => max (μ i) (r i), hm', fun i => ?_, fun d i => ?_⟩
  · pointwise [lsF, alF, prF]
    rw [h.l, hm', h.m, ← EReal.coe_sub, ex]
    simp only [ht _ _, ← EReal.coe_sub, ex, ← coe_sum, ← EReal.coe_mul, ← EReal.coe_add]
    rw [Finset.sum_range_succ, Finset.mul_sum]
    congr 2
    refine Finset.sum_congr rfl fun c _ => ?_
    simpa using rescale Finset.univ (fun _ => 1) (fun j => T c j i) (μ i) (max (μ i) (r i))
  · pointwise [acF, alF, prF]
    rw [h.a, hm', h.m, ← EReal.coe_sub, ex]
    simp only [ht _ _, hv _ _, ← EReal.coe_sub, ex, ← coe_sum, ← EReal.coe_mul, ← EReal.coe_add]
    rw [Finset.sum_range_succ, Finset.mul_sum]
    congr 2
    exact Finset.sum_congr rfl fun c _ => rescale Finset.univ (V c d) (fun j => T c j i) (μ i) (max (μ i) (r i))

/-- A sum of powers of two over chunks of the scores in base two is the sum of exponentials relative to `μ · log 2`. -/
theorem base_two (x μ : ℝ) : Real.rpow 2 (x * (Real.log 2)⁻¹ - μ) = Real.exp (x - μ * Real.log 2) := by
  have h2 : Real.log 2 ≠ 0 := (Real.log_pos one_lt_two).ne'
  rw [Real.rpow_eq_pow, Real.rpow_def_of_pos two_pos]
  congr 1
  field_simp

/-- The key `j` of chunk `c`. -/
abbrev keyAt (c : ℕ) (j : Fin 512) : Fin 4096 := ⟨(512 * c + j.val) % 4096, Nat.mod_lt _ (by decide)⟩

/-- A sum over all keys, chunk by chunk. -/
theorem sum_keys (f : Fin 4096 → ℝ) : ∑ c ∈ Finset.range 8, ∑ j : Fin 512, f (keyAt c j) = ∑ s, f s := by
  rw [Finset.sum_range, ← Fintype.sum_prod_type']
  exact Fintype.sum_equiv (finProdFinEquiv : Fin 8 × Fin 512 ≃ Fin (8 * 512)) _ (fun s : Fin 4096 => f s)
    fun x => congrArg f (Fin.ext (by simp only [keyAt, finProdFinEquiv_apply_val]; omega))

variable {S : Fin 512 → Fin 4096 → ℝ} {W : Fin 4096 → Fin 64 → ℝ}

/-- The log-sum after all chunks. -/
theorem lgF_at (h : ∃ μ, Run (fun c j i => S i (keyAt c j) * (Real.log 2)⁻¹) (fun c d j => W (keyAt c j) d) 8 m l a μ) (i : Fin 512) :
    lgF m l (ix2 0 i) = ((Real.log (mass S i) : ℝ) : EReal) := by
  obtain ⟨μ, h⟩ := h
  pointwise [lgF]
  rw [named_ln2, h.m, h.l]
  simp only [base_two]
  rw [sum_keys fun s => Real.exp (S i s - μ i * Real.log 2), ← EReal.coe_mul]
  rw [log_real (Finset.sum_pos (fun _ _ => Real.exp_pos _) Finset.univ_nonempty), ← EReal.coe_add, add_comm, log_shift]

/-- The output after all chunks. -/
theorem otF_at (h : ∃ μ, Run (fun c j i => S i (keyAt c j) * (Real.log 2)⁻¹) (fun c d j => W (keyAt c j) d) 8 m l a μ) (d : Fin 64) (i : Fin 512) :
    otF l a (ix2 d i) = ((outp S W i d : ℝ) : EReal) := by
  obtain ⟨μ, h⟩ := h
  pointwise [otF]
  rw [h.a, h.l]
  simp only [base_two]
  rw [sum_keys fun s => Real.exp (S i s - μ i * Real.log 2), sum_keys fun s => W s d * Real.exp (S i s - μ i * Real.log 2)]
  have hp : (∑ s, Real.exp (S i s - μ i * Real.log 2)) ≠ 0 := (Finset.sum_pos (fun _ _ => Real.exp_pos _) Finset.univ_nonempty).ne'
  rw [show (Ideal.div 1 ((∑ s, Real.exp (S i s - μ i * Real.log 2) : ℝ) : EReal)) = _ from div_real hp 1, ← EReal.coe_mul]
  refine congrArg Real.toEReal ?_
  rw [outp, Finset.sum_mul]
  refine Finset.sum_congr rfl fun s _ => ?_
  rw [← prob_shift S (μ i * Real.log 2)]
  ring

end Cert.Tiles

end
-- ==== Proof.Pieces.lean ====
/- What one grid point of the backward kernel stores, piece by piece: each piece is a block of one function of the whole block, the sum of what the two
   heads of the group add there. -/
module

public import proofs.«01_k».proof.Proof.Tiles
public import Idealize.ShloMosaic.Lib.Pipeline.ValueKit.Acc
public import Idealize.ShloMosaic.Lib.Pipeline.ReadBack
public import Idealize.ShloMosaic.Lib.Pipeline.ValueKit.Tiles

@[expose] public section

set_option maxRecDepth 16384

noncomputable section

namespace Cert.Tiles

open Idealize.ShloMosaic Cert.KernelIdeal Cert.KernelIdeal.Gen Cert.Attn Cert.RealValues

/-- The place `j` of the chunk of 512 that begins at `o`. -/
abbrev at512 (o : ℕ) (ho : o + 512 ≤ 4096) (j : Fin 512) : Fin 4096 := ⟨o + j.val, by omega⟩

/-- A chunk of rows of a matrix of real numbers. -/
theorem ld_rows {W : FVec Ideal S4096x64 .bf16} {K : Fin 4096 → Fin 64 → ℝ} (hW : Re2 W K) (o : ℕ) (ho : o + 512 ≤ 4096) (inb) :
    Re2 (a := 512) (b := 64) (φ := .bf16) (View.ld (Val := Elt Ideal) (e' := .bf16) W (Rect.unit ![o, 0] ![512, 64] inb)) fun j d => K (at512 o ho j) d := by
  intro j d
  exact (View.ld_unit_apply_of (Val := Elt Ideal) (e := .bf16) W _ _ inb (ix2 j d) (ix2 (at512 o ho j) d) (by intro a; fin_cases a <;> simp [at512])).trans (hW _ _)

/-- A chunk of columns of a block of a gradient. -/
theorem ld_cols (X : FVec Ideal S1x64x4096 .f32) (o : ℕ) (ho : o + 512 ≤ 4096) (inb) (z : Fin 1) (d : Fin 64) (j : Fin 512) :
    View.ld (e' := .f32) (Val := Elt Ideal) X (Rect.unit ![0, 0, o] ![1, 64, 512] inb) (ix3 z d j) = X (ix3 0 d (at512 o ho j)) :=
  View.ld_unit_apply_of (Val := Elt Ideal) (e := .f32) X _ _ inb (ix3 z d j) (ix3 0 d (at512 o ho j)) (by intro a; fin_cases a <;> simp [at512] <;> omega)

/-- Where a chunk of columns stands in the block. -/
theorem emb_cols (o : ℕ) (ho : o + 512 ≤ 4096) (inb) (z : Fin 1) (d : Fin 64) (j : Fin 512) :
    (Rect.unit (s := S1x64x4096) ![0, 0, o] ![1, 64, 512] inb).emb (ix3 z d j) = ix3 0 d (at512 o ho j) :=
  funext fun a => Fin.ext ((Rect.idx_unit_val _ _ inb (ix3 z d j) a).trans (by fin_cases a <;> simp [at512] <;> omega))

/-- What a group's block of queries and its keys hold: of each of the two heads the queries `Q`, the output's gradient `G`, the output `O` and the
    saved log-sum `L`. -/
structure Group (x0 : FVec Ideal S2x256x64 .bf16) (x3 : FVec Ideal S256x128 .f32) (x4 : FVec Ideal S2x256x1 .f32) (x5 : FVec Ideal S256x128 .f32)
    (W1 W2 : FVec Ideal S4096x64 .bf16) (Q G O : Fin 2 → Fin 256 → Fin 64 → ℝ) (L : Fin 2 → Fin 256 → ℝ) (K V : Fin 4096 → Fin 64 → ℝ) : Prop where
  q : ∀ h i d, x0 (ix3 h i d) = ((Q h i d : ℝ) : EReal)
  g : ∀ (h : Fin 2) i (d : Fin 64), x5 (ix2 i ⟨64 * h.val + d.val, by omega⟩) = ((G h i d : ℝ) : EReal)
  o : ∀ (h : Fin 2) i (d : Fin 64), x3 (ix2 i ⟨64 * h.val + d.val, by omega⟩) = ((O h i d : ℝ) : EReal)
  l : ∀ h i, x4 (ix3 h i 0) = ((L h i : ℝ) : EReal)
  k : Re2 W1 K
  v : Re2 W2 V

variable {x0 : FVec Ideal S2x256x64 .bf16} {x3 : FVec Ideal S256x128 .f32} {x4 : FVec Ideal S2x256x1 .f32} {x5 : FVec Ideal S256x128 .f32}
  {W1 W2 : FVec Ideal S4096x64 .bf16} {Q G O : Fin 2 → Fin 256 → Fin 64 → ℝ} {L : Fin 2 → Fin 256 → ℝ} {K V : Fin 4096 → Fin 64 → ℝ}

/-- The softmax of head `h`, row `i`, at key `s`. -/
def pR (Q : Fin 2 → Fin 256 → Fin 64 → ℝ) (L : Fin 2 → Fin 256 → ℝ) (K : Fin 4096 → Fin 64 → ℝ) (h : Fin 2) (i : Fin 256) (s : Fin 4096) : ℝ :=
  Real.rpow 2 ((∑ d, Q h i d * K s d) * cLog - L h i * (Real.log 2)⁻¹)

/-- The gradient of the score of head `h`, row `i`, at key `s`. -/
def dsR (Q G O : Fin 2 → Fin 256 → Fin 64 → ℝ) (L : Fin 2 → Fin 256 → ℝ) (K V : Fin 4096 → Fin 64 → ℝ) (h : Fin 2) (i : Fin 256) (s : Fin 4096) : ℝ :=
  pR Q L K h i s * ((∑ d, G h i d * V s d - ∑ d, G h i d * O h i d) * (1 / 8))

/-! ## The two heads' queries, gradients, outputs and log-sums -/

abbrev q0 (x0 : FVec Ideal S2x256x64 .bf16) : FVec Ideal S256x64 .bf16 :=
  k1_pay6 (View.ld (Val := Elt Ideal) (e' := .bf16) x0 (Rect.unit ![0, 0, 0] ![1, 256, 64] inb_S2x256x64_S1x256x64_0_0_0))

abbrev q1 (x0 : FVec Ideal S2x256x64 .bf16) : FVec Ideal S256x64 .bf16 :=
  k1_pay75 (View.ld (Val := Elt Ideal) (e' := .bf16) x0 (Rect.unit ![1, 0, 0] ![1, 256, 64] inb_S2x256x64_S1x256x64_1_0_0))

abbrev l0 (x4 : FVec Ideal S2x256x1 .f32) : FVec Ideal S256x1 .f32 :=
  k1_pay12 (View.ld (Val := Elt Ideal) (e' := .f32) x4 (Rect.unit ![0, 0, 0] ![1, 256, 1] inb_S2x256x1_S1x256x1_0_0_0))

abbrev l1 (x4 : FVec Ideal S2x256x1 .f32) : FVec Ideal S256x1 .f32 :=
  k1_pay82 (View.ld (Val := Elt Ideal) (e' := .f32) x4 (Rect.unit ![1, 0, 0] ![1, 256, 1] inb_S2x256x1_S1x256x1_1_0_0))

abbrev dl1 (x3 x5 : FVec Ideal S256x128 .f32) : FVec Ideal S256x1 .f32 := k1_pay81 (k1_pay76 x5) (k1_pay77 (k1_pay5 x3))

theorem q0_re (H : Group x0 x3 x4 x5 W1 W2 Q G O L K V) : Re2 (q0 x0) (Q 0) := by
  intro i d
  pointwise [q0, k1_pay6]
  exact H.q _ _ _

theorem q1_re (H : Group x0 x3 x4 x5 W1 W2 Q G O L K V) : Re2 (q1 x0) (Q 1) := by
  intro i d
  pointwise [q1, k1_pay75]
  exact H.q _ _ _

theorem l0_re (H : Group x0 x3 x4 x5 W1 W2 Q G O L K V) : Re2 (l0 x4) fun i _ => L 0 i * (Real.log 2)⁻¹ := by
  exact lseT_re fun i => (View.ld_unit_apply_of (Val := Elt Ideal) (e := .f32) x4 _ _ _ (ix3 0 i 0) (ix3 0 i 0) (by intro a; fin_cases a <;> simp)).trans (H.l 0 i)

theorem l1_re (H : Group x0 x3 x4 x5 W1 W2 Q G O L K V) : Re2 (l1 x4) fun i _ => L 1 i * (Real.log 2)⁻¹ := by
  exact lseT_re fun i => (View.ld_unit_apply_of (Val := Elt Ideal) (e := .f32) x4 _ _ _ (ix3 0 i 0) (ix3 1 i 0) (by intro a; fin_cases a <;> simp)).trans (H.l 1 i)

theorem g0_re (H : Group x0 x3 x4 x5 W1 W2 Q G O L K V) : Re2 (k1_pay7 x5) (G 0) := by
  intro i d
  pointwise [k1_pay7]
  rw [← H.g 0 i d]
  exact congrArg x5 (congrArg (ix2 i) (Fin.ext (by simp)))

theorem g1_re (H : Group x0 x3 x4 x5 W1 W2 Q G O L K V) : Re2 (k1_pay76 x5) (G 1) := by
  intro i d
  pointwise [k1_pay76]
  rw [← H.g 1 i d]
  exact congrArg x5 (congrArg (ix2 i) (Fin.ext (by simp)))

theorem o0_re (H : Group x0 x3 x4 x5 W1 W2 Q G O L K V) : Re2 (extractStridedSlice S256x64 ![0, 0] (k1_pay5 x3) slices_S256x128_o0_0_S256x64) (O 0) := by
  intro i d
  pointwise [k1_pay5]
  rw [← H.o 0 i d]
  exact congrArg x3 (congrArg (ix2 i) (Fin.ext (by simp)))

theorem o1_re (H : Group x0 x3 x4 x5 W1 W2 Q G O L K V) : Re2 (k1_pay77 (k1_pay5 x3)) (O 1) := by
  intro i d
  pointwise [k1_pay77, k1_pay5]
  rw [← H.o 1 i d]
  exact congrArg x3 (congrArg (ix2 i) (Fin.ext (by simp)))

theorem dl0_re (H : Group x0 x3 x4 x5 W1 W2 Q G O L K V) : Re2 (k1_pay11 x5 x3) fun i _ => ∑ d, G 0 i d * O 0 i d :=
  deltaT_re (g0_re H) (o0_re H)

theorem dl1_re (H : Group x0 x3 x4 x5 W1 W2 Q G O L K V) : Re2 (dl1 x3 x5) fun i _ => ∑ d, G 1 i d * O 1 i d :=
  deltaT_re (g1_re H) (o1_re H)

/-- The transpose of a block of queries or of gradients. -/
theorem trans_re {x : FVec Ideal S256x64 .f32} {f : Fin 256 → Fin 64 → ℝ} (hx : Re2 x f) : Re2 (k1_pay79 x) fun d i => f i d := by
  intro d i
  pointwise [k1_pay79]
  exact hx i d

theorem transq_re {x : FVec Ideal S256x64 .bf16} {f : Fin 256 → Fin 64 → ℝ} (hx : Re2 x f) : Re2 (k1_pay80 x) fun d i => f i d := by
  intro d i
  pointwise [k1_pay80]
  exact hx i d

/-! ## The chunks -/

/-- The softmax on a chunk of keys. -/
theorem p_re {q : FVec Ideal S256x64 .bf16} {l : FVec Ideal S256x1 .f32} {h : Fin 2} (hq : Re2 q (Q h)) (hl : Re2 l fun i _ => L h i * (Real.log 2)⁻¹) (hk : Re2 W1 K)
    (o : ℕ) (ho : o + 512 ≤ 4096) (inb) :
    Re2 (probT l (scoresT q (View.ld (Val := Elt Ideal) (e' := .bf16) W1 (Rect.unit ![o, 0] ![512, 64] inb)))) fun i j => pR Q L K h i (at512 o ho j) :=
  probT_re hl (scoresT_re hq (ld_rows hk o ho inb))

/-- The gradient of the scores on a chunk of keys. -/
theorem ds_re {q g : FVec Ideal S256x64 .bf16} {l d : FVec Ideal S256x1 .f32} {h : Fin 2} (hq : Re2 q (Q h)) (hl : Re2 l fun i _ => L h i * (Real.log 2)⁻¹)
    (hg : Re2 g (G h)) (hd : Re2 d fun i _ => ∑ d, G h i d * O h i d) (hk : Re2 W1 K) (hv : Re2 W2 V) (o : ℕ) (ho : o + 512 ≤ 4096) (inb) :
    Re2 (dscoreT d (probT l (scoresT q (View.ld (Val := Elt Ideal) (e' := .bf16) W1 (Rect.unit ![o, 0] ![512, 64] inb))))
      (scoresT g (View.ld (Val := Elt Ideal) (e' := .bf16) W2 (Rect.unit ![o, 0] ![512, 64] inb)))) fun i j => dsR Q G O L K V h i (at512 o ho j) :=
  dscoreT_re hd (p_re hq hl hk o ho inb) (scoresT_re hg (ld_rows hv o ho inb))

/-- What a chunk of the values' gradient holds after the point. -/
theorem dv_piece (H : Group x0 x3 x4 x5 W1 W2 Q G O L K V) (X : FVec Ideal S1x64x4096 .f32) (A : Fin 64 → Fin 4096 → ℝ)
    (hX : ∀ d s, X (ix3 0 d s) = ((A d s : ℝ) : EReal)) (o : ℕ) (ho : o + 512 ≤ 4096) (inb inb') (z : Fin 1) (d : Fin 64) (j : Fin 512) :
    accT (k1_pay79 (k1_pay76 x5)) (truncf .bf16 (probT (l1 x4) (scoresT (q1 x0) (View.ld (Val := Elt Ideal) (e' := .bf16) W1 (Rect.unit ![o, 0] ![512, 64] inb)))) bitsLt_bf16_f32)
      (accT (k1_pay9 x5) (truncf .bf16 (probT (l0 x4) (scoresT (q0 x0) (View.ld (Val := Elt Ideal) (e' := .bf16) W1 (Rect.unit ![o, 0] ![512, 64] inb)))) bitsLt_bf16_f32)
        (View.ld (Val := Elt Ideal) (e' := .f32) X (Rect.unit ![0, 0, o] ![1, 64, 512] inb'))) (ix3 z d j)
      = ((A d (at512 o ho j) + ∑ i, G 0 i d * pR Q L K 0 i (at512 o ho j) + ∑ i, G 1 i d * pR Q L K 1 i (at512 o ho j) : ℝ) : EReal) :=
  accT_re (trans_re (g1_re H)) (trunc_re (p_re (q1_re H) (l1_re H) H.k o ho inb)) z d j _
    (accT_re (trans_re (g0_re H)) (trunc_re (p_re (q0_re H) (l0_re H) H.k o ho inb)) 0 d j _ ((ld_cols X o ho inb' 0 d j).trans (hX d _)))

/-- What a chunk of the keys' gradient holds after the point. -/
theorem dk_piece (H : Group x0 x3 x4 x5 W1 W2 Q G O L K V) (X : FVec Ideal S1x64x4096 .f32) (A : Fin 64 → Fin 4096 → ℝ)
    (hX : ∀ d s, X (ix3 0 d s) = ((A d s : ℝ) : EReal)) (o : ℕ) (ho : o + 512 ≤ 4096) (inb inb') (z : Fin 1) (d : Fin 64) (j : Fin 512) :
    accT (k1_pay80 (q1 x0)) (dscoreT (dl1 x3 x5) (probT (l1 x4) (scoresT (q1 x0) (View.ld (Val := Elt Ideal) (e' := .bf16) W1 (Rect.unit ![o, 0] ![512, 64] inb))))
        (scoresT (k1_pay78 (k1_pay76 x5)) (View.ld (Val := Elt Ideal) (e' := .bf16) W2 (Rect.unit ![o, 0] ![512, 64] inb))))
      (accT (k1_pay80 (q0 x0)) (dscoreT (k1_pay11 x5 x3) (probT (l0 x4) (scoresT (q0 x0) (View.ld (Val := Elt Ideal) (e' := .bf16) W1 (Rect.unit ![o, 0] ![512, 64] inb))))
        (scoresT (k1_pay8 x5) (View.ld (Val := Elt Ideal) (e' := .bf16) W2 (Rect.unit ![o, 0] ![512, 64] inb))))
        (View.ld (Val := Elt Ideal) (e' := .f32) X (Rect.unit ![0, 0, o] ![1, 64, 512] inb'))) (ix3 z d j)
      = ((A d (at512 o ho j) + ∑ i, Q 0 i d * dsR Q G O L K V 0 i (at512 o ho j) + ∑ i, Q 1 i d * dsR Q G O L K V 1 i (at512 o ho j) : ℝ) : EReal) :=
  accT_re (transq_re (q1_re H)) (ds_re (q1_re H) (l1_re H) (trunc_re (g1_re H)) (dl1_re H) H.k H.v o ho inb) z d j _
    (accT_re (transq_re (q0_re H)) (ds_re (q0_re H) (l0_re H) (trunc_re (g0_re H)) (dl0_re H) H.k H.v o ho inb) 0 d j _ ((ld_cols X o ho inb' 0 d j).trans (hX d _)))

/-! ## The queries' gradient -/

/-- A sum over all places, chunk by chunk. -/
theorem sum_chunks (f : Fin 4096 → ℝ) : ∑ s, f s = ∑ c : Fin 8, ∑ j : Fin 512, f ⟨512 * c.val + j.val, by omega⟩ := by
  rw [← Fintype.sum_prod_type']
  exact (Fintype.sum_equiv (finProdFinEquiv : Fin 8 × Fin 512 ≃ Fin (8 * 512)) _ (fun s : Fin 4096 => f s)
    fun x => congrArg f (Fin.ext (Nat.add_comm _ _))).symm

/-- The gradient of the scores on the chunk of keys that begins at `o`. -/
abbrev dsC (q g : FVec Ideal S256x64 .bf16) (l d : FVec Ideal S256x1 .f32) (W1 W2 : FVec Ideal S4096x64 .bf16) (o : ℕ)
    (inb : ∀ a, (![o, 0] : Fin 2 → ℕ) a + (![512, 64] : Fin 2 → ℕ) a ≤ S4096x64.size a) : FVec Ideal S256x512 .bf16 :=
  dscoreT d (probT l (scoresT q (View.ld (Val := Elt Ideal) (e' := .bf16) W1 (Rect.unit ![o, 0] ![512, 64] inb))))
      (scoresT g (View.ld (Val := Elt Ideal) (e' := .bf16) W2 (Rect.unit ![o, 0] ![512, 64] inb)))

/-- The queries' gradient of one head, summed over the chunks of keys. -/
def dqHead (q g : FVec Ideal S256x64 .bf16) (l d : FVec Ideal S256x1 .f32) (W1 W2 : FVec Ideal S4096x64 .bf16) : FVec Ideal S256x64 .f32 :=
  dqT (dqT (dqT (dqT (dqT (dqT (dqT (dqT (broadcast S256x64 (Scalar.ofBits .f32 0x00000000#32)) (dsC q g l d W1 W2 0 inb_S4096x64_S512x64_0_0) (View.ld (Val := Elt Ideal) (e' := .bf16) W1 (Rect.unit ![0, 0] ![512, 64] inb_S4096x64_S512x64_0_0))) (dsC q g l d W1 W2 512 inb_S4096x64_S512x64_512_0) (View.ld (Val := Elt Ideal) (e' := .bf16) W1 (Rect.unit ![512, 0] ![512, 64] inb_S4096x64_S512x64_512_0))) (dsC q g l d W1 W2 1024 inb_S4096x64_S512x64_1024_0) (View.ld (Val := Elt Ideal) (e' := .bf16) W1 (Rect.unit ![1024, 0] ![512, 64] inb_S4096x64_S512x64_1024_0))) (dsC q g l d W1 W2 1536 inb_S4096x64_S512x64_1536_0) (View.ld (Val := Elt Ideal) (e' := .bf16) W1 (Rect.unit ![1536, 0] ![512, 64] inb_S4096x64_S512x64_1536_0))) (dsC q g l d W1 W2 2048 inb_S4096x64_S512x64_2048_0) (View.ld (Val := Elt Ideal) (e' := .bf16) W1 (Rect.unit ![2048, 0] ![512, 64] inb_S4096x64_S512x64_2048_0))) (dsC q g l d W1 W2 2560 inb_S4096x64_S512x64_2560_0) (View.ld (Val := Elt Ideal) (e' := .bf16) W1 (Rect.unit ![2560, 0] ![512, 64] inb_S4096x64_S512x64_2560_0))) (dsC q g l d W1 W2 3072 inb_S4096x64_S512x64_3072_0) (View.ld (Val := Elt Ideal) (e' := .bf16) W1 (Rect.unit ![3072, 0] ![512, 64] inb_S4096x64_S512x64_3072_0))) (dsC q g l d W1 W2 3584 inb_S4096x64_S512x64_3584_0) (View.ld (Val := Elt Ideal) (e' := .bf16) W1 (Rect.unit ![3584, 0] ![512, 64] inb_S4096x64_S512x64_3584_0))

theorem dqHead_re {q g : FVec Ideal S256x64 .bf16} {l d : FVec Ideal S256x1 .f32} {h : Fin 2} (hq : Re2 q (Q h)) (hl : Re2 l fun i _ => L h i * (Real.log 2)⁻¹)
    (hg : Re2 g (G h)) (hd : Re2 d fun i _ => ∑ d, G h i d * O h i d) (hk : Re2 W1 K) (hv : Re2 W2 V) :
    Re2 (dqHead q g l d W1 W2) fun i d => ∑ s, dsR Q G O L K V h i s * K s d := by
  have h0 : Re2 (broadcast S256x64 (Scalar.ofBits (F := Ideal) .f32 0x00000000#32)) fun (_ : Fin 256) (_ : Fin 64) => (0 : ℝ) := by
    intro i d
    pointwise []
    simp
  have hs : ∀ o (ho : o + 512 ≤ 4096) inb, Re2 (dsC q g l d W1 W2 o inb) fun i j => dsR Q G O L K V h i (at512 o ho j) :=
    fun o ho inb => ds_re hq hl hg hd hk hv o ho inb
  intro i e
  beta_reduce
  rw [sum_chunks, Fin.sum_univ_eight]
  refine ((dqT_re (dqT_re (dqT_re (dqT_re (dqT_re (dqT_re (dqT_re (dqT_re h0 (hs 0 (by decide) inb_S4096x64_S512x64_0_0) (ld_rows hk 0 (by decide) _)) (hs 512 (by decide) inb_S4096x64_S512x64_512_0) (ld_rows hk 512 (by decide) _)) (hs 1024 (by decide) inb_S4096x64_S512x64_1024_0) (ld_rows hk 1024 (by decide) _)) (hs 1536 (by decide) inb_S4096x64_S512x64_1536_0) (ld_rows hk 1536 (by decide) _)) (hs 2048 (by decide) inb_S4096x64_S512x64_2048_0) (ld_rows hk 2048 (by decide) _)) (hs 2560 (by decide) inb_S4096x64_S512x64_2560_0) (ld_rows hk 2560 (by decide) _)) (hs 3072 (by decide) inb_S4096x64_S512x64_3072_0) (ld_rows hk 3072 (by decide) _)) (hs 3584 (by decide) inb_S4096x64_S512x64_3584_0) (ld_rows hk 3584 (by decide) _)) i e).trans ?_
  simp only [zero_add]
  rfl

end Cert.Tiles

end
-- ==== Proof.FwdHeads.lean ====
/- What one grid point of the forward kernel stores: of each of its two heads the chain of eight chunks of keys, named value by named value, and the
   output and the log-sum at its end. -/
module

public import proofs.«01_k».proof.Proof.FwdTiles
public import proofs.«01_k».proof.Proof.Pieces
public import proofs.«01_k».proof.Proof.Gen.KernelIdeal.Frame

@[expose] public section

set_option maxRecDepth 16384

noncomputable section

namespace Cert.Tiles

open Idealize.ShloMosaic Cert.KernelIdeal Cert.KernelIdeal.Gen Cert.Attn Cert.RealValues

/-- The sum of powers after eight chunks, out of the nine maxima. -/
def lAll (l : FVec Ideal S1x512 .f32) (m0 m1 m2 m3 m4 m5 m6 m7 m8 : FVec Ideal S1x512 .f32) (t0 t1 t2 t3 t4 t5 t6 t7 : FVec Ideal S512x512 .f32) : FVec Ideal S1x512 .f32 :=
  lsF m7 m8 (lsF m6 m7 (lsF m5 m6 (lsF m4 m5 (lsF m3 m4 (lsF m2 m3 (lsF m1 m2 (lsF m0 m1 l t0) t1) t2) t3) t4) t5) t6) t7

/-- The weighted sum after eight chunks, out of the nine maxima. -/
def aAll (a : FVec Ideal S64x512 .f32) (m0 m1 m2 m3 m4 m5 m6 m7 m8 : FVec Ideal S1x512 .f32) (t0 t1 t2 t3 t4 t5 t6 t7 : FVec Ideal S512x512 .f32) (v0 v1 v2 v3 v4 v5 v6 v7 : FVec Ideal S64x512 .bf16) : FVec Ideal S64x512 .f32 :=
  acF m7 m8 (acF m6 m7 (acF m5 m6 (acF m4 m5 (acF m3 m4 (acF m2 m3 (acF m1 m2 (acF m0 m1 a t0 v0) t1 v1) t2 v2) t3 v3) t4 v4) t5 v5) t6 v6) t7 v7

/-- One more chunk, the new maximum under its own name. -/
theorem run_step {T : ℕ → Fin 512 → Fin 512 → ℝ} {V : ℕ → Fin 64 → Fin 512 → ℝ} {n : ℕ} {m m' l : FVec Ideal S1x512 .f32} {a : FVec Ideal S64x512 .f32}
    {t : FVec Ideal S512x512 .f32} {v : FVec Ideal S64x512 .bf16} (hm : m' = mxF m t) (h : ∃ μ, Run T V n m l a μ) (ht : Re2 t (T n)) (hv : Re2 v (V n)) :
    ∃ μ, Run T V (n + 1) m' (lsF m m' l t) (acF m m' a t v) μ := by
  subst hm
  exact run_next h ht hv

/-- Eight chunks. -/
theorem run_all {T : ℕ → Fin 512 → Fin 512 → ℝ} {V : ℕ → Fin 64 → Fin 512 → ℝ} {l m0 m1 m2 m3 m4 m5 m6 m7 m8 : FVec Ideal S1x512 .f32} {a : FVec Ideal S64x512 .f32}
    {t0 t1 t2 t3 t4 t5 t6 t7 : FVec Ideal S512x512 .f32} {v0 v1 v2 v3 v4 v5 v6 v7 : FVec Ideal S64x512 .bf16}
    (hm : ∀ i, m0 (ix2 0 i) = (⊥ : EReal)) (hl : ∀ i, l (ix2 0 i) = (0 : EReal)) (ha : ∀ d i, a (ix2 d i) = (0 : EReal))
    (h1 : m1 = mxF m0 t0) (h2 : m2 = mxF m1 t1) (h3 : m3 = mxF m2 t2) (h4 : m4 = mxF m3 t3) (h5 : m5 = mxF m4 t4) (h6 : m6 = mxF m5 t5) (h7 : m7 = mxF m6 t6) (h8 : m8 = mxF m7 t7)
    (ht0 : Re2 t0 (T 0)) (hv0 : Re2 v0 (V 0))
    (ht1 : Re2 t1 (T 1)) (hv1 : Re2 v1 (V 1))
    (ht2 : Re2 t2 (T 2)) (hv2 : Re2 v2 (V 2))
    (ht3 : Re2 t3 (T 3)) (hv3 : Re2 v3 (V 3))
    (ht4 : Re2 t4 (T 4)) (hv4 : Re2 v4 (V 4))
    (ht5 : Re2 t5 (T 5)) (hv5 : Re2 v5 (V 5))
    (ht6 : Re2 t6 (T 6)) (hv6 : Re2 v6 (V 6))
    (ht7 : Re2 t7 (T 7)) (hv7 : Re2 v7 (V 7)) :
    ∃ μ, Run T V 8 m8 (lAll l m0 m1 m2 m3 m4 m5 m6 m7 m8 t0 t1 t2 t3 t4 t5 t6 t7) (aAll a m0 m1 m2 m3 m4 m5 m6 m7 m8 t0 t1 t2 t3 t4 t5 t6 t7 v0 v1 v2 v3 v4 v5 v6 v7) μ := by
  have r1 : ∃ μ, Run T V 1 m1 (lsF m0 m1 l t0) (acF m0 m1 a t0 v0) μ := by
    subst h1
    exact run_first hm hl ha ht0 hv0
  exact run_step h8 (run_step h7 (run_step h6 (run_step h5 (run_step h4 (run_step h3 (run_step h2 r1 ht1 hv1) ht2 hv2) ht3 hv3) ht4 hv4) ht5 hv5) ht6 hv6) ht7 hv7

/-- A chunk of columns of a matrix of real numbers. -/
theorem ld_cols_re {W : FVec Ideal S64x4096 .bf16} {K : Fin 4096 → Fin 64 → ℝ} (hW : Re2 W fun d s => K s d) (o : ℕ) (ho : o + 512 ≤ 4096) (inb) :
    Re2 (a := 64) (b := 512) (φ := .bf16) (View.ld (Val := Elt Ideal) (e' := .bf16) W (Rect.unit ![0, o] ![64, 512] inb)) fun d j => K (at512 o ho j) d := by
  intro d j
  exact (View.ld_unit_apply_of (Val := Elt Ideal) (e := .bf16) W _ _ inb (ix2 d j) (ix2 d (at512 o ho j)) (by intro a; fin_cases a <;> simp [at512])).trans (hW _ _)

variable (x0 : Vec Ideal S2x512x64 .bf16) (x1 : Vec Ideal S1x4096x64 .bf16) (x2 : Vec Ideal S1x64x4096 .bf16)

/-- The keys without their first axis. -/
abbrev fK : FVec Ideal S4096x64 .bf16 := shapeCast S4096x64 (View.ld x1 r0_1) squeezes_S1x4096x64_S4096x64.numel_eq

/-- The transposed values without their first axis. -/
abbrev fV : FVec Ideal S64x4096 .bf16 := shapeCast S64x4096 (View.ld x2 r0_4) squeezes_S1x64x4096_S64x4096.numel_eq

/-- A chunk of keys. -/
abbrev kCh (o : ℕ) (inb : ∀ a, (![o, 0] : Fin 2 → ℕ) a + S512x64.size a ≤ S4096x64.size a) : FVec Ideal S512x64 .bf16 :=
  View.ld (Val := Elt Ideal) (e' := .bf16) (fK x1) (Rect.unit (s := S4096x64) ![o, 0] S512x64.size inb)

/-- A chunk of values. -/
abbrev vCh (o : ℕ) (inb : ∀ a, (![0, o] : Fin 2 → ℕ) a + S64x512.size a ≤ S64x4096.size a) : FVec Ideal S64x512 .bf16 :=
  View.ld (Val := Elt Ideal) (e' := .bf16) (fV x2) (Rect.unit (s := S64x4096) ![0, o] S64x512.size inb)

/-- Minus infinity, the first maximum. -/
abbrev bot0 : FVec Ideal S1x512 .f32 := broadcast S1x512 (Scalar.ofBits .f32 0xFF800000#32)

/-- The first sum of powers. -/
abbrev zero0 : FVec Ideal S1x512 .f32 := broadcast S1x512 (Scalar.ofBits .f32 0x00000000#32)

/-- The first weighted sum. -/
abbrev zeroA : FVec Ideal S64x512 .f32 := broadcast S64x512 (Scalar.ofBits .f32 0x00000000#32)

/-! ## Head 0 -/

/-- Head 0's sum of powers. -/
abbrev lH0 : FVec Ideal S1x512 .f32 :=
  lAll zero0 bot0 (k0_pay111 x0 x1 x2) (k0_pay112 x0 x1 x2) (k0_pay20 (k0_pay112 x0 x1 x2) (k0_pay114 x0 x1 x2)) (k0_pay116 x0 x1 x2) (k0_pay118 x0 x1 x2) (k0_pay38 (k0_pay117 x0 x1 x2) (k0_pay118 x0 x1 x2)) (k0_pay120 x0 x1 x2) (k0_pay50 (k0_pay119 x0 x1 x2) (k0_pay120 x0 x1 x2))
    (scF (k0_pay109 x0 x1 x2) (kCh x1 0 inb_S4096x64_S512x64_0_0)) (scF (k0_pay109 x0 x1 x2) (kCh x1 512 inb_S4096x64_S512x64_512_0)) (scF (k0_pay109 x0 x1 x2) (kCh x1 1024 inb_S4096x64_S512x64_1024_0)) (scF (k0_pay109 x0 x1 x2) (kCh x1 1536 inb_S4096x64_S512x64_1536_0)) (scF (k0_pay109 x0 x1 x2) (kCh x1 2048 inb_S4096x64_S512x64_2048_0)) (scF (k0_pay109 x0 x1 x2) (kCh x1 2560 inb_S4096x64_S512x64_2560_0)) (scF (k0_pay109 x0 x1 x2) (kCh x1 3072 inb_S4096x64_S512x64_3072_0)) (scF (k0_pay109 x0 x1 x2) (kCh x1 3584 inb_S4096x64_S512x64_3584_0))

/-- Head 0's weighted sum. -/
abbrev aH0 : FVec Ideal S64x512 .f32 :=
  aAll zeroA bot0 (k0_pay111 x0 x1 x2) (k0_pay112 x0 x1 x2) (k0_pay20 (k0_pay112 x0 x1 x2) (k0_pay114 x0 x1 x2)) (k0_pay116 x0 x1 x2) (k0_pay118 x0 x1 x2) (k0_pay38 (k0_pay117 x0 x1 x2) (k0_pay118 x0 x1 x2)) (k0_pay120 x0 x1 x2) (k0_pay50 (k0_pay119 x0 x1 x2) (k0_pay120 x0 x1 x2))
    (scF (k0_pay109 x0 x1 x2) (kCh x1 0 inb_S4096x64_S512x64_0_0)) (scF (k0_pay109 x0 x1 x2) (kCh x1 512 inb_S4096x64_S512x64_512_0)) (scF (k0_pay109 x0 x1 x2) (kCh x1 1024 inb_S4096x64_S512x64_1024_0)) (scF (k0_pay109 x0 x1 x2) (kCh x1 1536 inb_S4096x64_S512x64_1536_0)) (scF (k0_pay109 x0 x1 x2) (kCh x1 2048 inb_S4096x64_S512x64_2048_0)) (scF (k0_pay109 x0 x1 x2) (kCh x1 2560 inb_S4096x64_S512x64_2560_0)) (scF (k0_pay109 x0 x1 x2) (kCh x1 3072 inb_S4096x64_S512x64_3072_0)) (scF (k0_pay109 x0 x1 x2) (kCh x1 3584 inb_S4096x64_S512x64_3584_0))
    (vCh x2 0 inb_S64x4096_S64x512_0_0) (vCh x2 512 inb_S64x4096_S64x512_0_512) (vCh x2 1024 inb_S64x4096_S64x512_0_1024) (vCh x2 1536 inb_S64x4096_S64x512_0_1536) (vCh x2 2048 inb_S64x4096_S64x512_0_2048) (vCh x2 2560 inb_S64x4096_S64x512_0_2560) (vCh x2 3072 inb_S64x4096_S64x512_0_3072) (vCh x2 3584 inb_S64x4096_S64x512_0_3584)

/-- Head 0's last maximum. -/
abbrev mH0 : FVec Ideal S1x512 .f32 := k0_pay50 (k0_pay119 x0 x1 x2) (k0_pay120 x0 x1 x2)

theorem o_head0 : k0_pay54 (k0_pay41 (k0_pay117 x0 x1 x2) (k0_pay118 x0 x1 x2) (k0_pay36 (k0_pay115 x0 x1 x2) (k0_pay116 x0 x1 x2) (k0_pay27 (k0_pay112 x0 x1 x2) (k0_pay113 x0 x1 x2) (k0_pay114 x0 x1 x2)) (k0_pay29 (k0_pay112 x0 x1 x2) (k0_pay17 (k0_pay110 x0 x1 x2) (k0_pay111 x0 x1 x2) (k0_pay9 (View.ld x0 r0_0) (View.ld (shapeCast S4096x64 (View.ld x1 r0_1) squeezes_S1x4096x64_S4096x64.numel_eq) r0_2)) (k0_pay11 (View.ld x0 r0_0) (View.ld (shapeCast S4096x64 (View.ld x1 r0_1) squeezes_S1x4096x64_S4096x64.numel_eq) r0_2)) (View.ld (shapeCast S64x4096 (View.ld x2 r0_4) squeezes_S1x64x4096_S64x4096.numel_eq) r0_5) (View.ld (shapeCast S64x4096 (View.ld x2 r0_4) squeezes_S1x64x4096_S64x4096.numel_eq) r0_7)) (k0_pay113 x0 x1 x2) (k0_pay114 x0 x1 x2) (View.ld (shapeCast S64x4096 (View.ld x2 r0_4) squeezes_S1x64x4096_S64x4096.numel_eq) r0_9)) (View.ld (shapeCast S64x4096 (View.ld x2 r0_4) squeezes_S1x64x4096_S64x4096.numel_eq) r0_11) (View.ld (shapeCast S64x4096 (View.ld x2 r0_4) squeezes_S1x64x4096_S64x4096.numel_eq) r0_13)) (View.ld (shapeCast S64x4096 (View.ld x2 r0_4) squeezes_S1x64x4096_S64x4096.numel_eq) r0_15)) (k0_pay119 x0 x1 x2) (k0_pay120 x0 x1 x2) (k0_pay45 (k0_pay109 x0 x1 x2) (k0_pay117 x0 x1 x2) (k0_pay118 x0 x1 x2) (View.ld (shapeCast S4096x64 (View.ld x1 r0_1) squeezes_S1x4096x64_S4096x64.numel_eq) r0_14)) (k0_pay46 (k0_pay109 x0 x1 x2) (k0_pay117 x0 x1 x2) (k0_pay118 x0 x1 x2) (View.ld (shapeCast S4096x64 (View.ld x1 r0_1) squeezes_S1x4096x64_S4096x64.numel_eq) r0_14)) (k0_pay121 x0 x1 x2) (k0_pay122 x0 x1 x2) (View.ld (shapeCast S64x4096 (View.ld x2 r0_4) squeezes_S1x64x4096_S64x4096.numel_eq) r0_17) (View.ld (shapeCast S64x4096 (View.ld x2 r0_4) squeezes_S1x64x4096_S64x4096.numel_eq) r0_18) = transpose S512x64 [1, 0] (otF (lH0 x0 x1 x2) (aH0 x0 x1 x2)) transposes_S64x512_p1_0_S512x64 := rfl

theorem l_head0 : k0_pay55 (k0_pay119 x0 x1 x2) (k0_pay120 x0 x1 x2) (k0_pay121 x0 x1 x2) (k0_pay122 x0 x1 x2) = lgF (mH0 x0 x1 x2) (lH0 x0 x1 x2) := rfl

theorem run_head0 {Q : Fin 512 → Fin 64 → ℝ} {K W : Fin 4096 → Fin 64 → ℝ} (hq : Re2 (k0_pay109 x0 x1 x2) Q) (hk : Re2 (fK x1) K) (hv : Re2 (fV x2) fun d s => W s d) :
    ∃ μ, Run (fun c j i => score (1 / 8) Q K i (keyAt c j) * (Real.log 2)⁻¹) (fun c d j => W (keyAt c j) d) 8 (mH0 x0 x1 x2) (lH0 x0 x1 x2) (aH0 x0 x1 x2) μ := by
  have ht : ∀ n (hn : n < 8) inb, Re2 (scF (k0_pay109 x0 x1 x2) (kCh x1 (512 * n) inb)) fun j i => score (1 / 8) Q K i (keyAt n j) * (Real.log 2)⁻¹ := by
    intro n hn inb j i
    refine (scF_re hq (ld_rows hk (512 * n) (by omega) inb) j i).trans (congrArg Real.toEReal ?_)
    have e : at512 (512 * n) (by omega) j = keyAt n j := Fin.ext (by simp only [at512, keyAt]; omega)
    show (∑ d, K (at512 (512 * n) (by omega) j) d * Q i d) * cLog = score (1 / 8) Q K i (keyAt n j) * (Real.log 2)⁻¹
    rw [e, score, cLog, mul_assoc]
    exact congrArg (· * _) (Finset.sum_congr rfl fun d _ => mul_comm _ _)
  have hw : ∀ n (hn : n < 8) inb, Re2 (vCh x2 (512 * n) inb) fun d j => W (keyAt n j) d := by
    intro n hn inb d j
    refine (ld_cols_re hv (512 * n) (by omega) inb d j).trans (congrArg Real.toEReal ?_)
    have e : at512 (512 * n) (by omega) j = keyAt n j := Fin.ext (by simp only [at512, keyAt]; omega)
    exact congrArg (W · d) e
  exact run_all (fun i => ofBits_bot) (fun i => by pointwise []) (fun d i => by pointwise [])
    rfl rfl rfl rfl rfl rfl rfl rfl
    (ht 0 (by decide) inb_S4096x64_S512x64_0_0) (hw 0 (by decide) inb_S64x4096_S64x512_0_0) (ht 1 (by decide) inb_S4096x64_S512x64_512_0) (hw 1 (by decide) inb_S64x4096_S64x512_0_512) (ht 2 (by decide) inb_S4096x64_S512x64_1024_0) (hw 2 (by decide) inb_S64x4096_S64x512_0_1024) (ht 3 (by decide) inb_S4096x64_S512x64_1536_0) (hw 3 (by decide) inb_S64x4096_S64x512_0_1536) (ht 4 (by decide) inb_S4096x64_S512x64_2048_0) (hw 4 (by decide) inb_S64x4096_S64x512_0_2048) (ht 5 (by decide) inb_S4096x64_S512x64_2560_0) (hw 5 (by decide) inb_S64x4096_S64x512_0_2560) (ht 6 (by decide) inb_S4096x64_S512x64_3072_0) (hw 6 (by decide) inb_S64x4096_S64x512_0_3072) (ht 7 (by decide) inb_S4096x64_S512x64_3584_0) (hw 7 (by decide) inb_S64x4096_S64x512_0_3584)

/-! ## Head 1 -/

/-- Head 1's sum of powers. -/
abbrev lH1 : FVec Ideal S1x512 .f32 :=
  lAll zero0 bot0 (k0_pay125 x0 x1 x2) (k0_pay127 x0 x1 x2) (k0_pay74 (k0_pay126 x0 x1 x2) (k0_pay127 x0 x1 x2)) (k0_pay129 x0 x1 x2) (k0_pay131 x0 x1 x2) (k0_pay93 (k0_pay130 x0 x1 x2) (k0_pay131 x0 x1 x2)) (k0_pay135 x0 x1 x2) (k0_pay104 (k0_pay133 x0 x1 x2) (k0_pay135 x0 x1 x2))
    (scF (k0_pay123 x0 x1 x2) (kCh x1 0 inb_S4096x64_S512x64_0_0)) (scF (k0_pay123 x0 x1 x2) (kCh x1 512 inb_S4096x64_S512x64_512_0)) (scF (k0_pay123 x0 x1 x2) (kCh x1 1024 inb_S4096x64_S512x64_1024_0)) (scF (k0_pay123 x0 x1 x2) (kCh x1 1536 inb_S4096x64_S512x64_1536_0)) (scF (k0_pay123 x0 x1 x2) (kCh x1 2048 inb_S4096x64_S512x64_2048_0)) (scF (k0_pay123 x0 x1 x2) (kCh x1 2560 inb_S4096x64_S512x64_2560_0)) (scF (k0_pay123 x0 x1 x2) (kCh x1 3072 inb_S4096x64_S512x64_3072_0)) (scF (k0_pay123 x0 x1 x2) (kCh x1 3584 inb_S4096x64_S512x64_3584_0))

/-- Head 1's weighted sum. -/
abbrev aH1 : FVec Ideal S64x512 .f32 :=
  aAll zeroA bot0 (k0_pay125 x0 x1 x2) (k0_pay127 x0 x1 x2) (k0_pay74 (k0_pay126 x0 x1 x2) (k0_pay127 x0 x1 x2)) (k0_pay129 x0 x1 x2) (k0_pay131 x0 x1 x2) (k0_pay93 (k0_pay130 x0 x1 x2) (k0_pay131 x0 x1 x2)) (k0_pay135 x0 x1 x2) (k0_pay104 (k0_pay133 x0 x1 x2) (k0_pay135 x0 x1 x2))
    (scF (k0_pay123 x0 x1 x2) (kCh x1 0 inb_S4096x64_S512x64_0_0)) (scF (k0_pay123 x0 x1 x2) (kCh x1 512 inb_S4096x64_S512x64_512_0)) (scF (k0_pay123 x0 x1 x2) (kCh x1 1024 inb_S4096x64_S512x64_1024_0)) (scF (k0_pay123 x0 x1 x2) (kCh x1 1536 inb_S4096x64_S512x64_1536_0)) (scF (k0_pay123 x0 x1 x2) (kCh x1 2048 inb_S4096x64_S512x64_2048_0)) (scF (k0_pay123 x0 x1 x2) (kCh x1 2560 inb_S4096x64_S512x64_2560_0)) (scF (k0_pay123 x0 x1 x2) (kCh x1 3072 inb_S4096x64_S512x64_3072_0)) (scF (k0_pay123 x0 x1 x2) (kCh x1 3584 inb_S4096x64_S512x64_3584_0))
    (vCh x2 0 inb_S64x4096_S64x512_0_0) (vCh x2 512 inb_S64x4096_S64x512_0_512) (vCh x2 1024 inb_S64x4096_S64x512_0_1024) (vCh x2 1536 inb_S64x4096_S64x512_0_1536) (vCh x2 2048 inb_S64x4096_S64x512_0_2048) (vCh x2 2560 inb_S64x4096_S64x512_0_2560) (vCh x2 3072 inb_S64x4096_S64x512_0_3072) (vCh x2 3584 inb_S64x4096_S64x512_0_3584)

/-- Head 1's last maximum. -/
abbrev mH1 : FVec Ideal S1x512 .f32 := k0_pay104 (k0_pay133 x0 x1 x2) (k0_pay135 x0 x1 x2)

theorem o_head1 : k0_pay108 (k0_pay132 x0 x1 x2) (k0_pay97 (k0_pay130 x0 x1 x2) (k0_pay131 x0 x1 x2) (k0_pay91 (k0_pay77 (k0_pay126 x0 x1 x2) (k0_pay127 x0 x1 x2) (k0_pay72 (k0_pay124 x0 x1 x2) (k0_pay125 x0 x1 x2) (k0_pay63 (View.ld x0 r0_20) (View.ld (shapeCast S4096x64 (View.ld x1 r0_1) squeezes_S1x4096x64_S4096x64.numel_eq) r0_2)) (k0_pay65 (View.ld x0 r0_20) (View.ld (shapeCast S4096x64 (View.ld x1 r0_1) squeezes_S1x4096x64_S4096x64.numel_eq) r0_2)) (View.ld (shapeCast S64x4096 (View.ld x2 r0_4) squeezes_S1x64x4096_S64x4096.numel_eq) r0_5) (View.ld (shapeCast S64x4096 (View.ld x2 r0_4) squeezes_S1x64x4096_S64x4096.numel_eq) r0_7)) (View.ld (shapeCast S64x4096 (View.ld x2 r0_4) squeezes_S1x64x4096_S64x4096.numel_eq) r0_9)) (k0_pay128 x0 x1 x2) (k0_pay129 x0 x1 x2) (k0_pay81 (k0_pay123 x0 x1 x2) (k0_pay126 x0 x1 x2) (k0_pay127 x0 x1 x2) (View.ld (shapeCast S4096x64 (View.ld x1 r0_1) squeezes_S1x4096x64_S4096x64.numel_eq) r0_8)) (k0_pay82 (k0_pay123 x0 x1 x2) (k0_pay126 x0 x1 x2) (k0_pay127 x0 x1 x2) (View.ld (shapeCast S4096x64 (View.ld x1 r0_1) squeezes_S1x4096x64_S4096x64.numel_eq) r0_8)) (View.ld (shapeCast S64x4096 (View.ld x2 r0_4) squeezes_S1x64x4096_S64x4096.numel_eq) r0_11) (View.ld (shapeCast S64x4096 (View.ld x2 r0_4) squeezes_S1x64x4096_S64x4096.numel_eq) r0_13)) (View.ld (shapeCast S64x4096 (View.ld x2 r0_4) squeezes_S1x64x4096_S64x4096.numel_eq) r0_15)) (k0_pay133 x0 x1 x2) (k0_pay134 x0 x1 x2) (k0_pay135 x0 x1 x2) (k0_pay136 x0 x1 x2) (View.ld (shapeCast S64x4096 (View.ld x2 r0_4) squeezes_S1x64x4096_S64x4096.numel_eq) r0_17) (View.ld (shapeCast S64x4096 (View.ld x2 r0_4) squeezes_S1x64x4096_S64x4096.numel_eq) r0_18) = otF (lH1 x0 x1 x2) (aH1 x0 x1 x2) := rfl

theorem l_head1 : k0_pay107 (k0_pay132 x0 x1 x2) (k0_pay133 x0 x1 x2) (k0_pay134 x0 x1 x2) (k0_pay135 x0 x1 x2) (k0_pay136 x0 x1 x2) = lH1 x0 x1 x2 := rfl

theorem run_head1 {Q : Fin 512 → Fin 64 → ℝ} {K W : Fin 4096 → Fin 64 → ℝ} (hq : Re2 (k0_pay123 x0 x1 x2) Q) (hk : Re2 (fK x1) K) (hv : Re2 (fV x2) fun d s => W s d) :
    ∃ μ, Run (fun c j i => score (1 / 8) Q K i (keyAt c j) * (Real.log 2)⁻¹) (fun c d j => W (keyAt c j) d) 8 (mH1 x0 x1 x2) (lH1 x0 x1 x2) (aH1 x0 x1 x2) μ := by
  have ht : ∀ n (hn : n < 8) inb, Re2 (scF (k0_pay123 x0 x1 x2) (kCh x1 (512 * n) inb)) fun j i => score (1 / 8) Q K i (keyAt n j) * (Real.log 2)⁻¹ := by
    intro n hn inb j i
    refine (scF_re hq (ld_rows hk (512 * n) (by omega) inb) j i).trans (congrArg Real.toEReal ?_)
    have e : at512 (512 * n) (by omega) j = keyAt n j := Fin.ext (by simp only [at512, keyAt]; omega)
    show (∑ d, K (at512 (512 * n) (by omega) j) d * Q i d) * cLog = score (1 / 8) Q K i (keyAt n j) * (Real.log 2)⁻¹
    rw [e, score, cLog, mul_assoc]
    exact congrArg (· * _) (Finset.sum_congr rfl fun d _ => mul_comm _ _)
  have hw : ∀ n (hn : n < 8) inb, Re2 (vCh x2 (512 * n) inb) fun d j => W (keyAt n j) d := by
    intro n hn inb d j
    refine (ld_cols_re hv (512 * n) (by omega) inb d j).trans (congrArg Real.toEReal ?_)
    have e : at512 (512 * n) (by omega) j = keyAt n j := Fin.ext (by simp only [at512, keyAt]; omega)
    exact congrArg (W · d) e
  exact run_all (fun i => ofBits_bot) (fun i => by pointwise []) (fun d i => by pointwise [])
    rfl rfl rfl rfl rfl rfl rfl rfl
    (ht 0 (by decide) inb_S4096x64_S512x64_0_0) (hw 0 (by decide) inb_S64x4096_S64x512_0_0) (ht 1 (by decide) inb_S4096x64_S512x64_512_0) (hw 1 (by decide) inb_S64x4096_S64x512_0_512) (ht 2 (by decide) inb_S4096x64_S512x64_1024_0) (hw 2 (by decide) inb_S64x4096_S64x512_0_1024) (ht 3 (by decide) inb_S4096x64_S512x64_1536_0) (hw 3 (by decide) inb_S64x4096_S64x512_0_1536) (ht 4 (by decide) inb_S4096x64_S512x64_2048_0) (hw 4 (by decide) inb_S64x4096_S64x512_0_2048) (ht 5 (by decide) inb_S4096x64_S512x64_2560_0) (hw 5 (by decide) inb_S64x4096_S64x512_0_2560) (ht 6 (by decide) inb_S4096x64_S512x64_3072_0) (hw 6 (by decide) inb_S64x4096_S64x512_0_3072) (ht 7 (by decide) inb_S4096x64_S512x64_3584_0) (hw 7 (by decide) inb_S64x4096_S64x512_0_3584)

end Cert.Tiles

end
-- ==== Proof.BlockKV.lean ====
/- What one grid point of the backward kernel leaves in the gradients' blocks: the keys' and the values' blocks gain what the point's queries add, the
   queries' block is their own gradient. -/
module

public import proofs.«01_k».proof.Proof.Pieces
public import proofs.«01_k».proof.Proof.Gen.KernelIdeal.Frame
public import Idealize.ShloMosaic.Lib.ValueLayout

@[expose] public section

set_option maxRecDepth 16384

noncomputable section

namespace Cert.Tiles

open Idealize.ShloMosaic Idealize.ShloMosaic.TcCoe Cert.KernelIdeal Cert.KernelIdeal.Gen Cert.Attn Cert.RealValues

variable (V : (c : Dev nD) → (b : Ref sig .tc) → Buf (Elt Ideal) ((c : Thread nD τ).loc b))

/-- A slice of a whole buffer, read in another shape. -/
theorem read_slice_unread {κ : Kind} {sp : Space} {s : Shape} {e : EltTy} {m : Memref sig κ sp s e} (h : m.IsWhole) (X : s.Idx → Elt Ideal e) (R : Rect s)
    {s3 : Shape} (hn : s3.numel = R.shape.numel) (x : s3.Idx) :
    View.read (Elt Ideal) ((m.view.slice R).reshape s3 hn) (h.unread X) x = X (R.emb (Shape.reshapeEquiv hn x)) :=
  congrFun (h.read_unread X) _

/-- The keys' block at a point, as the kernel reads it: without its first axis. -/
abbrev rowsK (c : Dev nD) (t : Fin cfg1.N) : FVec Ideal S4096x64 .bf16 :=
  View.read (Elt Ideal) (((ms1_1 t).view.slice (Rect.unit ![0, 0, 0] ![1, 4096, 64] inb_S1x4096x64_S1x4096x64_0_0_0)).reshape S4096x64 rfl) ((hs1_1 t).unread (iblk1 V c 1 t))

/-- The values' block at a point. -/
abbrev rowsV (c : Dev nD) (t : Fin cfg1.N) : FVec Ideal S4096x64 .bf16 :=
  View.read (Elt Ideal) (((ms1_2 t).view.slice (Rect.unit ![0, 0, 0] ![1, 4096, 64] inb_S1x4096x64_S1x4096x64_0_0_0)).reshape S4096x64 rfl) ((hs1_2 t).unread (iblk1 V c 2 t))

theorem rowsK_at (c : Dev nD) (t : Fin cfg1.N) (s : Fin 4096) (d : Fin 64) : rowsK V c t (ix2 s d) = iblk1 V c 1 t (ix3 0 s d) := by
  refine (read_slice_unread (hs1_1 t) (iblk1 V c 1 t) _ (s3 := S4096x64) rfl (ix2 s d)).trans ?_
  refine congrArg (iblk1 V c 1 t) ?_
  refine (congrArg _ (ValueIdx.reshapeEquiv_ix2_1ab _ s d)).trans (funext fun a => Fin.ext ((Rect.idx_unit_val _ _ _ _ a).trans ?_))
  fin_cases a <;> simp

theorem rowsV_at (c : Dev nD) (t : Fin cfg1.N) (s : Fin 4096) (d : Fin 64) : rowsV V c t (ix2 s d) = iblk1 V c 2 t (ix3 0 s d) := by
  refine (read_slice_unread (hs1_2 t) (iblk1 V c 2 t) _ (s3 := S4096x64) rfl (ix2 s d)).trans ?_
  refine congrArg (iblk1 V c 2 t) ?_
  refine (congrArg _ (ValueIdx.reshapeEquiv_ix2_1ab _ s d)).trans (funext fun a => Fin.ext ((Rect.idx_unit_val _ _ _ _ a).trans ?_))
  fin_cases a <;> simp

/-- A point's blocks, as real numbers. -/
abbrev At (c : Dev nD) (t : Fin cfg1.N) (Q G O : Fin 2 → Fin 256 → Fin 64 → ℝ) (L : Fin 2 → Fin 256 → ℝ) (K W : Fin 4096 → Fin 64 → ℝ) : Prop :=
  Group (iblk1 V c 0 t) (iblk1 V c 3 t) (iblk1 V c 4 t) (iblk1 V c 5 t) (rowsK V c t) (rowsV V c t) Q G O L K W

/-- What the values' gradient gains. -/
def dvAdd (Q G : Fin 2 → Fin 256 → Fin 64 → ℝ) (L : Fin 2 → Fin 256 → ℝ) (K : Fin 4096 → Fin 64 → ℝ) (d : Fin 64) (s : Fin 4096) : ℝ :=
  ∑ i, G 0 i d * pR Q L K 0 i s + ∑ i, G 1 i d * pR Q L K 1 i s

/-- What the keys' gradient gains. -/
def dkAdd (Q G O : Fin 2 → Fin 256 → Fin 64 → ℝ) (L : Fin 2 → Fin 256 → ℝ) (K W : Fin 4096 → Fin 64 → ℝ) (d : Fin 64) (s : Fin 4096) : ℝ :=
  ∑ i, Q 0 i d * dsR Q G O L K W 0 i s + ∑ i, Q 1 i d * dsR Q G O L K W 1 i s

variable {Q G O : Fin 2 → Fin 256 → Fin 64 → ℝ} {L : Fin 2 → Fin 256 → ℝ} {K W : Fin 4096 → Fin 64 → ℝ}

theorem zero4 (x) : k1_pay4 (F := Ideal) x = ((0 : ℝ) : EReal) := by
  pointwise [k1_pay4]
  simp

theorem zero3 (x) : k1_pay3 (F := Ideal) x = ((0 : ℝ) : EReal) := by
  pointwise [k1_pay3]
  simp

/-- The values' gradient after a later point of a group. -/
theorem dv_later (c : Dev nD) (t : Fin cfg1.N) (h : ¬ t.val % 16 = 0) (H : At V c t Q G O L K W) (A : Fin 64 → Fin 4096 → ℝ)
    (hX : ∀ d s, (outsAt1 V c (t.val - 1) (by omega)).2.2 (ix3 0 d s) = ((A d s : ℝ) : EReal)) (d : Fin 64) (s : Fin 4096) :
    (outsAt1 V c t.val t.isLt).2.2 (ix3 0 d s) = ((A d s + dvAdd Q G L K d s : ℝ) : EReal) := by
  rw [outsAt1_B V c t h]
  frame_open
  simp (disch := decide) only [↓ View.readCov_skip, ↓ View.readCov_cons_toLoadRect, ↓ View.readCov_fill]
  frame_out
  refine (View.canon_append_of_piecesOf (Val := Elt Ideal) (e := .f32) (fun y : S1x64x4096.Idx => ((A (y 1) (y 2) + dvAdd Q G L K (y 1) (y 2) : ℝ) : EReal)) [_, _, _, _, _, _, _, _] [_, _, _, _, _, _, _, _] ⟨?_, ?_, ?_, ?_, ?_, ?_, ?_, ?_, trivial⟩ (ix3 0 d s) (View.cover_of_tiledL _ ![1, 64, 512] (by rfl) _))
  · intro x
    idx_vars x
    rw [emb_cols 3584 (by decide)]
    exact (dv_piece H _ A hX 3584 (by decide) _ _ _ _ _).trans (congrArg Real.toEReal (add_assoc _ _ _))
  · intro x
    idx_vars x
    rw [emb_cols 3072 (by decide)]
    exact (dv_piece H _ A hX 3072 (by decide) _ _ _ _ _).trans (congrArg Real.toEReal (add_assoc _ _ _))
  · intro x
    idx_vars x
    rw [emb_cols 2560 (by decide)]
    exact (dv_piece H _ A hX 2560 (by decide) _ _ _ _ _).trans (congrArg Real.toEReal (add_assoc _ _ _))
  · intro x
    idx_vars x
    rw [emb_cols 2048 (by decide)]
    exact (dv_piece H _ A hX 2048 (by decide) _ _ _ _ _).trans (congrArg Real.toEReal (add_assoc _ _ _))
  · intro x
    idx_vars x
    rw [emb_cols 1536 (by decide)]
    exact (dv_piece H _ A hX 1536 (by decide) _ _ _ _ _).trans (congrArg Real.toEReal (add_assoc _ _ _))
  · intro x
    idx_vars x
    rw [emb_cols 1024 (by decide)]
    exact (dv_piece H _ A hX 1024 (by decide) _ _ _ _ _).trans (congrArg Real.toEReal (add_assoc _ _ _))
  · intro x
    idx_vars x
    rw [emb_cols 512 (by decide)]
    exact (dv_piece H _ A hX 512 (by decide) _ _ _ _ _).trans (congrArg Real.toEReal (add_assoc _ _ _))
  · intro x
    idx_vars x
    rw [emb_cols 0 (by decide)]
    exact (dv_piece H _ A hX 0 (by decide) _ _ _ _ _).trans (congrArg Real.toEReal (add_assoc _ _ _))

/-- The values' gradient after the first point of a group. -/
theorem dv_first (c : Dev nD) (t : Fin cfg1.N) (h : t.val % 16 = 0) (H : At V c t Q G O L K W) (d : Fin 64) (s : Fin 4096) :
    (outsAt1 V c t.val t.isLt).2.2 (ix3 0 d s) = ((dvAdd Q G L K d s : ℝ) : EReal) := by
  rw [outsAt1_A V c t h]
  frame_open
  simp (disch := decide) only [↓ View.readCov_skip, ↓ View.readCov_cons_toLoadRect, ↓ View.readCov_fill]
  frame_out
  refine (View.canon_append_of_piecesOf (Val := Elt Ideal) (e := .f32) (fun y : S1x64x4096.Idx => ((dvAdd Q G L K (y 1) (y 2) : ℝ) : EReal)) [_, _, _, _, _, _, _, _, _] [_, _, _, _, _, _, _, _] ⟨?_, ?_, ?_, ?_, ?_, ?_, ?_, ?_, trivial⟩ (ix3 0 d s) (View.cover_of_tiledL _ ![1, 64, 512] (by rfl) _))
  · intro x
    idx_vars x
    rw [emb_cols 3584 (by decide)]
    exact (dv_piece H _ (fun _ _ => 0) (fun _ _ => zero4 _) 3584 (by decide) _ _ _ _ _).trans (congrArg Real.toEReal (by rw [zero_add]; rfl))
  · intro x
    idx_vars x
    rw [emb_cols 3072 (by decide)]
    exact (dv_piece H _ (fun _ _ => 0) (fun _ _ => zero4 _) 3072 (by decide) _ _ _ _ _).trans (congrArg Real.toEReal (by rw [zero_add]; rfl))
  · intro x
    idx_vars x
    rw [emb_cols 2560 (by decide)]
    exact (dv_piece H _ (fun _ _ => 0) (fun _ _ => zero4 _) 2560 (by decide) _ _ _ _ _).trans (congrArg Real.toEReal (by rw [zero_add]; rfl))
  · intro x
    idx_vars x
    rw [emb_cols 2048 (by decide)]
    exact (dv_piece H _ (fun _ _ => 0) (fun _ _ => zero4 _) 2048 (by decide) _ _ _ _ _).trans (congrArg Real.toEReal (by rw [zero_add]; rfl))
  · intro x
    idx_vars x
    rw [emb_cols 1536 (by decide)]
    exact (dv_piece H _ (fun _ _ => 0) (fun _ _ => zero4 _) 1536 (by decide) _ _ _ _ _).trans (congrArg Real.toEReal (by rw [zero_add]; rfl))
  · intro x
    idx_vars x
    rw [emb_cols 1024 (by decide)]
    exact (dv_piece H _ (fun _ _ => 0) (fun _ _ => zero4 _) 1024 (by decide) _ _ _ _ _).trans (congrArg Real.toEReal (by rw [zero_add]; rfl))
  · intro x
    idx_vars x
    rw [emb_cols 512 (by decide)]
    exact (dv_piece H _ (fun _ _ => 0) (fun _ _ => zero4 _) 512 (by decide) _ _ _ _ _).trans (congrArg Real.toEReal (by rw [zero_add]; rfl))
  · intro x
    idx_vars x
    rw [emb_cols 0 (by decide)]
    exact (dv_piece H _ (fun _ _ => 0) (fun _ _ => zero4 _) 0 (by decide) _ _ _ _ _).trans (congrArg Real.toEReal (by rw [zero_add]; rfl))

/-- The keys' gradient after a later point of a group. -/
theorem dk_later (c : Dev nD) (t : Fin cfg1.N) (h : ¬ t.val % 16 = 0) (H : At V c t Q G O L K W) (A : Fin 64 → Fin 4096 → ℝ)
    (hX : ∀ d s, (outsAt1 V c (t.val - 1) (by omega)).2.1 (ix3 0 d s) = ((A d s : ℝ) : EReal)) (d : Fin 64) (s : Fin 4096) :
    (outsAt1 V c t.val t.isLt).2.1 (ix3 0 d s) = ((A d s + dkAdd Q G O L K W d s : ℝ) : EReal) := by
  rw [outsAt1_B V c t h]
  frame_open
  simp (disch := decide) only [↓ View.readCov_skip, ↓ View.readCov_cons_toLoadRect, ↓ View.readCov_fill]
  frame_out
  refine (View.canon_append_of_piecesOf (Val := Elt Ideal) (e := .f32) (fun y : S1x64x4096.Idx => ((A (y 1) (y 2) + dkAdd Q G O L K W (y 1) (y 2) : ℝ) : EReal)) [_, _, _, _, _, _, _, _] [_, _, _, _, _, _, _, _] ⟨?_, ?_, ?_, ?_, ?_, ?_, ?_, ?_, trivial⟩ (ix3 0 d s) (View.cover_of_tiledL _ ![1, 64, 512] (by rfl) _))
  · intro x
    idx_vars x
    rw [emb_cols 3584 (by decide)]
    exact (dk_piece H _ A hX 3584 (by decide) _ _ _ _ _).trans (congrArg Real.toEReal (add_assoc _ _ _))
  · intro x
    idx_vars x
    rw [emb_cols 3072 (by decide)]
    exact (dk_piece H _ A hX 3072 (by decide) _ _ _ _ _).trans (congrArg Real.toEReal (add_assoc _ _ _))
  · intro x
    idx_vars x
    rw [emb_cols 2560 (by decide)]
    exact (dk_piece H _ A hX 2560 (by decide) _ _ _ _ _).trans (congrArg Real.toEReal (add_assoc _ _ _))
  · intro x
    idx_vars x
    rw [emb_cols 2048 (by decide)]
    exact (dk_piece H _ A hX 2048 (by decide) _ _ _ _ _).trans (congrArg Real.toEReal (add_assoc _ _ _))
  · intro x
    idx_vars x
    rw [emb_cols 1536 (by decide)]
    exact (dk_piece H _ A hX 1536 (by decide) _ _ _ _ _).trans (congrArg Real.toEReal (add_assoc _ _ _))
  · intro x
    idx_vars x
    rw [emb_cols 1024 (by decide)]
    exact (dk_piece H _ A hX 1024 (by decide) _ _ _ _ _).trans (congrArg Real.toEReal (add_assoc _ _ _))
  · intro x
    idx_vars x
    rw [emb_cols 512 (by decide)]
    exact (dk_piece H _ A hX 512 (by decide) _ _ _ _ _).trans (congrArg Real.toEReal (add_assoc _ _ _))
  · intro x
    idx_vars x
    rw [emb_cols 0 (by decide)]
    exact (dk_piece H _ A hX 0 (by decide) _ _ _ _ _).trans (congrArg Real.toEReal (add_assoc _ _ _))

/-- The keys' gradient after the first point of a group. -/
theorem dk_first (c : Dev nD) (t : Fin cfg1.N) (h : t.val % 16 = 0) (H : At V c t Q G O L K W) (d : Fin 64) (s : Fin 4096) :
    (outsAt1 V c t.val t.isLt).2.1 (ix3 0 d s) = ((dkAdd Q G O L K W d s : ℝ) : EReal) := by
  rw [outsAt1_A V c t h]
  frame_open
  simp (disch := decide) only [↓ View.readCov_skip, ↓ View.readCov_cons_toLoadRect, ↓ View.readCov_fill]
  frame_out
  refine (View.canon_append_of_piecesOf (Val := Elt Ideal) (e := .f32) (fun y : S1x64x4096.Idx => ((dkAdd Q G O L K W (y 1) (y 2) : ℝ) : EReal)) [_, _, _, _, _, _, _, _, _] [_, _, _, _, _, _, _, _] ⟨?_, ?_, ?_, ?_, ?_, ?_, ?_, ?_, trivial⟩ (ix3 0 d s) (View.cover_of_tiledL _ ![1, 64, 512] (by rfl) _))
  · intro x
    idx_vars x
    rw [emb_cols 3584 (by decide)]
    exact (dk_piece H _ (fun _ _ => 0) (fun _ _ => zero3 _) 3584 (by decide) _ _ _ _ _).trans (congrArg Real.toEReal (by rw [zero_add]; rfl))
  · intro x
    idx_vars x
    rw [emb_cols 3072 (by decide)]
    exact (dk_piece H _ (fun _ _ => 0) (fun _ _ => zero3 _) 3072 (by decide) _ _ _ _ _).trans (congrArg Real.toEReal (by rw [zero_add]; rfl))
  · intro x
    idx_vars x
    rw [emb_cols 2560 (by decide)]
    exact (dk_piece H _ (fun _ _ => 0) (fun _ _ => zero3 _) 2560 (by decide) _ _ _ _ _).trans (congrArg Real.toEReal (by rw [zero_add]; rfl))
  · intro x
    idx_vars x
    rw [emb_cols 2048 (by decide)]
    exact (dk_piece H _ (fun _ _ => 0) (fun _ _ => zero3 _) 2048 (by decide) _ _ _ _ _).trans (congrArg Real.toEReal (by rw [zero_add]; rfl))
  · intro x
    idx_vars x
    rw [emb_cols 1536 (by decide)]
    exact (dk_piece H _ (fun _ _ => 0) (fun _ _ => zero3 _) 1536 (by decide) _ _ _ _ _).trans (congrArg Real.toEReal (by rw [zero_add]; rfl))
  · intro x
    idx_vars x
    rw [emb_cols 1024 (by decide)]
    exact (dk_piece H _ (fun _ _ => 0) (fun _ _ => zero3 _) 1024 (by decide) _ _ _ _ _).trans (congrArg Real.toEReal (by rw [zero_add]; rfl))
  · intro x
    idx_vars x
    rw [emb_cols 512 (by decide)]
    exact (dk_piece H _ (fun _ _ => 0) (fun _ _ => zero3 _) 512 (by decide) _ _ _ _ _).trans (congrArg Real.toEReal (by rw [zero_add]; rfl))
  · intro x
    idx_vars x
    rw [emb_cols 0 (by decide)]
    exact (dk_piece H _ (fun _ _ => 0) (fun _ _ => zero3 _) 0 (by decide) _ _ _ _ _).trans (congrArg Real.toEReal (by rw [zero_add]; rfl))

end Cert.Tiles

end
-- ==== Proof.BlockQ.lean ====
/- The queries' gradient that one grid point of the backward kernel stores. -/
module

public import proofs.«01_k».proof.Proof.BlockKV

@[expose] public section

set_option maxRecDepth 16384

noncomputable section

namespace Cert.Tiles

open Idealize.ShloMosaic Idealize.ShloMosaic.TcCoe Cert.KernelIdeal Cert.KernelIdeal.Gen Cert.Attn Cert.RealValues

variable (V : (c : Dev nD) → (b : Ref sig .tc) → Buf (Elt Ideal) ((c : Thread nD τ).loc b))
variable {Q G O : Fin 2 → Fin 256 → Fin 64 → ℝ} {L : Fin 2 → Fin 256 → ℝ} {K W : Fin 4096 → Fin 64 → ℝ}

theorem emb_head0 (inb) (z : Fin 1) (i : Fin 256) (d : Fin 64) :
    (Rect.unit (s := S2x256x64) ![0, 0, 0] ![1, 256, 64] inb).emb (ix3 z i d) = ix3 0 i d :=
  funext fun a => Fin.ext ((Rect.idx_unit_val _ _ inb (ix3 z i d) a).trans (by fin_cases a <;> simp))

theorem emb_head1 (inb) (z : Fin 1) (i : Fin 256) (d : Fin 64) :
    (Rect.unit (s := S2x256x64) ![1, 0, 0] ![1, 256, 64] inb).emb (ix3 z i d) = ix3 1 i d :=
  funext fun a => Fin.ext ((Rect.idx_unit_val _ _ inb (ix3 z i d) a).trans (by fin_cases a <;> simp))

theorem cast_head (x : FVec Ideal S256x64 .f32) (z : Fin 1) (i : Fin 256) (d : Fin 64) : shapeCast S1x256x64 x shapeCasts_S256x64_S1x256x64 (ix3 z i d) = x (ix2 i d) := by
  pointwise []

theorem dq_head0 {x0 : FVec Ideal S2x256x64 .bf16} {x3 : FVec Ideal S256x128 .f32} {x4 : FVec Ideal S2x256x1 .f32} {x5 : FVec Ideal S256x128 .f32}
    {W1 W2 : FVec Ideal S4096x64 .bf16} (H : Group x0 x3 x4 x5 W1 W2 Q G O L K W) (z : Fin 1) (i : Fin 256) (d : Fin 64) :
    shapeCast S1x256x64 (dqHead (q0 x0) (k1_pay8 x5) (l0 x4) (k1_pay11 x5 x3) W1 W2) shapeCasts_S256x64_S1x256x64 (ix3 z i d) = ((∑ s, dsR Q G O L K W 0 i s * K s d : ℝ) : EReal) :=
  (cast_head _ z i d).trans (dqHead_re (q0_re H) (l0_re H) (trunc_re (g0_re H)) (dl0_re H) H.k H.v i d)

theorem dq_head1 {x0 : FVec Ideal S2x256x64 .bf16} {x3 : FVec Ideal S256x128 .f32} {x4 : FVec Ideal S2x256x1 .f32} {x5 : FVec Ideal S256x128 .f32}
    {W1 W2 : FVec Ideal S4096x64 .bf16} (H : Group x0 x3 x4 x5 W1 W2 Q G O L K W) (z : Fin 1) (i : Fin 256) (d : Fin 64) :
    shapeCast S1x256x64 (dqHead (q1 x0) (k1_pay78 (k1_pay76 x5)) (l1 x4) (dl1 x3 x5) W1 W2) shapeCasts_S256x64_S1x256x64 (ix3 z i d) = ((∑ s, dsR Q G O L K W 1 i s * K s d : ℝ) : EReal) :=
  (cast_head _ z i d).trans (dqHead_re (q1_re H) (l1_re H) (trunc_re (g1_re H)) (dl1_re H) H.k H.v i d)

/-- The queries' gradient at a later point of a group. -/
theorem dq_later (c : Dev nD) (t : Fin cfg1.N) (h : ¬ t.val % 16 = 0) (H : At V c t Q G O L K W) (g : Fin 2) (i : Fin 256) (d : Fin 64) :
    (outsAt1 V c t.val t.isLt).1 (ix3 g i d) = ((∑ s, dsR Q G O L K W g i s * K s d : ℝ) : EReal) := by
  rw [outsAt1_B V c t h]
  frame_open
  simp (disch := decide) only [↓ View.readCov_skip, ↓ View.readCov_cons_toLoadRect, ↓ View.readCov_fill]
  frame_out
  refine (View.canon_append_of_piecesOf (Val := Elt Ideal) (e := .f32) (fun y : S2x256x64.Idx => ((∑ s, dsR Q G O L K W (y 0) (y 1) s * K s (y 2) : ℝ) : EReal)) [] [_, _] ⟨?_, ?_, trivial⟩ (ix3 g i d) (View.cover_of_tiledL _ ![1, 256, 64] (by rfl) _))
  · intro x
    idx_vars x
    rw [emb_head1]
    exact dq_head1 H _ _ _
  · intro x
    idx_vars x
    rw [emb_head0]
    exact dq_head0 H _ _ _

/-- The queries' gradient at the first point of a group. -/
theorem dq_first (c : Dev nD) (t : Fin cfg1.N) (h : t.val % 16 = 0) (H : At V c t Q G O L K W) (g : Fin 2) (i : Fin 256) (d : Fin 64) :
    (outsAt1 V c t.val t.isLt).1 (ix3 g i d) = ((∑ s, dsR Q G O L K W g i s * K s d : ℝ) : EReal) := by
  rw [outsAt1_A V c t h]
  frame_open
  simp (disch := decide) only [↓ View.readCov_skip, ↓ View.readCov_cons_toLoadRect, ↓ View.readCov_fill]
  frame_out
  refine (View.canon_append_of_piecesOf (Val := Elt Ideal) (e := .f32) (fun y : S2x256x64.Idx => ((∑ s, dsR Q G O L K W (y 0) (y 1) s * K s (y 2) : ℝ) : EReal)) [] [_, _] ⟨?_, ?_, trivial⟩ (ix3 g i d) (View.cover_of_tiledL _ ![1, 256, 64] (by rfl) _))
  · intro x
    idx_vars x
    rw [emb_head1]
    exact dq_head1 H _ _ _
  · intro x
    idx_vars x
    rw [emb_head0]
    exact dq_head0 H _ _ _

end Cert.Tiles

end
-- ==== Proof.Arrays.lean ====
/- The backward kernel's three results as real numbers, out of what its six arguments hold. -/
module

public import proofs.«01_k».proof.Proof.BlockQ
public import Idealize.ShloMosaic.Lib.Pipeline.ValueKit.Geometry

@[expose] public section

set_option maxRecDepth 16384

noncomputable section

namespace Cert.Tiles

open Idealize.ShloMosaic Idealize.ShloMosaic.TcCoe Cert.KernelIdeal Cert.KernelIdeal.Gen Cert.Attn Cert.RealValues

variable (V : (c : Dev nD) → (b : Ref sig .tc) → Buf (Elt Ideal) ((c : Thread nD τ).loc b))

/-- The head `g` of group `h`. -/
abbrev hq (h g : Fin 2) : Fin 4 := ⟨h.val * 2 + g.val, by omega⟩

/-- The group a grid point works on. -/
abbrev gr (n : ℕ) : Fin 2 := ⟨n / 16 % 2, by omega⟩

/-- The row `i` of the queries that a grid point works on. -/
abbrev row (n : ℕ) (i : Fin 256) : Fin 4096 := ⟨256 * (n % 16) + i.val, by omega⟩

/-- The queries (or gradients, or outputs) that a grid point works on. -/
abbrev tl (Q : Fin 4 → Fin 4096 → Fin 64 → ℝ) (n : ℕ) : Fin 2 → Fin 256 → Fin 64 → ℝ := fun h i d => Q (hq (gr n) h) (row n i) d

/-- The log-sums that a grid point works on. -/
abbrev tls (L : Fin 4 → Fin 4096 → ℝ) (n : ℕ) : Fin 2 → Fin 256 → ℝ := fun h i => L (hq (gr n) h) (row n i)

/-- The backward kernel's arguments, as real numbers. -/
structure Entry (c : Dev nD) (Q G O : Fin 4 → Fin 4096 → Fin 64 → ℝ) (L : Fin 4 → Fin 4096 → ℝ) (K W : Fin 2 → Fin 4096 → Fin 64 → ℝ) : Prop where
  q : ∀ h i d, V c main_arg0 (ix3 h i d) = ((Q h i d : ℝ) : EReal)
  k : ∀ h s d, V c main_arg1 (ix3 h s d) = ((K h s d : ℝ) : EReal)
  v : ∀ h s d, V c main_arg2 (ix3 h s d) = ((W h s d : ℝ) : EReal)
  g : ∀ (h : Fin 4) i (d : Fin 64), V c main_arg3 (ix2 i ⟨256 + (64 * h.val + d.val), by omega⟩) = ((G h i d : ℝ) : EReal)
  o : ∀ (h : Fin 4) i (d : Fin 64), V c main_v1_0 (ix2 i ⟨64 * h.val + d.val, by omega⟩) = ((O h i d : ℝ) : EReal)
  l : ∀ h i, V c main_v1_1 (ix3 h i 0) = ((L h i : ℝ) : EReal)

theorem e1_0 : ∀ t : Fin cfg1.N, win1_0.index t = ![t.val / 16, t.val % 16, 0] := by decide +kernel
theorem e1_1 : ∀ t : Fin cfg1.N, win1_1.index t = ![t.val / 16, 0, 0] := by decide +kernel
theorem e1_2 : ∀ t : Fin cfg1.N, win1_2.index t = ![t.val / 16, 0, 0] := by decide +kernel
theorem e1_3 : ∀ t : Fin cfg1.N, win1_3.index t = ![t.val % 16, t.val / 16] := by decide +kernel
theorem e1_4 : ∀ t : Fin cfg1.N, win1_4.index t = ![t.val / 16, t.val % 16, 0] := by decide +kernel
theorem e1_5 : ∀ t : Fin cfg1.N, win1_5.index t = ![t.val % 16, 2 + t.val / 16] := by decide +kernel
theorem e1_6 : ∀ t : Fin cfg1.N, win1_6.index t = ![t.val / 16, t.val % 16, 0] := by decide +kernel
theorem e1_7 : ∀ t : Fin cfg1.N, win1_7.index t = ![t.val / 16, 0, 0] := by decide +kernel
theorem e1_8 : ∀ t : Fin cfg1.N, win1_8.index t = ![t.val / 16, 0, 0] := by decide +kernel
theorem lt32 (t : Fin cfg1.N) : t.val < 32 := t.isLt

variable {Q G O : Fin 4 → Fin 4096 → Fin 64 → ℝ} {L : Fin 4 → Fin 4096 → ℝ} {K W : Fin 2 → Fin 4096 → Fin 64 → ℝ} {V}

/-- What the blocks hold at a point. -/
theorem Entry.at {c : Dev nD} (E : Entry V c Q G O L K W) (t : Fin cfg1.N) :
    At V c t (tl Q t.val) (tl G t.val) (tl O t.val) (tls L t.val) (K (gr t.val)) (W (gr t.val)) where
  q h i d := by
    have ht := lt32 t
    rw [← E.q]
    blk_simp [iblk1]
    refine congrArg (V c main_arg0) ?_
    blk_ext [e1_0 t]
  g h i d := by
    have ht := lt32 t
    rw [← E.g]
    blk_simp [iblk1]
    refine congrArg (V c main_arg3) ?_
    blk_ext [e1_5 t]
  o h i d := by
    have ht := lt32 t
    rw [← E.o]
    blk_simp [iblk1]
    refine congrArg (V c main_v1_0) ?_
    blk_ext [e1_3 t]
  l h i := by
    have ht := lt32 t
    rw [← E.l]
    blk_simp [iblk1]
    refine congrArg (V c main_v1_1) ?_
    blk_ext [e1_4 t]
  k s d := by
    have ht := lt32 t
    rw [rowsK_at, ← E.k]
    blk_simp [iblk1]
    refine congrArg (V c main_arg1) ?_
    blk_ext [e1_1 t]
  v s d := by
    have ht := lt32 t
    rw [rowsV_at, ← E.v]
    blk_simp [iblk1]
    refine congrArg (V c main_arg2) ?_
    blk_ext [e1_2 t]

/-! ## The queries' gradient -/

/-- The softmax, out of the saved log-sum. -/
def pG (Q : Fin 4 → Fin 4096 → Fin 64 → ℝ) (L : Fin 4 → Fin 4096 → ℝ) (K : Fin 2 → Fin 4096 → Fin 64 → ℝ) (h g : Fin 2) (i s : Fin 4096) : ℝ :=
  Real.rpow 2 ((∑ d, Q (hq h g) i d * K h s d) * cLog - L (hq h g) i * (Real.log 2)⁻¹)

/-- The gradient of the scores. -/
def dsG (Q G O : Fin 4 → Fin 4096 → Fin 64 → ℝ) (L : Fin 4 → Fin 4096 → ℝ) (K W : Fin 2 → Fin 4096 → Fin 64 → ℝ) (h g : Fin 2) (i s : Fin 4096) : ℝ :=
  pG Q L K h g i s * ((∑ d, G (hq h g) i d * W h s d - ∑ d, G (hq h g) i d * O (hq h g) i d) * (1 / 8))

/-- The queries' gradient at a head, a row and a column. -/
def dqG (Q G O : Fin 4 → Fin 4096 → Fin 64 → ℝ) (L : Fin 4 → Fin 4096 → ℝ) (K W : Fin 2 → Fin 4096 → Fin 64 → ℝ) (p : Fin 4) (i : Fin 4096) (d : Fin 64) : ℝ :=
  ∑ s, dsG Q G O L K W ⟨p.val / 2, by omega⟩ ⟨p.val % 2, by omega⟩ i s * K ⟨p.val / 2, by omega⟩ s d

theorem dq_point {c : Dev nD} (E : Entry V c Q G O L K W) (t : Fin cfg1.N) (g : Fin 2) (i : Fin 256) (d : Fin 64) :
    (outsAt1 V c t.val t.isLt).1 (ix3 g i d) = ((∑ s, dsG Q G O L K W (gr t.val) g (row t.val i) s * K (gr t.val) s d : ℝ) : EReal) := by
  by_cases h : t.val % 16 = 0
  · exact dq_first V c t h (E.at t) g i d
  · exact dq_later V c t h (E.at t) g i d

theorem dq_array {c : Dev nD} (E : Entry V c Q G O L K W) :
    (dat1 V c).arrAt 6 cfg1.N = fun y : S4x4096x64.Idx => ((dqG Q G O L K W (y 0) (y 1) (y 2) : ℝ) : EReal) := by
  refine (dat1 V c).arrAt_eq_of_covers 6 _ (by decide +kernel) fun t hf y => ?_
  blk_simp
  rw [after1_6]
  idx_vars y
  have ht := lt32 t
  refine (dq_point E t _ _ _).trans ?_
  have e : (win1_6.blk t).view.emb (ix3 y0 y1 y2) = ix3 (hq (gr t.val) y0) (row t.val y1) y2 := by
    blk_ext [e1_6 t]
  rw [e]
  have e1 : ∀ p, (⟨(hq (gr t.val) y0).val / 2, p⟩ : Fin 2) = gr t.val := fun p => Fin.ext (by simp only [hq]; omega)
  have e2 : ∀ p, (⟨(hq (gr t.val) y0).val % 2, p⟩ : Fin 2) = y0 := fun p => Fin.ext (by simp only [hq]; omega)
  show _ = ((dqG Q G O L K W (hq (gr t.val) y0) (row t.val y1) y2 : ℝ) : EReal)
  rw [dqG, e1, e2]

/-! ## The keys' and the values' gradients -/

/-- A sum over all rows, block by block. -/
theorem sum_rows (f : Fin 4096 → ℝ) : ∑ s, f s = ∑ c : Fin 16, ∑ i : Fin 256, f ⟨256 * c.val + i.val, by omega⟩ := by
  rw [← Fintype.sum_prod_type']
  exact (Fintype.sum_equiv (finProdFinEquiv : Fin 16 × Fin 256 ≃ Fin (16 * 256)) _ (fun s : Fin 4096 => f s)
    fun x => congrArg f (Fin.ext (Nat.add_comm _ _))).symm

/-- The values' gradient at a group, a column and a key. -/
def dvG (Q G : Fin 4 → Fin 4096 → Fin 64 → ℝ) (L : Fin 4 → Fin 4096 → ℝ) (K : Fin 2 → Fin 4096 → Fin 64 → ℝ) (h : Fin 2) (d : Fin 64) (s : Fin 4096) : ℝ :=
  ∑ g : Fin 2, ∑ i, G (hq h g) i d * pG Q L K h g i s

/-- The keys' gradient at a group, a column and a key. -/
def dkG (Q G O : Fin 4 → Fin 4096 → Fin 64 → ℝ) (L : Fin 4 → Fin 4096 → ℝ) (K W : Fin 2 → Fin 4096 → Fin 64 → ℝ) (h : Fin 2) (d : Fin 64) (s : Fin 4096) : ℝ :=
  ∑ g : Fin 2, ∑ i, Q (hq h g) i d * dsG Q G O L K W h g i s

/-- A sum over the sixteen points of a group, of what both heads add there, is a sum over all rows. -/
theorem sum_points (j : ℕ) (hj : j < 2) (f : Fin 2 → Fin 2 → Fin 4096 → ℝ) :
    ∑ a ∈ Finset.range 16, (∑ i, f (gr (j * 16 + a)) 0 (row (j * 16 + a) i) + ∑ i, f (gr (j * 16 + a)) 1 (row (j * 16 + a) i))
      = ∑ g : Fin 2, ∑ i, f ⟨j, hj⟩ g i := by
  rw [Fin.sum_univ_two, sum_rows, sum_rows, ← Finset.sum_add_distrib, ← Fin.sum_univ_eq_sum_range
    (fun a => ∑ i, f (gr (j * 16 + a)) 0 (row (j * 16 + a) i) + ∑ i, f (gr (j * 16 + a)) 1 (row (j * 16 + a) i)) 16]
  refine Finset.sum_congr rfl fun a _ => ?_
  have e1 : gr (j * 16 + a.val) = ⟨j, hj⟩ := Fin.ext (by simp only [gr]; omega)
  have e2 : ∀ i, row (j * 16 + a.val) i = ⟨256 * a.val + i.val, by omega⟩ := fun i => Fin.ext (by simp only [row]; omega)
  simp only [e1, e2]

theorem dv_point {c : Dev nD} (E : Entry V c Q G O L K W) (t : Fin cfg1.N) (d : Fin 64) (s : Fin 4096) :
    (outsAt1 V c t.val t.isLt).2.2 (ix3 0 d s) = ((∑ a ∈ Finset.range (t.val % 16 + 1), dvAdd (tl Q (t.val / 16 * 16 + a)) (tl G (t.val / 16 * 16 + a)) (tls L (t.val / 16 * 16 + a)) (K (gr (t.val / 16 * 16 + a))) d s : ℝ) : EReal) := by
  suffices h : ∀ n (hn : n < cfg1.N), ∀ d s, (outsAt1 V c n hn).2.2 (ix3 0 d s) = ((∑ a ∈ Finset.range (n % 16 + 1), dvAdd (tl Q (n / 16 * 16 + a)) (tl G (n / 16 * 16 + a)) (tls L (n / 16 * 16 + a)) (K (gr (n / 16 * 16 + a))) d s : ℝ) : EReal) from h _ t.isLt d s
  intro n
  induction n with
  | zero =>
    intro hn d s
    refine (dv_first V c ⟨0, hn⟩ rfl (E.at ⟨0, hn⟩) d s).trans ?_
    simp
  | succ n ih =>
    intro hn d s
    by_cases h : (n + 1) % 16 = 0
    · refine (dv_first V c ⟨n + 1, hn⟩ h (E.at ⟨n + 1, hn⟩) d s).trans ?_
      rw [h, Finset.sum_range_one, show (n + 1) / 16 * 16 + 0 = n + 1 by omega]
    · refine (dv_later V c ⟨n + 1, hn⟩ h (E.at ⟨n + 1, hn⟩) _ (ih (by omega)) d s).trans ?_
      rw [show (n + 1) % 16 = n % 16 + 1 by omega, show (n + 1) / 16 = n / 16 by omega, Finset.sum_range_succ _ (n % 16 + 1),
        show n / 16 * 16 + (n % 16 + 1) = n + 1 by omega]

theorem dv_array {c : Dev nD} (E : Entry V c Q G O L K W) :
    (dat1 V c).arrAt 8 cfg1.N = fun y : S2x64x4096.Idx => ((dvG Q G L K (y 0) (y 1) (y 2) : ℝ) : EReal) := by
  refine (dat1 V c).arrAt_eq_of_covers 8 _ (by decide +kernel) fun t hf y => ?_
  blk_simp
  rw [after1_8]
  idx_vars y
  have ht := lt32 t
  have hl : t.val % 16 = 15 := (by decide +kernel : ∀ t : Fin cfg1.N, (cfg1.win 8).flush t = true → t.val % 16 = 15) t hf
  have e0 : y0 = 0 := Subsingleton.elim _ _
  subst e0
  refine (dv_point E t _ _).trans ?_
  have e : (win1_8.blk t).view.emb (ix3 0 y1 y2) = ix3 (⟨t.val / 16, by omega⟩ : Fin 2) y1 y2 := by
    blk_ext [e1_8 t]
  rw [e, hl]
  exact congrArg Real.toEReal (sum_points (t.val / 16) (by omega) fun h g i => G (hq h g) i y1 * pG Q L K h g i y2)

theorem dk_point {c : Dev nD} (E : Entry V c Q G O L K W) (t : Fin cfg1.N) (d : Fin 64) (s : Fin 4096) :
    (outsAt1 V c t.val t.isLt).2.1 (ix3 0 d s) = ((∑ a ∈ Finset.range (t.val % 16 + 1), dkAdd (tl Q (t.val / 16 * 16 + a)) (tl G (t.val / 16 * 16 + a)) (tl O (t.val / 16 * 16 + a)) (tls L (t.val / 16 * 16 + a)) (K (gr (t.val / 16 * 16 + a))) (W (gr (t.val / 16 * 16 + a))) d s : ℝ) : EReal) := by
  suffices h : ∀ n (hn : n < cfg1.N), ∀ d s, (outsAt1 V c n hn).2.1 (ix3 0 d s) = ((∑ a ∈ Finset.range (n % 16 + 1), dkAdd (tl Q (n / 16 * 16 + a)) (tl G (n / 16 * 16 + a)) (tl O (n / 16 * 16 + a)) (tls L (n / 16 * 16 + a)) (K (gr (n / 16 * 16 + a))) (W (gr (n / 16 * 16 + a))) d s : ℝ) : EReal) from h _ t.isLt d s
  intro n
  induction n with
  | zero =>
    intro hn d s
    refine (dk_first V c ⟨0, hn⟩ rfl (E.at ⟨0, hn⟩) d s).trans ?_
    simp
  | succ n ih =>
    intro hn d s
    by_cases h : (n + 1) % 16 = 0
    · refine (dk_first V c ⟨n + 1, hn⟩ h (E.at ⟨n + 1, hn⟩) d s).trans ?_
      rw [h, Finset.sum_range_one, show (n + 1) / 16 * 16 + 0 = n + 1 by omega]
    · refine (dk_later V c ⟨n + 1, hn⟩ h (E.at ⟨n + 1, hn⟩) _ (ih (by omega)) d s).trans ?_
      rw [show (n + 1) % 16 = n % 16 + 1 by omega, show (n + 1) / 16 = n / 16 by omega, Finset.sum_range_succ _ (n % 16 + 1),
        show n / 16 * 16 + (n % 16 + 1) = n + 1 by omega]

theorem dk_array {c : Dev nD} (E : Entry V c Q G O L K W) :
    (dat1 V c).arrAt 7 cfg1.N = fun y : S2x64x4096.Idx => ((dkG Q G O L K W (y 0) (y 1) (y 2) : ℝ) : EReal) := by
  refine (dat1 V c).arrAt_eq_of_covers 7 _ (by decide +kernel) fun t hf y => ?_
  blk_simp
  rw [after1_7]
  idx_vars y
  have ht := lt32 t
  have hl : t.val % 16 = 15 := (by decide +kernel : ∀ t : Fin cfg1.N, (cfg1.win 7).flush t = true → t.val % 16 = 15) t hf
  have e0 : y0 = 0 := Subsingleton.elim _ _
  subst e0
  refine (dk_point E t _ _).trans ?_
  have e : (win1_7.blk t).view.emb (ix3 0 y1 y2) = ix3 (⟨t.val / 16, by omega⟩ : Fin 2) y1 y2 := by
    blk_ext [e1_7 t]
  rw [e, hl]
  exact congrArg Real.toEReal (sum_points (t.val / 16) (by omega) fun h g i => Q (hq h g) i y1 * dsG Q G O L K W h g i y2)

end Cert.Tiles

end
-- ==== Proof.FwdArrays.lean ====
/- The forward kernel's two results as real numbers, out of what its three arguments hold: each head's output and the logarithm of each row's sum of
   exponentials. -/
module

public import proofs.«01_k».proof.Proof.FwdHeads
public import proofs.«01_k».proof.Proof.Arrays

@[expose] public section

set_option maxRecDepth 16384

noncomputable section

namespace Cert.Tiles

open Idealize.ShloMosaic Idealize.ShloMosaic.TcCoe Cert.KernelIdeal Cert.KernelIdeal.Gen Cert.Attn Cert.RealValues

/-- What a grid point's blocks hold: two heads' queries, their keys, and their values transposed. -/
structure Fwd (x0 : Vec Ideal S2x512x64 .bf16) (x1 : Vec Ideal S1x4096x64 .bf16) (x2 : Vec Ideal S1x64x4096 .bf16)
    (Q : Fin 2 → Fin 512 → Fin 64 → ℝ) (K W : Fin 4096 → Fin 64 → ℝ) : Prop where
  q : ∀ h i d, x0 (ix3 h i d) = ((Q h i d : ℝ) : EReal)
  k : ∀ s d, x1 (ix3 0 s d) = ((K s d : ℝ) : EReal)
  v : ∀ d s, x2 (ix3 0 d s) = ((W s d : ℝ) : EReal)

variable {x0 : Vec Ideal S2x512x64 .bf16} {x1 : Vec Ideal S1x4096x64 .bf16} {x2 : Vec Ideal S1x64x4096 .bf16}
  {Q : Fin 2 → Fin 512 → Fin 64 → ℝ} {K W : Fin 4096 → Fin 64 → ℝ}

theorem Fwd.q0 (H : Fwd x0 x1 x2 Q K W) : Re2 (k0_pay109 x0 x1 x2) (Q 0) := by
  intro i d
  rw [← H.q]
  pointwise [k0_pay109, k0_pay3]

theorem Fwd.q1 (H : Fwd x0 x1 x2 Q K W) : Re2 (k0_pay123 x0 x1 x2) (Q 1) := by
  intro i d
  rw [← H.q]
  pointwise [k0_pay123, k0_pay57]

theorem Fwd.fK (H : Fwd x0 x1 x2 Q K W) : Re2 (fK x1) K := by
  intro i d
  rw [← H.k]
  pointwise [Tiles.fK]

theorem Fwd.fV (H : Fwd x0 x1 x2 Q K W) : Re2 (fV x2) fun d s => W s d := by
  intro i d
  rw [← H.v]
  pointwise [Tiles.fV]

theorem emb_whole (inb) (i : Fin 512) (e : Fin 128) : (Rect.unit (s := S512x128) ![0, 0] S512x128.size inb).emb (ix2 i e) = ix2 i e :=
  funext fun a => Fin.ext ((Rect.idx_unit_val _ _ inb (ix2 i e) a).trans (by fin_cases a <;> simp))

/-- Two heads' outputs side by side. -/
theorem o_join {oA : FVec Ideal S512x64 .f32} {oB : FVec Ideal S64x512 .f32} (f : Fin 2 → Fin 512 → Fin 64 → ℝ) (hA : ∀ i d, oA (ix2 i d) = ((f 0 i d : ℝ) : EReal))
    (hB : ∀ i d, oB (ix2 d i) = ((f 1 i d : ℝ) : EReal)) (i : Fin 512) (e : Fin 128) :
    k0_pay2 oA oB (ix2 i e) = ((f ⟨e.val / 64, by omega⟩ i ⟨e.val % 64, by omega⟩ : ℝ) : EReal) := by
  pointwise [k0_pay2]
  split
  · rename_i h
    rw [hA]
    have e1 : (⟨e.val / 64, by omega⟩ : Fin 2) = 0 := Fin.ext (by simp; omega)
    have e2 : (⟨e.val % 64, by omega⟩ : Fin 64) = ⟨e.val, h⟩ := Fin.ext (by simp; omega)
    rw [e1, e2]
  · rename_i h
    rw [hB]
    have e1 : (⟨e.val / 64, by omega⟩ : Fin 2) = 1 := Fin.ext (by simp; omega)
    have e2 : (⟨e.val % 64, by omega⟩ : Fin 64) = ⟨e.val - 64, by omega⟩ := Fin.ext (by simp; omega)
    rw [e1, e2]

/-- The output's block. -/
theorem o_block (H : Fwd x0 x1 x2 Q K W) (i : Fin 512) (e : Fin 128) :
    out0_3 x0 x1 x2 (ix2 i e) = ((outp (score (1 / 8) (Q ⟨e.val / 64, by omega⟩) K) W i ⟨e.val % 64, by omega⟩ : ℝ) : EReal) := by
  unfold out0_3
  rw [o_head0, o_head1]
  have hA := otF_at (run_head0 x0 x1 x2 H.q0 H.fK H.fV)
  have hB := otF_at (run_head1 x0 x1 x2 H.q1 H.fK H.fV)
  generalize otF (lH0 x0 x1 x2) (aH0 x0 x1 x2) = oA at hA ⊢
  generalize otF (lH1 x0 x1 x2) (aH1 x0 x1 x2) = oB at hB ⊢
  refine (View.canon_append_of_piecesOf (Val := Elt Ideal) (e := .f32) (k0_pay2 (transpose S512x64 [1, 0] oA transposes_S64x512_p1_0_S512x64) oB) [] [_] ⟨?_, trivial⟩ (ix2 i e) (View.cover_of_tiledL _ ![512, 128] (by rfl) _)).trans ?_
  · intro x
    idx_vars x
    rw [emb_whole]
  · refine o_join (fun h => outp (score (1 / 8) (Q h) K) W) (fun i d => ?_) (fun i d => hB d i) i e
    pointwise []
    exact hA d i

/-! ## The log-sum's block -/

theorem emb_lse0 (inb) (z : Fin 1) (i : Fin 512) (u : Fin 1) : (Rect.unit (s := S2x512x1) ![0, 0, 0] S1x512x1.size inb).emb (ix3 z i u) = ix3 0 i u :=
  funext fun a => Fin.ext ((Rect.idx_unit_val _ _ inb (ix3 z i u) a).trans (by fin_cases a <;> simp))

theorem emb_lse1 (inb) (z : Fin 1) (i : Fin 512) (u : Fin 1) : (Rect.unit (s := S2x512x1) ![1, 0, 0] S1x512x1.size inb).emb (ix3 z i u) = ix3 1 i u :=
  funext fun a => Fin.ext ((Rect.idx_unit_val _ _ inb (ix3 z i u) a).trans (by fin_cases a <;> simp))

theorem l_join {m l : FVec Ideal S1x512 .f32} {f : Fin 512 → ℝ} (h : ∀ i, lgF m l (ix2 0 i) = ((f i : ℝ) : EReal)) (z : Fin 1) (i : Fin 512) (u : Fin 1) :
    k0_pay56 (lgF m l) (ix3 z i u) = ((f i : ℝ) : EReal) := by
  generalize lgF m l = x at h ⊢
  have e : k0_pay56 x (ix3 z i u) = x (ix2 0 i) := by
    pointwise [k0_pay56]
  rw [e, h]

theorem l_block (H : Fwd x0 x1 x2 Q K W) (h : Fin 2) (i : Fin 512) (u : Fin 1) :
    out0_4 x0 x1 x2 (ix3 h i u) = ((Real.log (mass (score (1 / 8) (Q h) K) i) : ℝ) : EReal) := by
  unfold out0_4
  rw [l_head0, l_head1]
  have hA := lgF_at (run_head0 x0 x1 x2 H.q0 H.fK H.fV)
  have hB := lgF_at (run_head1 x0 x1 x2 H.q1 H.fK H.fV)
  refine (View.canon_append_of_piecesOf (Val := Elt Ideal) (e := .f32) (fun y : S2x512x1.Idx => ((Real.log (mass (score (1 / 8) (Q (y 0)) K) (y 1)) : ℝ) : EReal)) [] [_, _] ⟨?_, ?_, trivial⟩ (ix3 h i u) (View.cover_of_tiledL _ ![1, 512, 1] (by rfl) _))
  · intro x
    idx_vars x
    rw [emb_lse1]
    exact l_join hB _ _ _
  · intro x
    idx_vars x
    rw [emb_lse0]
    exact l_join hA _ _ _

/-! ## The arrays -/

variable (V : (c : Dev nD) → (b : Ref sig .tc) → Buf (Elt Ideal) ((c : Thread nD τ).loc b))

/-- The forward kernel's arguments, as real numbers. -/
structure Entry0 (c : Dev nD) (Q : Fin 4 → Fin 4096 → Fin 64 → ℝ) (K W : Fin 2 → Fin 4096 → Fin 64 → ℝ) : Prop where
  q : ∀ h i d, V c main_arg0 (ix3 h i d) = ((Q h i d : ℝ) : EReal)
  k : ∀ h s d, V c main_arg1 (ix3 h s d) = ((K h s d : ℝ) : EReal)
  v : ∀ h d s, V c main_v0 (ix3 h d s) = ((W h s d : ℝ) : EReal)

theorem e0_0 : ∀ t : Fin cfg0.N, win0_0.index t = ![t.val / 8, t.val % 8, 0] := by decide +kernel
theorem e0_1 : ∀ t : Fin cfg0.N, win0_1.index t = ![t.val / 8, 0, 0] := by decide +kernel
theorem e0_2 : ∀ t : Fin cfg0.N, win0_2.index t = ![t.val / 8, 0, 0] := by decide +kernel
theorem e0_3 : ∀ t : Fin cfg0.N, win0_3.index t = ![t.val % 8, t.val / 8] := by decide +kernel
theorem e0_4 : ∀ t : Fin cfg0.N, win0_4.index t = ![t.val / 8, t.val % 8, 0] := by decide +kernel
theorem lt16 (t : Fin cfg0.N) : t.val < 16 := t.isLt

/-- The group a grid point works on. -/
abbrev gr0 (n : ℕ) : Fin 2 := ⟨n / 8 % 2, by omega⟩

/-- The row `i` of the queries that a grid point works on. -/
abbrev row0 (n : ℕ) (i : Fin 512) : Fin 4096 := ⟨512 * (n % 8) + i.val, by omega⟩

variable {Q : Fin 4 → Fin 4096 → Fin 64 → ℝ} {K W : Fin 2 → Fin 4096 → Fin 64 → ℝ} {V}

theorem Entry0.at {c : Dev nD} (E : Entry0 V c Q K W) (t : Fin cfg0.N) :
    Fwd (iblk0 V c 0 t) (iblk0 V c 1 t) (iblk0 V c 2 t) (fun h i d => Q (hq (gr0 t.val) h) (row0 t.val i) d) (K (gr0 t.val)) (W (gr0 t.val)) where
  q h i d := by
    have ht := lt16 t
    rw [← E.q]
    blk_simp [iblk0]
    refine congrArg (V c main_arg0) ?_
    blk_ext [e0_0 t]
  k s d := by
    have ht := lt16 t
    rw [← E.k]
    blk_simp [iblk0]
    refine congrArg (V c main_arg1) ?_
    blk_ext [e0_1 t]
  v d s := by
    have ht := lt16 t
    rw [← E.v]
    blk_simp [iblk0]
    refine congrArg (V c main_v0) ?_
    blk_ext [e0_2 t]

/-- The log-sum of a head's row. -/
def lG (Q : Fin 4 → Fin 4096 → Fin 64 → ℝ) (K : Fin 2 → Fin 4096 → Fin 64 → ℝ) (p : Fin 4) (i : Fin 4096) : ℝ :=
  Real.log (mass (score (1 / 8) (Q p) (K ⟨p.val / 2, by omega⟩)) i)

/-- The output at a row and a column: the heads stand side by side. -/
def oG (Q : Fin 4 → Fin 4096 → Fin 64 → ℝ) (K W : Fin 2 → Fin 4096 → Fin 64 → ℝ) (i : Fin 4096) (e : Fin 256) : ℝ :=
  outp (score (1 / 8) (Q ⟨e.val / 64, by omega⟩) (K ⟨e.val / 128, by omega⟩)) (W ⟨e.val / 128, by omega⟩) i ⟨e.val % 64, by omega⟩

/-- The log-sums. -/
theorem l_array {c : Dev nD} (E : Entry0 V c Q K W) :
    (dat0 V c).arrAt 4 cfg0.N = fun y : S4x4096x1.Idx => ((lG Q K (y 0) (y 1) : ℝ) : EReal) := by
  refine (dat0 V c).arrAt_eq_of_covers 4 _ (by decide +kernel) fun t hf y => ?_
  blk_simp
  rw [after0_4]
  idx_vars y
  have ht := lt16 t
  refine (l_block (E.at t) _ _ _).trans ?_
  have e : (win0_4.blk t).view.emb (ix3 y0 y1 y2) = ix3 (hq (gr0 t.val) y0) (row0 t.val y1) y2 := by
    blk_ext [e0_4 t]
  rw [e]
  have e1 : ∀ p, (⟨(hq (gr0 t.val) y0).val / 2, p⟩ : Fin 2) = gr0 t.val := fun p => Fin.ext (by simp only [hq]; omega)
  show _ = ((lG Q K (hq (gr0 t.val) y0) (row0 t.val y1) : ℝ) : EReal)
  rw [lG, e1]
  rfl

/-- The outputs. -/
theorem o_array {c : Dev nD} (E : Entry0 V c Q K W) :
    (dat0 V c).arrAt 3 cfg0.N = fun y : S4096x256.Idx => ((oG Q K W (y 0) (y 1) : ℝ) : EReal) := by
  refine (dat0 V c).arrAt_eq_of_covers 3 _ (by decide +kernel) fun t hf y => ?_
  blk_simp
  rw [after0_3]
  idx_vars y
  have ht := lt16 t
  refine (o_block (E.at t) _ _).trans ?_
  have e : (win0_3.blk t).view.emb (ix2 y0 y1) = ix2 (row0 t.val y0) (⟨128 * (gr0 t.val).val + y1.val, by omega⟩ : Fin 256) := by
    blk_ext [e0_3 t]
  rw [e]
  show _ = ((oG Q K W (row0 t.val y0) ⟨128 * (gr0 t.val).val + y1.val, by omega⟩ : ℝ) : EReal)
  have e1 : ∀ p, (⟨(128 * (gr0 t.val).val + y1.val) / 128, p⟩ : Fin 2) = gr0 t.val := fun p => Fin.ext (by simp only; omega)
  have e2 : ∀ p, (⟨(128 * (gr0 t.val).val + y1.val) / 64, p⟩ : Fin 4) = hq (gr0 t.val) ⟨y1.val / 64, by omega⟩ := fun p => Fin.ext (by simp only [hq]; omega)
  have e3 : ∀ p, (⟨(128 * (gr0 t.val).val + y1.val) % 64, p⟩ : Fin 64) = ⟨y1.val % 64, by omega⟩ := fun p => Fin.ext (by simp only; omega)
  simp only [oG, e1, e2, e3]
  rfl

end Cert.Tiles

end
-- ==== Proof.RefValue.lean ====
/- What the reference computes, as real numbers: its output and its three gradients at an index, from arguments whose elements are real. -/
module

public import proofs.«01_k».proof.Proof.Gen.ReferenceIdeal.Read
public import proofs.«01_k».proof.Proof.AttnMath
public import proofs.«01_k».proof.Proof.RealValues

@[expose] public section

set_option maxRecDepth 16384

noncomputable section

namespace Cert.RefValue

open Idealize.ShloMosaic Cert.ReferenceIdeal Cert.ReferenceIdeal.Gen Cert.ReferenceIdeal.Read Cert.Attn Cert.RealValues

/-- Query head `g` of the group `h` among all the heads. -/
def hd (h g : Fin 2) : Fin 4 := ⟨h.val * 2 + g.val, by omega⟩

variable (x0 : (⟨S4x4096x64, .bf16⟩ : BufTy).Contents (Elt Ideal)) (x1 x2 : (⟨S2x4096x64, .bf16⟩ : BufTy).Contents (Elt Ideal))
  (x3 : (⟨S4096x1024, .f32⟩ : BufTy).Contents (Elt Ideal))
  (Q : Fin 4 → Fin 4096 → Fin 64 → ℝ) (K V : Fin 2 → Fin 4096 → Fin 64 → ℝ) (G : Fin 4 → Fin 4096 → Fin 64 → ℝ)

/-- The scores of one head. -/
def sc (Q : Fin 4 → Fin 4096 → Fin 64 → ℝ) (K : Fin 2 → Fin 4096 → Fin 64 → ℝ) (h g : Fin 2) : Fin 4096 → Fin 4096 → ℝ :=
  score (1 / 8) (Q (hd h g)) (K h)

/-- The gradient of one head's softmax. -/
def dp (V : Fin 2 → Fin 4096 → Fin 64 → ℝ) (G : Fin 4 → Fin 4096 → Fin 64 → ℝ) (h g : Fin 2) : Fin 4096 → Fin 4096 → ℝ :=
  dprob (G (hd h g)) (V h)

/-- The arguments' elements are these real numbers. -/
structure Args : Prop where
  q : ∀ h i d, x0 (ix3 h i d) = ((Q h i d : ℝ) : EReal)
  k : ∀ h i d, x1 (ix3 h i d) = ((K h i d : ℝ) : EReal)
  v : ∀ h i d, x2 (ix3 h i d) = ((V h i d : ℝ) : EReal)
  g : ∀ (h : Fin 4) (i : Fin 4096) (d : Fin 64), x3 (ix2 i ⟨256 + (64 * h.val + d.val), by omega⟩) = ((G h i d : ℝ) : EReal)

variable {x0 x1 x2 x3 Q K V G}

theorem v2_at (A : Args x0 x1 x2 x3 Q K V G) (i : Fin 4096) (h g : Fin 2) (d : Fin 64) :
    val_main_v2 (F := Ideal) x0 (ix4 i h g d) = ((Q (hd h g) i d : ℝ) : EReal) := by
  rw [← A.q]
  pointwise [val_main_v2, val_main_v1, val_main_v0]
  rfl

theorem v4_at (A : Args x0 x1 x2 x3 Q K V G) (s : Fin 4096) (h : Fin 2) (d : Fin 64) :
    val_main_v4 (F := Ideal) x1 (ix3 s h d) = ((K h s d : ℝ) : EReal) := by
  rw [← A.k]
  pointwise [val_main_v4, val_main_v3]

theorem v6_at (A : Args x0 x1 x2 x3 Q K V G) (s : Fin 4096) (h : Fin 2) (d : Fin 64) :
    val_main_v6 (F := Ideal) x2 (ix3 s h d) = ((V h s d : ℝ) : EReal) := by
  rw [← A.v]
  pointwise [val_main_v6, val_main_v5]

theorem v8_at (A : Args x0 x1 x2 x3 Q K V G) (i : Fin 4096) (h g : Fin 2) (d : Fin 64) :
    val_main_v8 (F := Ideal) x3 (ix4 i h g d) = ((G (hd h g) i d : ℝ) : EReal) := by
  rw [← A.g]
  pointwise [val_main_v8, val_main_v7]
  exact congrArg x3 (congrArg (ix2 i) (Fin.ext (by simp only [hd]; omega)))

theorem v12_at (A : Args x0 x1 x2 x3 Q K V G) (h g : Fin 2) (i s : Fin 4096) :
    val_main_v12 (F := Ideal) x0 x1 (ix4 h g i s) = ((sc Q K h g i s : ℝ) : EReal) := by
  pointwise [val_main_v12, val_main_v11, val_main_cst, val_main_v10, val_main_v9]
  simp only [v2_at A, v4_at A, ofBits_eighth, ← EReal.coe_mul, ← coe_sum]
  rw [sc, score]
  simp only [mul_comm]

/-- The row's maximum is a real number. -/
theorem v20_at (A : Args x0 x1 x2 x3 Q K V G) :
    ∃ M : Fin 2 → Fin 2 → Fin 4096 → ℝ, ∀ h g i, val_main_v20 (F := Ideal) x0 x1 (ix3 h g i) = ((M h g i : ℝ) : EReal) := by
  have key : ∀ h g i, ∃ r : ℝ, val_main_v20 (F := Ideal) x0 x1 (ix3 h g i) = (r : EReal) := by
    intro h g i
    obtain ⟨r, hr⟩ := reduce_max_real (val_main_v12 (F := Ideal) x0 x1) (val_main_cst_0 (F := Ideal)) reducesTo_S2x2x4096x4096_S2x2x4096_d3 h_S_ (ix3 h g i)
      (fun j => sc Q K (j 0) (j 1) (j 2) (j 3)) (fun j => by idx_vars j; exact v12_at A _ _ _ _) ofBits_bot (ix4 h g i 0)
      (by
        funext b
        match b with
        | ⟨0, _⟩ => exact Fin.ext (Shape.ReducesTo.drop_apply_val_of_eq reducesTo_S2x2x4096x4096_S2x2x4096_d3 (ix4 h g i 0) 0 0)
        | ⟨1, _⟩ => exact Fin.ext (Shape.ReducesTo.drop_apply_val_of_eq reducesTo_S2x2x4096x4096_S2x2x4096_d3 (ix4 h g i 0) 1 1)
        | ⟨2, _⟩ => exact Fin.ext (Shape.ReducesTo.drop_apply_val_of_eq reducesTo_S2x2x4096x4096_S2x2x4096_d3 (ix4 h g i 0) 2 2))
    refine ⟨r, ?_⟩
    rw [val_main_v20_apply, val_main_v13, hr]
    pointwise [val_main_v19, val_main_cst_2]
    rw [ofBits_bot]; exact max_eq_right bot_le
  exact ⟨fun h g i => (key h g i).choose, fun h g i => (key h g i).choose_spec⟩

section
variable {M : Fin 2 → Fin 2 → Fin 4096 → ℝ} (A : Args x0 x1 x2 x3 Q K V G)
  (hM : ∀ h g i, val_main_v20 (F := Ideal) x0 x1 (ix3 h g i) = ((M h g i : ℝ) : EReal))
include A hM

theorem v33_at (h g : Fin 2) (i s : Fin 4096) :
    val_main_v33 (F := Ideal) x0 x1 (ix4 h g i s) = ((Real.exp (sc Q K h g i s - M h g i) : ℝ) : EReal) := by
  pointwise [val_main_v33, val_main_v32, val_main_v31, val_main_v30]
  rw [v12_at A, hM, ← EReal.coe_sub, Ideal.exp_coe]

theorem v34_at (h g : Fin 2) (i : Fin 4096) :
    val_main_v34 (F := Ideal) x0 x1 (ix3 h g i) = ((∑ s, Real.exp (sc Q K h g i s - M h g i) : ℝ) : EReal) := by
  pointwise [val_main_v34, val_main_cst_8]
  simp only [v33_at A hM, ← coe_sum]

theorem v37_at (h g : Fin 2) (i s : Fin 4096) :
    val_main_v37 (F := Ideal) x0 x1 (ix4 h g i s) = ((prob (sc Q K h g) i s : ℝ) : EReal) := by
  pointwise [val_main_v37, val_main_v36, val_main_v35]
  rw [v33_at A hM, v34_at A hM, div_real (Finset.sum_pos (fun _ _ => Real.exp_pos _) Finset.univ_nonempty).ne', prob_shift]

theorem v44_at (h g : Fin 2) (i s : Fin 4096) :
    val_main_v44 (F := Ideal) x2 x3 (ix4 h g i s) = ((dp V G h g i s : ℝ) : EReal) := by
  pointwise [val_main_v44, val_main_v43]
  simp only [v8_at A, v6_at A, ← EReal.coe_mul, ← coe_sum]
  rfl

theorem v40_at (h g : Fin 2) (i : Fin 4096) (z : Fin 1) :
    val_main_v40 (F := Ideal) x0 x1 (ix4 h g i z) = ((1 / (∑ s, Real.exp (sc Q K h g i s - M h g i)) ^ 2 : ℝ) : EReal) := by
  have hL : (∑ s, Real.exp (sc Q K h g i s - M h g i)) ≠ 0 := (Finset.sum_pos (fun _ _ => Real.exp_pos _) Finset.univ_nonempty).ne'
  pointwise [val_main_v40, val_main_v39, val_main_cst_9, val_main_v38, val_main_v35]
  rw [v34_at A hM, ← EReal.coe_one, ← EReal.coe_mul, div_real (mul_ne_zero hL hL), sq]

theorem v49_at (h g : Fin 2) (i s : Fin 4096) :
    val_main_v49 (F := Ideal) x0 x1 x2 x3 (ix4 h g i s)
      = ((dp V G h g i s * (1 / (∑ s, Real.exp (sc Q K h g i s - M h g i)) ^ 2) * Real.exp (sc Q K h g i s - M h g i) : ℝ) : EReal) := by
  pointwise [val_main_v49, val_main_v48, val_main_v47]
  rw [v44_at A hM, v40_at A hM, v33_at A hM, ← EReal.coe_mul, ← EReal.coe_mul]

theorem v55_at (h g : Fin 2) (i : Fin 4096) :
    val_main_v55 (F := Ideal) x0 x1 x2 x3 (ix3 h g i)
      = ((-(∑ s, dp V G h g i s * (1 / (∑ s, Real.exp (sc Q K h g i s - M h g i)) ^ 2) * Real.exp (sc Q K h g i s - M h g i)) : ℝ) : EReal) := by
  pointwise [val_main_v55, val_main_cst_11, val_main_v52, val_main_v51, val_main_v50, val_main_cst_10]
  simp only [v49_at A hM, ← coe_sum, ← EReal.coe_neg, Finset.univ_unique, Finset.sum_singleton]

theorem v60_at (h g : Fin 2) (i s : Fin 4096) :
    val_main_v60 (F := Ideal) x0 x1 x2 x3 (ix4 h g i s) = ((dscore (1 / 8) (sc Q K h g) (dp V G h g) i s : ℝ) : EReal) := by
  have hL : (∑ s, Real.exp (sc Q K h g i s - M h g i)) ≠ 0 := (Finset.sum_pos (fun _ _ => Real.exp_pos _) Finset.univ_nonempty).ne'
  pointwise [val_main_v60, val_main_v59, val_main_cst_12, val_main_v58, val_main_v57, val_main_v56, val_main_v54, val_main_v53, val_main_v35]
  rw [v44_at A hM, v34_at A hM, v55_at A hM, v33_at A hM, div_real hL, ofBits_eighth, ← EReal.coe_add, ← EReal.coe_mul, ← EReal.coe_mul, quotient_rule]

end

/-- The reference's output. -/
theorem out_at (A : Args x0 x1 x2 x3 Q K V G) (i : Fin 4096) (h g : Fin 2) (d : Fin 64) :
    val_main_v66 (F := Ideal) x0 x1 x2 (ix2 i ⟨64 * (h.val * 2 + g.val) + d.val, by omega⟩) = ((outp (sc Q K h g) (V h) i d : ℝ) : EReal) := by
  obtain ⟨M, hM⟩ := v20_at A
  pointwise [val_main_v66, val_main_v42, val_main_v41]
  simp only [v6_at A, v37_at A hM, ← EReal.coe_mul, ← coe_sum]
  simp only [outp, mul_comm]

/-- The reference's gradient of the queries. -/
theorem dquery_at (A : Args x0 x1 x2 x3 Q K V G) (h g : Fin 2) (i : Fin 4096) (d : Fin 64) :
    val_main_v68 (F := Ideal) x0 x1 x2 x3 (ix3 (hd h g) i d) = ((dquery (1 / 8) (sc Q K h g) (dp V G h g) (K h) i d : ℝ) : EReal) := by
  obtain ⟨M, hM⟩ := v20_at A
  have hh : ∀ p, (⟨(hd h g).val / 2, p⟩ : Fin 2) = h := fun p => Fin.ext (by simp only [hd]; omega)
  have hg : ∀ p, (⟨(hd h g).val % 2, p⟩ : Fin 2) = g := fun p => Fin.ext (by simp only [hd]; omega)
  pointwise [val_main_v68, val_main_v67, val_main_v63, val_main_v62, val_main_v61]
  simp only [hh, hg, v60_at A hM, v4_at A, ← EReal.coe_mul, ← coe_sum]
  rfl

/-- The reference's gradient of the keys. -/
theorem dkey_at (A : Args x0 x1 x2 x3 Q K V G) (h : Fin 2) (d : Fin 64) (s : Fin 4096) :
    val_main_v69 (F := Ideal) x0 x1 x2 x3 (ix3 h d s)
      = ((∑ g : Fin 2, dkey (1 / 8) (sc Q K h g) (dp V G h g) (Q (hd h g)) s d : ℝ) : EReal) := by
  obtain ⟨M, hM⟩ := v20_at A
  pointwise [val_main_v69, val_main_v65, val_main_v64, val_main_v61]
  simp only [v60_at A hM, v2_at A, ← EReal.coe_mul, ← coe_sum]
  rw [Finset.sum_comm]
  simp only [dkey, mul_comm]

/-- The reference's gradient of the values. -/
theorem dvalue_at (A : Args x0 x1 x2 x3 Q K V G) (h : Fin 2) (d : Fin 64) (s : Fin 4096) :
    val_main_v70 (F := Ideal) x0 x1 x3 (ix3 h d s)
      = ((∑ g : Fin 2, dvalue (sc Q K h g) (G (hd h g)) s d : ℝ) : EReal) := by
  obtain ⟨M, hM⟩ := v20_at A
  pointwise [val_main_v70, val_main_v46, val_main_v45, val_main_v43]
  simp only [v37_at A hM, v8_at A, ← EReal.coe_mul, ← coe_sum]
  simp only [dvalue, mul_comm]

end Cert.RefValue

end
-- ==== Proof.Bridge.lean ====
/- The kernel's real-number formulas are the reference's: the softmax out of the saved log-sum is the softmax, and the gradient against the saved output is the softmax's mean. -/
module

public import proofs.«01_k».proof.Proof.FwdArrays
public import proofs.«01_k».proof.Proof.RefValue

@[expose] public section

set_option maxRecDepth 16384

noncomputable section

namespace Cert.Bridge

open Cert.Tiles Cert.Attn Cert.RefValue

variable (Q G : Fin 4 → Fin 4096 → Fin 64 → ℝ) (K W : Fin 2 → Fin 4096 → Fin 64 → ℝ)

/-- The output of head `p`, as the forward kernel saves it. -/
def oS (p : Fin 4) (i : Fin 4096) (d : Fin 64) : ℝ := oG Q K W i ⟨64 * p.val + d.val, by omega⟩

theorem half (h g : Fin 2) (hh : (hq h g).val / 2 < 2) : (⟨(hq h g).val / 2, hh⟩ : Fin 2) = h := by
  apply Fin.ext; show (h.val * 2 + g.val) / 2 = h.val; omega

theorem oS_eq (h g : Fin 2) (i : Fin 4096) (d : Fin 64) : oS Q K W (hq h g) i d = outp (sc Q K h g) (W h) i d := by
  have e1 : (⟨(64 * (hq h g).val + d.val) / 64, by omega⟩ : Fin 4) = hd h g := Fin.ext (by show (64 * (h.val * 2 + g.val) + d.val) / 64 = h.val * 2 + g.val; omega)
  have e2 : (⟨(64 * (hq h g).val + d.val) / 128, by omega⟩ : Fin 2) = h := Fin.ext (by show (64 * (h.val * 2 + g.val) + d.val) / 128 = h.val; omega)
  have e3 : (⟨(64 * (hq h g).val + d.val) % 64, by omega⟩ : Fin 64) = d := Fin.ext (by show (64 * (h.val * 2 + g.val) + d.val) % 64 = d.val; omega)
  unfold oS oG sc
  rw [e1, e2, e3]

theorem lG_eq (h g : Fin 2) (i : Fin 4096) : lG Q K (hq h g) i = Real.log (mass (sc Q K h g) i) := by
  unfold lG
  rw [half]
  rfl

theorem pG_eq (h g : Fin 2) (i s : Fin 4096) : pG Q (lG Q K) K h g i s = prob (sc Q K h g) i s := by
  unfold pG
  rw [lG_eq]
  exact prob_of_log (sc Q K h g) i s _ _ rfl

theorem dsG_eq (h g : Fin 2) (i s : Fin 4096) :
    dsG Q G (oS Q K W) (lG Q K) K W h g i s = dscore (1 / 8) (sc Q K h g) (dp W G h g) i s := by
  unfold dsG dscore
  rw [pG_eq]
  simp only [oS_eq]
  rw [delta_eq]
  rfl

theorem dqG_eq (h g : Fin 2) (i : Fin 4096) (d : Fin 64) :
    dqG Q G (oS Q K W) (lG Q K) K W (hq h g) i d = dquery (1 / 8) (sc Q K h g) (dp W G h g) (K h) i d := by
  have e1 : (⟨(hq h g).val / 2, by omega⟩ : Fin 2) = h := half h g _
  have e2 : (⟨(hq h g).val % 2, by omega⟩ : Fin 2) = g := Fin.ext (by show (h.val * 2 + g.val) % 2 = g.val; omega)
  unfold dqG dquery
  rw [e1, e2]
  exact Finset.sum_congr rfl fun s _ => by rw [dsG_eq]

theorem dkG_eq (h : Fin 2) (d : Fin 64) (s : Fin 4096) :
    dkG Q G (oS Q K W) (lG Q K) K W h d s = ∑ g : Fin 2, dkey (1 / 8) (sc Q K h g) (dp W G h g) (Q (hd h g)) s d := by
  unfold dkG dkey
  exact Finset.sum_congr rfl fun g _ => Finset.sum_congr rfl fun i _ => by rw [dsG_eq]; rfl

theorem dvG_eq (h : Fin 2) (d : Fin 64) (s : Fin 4096) :
    dvG Q G (lG Q K) K h d s = ∑ g : Fin 2, dvalue (sc Q K h g) (G (hd h g)) s d := by
  unfold dvG dvalue
  exact Finset.sum_congr rfl fun g _ => Finset.sum_congr rfl fun i _ => by rw [pG_eq]; rfl

end Cert.Bridge

end
-- ==== Proof.RunResults.lean ====
/- The kernel's run with its results: each of the four result arrays ends at what the pipelines' write-backs leave, and the arguments end unchanged. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- Every fair execution ends, with the results at the last contents and the arguments as launched. -/
theorem run_results : θ_run defs (onTc (τ := τ) (main (F := F))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_v2_2) = W3 m ρ c (Proc.devRef .tc main_v2_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v1_0 (by decide)), h c _ (mem_uc main_v2_0 (by decide)), h c _ (mem_uc main_v2_1 (by decide)), h c _ (mem_uc main_v2_2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Gen

end
-- ==== Proof.Results.lean ====
/- The contents the kernel's run ends with are the reference's results, on arguments whose elements are real. -/
module

public import proofs.«01_k».proof.Proof.Bridge
public import proofs.«01_k».proof.Proof.RunResults

@[expose] public section

set_option maxRecDepth 16384

noncomputable section

namespace Cert.Results

open Idealize.ShloMosaic Idealize.ShloMosaic.TcCoe Cert.KernelIdeal Cert.KernelIdeal.Gen Cert.Tiles Cert.Attn Cert.RefValue Cert.Bridge

variable (m : (ℓ : Loc nD τ sig) → Buf (Elt Ideal) ℓ) (ρ : Dev nD → PrngReg) (c : Dev nD)

/-- The arguments as the run is launched. -/
abbrev a0 : (⟨S4x4096x64, .bf16⟩ : BufTy).Contents (Elt Ideal) := m ((c.tc : Thread nD τ).loc main_arg0)
abbrev a1 : (⟨S2x4096x64, .bf16⟩ : BufTy).Contents (Elt Ideal) := m ((c.tc : Thread nD τ).loc main_arg1)
abbrev a2 : (⟨S2x4096x64, .bf16⟩ : BufTy).Contents (Elt Ideal) := m ((c.tc : Thread nD τ).loc main_arg2)
abbrev a3 : (⟨S4096x1024, .f32⟩ : BufTy).Contents (Elt Ideal) := m ((c.tc : Thread nD τ).loc main_arg3)

variable {m c} {Q G : Fin 4 → Fin 4096 → Fin 64 → ℝ} {K W : Fin 2 → Fin 4096 → Fin 64 → ℝ}

/-- What the forward kernel is entered with. -/
theorem entry0 (A : Args (a0 m c) (a1 m c) (a2 m c) (a3 m c) Q K W G) : Entry0 (V1 m ρ) c Q K W where
  q h i d := by
    rw [← A.q]
    exact congrFun (W1_args m ρ c main_arg0 (by decide)) _
  k h s d := by
    rw [← A.k]
    exact congrFun (W1_args m ρ c main_arg1 (by decide)) _
  v h d s := by
    rw [← A.v]
    have e : V1 m ρ c main_v0 = transpose S2x64x4096 [0, 2, 1] (a2 m c) transposes_S2x4096x64_S2x64x4096_0_2_1 := by
      show StableHlo.after hostOps0 (W0 m ρ c) (Proc.devRef .tc main_v0) = _
      unfold hostOps0
      rfl
    rw [e]
    pointwise []

/-- The log-sums and the outputs, as the forward kernel leaves them. -/
theorem w2_l (A : Args (a0 m c) (a1 m c) (a2 m c) (a3 m c) Q K W G) :
    V2 m ρ c main_v1_1 = fun y : S4x4096x1.Idx => ((lG Q K (y 0) (y 1) : ℝ) : EReal) :=
  (W2_arr m ρ c 4).trans (l_array (entry0 ρ A))

theorem w2_o (A : Args (a0 m c) (a1 m c) (a2 m c) (a3 m c) Q K W G) :
    V2 m ρ c main_v1_0 = fun y : S4096x256.Idx => ((oG Q K W (y 0) (y 1) : ℝ) : EReal) :=
  (W2_arr m ρ c 3).trans (o_array (entry0 ρ A))

/-- What the backward kernel is entered with. -/
theorem entry (A : Args (a0 m c) (a1 m c) (a2 m c) (a3 m c) Q K W G) :
    Entry (V2 m ρ) c Q G (oS Q K W) (lG Q K) K W where
  q h i d := by
    rw [← A.q]
    exact congrFun (W2_args m ρ c main_arg0 (by decide)) _
  k h s d := by
    rw [← A.k]
    exact congrFun (W2_args m ρ c main_arg1 (by decide)) _
  v h s d := by
    rw [← A.v]
    exact congrFun (W2_args m ρ c main_arg2 (by decide)) _
  g h i d := by
    rw [← A.g]
    exact congrFun (W2_args m ρ c main_arg3 (by decide)) _
  o h i d := by rw [w2_o ρ A]; rfl
  l h i := by rw [w2_l ρ A]; rfl

/-- Every head is the head of a group. -/
theorem head_cases (p : Fin 4) : ∃ h g : Fin 2, p = hq h g :=
  ⟨⟨p.val / 2, by omega⟩, ⟨p.val % 2, by omega⟩, Fin.ext (by show p.val = p.val / 2 * 2 + p.val % 2; omega)⟩

/-- Every column of the output is a column of a head of a group. -/
theorem col_cases (e : Fin 256) : ∃ (h g : Fin 2) (d : Fin 64), e = ⟨64 * (h.val * 2 + g.val) + d.val, by omega⟩ :=
  ⟨⟨e.val / 128, by omega⟩, ⟨e.val / 64 % 2, by omega⟩, ⟨e.val % 64, by omega⟩,
    Fin.ext (by show e.val = 64 * (e.val / 128 * 2 + e.val / 64 % 2) + e.val % 64; omega)⟩

/-- The attention's output. -/
theorem out_eq (A : Args (a0 m c) (a1 m c) (a2 m c) (a3 m c) Q K W G) :
    Cert.ReferenceIdeal.Read.val_main_v66 (F := Ideal) (a0 m c) (a1 m c) (a2 m c) = W3 m ρ c (Proc.devRef .tc main_v1_0) := by
  rw [W3_of m ρ c main_v1_0 (by decide)]
  refine Eq.trans ?_ (w2_o ρ A).symm
  funext y
  obtain ⟨h, g, d, e⟩ := col_cases (y 1)
  have hy : y = ix2 (y 0) ⟨64 * (h.val * 2 + g.val) + d.val, by omega⟩ := by
    funext k
    match k with
    | ⟨0, _⟩ => rfl
    | ⟨1, _⟩ => exact e
  rw [hy]
  exact (out_at A (y 0) h g d).trans (congrArg ((↑) : ℝ → EReal) (oS_eq Q K W h g (y 0) d).symm)

/-- The queries' gradient. -/
theorem dq_eq (A : Args (a0 m c) (a1 m c) (a2 m c) (a3 m c) Q K W G) :
    Cert.ReferenceIdeal.Read.val_main_v68 (F := Ideal) (a0 m c) (a1 m c) (a2 m c) (a3 m c) = W3 m ρ c (Proc.devRef .tc main_v2_0) := by
  refine Eq.trans ?_ ((W3_arr m ρ c 6).trans (dq_array (entry ρ A))).symm
  funext y
  obtain ⟨h, g, e⟩ := head_cases (y 0)
  have hy : y = ix3 (hq h g) (y 1) (y 2) := by
    funext k
    match k with
    | ⟨0, _⟩ => exact e
    | ⟨1, _⟩ => rfl
    | ⟨2, _⟩ => rfl
  rw [hy]
  exact (dquery_at A h g (y 1) (y 2)).trans (congrArg ((↑) : ℝ → EReal) (dqG_eq Q G K W h g (y 1) (y 2)).symm)

/-- The keys' gradient. -/
theorem dk_eq (A : Args (a0 m c) (a1 m c) (a2 m c) (a3 m c) Q K W G) :
    Cert.ReferenceIdeal.Read.val_main_v69 (F := Ideal) (a0 m c) (a1 m c) (a2 m c) (a3 m c) = W3 m ρ c (Proc.devRef .tc main_v2_1) := by
  refine Eq.trans ?_ ((W3_arr m ρ c 7).trans (dk_array (entry ρ A))).symm
  funext y
  idx_vars y
  exact (dkey_at A y0 y1 y2).trans (congrArg ((↑) : ℝ → EReal) (dkG_eq Q G K W y0 y1 y2).symm)

/-- The values' gradient. -/
theorem dv_eq (A : Args (a0 m c) (a1 m c) (a2 m c) (a3 m c) Q K W G) :
    Cert.ReferenceIdeal.Read.val_main_v70 (F := Ideal) (a0 m c) (a1 m c) (a3 m c) = W3 m ρ c (Proc.devRef .tc main_v2_2) := by
  refine Eq.trans ?_ ((W3_arr m ρ c 8).trans (dv_array (entry ρ A))).symm
  funext y
  idx_vars y
  exact (dvalue_at A y0 y1 y2).trans (congrArg ((↑) : ℝ → EReal) (dvG_eq Q G K y0 y1 y2).symm)

end Cert.Results

end
-- ==== Proof.Equal.lean ====
/- The kernel's results are the reference's, as runs: the value claim and the reference's frame. -/
module

public import proofs.«01_k».proof.Proof.Finite
public import proofs.«01_k».proof.Proof.Results
public import proofs.«01_k».proof.Proof.Gen.ReferenceIdeal.Run
public import proofs.«01_k».proof.Proof.Gen.ReferenceIdeal.Read

@[expose] public section

set_option maxRecDepth 16384

noncomputable section

namespace Cert.Equal

open Idealize.ShloMosaic Idealize.SL.Sem Cert.RefValue Cert.Results

/-- The reference's run ends with its arguments unchanged, and it has no semaphore. -/
theorem frame_reference : Cert.quiescent_ReferenceIdeal := by
  intro m ρ _
  exact (θ_run Cert.ReferenceIdeal.defs _ _).mono (fun r h => ⟨fun c => (h c).2.2.2.2, sem_eq_zero_of_no_sems (by decide) r.2⟩)
    (Cert.ReferenceIdeal.Value.run (F := Ideal) m ρ)

/-- Arguments that the precondition holds of have real elements. -/
theorem real_args (m : (ℓ : Loc Cert.KernelIdeal.nD Cert.KernelIdeal.τ Cert.KernelIdeal.sig) → Buf (Elt Ideal) ℓ) (h : Cert.Pre_KernelIdeal_finite m)
    (c : Dev Cert.KernelIdeal.nD) : ∃ Q K W G, Args (a0 m c) (a1 m c) (a2 m c) (a3 m c) Q K W G := by
  obtain ⟨hq, hk, hv, hg⟩ := Cert.Finite.reals _ _ _ _ (h c)
  choose Q eQ using hq
  choose K eK using hk
  choose W eW using hv
  choose G eG using hg
  exact ⟨fun h i d => Q (ix3 h i d), fun h i d => K (ix3 h i d), fun h i d => W (ix3 h i d), fun h i d => G i ⟨64 * h.val + d.val, by omega⟩,
    ⟨fun h i d => eQ _, fun h i d => eK _, fun h i d => eW _, fun h i d => eG i ⟨64 * h.val + d.val, by omega⟩⟩⟩

/-- The value claim: the output and the three gradients. -/
theorem values : Cert.algebraic_KernelIdeal_ReferenceIdeal_pre_finite := by
  intro m g m' g' hpre hargs
  refine ⟨fun c => Cert.KernelIdeal.Gen.W3 m g c (Proc.devRef .tc Cert.KernelIdeal.main_v1_0), fun c => Cert.KernelIdeal.Gen.W3 m g c (Proc.devRef .tc Cert.KernelIdeal.main_v2_0),
    fun c => Cert.KernelIdeal.Gen.W3 m g c (Proc.devRef .tc Cert.KernelIdeal.main_v2_1), fun c => Cert.KernelIdeal.Gen.W3 m g c (Proc.devRef .tc Cert.KernelIdeal.main_v2_2),
    Cert.KernelIdeal.Gen.run_results (F := Ideal) m g, ?_⟩
  refine (θ_run Cert.ReferenceIdeal.defs _ _).mono (fun r h c => ?_) (Cert.ReferenceIdeal.Value.run (F := Ideal) m' g')
  obtain ⟨Q, K, W, G, A⟩ := real_args m hpre c
  obtain ⟨h0, h1, h2, h3, hr⟩ := h c
  obtain ⟨e0, e1, e2, e3⟩ := hargs c
  refine ⟨?_, ?_, ?_, ?_, hr⟩
  · refine (h0.trans (Cert.ReferenceIdeal.Read.val_main_v66_eq _ _ _)).trans ?_
    rw [e0, e1, e2]
    exact out_eq g A
  · refine (h1.trans (Cert.ReferenceIdeal.Read.val_main_v68_eq m' c)).trans ?_
    rw [e0, e1, e2, e3]
    exact dq_eq g A
  · refine (h2.trans (Cert.ReferenceIdeal.Read.val_main_v69_eq m' c)).trans ?_
    rw [e0, e1, e2, e3]
    exact dk_eq g A
  · refine (h3.trans (Cert.ReferenceIdeal.Read.val_main_v70_eq _ _ _)).trans ?_
    rw [e0, e1, e3]
    exact dv_eq g A

end Cert.Equal

end
-- ==== Proof.MlpMath.lean ====
/- The gated MLP's arithmetic on one column of its hidden values, over the extended reals: the convolution of width three with its transpose, and the
   gate with its gradients. No element need be finite: each identity holds at the infinities too. -/
module

public import proofs.«01_k».proof.Proof.RealValues

@[expose] public section

noncomputable section

namespace Cert.MlpMath

open Idealize.ShloMosaic

/-- A column of 4096 numbers. -/
abbrev Col : Type := Fin 4096 → EReal

/-- The row before, zero before the first. -/
def before (u : Col) (i : Fin 4096) : EReal := if h : i.val = 0 then 0 else u ⟨i.val - 1, by omega⟩

/-- The row after, zero after the last. -/
def after (u : Col) (i : Fin 4096) : EReal := if h : i.val = 4095 then 0 else u ⟨i.val + 1, by omega⟩

/-- The convolution of width three. -/
def conv (w : Fin 3 → EReal) (b : EReal) (u : Col) (i : Fin 4096) : EReal := before u i * w 0 + u i * w 1 + after u i * w 2 + b

/-- Its transpose. -/
def back (w : Fin 3 → EReal) (d : Col) (i : Fin 4096) : EReal := before (fun j => d j * w 2) i + d i * w 1 + after (fun j => d j * w 0) i

/-- The gradient of its weights. -/
def dweight (u d : Col) (t : Fin 3) : EReal :=
  if t.val = 0 then ∑ i, before u i * d i else if t.val = 1 then ∑ i, u i * d i else ∑ i, after u i * d i

/-- The number one half. -/
abbrev half : EReal := ((1 / 2 : ℝ) : EReal)

/-- The word of one half. -/
theorem ofBits_half : Ideal.ofBits .f32 0x3F000000#32 = half := by
  simp [Ideal.ofBits, Ideal.ieee, -EReal.coe_mul]; norm_num

/-- The logistic function as the kernel computes it. -/
def sg (p : EReal) : EReal := half * Ideal.tanh (half * p) + half

/-- The derivative of the logistic function as the kernel computes it, four times over. -/
def dsg (p : EReal) : EReal := (1 + Ideal.tanh (half * p)) * (1 - Ideal.tanh (half * p))

/-- The gated value. -/
def act (p q : EReal) : EReal := p * sg p * q

/-- The gradient of the value that the gate is applied to, from the output's gradient `g`. -/
def dgate (p q g : EReal) : EReal := g * q * sg p + half * (half * (p * (g * q)) * dsg p)

theorem logistic_real (x : ℝ) : 1 / 2 * Real.tanh (1 / 2 * x) + 1 / 2 = (1 + Real.exp (-x))⁻¹ := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have hp := Real.exp_pos (1 / 2 * x)
  have hn := Real.exp_pos (-(1 / 2 * x))
  rw [Real.tanh_eq_sinh_div_cosh, Real.sinh_eq, Real.cosh_eq, h1]
  generalize Real.exp (1 / 2 * x) = a at *
  generalize Real.exp (-(1 / 2 * x)) = b at *
  field_simp
  nlinarith [h2]

theorem half_top : half * (⊤ : EReal) = ⊤ := EReal.coe_mul_top_of_pos (by norm_num)
theorem half_bot : half * (⊥ : EReal) = ⊥ := EReal.coe_mul_bot_of_pos (by norm_num)

/-- The two spellings of the logistic function agree. -/
theorem sg_eq (p : EReal) : Ideal.logistic p = sg p := by
  induction p using EReal.rec with
  | bot =>
    rw [Ideal.logistic_bot, sg, half_bot, Ideal.tanh_bot, ← EReal.coe_one, ← EReal.coe_neg, ← EReal.coe_mul, ← EReal.coe_add]
    norm_num
  | coe r =>
    rw [Ideal.logistic_coe, sg, ← EReal.coe_mul, Ideal.tanh_coe, ← EReal.coe_mul, ← EReal.coe_add, logistic_real]
  | top =>
    rw [Ideal.logistic_top, sg, half_top, Ideal.tanh_top, ← EReal.coe_one, ← EReal.coe_mul, ← EReal.coe_add]
    norm_num

/-- And so do the two spellings of its derivative. -/
theorem dsg_eq (p : EReal) : sg p * (1 - sg p) = half * half * dsg p := by
  have key : ∀ t : ℝ, ((t : ℝ) : EReal) = Ideal.tanh (half * p) → sg p * (1 - sg p) = half * half * dsg p := by
    intro t ht
    rw [sg, dsg, ← ht, ← EReal.coe_one, ← EReal.coe_mul, ← EReal.coe_add, ← EReal.coe_sub, ← EReal.coe_mul, ← EReal.coe_mul, ← EReal.coe_add,
      ← EReal.coe_sub, ← EReal.coe_mul, ← EReal.coe_mul]
    congr 1
    ring
  induction p using EReal.rec with
  | bot => exact key (-1) (by rw [half_bot, Ideal.tanh_bot]; simp)
  | coe r => exact key (Real.tanh (1 / 2 * r)) (by rw [← EReal.coe_mul, Ideal.tanh_coe])
  | top => exact key 1 (by rw [half_top, Ideal.tanh_top]; simp)

/-- The gradient through the gate, as the derivative of `x · logistic x` spells it. -/
theorem dgate_eq (p q g : EReal) : g * q * sg p + p * (g * q) * (sg p * (1 - sg p)) = dgate p q g := by
  rw [dgate, dsg_eq]
  congr 1
  rw [mul_left_comm]
  simp only [mul_assoc]

end Cert.MlpMath

end
-- ==== Proof.MlpMatmul.lean ====
/- The gated MLP's matrix products, each kernel's result as sums over its arguments. -/
module

public import proofs.«01_k».proof.Proof.MlpMath
public import proofs.«01_k».proof.Proof.Gen.MlpIdeal.Frame
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.MlpTiles

open Idealize.ShloMosaic Idealize.ShloMosaic.TcCoe Cert.MlpIdeal Cert.MlpIdeal.Gen Cert.MlpMath

variable (V : (c : Dev nD) → (b : Ref sig .tc) → Buf (Elt Ideal) ((c : Thread nD τ).loc b))

/-- The rows' products: `X · Bᵀ`. -/
def prodT {n k p : ℕ} (X : Fin n → Fin k → EReal) (B : Fin p → Fin k → EReal) (i : Fin n) (j : Fin p) : EReal := ∑ d, X i d * B j d

/-- The product `X · B`. -/
def prodN {n k p : ℕ} (X : Fin n → Fin k → EReal) (B : Fin k → Fin p → EReal) (i : Fin n) (j : Fin p) : EReal := ∑ d, X i d * B d j

/-- A channel of the first half, among the 5632. -/
abbrev lo (j : Fin 2816) : Fin 5632 := ⟨j.val, by omega⟩

/-- A channel of the second half, among the 5632. -/
abbrev hi (j : Fin 2816) : Fin 5632 := ⟨2816 + j.val, by omega⟩

/-- The row `i` of the tokens that a grid point of a matrix product works on. -/
abbrev row (n : ℕ) (i : Fin 512) : Fin 4096 := ⟨512 * (n % 8) + i.val, by omega⟩

variable {V}

/-! ## The first half of the hidden values -/

theorem e0_0 : ∀ t : Fin cfg0.N, win0_0.index t = ![t.val, 0] := by decide +kernel
theorem e0_1 : ∀ t : Fin cfg0.N, win0_1.index t = ![0, 0] := by decide +kernel
theorem e0_2 : ∀ t : Fin cfg0.N, win0_2.index t = ![t.val, 0] := by decide +kernel
theorem lt0 (t : Fin cfg0.N) : t.val < 8 := t.isLt

theorem array0 {c : Dev nD} {X : Fin 4096 → Fin 1024 → EReal} {B : Fin 5632 → Fin 1024 → EReal} (hX : ∀ i k, V c main_arg0 (ix2 i k) = X i k)
    (hB : ∀ j k, V c main_arg1 (ix2 j k) = B j k) :
    (dat0 V c).arrAt 2 cfg0.N = fun y : S4096x2816.Idx => prodT X (fun j => B (lo j)) (y 0) (y 1) := by
  refine (dat0 V c).arrAt_eq_of_covers 2 _ (by decide +kernel) fun t hf y => ?_
  blk_simp
  rw [after0_2]
  idx_vars y
  have ht := lt0 t
  have e : (win0_2.blk t).view.emb (ix2 y0 y1) = ix2 (row t.val y0) y1 := by
    blk_ext [e0_2 t]
  rw [e]
  unfold outsAt0
  frame_out
  pointwise [k0_pay1, k0_pay2]
  show _ = prodT X (fun j => B (lo j)) (row t.val y0) y1
  refine Finset.sum_congr rfl fun k _ => congrArg₂ (· * ·) ?_ ?_
  · rw [← hX]
    blk_simp [iblk0]
    refine congrArg (V c main_arg0) ?_
    blk_ext [e0_0 t]
  · refine Eq.trans ?_ (hB (lo y1) k)
    blk_simp [iblk0]
    refine congrArg (V c main_arg1) ?_
    blk_ext [e0_1 t]

/-! ## The second half of the hidden values -/

theorem e1_0 : ∀ t : Fin cfg1.N, win1_0.index t = ![t.val, 0] := by decide +kernel
theorem e1_1 : ∀ t : Fin cfg1.N, win1_1.index t = ![1, 0] := by decide +kernel
theorem e1_2 : ∀ t : Fin cfg1.N, win1_2.index t = ![t.val, 0] := by decide +kernel
theorem lt1 (t : Fin cfg1.N) : t.val < 8 := t.isLt

theorem array1 {c : Dev nD} {X : Fin 4096 → Fin 1024 → EReal} {B : Fin 5632 → Fin 1024 → EReal} (hX : ∀ i k, V c main_arg0 (ix2 i k) = X i k)
    (hB : ∀ j k, V c main_arg1 (ix2 j k) = B j k) :
    (dat1 V c).arrAt 2 cfg1.N = fun y : S4096x2816.Idx => prodT X (fun j => B (hi j)) (y 0) (y 1) := by
  refine (dat1 V c).arrAt_eq_of_covers 2 _ (by decide +kernel) fun t hf y => ?_
  blk_simp
  rw [after1_2]
  idx_vars y
  have ht := lt1 t
  have e : (win1_2.blk t).view.emb (ix2 y0 y1) = ix2 (row t.val y0) y1 := by
    blk_ext [e1_2 t]
  rw [e]
  unfold outsAt1
  frame_out
  pointwise [k1_pay1, k1_pay2]
  show _ = prodT X (fun j => B (hi j)) (row t.val y0) y1
  refine Finset.sum_congr rfl fun k _ => congrArg₂ (· * ·) ?_ ?_
  · rw [← hX]
    blk_simp [iblk1]
    refine congrArg (V c main_arg0) ?_
    blk_ext [e1_0 t]
  · refine Eq.trans ?_ (hB (hi y1) k)
    blk_simp [iblk1]
    refine congrArg (V c main_arg1) ?_
    blk_ext [e1_1 t]

/-! ## The result -/

theorem e3_0 : ∀ t : Fin cfg3.N, win3_0.index t = ![t.val, 0] := by decide +kernel
theorem e3_1 : ∀ t : Fin cfg3.N, win3_1.index t = ![0, 0] := by decide +kernel
theorem e3_2 : ∀ t : Fin cfg3.N, win3_2.index t = ![t.val, 0] := by decide +kernel
theorem lt3 (t : Fin cfg3.N) : t.val < 8 := t.isLt

theorem array3 {c : Dev nD} {X : Fin 4096 → Fin 2816 → EReal} {B : Fin 2816 → Fin 1024 → EReal} (hX : ∀ i k, V c main_v2 (ix2 i k) = X i k)
    (hB : ∀ j k, V c main_arg2 (ix2 j k) = B j k) :
    (dat3 V c).arrAt 2 cfg3.N = fun y : S4096x1024.Idx => prodN X B (y 0) (y 1) := by
  refine (dat3 V c).arrAt_eq_of_covers 2 _ (by decide +kernel) fun t hf y => ?_
  blk_simp
  rw [after3_2]
  idx_vars y
  have ht := lt3 t
  have e : (win3_2.blk t).view.emb (ix2 y0 y1) = ix2 (row t.val y0) y1 := by
    blk_ext [e3_2 t]
  rw [e]
  unfold outsAt3
  frame_out
  pointwise [k3_pay1, k3_pay2]
  show _ = prodN X B (row t.val y0) y1
  refine Finset.sum_congr rfl fun k _ => congrArg₂ (· * ·) ?_ ?_
  · rw [← hX]
    blk_simp [iblk3]
    refine congrArg (V c main_v2) ?_
    blk_ext [e3_0 t]
  · rw [← hB]
    blk_simp [iblk3]
    refine congrArg (V c main_arg2) ?_
    blk_ext [e3_1 t]

/-! ## The gated values' gradient -/

theorem e4_0 : ∀ t : Fin cfg4.N, win4_0.index t = ![t.val, 0] := by decide +kernel
theorem e4_1 : ∀ t : Fin cfg4.N, win4_1.index t = ![0, 0] := by decide +kernel
theorem e4_2 : ∀ t : Fin cfg4.N, win4_2.index t = ![t.val, 0] := by decide +kernel
theorem lt4 (t : Fin cfg4.N) : t.val < 8 := t.isLt

theorem array4 {c : Dev nD} {X : Fin 4096 → Fin 1024 → EReal} {B : Fin 2816 → Fin 1024 → EReal} (hX : ∀ i k, V c main_arg5 (ix2 i k) = X i k)
    (hB : ∀ j k, V c main_arg2 (ix2 j k) = B j k) :
    (dat4 V c).arrAt 2 cfg4.N = fun y : S4096x2816.Idx => prodT X B (y 0) (y 1) := by
  refine (dat4 V c).arrAt_eq_of_covers 2 _ (by decide +kernel) fun t hf y => ?_
  blk_simp
  rw [after4_2]
  idx_vars y
  have ht := lt4 t
  have e : (win4_2.blk t).view.emb (ix2 y0 y1) = ix2 (row t.val y0) y1 := by
    blk_ext [e4_2 t]
  rw [e]
  unfold outsAt4
  frame_out
  pointwise [k4_pay1, k4_pay2]
  show _ = prodT X B (row t.val y0) y1
  refine Finset.sum_congr rfl fun k _ => congrArg₂ (· * ·) ?_ ?_
  · rw [← hX]
    blk_simp [iblk4]
    refine congrArg (V c main_arg5) ?_
    blk_ext [e4_0 t]
  · rw [← hB]
    blk_simp [iblk4]
    refine congrArg (V c main_arg2) ?_
    blk_ext [e4_1 t]

/-! ## The input's gradient -/

theorem e6_0 : ∀ t : Fin cfg6.N, win6_0.index t = ![t.val, 0] := by decide +kernel
theorem e6_1 : ∀ t : Fin cfg6.N, win6_1.index t = ![0, 0] := by decide +kernel
theorem e6_2 : ∀ t : Fin cfg6.N, win6_2.index t = ![t.val, 0] := by decide +kernel
theorem e6_3 : ∀ t : Fin cfg6.N, win6_3.index t = ![1, 0] := by decide +kernel
theorem e6_4 : ∀ t : Fin cfg6.N, win6_4.index t = ![t.val, 0] := by decide +kernel
theorem e6_5 : ∀ t : Fin cfg6.N, win6_5.index t = ![t.val, 0] := by decide +kernel
theorem lt6 (t : Fin cfg6.N) : t.val < 8 := t.isLt

/-- The input's gradient: what the two halves send back, and what arrives beside them. -/
def dinput (P Q : Fin 4096 → Fin 2816 → EReal) (B : Fin 5632 → Fin 1024 → EReal) (D : Fin 4096 → Fin 1024 → EReal) (i : Fin 4096) (j : Fin 1024) : EReal :=
  prodN P (fun k => B (lo k)) i j + prodN Q (fun k => B (hi k)) i j + D i j

theorem array6 {c : Dev nD} {P Q : Fin 4096 → Fin 2816 → EReal} {B : Fin 5632 → Fin 1024 → EReal} {D : Fin 4096 → Fin 1024 → EReal}
    (hP : ∀ i k, V c main_v5_0 (ix2 i k) = P i k) (hQ : ∀ i k, V c main_v5_1 (ix2 i k) = Q i k)
    (hB : ∀ j k, V c main_arg1 (ix2 j k) = B j k) (hD : ∀ i k, V c main_arg6 (ix2 i k) = D i k) :
    (dat6 V c).arrAt 5 cfg6.N = fun y : S4096x1024.Idx => dinput P Q B D (y 0) (y 1) := by
  refine (dat6 V c).arrAt_eq_of_covers 5 _ (by decide +kernel) fun t hf y => ?_
  blk_simp
  rw [after6_5]
  idx_vars y
  have ht := lt6 t
  have e : (win6_5.blk t).view.emb (ix2 y0 y1) = ix2 (row t.val y0) y1 := by
    blk_ext [e6_5 t]
  rw [e]
  unfold outsAt6
  frame_out
  pointwise [k6_pay1, k6_pay2, k6_pay3, k6_pay4]
  show _ = dinput P Q B D (row t.val y0) y1
  refine congrArg₂ (· + ·) (congrArg₂ (· + ·) (Finset.sum_congr rfl fun k _ => congrArg₂ (· * ·) ?_ ?_) (Finset.sum_congr rfl fun k _ => congrArg₂ (· * ·) ?_ ?_)) ?_
  · rw [← hP]
    blk_simp [iblk6]
    refine congrArg (V c main_v5_0) ?_
    blk_ext [e6_0 t]
  · refine Eq.trans ?_ (hB (lo k) y1)
    blk_simp [iblk6]
    refine congrArg (V c main_arg1) ?_
    blk_ext [e6_1 t]
  · rw [← hQ]
    blk_simp [iblk6]
    refine congrArg (V c main_v5_1) ?_
    blk_ext [e6_2 t]
  · refine Eq.trans ?_ (hB (hi k) y1)
    blk_simp [iblk6]
    refine congrArg (V c main_arg1) ?_
    blk_ext [e6_3 t]
  · rw [← hD]
    blk_simp [iblk6]
    refine congrArg (V c main_arg6) ?_
    blk_ext [e6_4 t]

end Cert.MlpTiles

end
-- ==== Proof.MlpGate.lean ====
/- The gated MLP's convolution and gate: what a grid point of those two kernels stores, column by column. -/
module

public import proofs.«01_k».proof.Proof.MlpMatmul
public import Idealize.ShloMosaic.Lib.KernelVsHost

@[expose] public section

set_option maxRecDepth 16384

noncomputable section

namespace Cert.MlpTiles

open Idealize.ShloMosaic Idealize.ShloMosaic.TcCoe Cert.MlpIdeal Cert.MlpIdeal.Gen Cert.MlpMath

/-- A column of a block. -/
abbrev col (x : FVec Ideal S4096x128 .f32) (j : Fin 128) : Col := fun i => x (ix2 i j)

/-- A column of a block of weights. -/
abbrev wcol (w : FVec Ideal S3x128 .f32) (j : Fin 128) : Fin 3 → EReal := fun t => w (ix2 t j)

/-- The rows moved down by one, zero in the first row. -/
def down (x : FVec Ideal S4096x128 .f32) : FVec Ideal S4096x128 .f32 :=
  select (cmpi .eq (iota .tc S4096x128 32 [0] iota_S4096x128_d0_w32) (broadcast S4096x128 0#32)) (broadcast S4096x128 (Scalar.ofBits .f32 0x00000000#32))
    (dynamicRotate 0 1#32 none x rotates_S4096x128_d0)

/-- The rows moved up by one, zero in the last row. -/
def up (x : FVec Ideal S4096x128 .f32) : FVec Ideal S4096x128 .f32 :=
  select (cmpi .eq (iota .tc S4096x128 32 [0] iota_S4096x128_d0_w32) (broadcast S4096x128 4095#32)) (broadcast S4096x128 (Scalar.ofBits .f32 0x00000000#32))
    (dynamicRotate 0 4095#32 none x rotates_S4096x128_d0)

theorem select_row (i n : ℕ) (hi : i < 4096) (hn : n < 4096) (a b : EReal) :
    Scalar.select (IntOp.cmpi .eq (BitVec.ofNat 32 i) (BitVec.ofNat 32 n)) a b = if i = n then a else b := by
  have e : (BitVec.ofNat 32 i = BitVec.ofNat 32 n) ↔ i = n := by
    rw [← BitVec.toNat_inj]
    simp only [BitVec.toNat_ofNat]
    omega
  by_cases h : i = n
  · subst h
    simp [Scalar.select, IntOp.cmpi]
  · have e' : (BitVec.ofNat 32 i == BitVec.ofNat 32 n) = false := by rw [beq_eq_false_iff_ne]; exact fun k => h (e.1 k)
    simp [Scalar.select, IntOp.cmpi, e', h]

theorem down_at (x : FVec Ideal S4096x128 .f32) (i : Fin 4096) (j : Fin 128) : down x (ix2 i j) = before (col x j) i := by
  unfold down before
  generalize hr : dynamicRotate 0 1#32 none x rotates_S4096x128_d0 = r
  pointwise []
  rw [select_row _ _ i.isLt (by decide)]
  split
  · rfl
  · rename_i h
    rw [← hr]
    refine dynamicRotate_apply _ _ _ _ _ _ fun b => ?_
    fin_cases b <;> simp
    omega

theorem up_at (x : FVec Ideal S4096x128 .f32) (i : Fin 4096) (j : Fin 128) : up x (ix2 i j) = after (col x j) i := by
  unfold up after
  generalize hr : dynamicRotate 0 4095#32 none x rotates_S4096x128_d0 = r
  pointwise []
  rw [select_row _ _ i.isLt (by decide)]
  split
  · rfl
  · rename_i h
    rw [← hr]
    refine dynamicRotate_apply _ _ _ _ _ _ fun b => ?_
    fin_cases b <;> simp
    omega

/-- A row of a block of weights, repeated. -/
def wrow (t : ℕ) (w : FVec Ideal S3x128 .f32) (h : S3x128.Slices ![t, 0] S1x128 := by decide) : FVec Ideal S4096x128 .f32 :=
  broadcastTo S4096x128 (extractStridedSlice S1x128 ![t, 0] w h) broadcasts_S1x128_S4096x128

theorem wrow0_at (w : FVec Ideal S3x128 .f32) (h) (i : Fin 4096) (j : Fin 128) : wrow 0 w h (ix2 i j) = wcol w j 0 := by
  pointwise [wrow]

theorem wrow1_at (w : FVec Ideal S3x128 .f32) (h) (i : Fin 4096) (j : Fin 128) : wrow 1 w h (ix2 i j) = wcol w j 1 := by
  pointwise [wrow]

theorem wrow2_at (w : FVec Ideal S3x128 .f32) (h) (i : Fin 4096) (j : Fin 128) : wrow 2 w h (ix2 i j) = wcol w j 2 := by
  pointwise [wrow]

/-- The convolution of a block. -/
def convV (x : FVec Ideal S4096x128 .f32) (w : FVec Ideal S3x128 .f32) (b : FVec Ideal S1x128 .f32) : FVec Ideal S4096x128 .f32 :=
  addf (addf (addf (mulf (down x) (wrow 0 w)) (mulf x (wrow 1 w))) (mulf (up x) (wrow 2 w))) (broadcastTo S4096x128 b broadcasts_S1x128_S4096x128)

theorem convV_at (x : FVec Ideal S4096x128 .f32) (w : FVec Ideal S3x128 .f32) (b : FVec Ideal S1x128 .f32) (i : Fin 4096) (j : Fin 128) :
    convV x w b (ix2 i j) = conv (wcol w j) (b (ix2 0 j)) (col x j) i := by
  pointwise [convV]
  rw [down_at, up_at, wrow0_at, wrow1_at, wrow2_at]
  rfl

/-- The number one half, as a block. -/
abbrev halfV : FVec Ideal S4096x128 .f32 := broadcast S4096x128 (Scalar.ofBits .f32 0x3F000000#32)

/-- The logistic function of a block. -/
def sgV (p : FVec Ideal S4096x128 .f32) : FVec Ideal S4096x128 .f32 := addf (mulf halfV (tanh (mulf halfV p))) halfV

theorem sgV_at (p : FVec Ideal S4096x128 .f32) (i : Fin 4096) (j : Fin 128) : sgV p (ix2 i j) = sg (p (ix2 i j)) := by
  pointwise [sgV, ofBits_half]
  rfl

/-- The gated block. -/
def actV (p q : FVec Ideal S4096x128 .f32) : FVec Ideal S4096x128 .bf16 := truncf .bf16 (mulf (mulf p (sgV p)) q) bitsLt_bf16_f32

theorem actV_at (p q : FVec Ideal S4096x128 .f32) (i : Fin 4096) (j : Fin 128) : actV p q (ix2 i j) = act (p (ix2 i j)) (q (ix2 i j)) := by
  pointwise [actV]
  rw [sgV_at]
  rfl

/-- The gradient of the block that is multiplied by the gate's value. -/
def dqV (p g : FVec Ideal S4096x128 .f32) : FVec Ideal S4096x128 .f32 := mulf (mulf p (sgV p)) g

theorem dqV_at (p g : FVec Ideal S4096x128 .f32) (i : Fin 4096) (j : Fin 128) :
    dqV p g (ix2 i j) = p (ix2 i j) * sg (p (ix2 i j)) * g (ix2 i j) := by
  pointwise [dqV]
  rw [sgV_at]

/-- The gradient of the block the gate is applied to. -/
def dpV (p q g : FVec Ideal S4096x128 .f32) : FVec Ideal S4096x128 .f32 :=
  addf (mulf (mulf g q) (sgV p)) (mulf halfV (mulf (mulf halfV (mulf p (mulf g q)))
    (mulf (addf (broadcast S4096x128 (Scalar.ofBits .f32 0x3F800000#32)) (tanh (mulf halfV p))) (subf (broadcast S4096x128 (Scalar.ofBits .f32 0x3F800000#32)) (tanh (mulf halfV p))))))

theorem dpV_at (p q g : FVec Ideal S4096x128 .f32) (i : Fin 4096) (j : Fin 128) :
    dpV p q g (ix2 i j) = dgate (p (ix2 i j)) (q (ix2 i j)) (g (ix2 i j)) := by
  pointwise [dpV, ofBits_half, Cert.RealValues.ofBits_one]
  rw [sgV_at]
  rfl

/-- The transposed convolution of a block. -/
def backV (w : FVec Ideal S3x128 .f32) (d : FVec Ideal S4096x128 .f32) : FVec Ideal S4096x128 .f32 :=
  addf (addf
    (dynamicRotate 0 1#32 none (select (cmpi .eq (iota .tc S4096x128 32 [0] iota_S4096x128_d0_w32) (broadcast S4096x128 4095#32))
      (broadcast S4096x128 (Scalar.ofBits .f32 0x00000000#32)) (mulf d (wrow 2 w))) rotates_S4096x128_d0)
    (mulf d (wrow 1 w)))
    (dynamicRotate 0 4095#32 none (select (cmpi .eq (iota .tc S4096x128 32 [0] iota_S4096x128_d0_w32) (broadcast S4096x128 0#32))
      (broadcast S4096x128 (Scalar.ofBits .f32 0x00000000#32)) (mulf d (wrow 0 w))) rotates_S4096x128_d0)

theorem rot_down (x : FVec Ideal S4096x128 .f32) (i : Fin 4096) (j : Fin 128) :
    dynamicRotate 0 1#32 none (select (cmpi .eq (iota .tc S4096x128 32 [0] iota_S4096x128_d0_w32) (broadcast S4096x128 4095#32))
      (broadcast S4096x128 (Scalar.ofBits .f32 0x00000000#32)) x) rotates_S4096x128_d0 (ix2 i j) = before (col x j) i := by
  refine (dynamicRotate_apply _ _ _ _ _ (ix2 ⟨(i.val + 4095) % 4096, by omega⟩ j) fun b => ?_).trans ?_
  · fin_cases b <;> simp
  · pointwise []
    rw [select_row _ _ (by omega) (by decide)]
    unfold before
    by_cases h : i.val = 0
    · rw [if_pos (by omega), dif_pos h]
    · rw [if_neg (by omega), dif_neg h]
      exact congrArg (fun r => x (ix2 r j)) (Fin.ext (by show (i.val + 4095) % 4096 = i.val - 1; omega))

theorem rot_up (x : FVec Ideal S4096x128 .f32) (i : Fin 4096) (j : Fin 128) :
    dynamicRotate 0 4095#32 none (select (cmpi .eq (iota .tc S4096x128 32 [0] iota_S4096x128_d0_w32) (broadcast S4096x128 0#32))
      (broadcast S4096x128 (Scalar.ofBits .f32 0x00000000#32)) x) rotates_S4096x128_d0 (ix2 i j) = after (col x j) i := by
  refine (dynamicRotate_apply _ _ _ _ _ (ix2 ⟨(i.val + 1) % 4096, by omega⟩ j) fun b => ?_).trans ?_
  · fin_cases b <;> simp
  · pointwise []
    rw [select_row _ _ (by omega) (by decide)]
    unfold after
    by_cases h : i.val = 4095
    · rw [if_pos (by omega), dif_pos h]
    · rw [if_neg (by omega), dif_neg h]
      exact congrArg (fun r => x (ix2 r j)) (Fin.ext (by show (i.val + 1) % 4096 = i.val + 1; omega))

theorem backV_at (w : FVec Ideal S3x128 .f32) (d : FVec Ideal S4096x128 .f32) (i : Fin 4096) (j : Fin 128) :
    backV w d (ix2 i j) = back (wcol w j) (col d j) i := by
  have e2 : col (mulf d (wrow 2 w)) j = fun i => col d j i * wcol w j 2 := by
    funext i
    pointwise []
    rw [wrow2_at]
  have e0 : col (mulf d (wrow 0 w)) j = fun i => col d j i * wcol w j 0 := by
    funext i
    pointwise []
    rw [wrow0_at]
  have e1 : mulf d (wrow 1 w) (ix2 i j) = col d j i * wcol w j 1 := by
    pointwise []
    rw [wrow1_at]
  unfold backV back
  refine congrArg₂ (· + ·) (congrArg₂ (· + ·) ?_ e1) ?_
  · rw [← e2]
    exact rot_down _ i j
  · rw [← e0]
    exact rot_up _ i j

/-- The sums of a block's columns. -/
def sumV (d : FVec Ideal S4096x128 .f32) : FVec Ideal S1x128 .f32 :=
  shapeCast S1x128 (multiReduction .add [0] S128 d 0x00000000#32 reduces_S4096x128_S128 (.inl rfl) rfl) shapeCasts_S128_S1x128

theorem sumV_at (d : FVec Ideal S4096x128 .f32) (z : Fin 1) (j : Fin 128) : sumV d (ix2 z j) = ∑ i, col d j i := by
  pointwise [sumV]

/-- The gradient of a block of weights: one row of sums per weight. -/
def dwV (x d : FVec Ideal S4096x128 .f32) : FVec Ideal S3x128 .f32 :=
  addf (addf
    (concatenate S3x128 0 [⟨S2x128, broadcast S2x128 (Scalar.ofBits .f32 0x00000000#32)⟩, ⟨S1x128, sumV (mulf (up x) d)⟩] concatenates_S2x128_S1x128_S3x128_d0)
    (concatenate S3x128 0 [⟨S2x128, concatenate S2x128 0 [⟨S1x128, broadcast S1x128 (Scalar.ofBits .f32 0x00000000#32)⟩, ⟨S1x128, sumV (mulf x d)⟩] concatenates_S1x128_S1x128_S2x128_d0⟩,
      ⟨S1x128, broadcast S1x128 (Scalar.ofBits .f32 0x00000000#32)⟩] concatenates_S2x128_S1x128_S3x128_d0))
    (concatenate S3x128 0 [⟨S1x128, sumV (mulf (down x) d)⟩, ⟨S2x128, broadcast S2x128 (Scalar.ofBits .f32 0x00000000#32)⟩] concatenates_S1x128_S2x128_S3x128_d0)

theorem dwV_at (x d : FVec Ideal S4096x128 .f32) (t : Fin 3) (j : Fin 128) : dwV x d (ix2 t j) = dweight (col x j) (col d j) t := by
  have eu : ∀ z, sumV (mulf (up x) d) (ix2 z j) = ∑ i, after (col x j) i * col d j i := fun z => by
    refine (sumV_at _ z j).trans (Finset.sum_congr rfl fun i _ => ?_)
    pointwise []
    rw [up_at]
  have ed : ∀ z, sumV (mulf (down x) d) (ix2 z j) = ∑ i, before (col x j) i * col d j i := fun z => by
    refine (sumV_at _ z j).trans (Finset.sum_congr rfl fun i _ => ?_)
    pointwise []
    rw [down_at]
  have em : ∀ z, sumV (mulf x d) (ix2 z j) = ∑ i, col x j i * col d j i := fun z => by
    refine (sumV_at _ z j).trans (Finset.sum_congr rfl fun i _ => ?_)
    pointwise []
  unfold dwV dweight
  generalize sumV (mulf (up x) d) = a at eu ⊢
  generalize sumV (mulf (down x) d) = b at ed ⊢
  generalize sumV (mulf x d) = m at em ⊢
  fin_cases t
  · pointwise []
    simp [ed]
  · pointwise []
    simp [em]
  · pointwise []
    simp [eu]

/-! ## The kernels' spellings of these -/

theorem cast_self (x : FVec Ideal S4096x128 .f32) : shapeCast S4096x128 x shapeCasts_S4096x128_S4096x128 = x := by
  funext y
  idx_vars y
  pointwise []

theorem pay2_2 (x : FVec Ideal S4096x128 .f32) : k2_pay2 (F := Ideal) x = x := cast_self x
theorem pay5_4 (x : FVec Ideal S4096x128 .f32) : k5_pay4 (F := Ideal) x = x := cast_self x
theorem pay5_5 (x : FVec Ideal S4096x128 .f32) : k5_pay5 (F := Ideal) x = x := cast_self x
theorem pay5_25 (x : FVec Ideal S4096x128 .f32) : k5_pay25 (F := Ideal) x = x := cast_self x

/-- The forward convolution. -/
theorem pay2_3 (x : FVec Ideal S4096x128 .f32) (w : FVec Ideal S3x128 .f32) (b : FVec Ideal S1x128 .f32) : k2_pay3 (F := Ideal) x w b = convV x w b := by
  conv_rhs => rw [← cast_self x]
  rfl

/-- The forward kernel's result. -/
theorem pay2_1 (p x : FVec Ideal S4096x128 .f32) (w : FVec Ideal S3x128 .f32) (b : FVec Ideal S1x128 .f32) :
    k2_pay1 (F := Ideal) (k2_pay2 x) w b p k2_pay4 (k2_pay5 x) k2_pay6 = actV p (convV x w b) := by
  conv_rhs => rw [← cast_self x]
  rfl

theorem pay5_7 (x : FVec Ideal S4096x128 .f32) : k5_pay7 (F := Ideal) x = down x := by
  conv_rhs => rw [← cast_self x]
  rfl

theorem pay5_11 (x : FVec Ideal S4096x128 .f32) : k5_pay11 (F := Ideal) x = up x := by
  conv_rhs => rw [← cast_self x]
  rfl

theorem pay5_17 (x : FVec Ideal S4096x128 .f32) : k5_pay17 (F := Ideal) k5_pay14 (k5_pay15 x) k5_pay16 = down x := by
  conv_rhs => rw [← cast_self x]
  rfl

theorem pay5_21 (x : FVec Ideal S4096x128 .f32) : k5_pay21 (F := Ideal) x = up x := rfl

/-- The backward kernel's convolution. -/
theorem pay5_13 (x : FVec Ideal S4096x128 .f32) (w : FVec Ideal S3x128 .f32) (b : FVec Ideal S1x128 .f32) : k5_pay13 (F := Ideal) x w b = convV x w b := by
  conv_rhs => rw [← cast_self x]
  rfl

theorem pay5_26 (p g : FVec Ideal S4096x128 .f32) : k5_pay26 (F := Ideal) p g = dqV p g := by
  conv_rhs => rw [← cast_self g]
  rfl

theorem pay5_27 (x p g : FVec Ideal S4096x128 .f32) (w : FVec Ideal S3x128 .f32) (b : FVec Ideal S1x128 .f32) :
    k5_pay27 (F := Ideal) (k5_pay5 x) w b p k5_pay14 (k5_pay15 x) k5_pay16 g = dpV p (convV x w b) g := by
  conv_rhs => rw [← cast_self x, ← cast_self g]
  rfl

theorem pay5_2 (w : FVec Ideal S3x128 .f32) (d : FVec Ideal S4096x128 .f32) :
    k5_pay2 (F := Ideal) k5_pay6 (k5_pay8 w) (k5_pay9 w) d (k5_pay33 k5_pay10 (k5_pay12 w) d) = truncf .bf16 (backV w d) bitsLt_bf16_f32 := rfl

theorem pay5_3 (w : FVec Ideal S3x128 .f32) (d : FVec Ideal S4096x128 .f32) :
    k5_pay3 (F := Ideal) (k5_pay30 k5_pay14 (k5_pay18 w) (k5_pay19 w) k5_pay20 (k5_pay22 w) d) = truncf .bf16 (backV w d) bitsLt_bf16_f32 := rfl

theorem pay5_1 (x d : FVec Ideal S4096x128 .f32) : k5_pay1 (F := Ideal) x (down x) d (k5_pay32 (up x) d) = dwV x d := rfl

theorem pay5_29 (x d : FVec Ideal S4096x128 .f32) : k5_pay29 (F := Ideal) x (down x) (up x) d = dwV x d := rfl

theorem pay5_31 (d : FVec Ideal S4096x128 .f32) : k5_pay31 (F := Ideal) d = sumV d := rfl

theorem pay5_28 (p g : FVec Ideal S4096x128 .f32) : k5_pay28 (F := Ideal) p g = sumV (dqV p g) := by
  rw [← pay5_26]
  rfl

end Cert.MlpTiles

end
-- ==== Proof.MlpArrays.lean ====
/- The gated MLP's convolution and gate: each of the two kernels' results, out of what its arguments hold. -/
module

public import proofs.«01_k».proof.Proof.MlpGate

@[expose] public section

set_option maxRecDepth 16384

noncomputable section

namespace Cert.MlpTiles

open Idealize.ShloMosaic Idealize.ShloMosaic.TcCoe Cert.MlpIdeal Cert.MlpIdeal.Gen Cert.MlpMath

variable {V : (c : Dev nD) → (b : Ref sig .tc) → Buf (Elt Ideal) ((c : Thread nD τ).loc b)}

/-- The first half of the hidden values after the convolution: what the gate is applied to. -/
def gateP (A : Fin 4096 → Fin 2816 → EReal) (w : Fin 3 → Fin 5632 → EReal) (b : Fin 5632 → EReal) (i : Fin 4096) (j : Fin 2816) : EReal :=
  conv (fun t => w t (lo j)) (b (lo j)) (fun i => A i j) i

/-- The second half after the convolution: what the gate's value multiplies. -/
def gateQ (B : Fin 4096 → Fin 2816 → EReal) (w : Fin 3 → Fin 5632 → EReal) (b : Fin 5632 → EReal) (i : Fin 4096) (j : Fin 2816) : EReal :=
  conv (fun t => w t (hi j)) (b (hi j)) (fun i => B i j) i

/-- The gated values. -/
def actM (P Q : Fin 4096 → Fin 2816 → EReal) (i : Fin 4096) (j : Fin 2816) : EReal := act (P i j) (Q i j)

/-- The column `j` of the channels that a grid point works on. -/
abbrev cl (n : ℕ) (j : Fin 128) : Fin 2816 := ⟨128 * (n % 22) + j.val, by omega⟩

/-! ## The forward kernel -/

theorem e2_0 : ∀ t : Fin cfg2.N, win2_0.index t = ![0, t.val] := by decide +kernel
theorem e2_1 : ∀ t : Fin cfg2.N, win2_1.index t = ![0, t.val] := by decide +kernel
theorem e2_2 : ∀ t : Fin cfg2.N, win2_2.index t = ![0, t.val] := by decide +kernel
theorem e2_3 : ∀ t : Fin cfg2.N, win2_3.index t = ![0, 22 + t.val] := by decide +kernel
theorem e2_4 : ∀ t : Fin cfg2.N, win2_4.index t = ![0, t.val] := by decide +kernel
theorem e2_5 : ∀ t : Fin cfg2.N, win2_5.index t = ![0, 22 + t.val] := by decide +kernel
theorem e2_6 : ∀ t : Fin cfg2.N, win2_6.index t = ![0, t.val] := by decide +kernel
theorem lt2 (t : Fin cfg2.N) : t.val < 22 := t.isLt

theorem out2 (x0 x1 : FVec Ideal S4096x128 .f32) (x2 x3 : FVec Ideal S3x128 .f32) (x4 x5 : FVec Ideal S1x128 .f32) (i : Fin 4096) (j : Fin 128) :
    out2_6 (F := Ideal) x0 x1 x2 x3 x4 x5 (ix2 i j)
      = act (conv (wcol x2 j) (x4 (ix2 0 j)) (col x0 j) i) (conv (wcol x3 j) (x5 (ix2 0 j)) (col x1 j) i) := by
  unfold out2_6
  frame_out
  rw [pay2_3, pay2_1, actV_at, convV_at, convV_at]

theorem array2 {c : Dev nD} {A B : Fin 4096 → Fin 2816 → EReal} {w : Fin 3 → Fin 5632 → EReal} {b : Fin 5632 → EReal}
    (hA : ∀ i j, V c main_v0 (ix2 i j) = A i j) (hB : ∀ i j, V c main_v1 (ix2 i j) = B i j)
    (hw : ∀ t k, V c main_arg3 (ix2 t k) = w t k) (hb : ∀ k, V c main_arg4 (ix2 0 k) = b k) :
    (dat2 V c).arrAt 6 cfg2.N = fun y : S4096x2816.Idx => actM (gateP A w b) (gateQ B w b) (y 0) (y 1) := by
  refine (dat2 V c).arrAt_eq_of_covers 6 _ (by decide +kernel) fun t hf y => ?_
  blk_simp
  rw [after2_6]
  idx_vars y
  have ht := lt2 t
  have e : (win2_6.blk t).view.emb (ix2 y0 y1) = ix2 y0 (cl t.val y1) := by
    blk_ext [e2_6 t]
  rw [e]
  refine (out2 _ _ _ _ _ _ _ _).trans ?_
  show _ = act (conv (fun s => w s (lo (cl t.val y1))) (b (lo (cl t.val y1))) (fun i => A i (cl t.val y1)) y0)
    (conv (fun s => w s (hi (cl t.val y1))) (b (hi (cl t.val y1))) (fun i => B i (cl t.val y1)) y0)
  have h0 : col (iblk2 V c 0 t) y1 = fun i => A i (cl t.val y1) := by
    funext i
    rw [← hA]
    blk_simp [iblk2]
    refine congrArg (V c main_v0) ?_
    blk_ext [e2_0 t]
  have h1 : col (iblk2 V c 1 t) y1 = fun i => B i (cl t.val y1) := by
    funext i
    rw [← hB]
    blk_simp [iblk2]
    refine congrArg (V c main_v1) ?_
    blk_ext [e2_1 t]
  have h2 : wcol (iblk2 V c 2 t) y1 = fun s => w s (lo (cl t.val y1)) := by
    funext s
    rw [← hw]
    blk_simp [iblk2]
    refine congrArg (V c main_arg3) ?_
    blk_ext [e2_2 t]
  have h3 : wcol (iblk2 V c 3 t) y1 = fun s => w s (hi (cl t.val y1)) := by
    funext s
    rw [← hw]
    blk_simp [iblk2]
    refine congrArg (V c main_arg3) ?_
    blk_ext [e2_3 t]
  have h4 : (iblk2 V c 4 t : FVec Ideal S1x128 .f32) (ix2 0 y1) = b (lo (cl t.val y1)) := by
    rw [← hb]
    blk_simp [iblk2]
    refine congrArg (V c main_arg4) ?_
    blk_ext [e2_4 t]
  have h5 : (iblk2 V c 5 t : FVec Ideal S1x128 .f32) (ix2 0 y1) = b (hi (cl t.val y1)) := by
    rw [← hb]
    blk_simp [iblk2]
    refine congrArg (V c main_arg4) ?_
    blk_ext [e2_5 t]
  exact congrArg₂ act (congrFun (congr (congrArg₂ conv h2 h4) h0) y0) (congrFun (congr (congrArg₂ conv h3 h5) h1) y0)

/-! ## The backward kernel -/

section
variable (x0 x1 : FVec Ideal S4096x128 .f32) (x2 x3 : FVec Ideal S3x128 .f32) (x4 x5 : FVec Ideal S1x128 .f32) (x6 : FVec Ideal S4096x128 .f32)

/-- A block's gradient of what the gate is applied to. -/
abbrev dpB : FVec Ideal S4096x128 .f32 := dpV (convV x0 x2 x4) (convV x1 x3 x5) x6

/-- A block's gradient of what the gate's value multiplies. -/
abbrev dqB : FVec Ideal S4096x128 .f32 := dqV (convV x0 x2 x4) x6

theorem out5_7_eq (i : Fin 4096) (j : Fin 128) : out5_7 (F := Ideal) x0 x1 x2 x3 x4 x5 x6 (ix2 i j) = backV x2 (dpB x0 x1 x2 x3 x4 x5 x6) (ix2 i j) := by
  unfold_out out5_7
  frame_out
  rw [pay5_13, pay5_27, pay5_2]
  pointwise []

theorem out5_8_eq (i : Fin 4096) (j : Fin 128) : out5_8 (F := Ideal) x0 x1 x2 x3 x4 x5 x6 (ix2 i j) = backV x3 (dqB x0 x2 x4 x6) (ix2 i j) := by
  unfold_out out5_8
  frame_out
  rw [pay5_13, pay5_26, pay5_3]
  pointwise []

theorem out5_9_eq (i : Fin 3) (j : Fin 128) : out5_9 (F := Ideal) x0 x1 x2 x3 x4 x5 x6 (ix2 i j) = dwV x0 (dpB x0 x1 x2 x3 x4 x5 x6) (ix2 i j) := by
  unfold_out out5_9
  frame_out
  rw [pay5_13, pay5_27, pay5_7, pay5_11, pay5_4, pay5_1]

theorem out5_10_eq (i : Fin 3) (j : Fin 128) : out5_10 (F := Ideal) x0 x1 x2 x3 x4 x5 x6 (ix2 i j) = dwV x1 (dqB x0 x2 x4 x6) (ix2 i j) := by
  unfold_out out5_10
  frame_out
  rw [pay5_13, pay5_26, pay5_17, pay5_21, pay5_5, pay5_29]

theorem out5_11_eq (i : Fin 1) (j : Fin 128) : out5_11 (F := Ideal) x0 x1 x2 x3 x4 x5 x6 (ix2 i j) = sumV (dpB x0 x1 x2 x3 x4 x5 x6) (ix2 i j) := by
  unfold_out out5_11
  frame_out
  rw [pay5_13, pay5_27, pay5_31]

theorem out5_12_eq (i : Fin 1) (j : Fin 128) : out5_12 (F := Ideal) x0 x1 x2 x3 x4 x5 x6 (ix2 i j) = sumV (dqB x0 x2 x4 x6) (ix2 i j) := by
  unfold_out out5_12
  frame_out
  rw [pay5_13, pay5_28]

end

end Cert.MlpTiles

end
-- ==== Proof.MlpBackArrays.lean ====
/- The gated MLP's backward convolution and gate: the kernel's six results, out of what its arguments hold. -/
module

public import proofs.«01_k».proof.Proof.MlpArrays

@[expose] public section

set_option maxRecDepth 16384

noncomputable section

namespace Cert.MlpTiles

open Idealize.ShloMosaic Idealize.ShloMosaic.TcCoe Cert.MlpIdeal Cert.MlpIdeal.Gen Cert.MlpMath

variable {V : (c : Dev nD) → (b : Ref sig .tc) → Buf (Elt Ideal) ((c : Thread nD τ).loc b)}

/-- The gradient of what the gate is applied to, from the gated values' gradient `G`. -/
def dP (P Q G : Fin 4096 → Fin 2816 → EReal) (i : Fin 4096) (j : Fin 2816) : EReal := dgate (P i j) (Q i j) (G i j)

/-- The gradient of what the gate's value multiplies. -/
def dQ (P G : Fin 4096 → Fin 2816 → EReal) (i : Fin 4096) (j : Fin 2816) : EReal := P i j * sg (P i j) * G i j

/-- The transposed convolution of the first half's gradient. -/
def backP (w : Fin 3 → Fin 5632 → EReal) (D : Fin 4096 → Fin 2816 → EReal) (i : Fin 4096) (j : Fin 2816) : EReal :=
  back (fun t => w t (lo j)) (fun i => D i j) i

/-- The transposed convolution of the second half's gradient. -/
def backQ (w : Fin 3 → Fin 5632 → EReal) (D : Fin 4096 → Fin 2816 → EReal) (i : Fin 4096) (j : Fin 2816) : EReal :=
  back (fun t => w t (hi j)) (fun i => D i j) i

/-- The gradient of the convolution's weights. -/
def dwM (A D : Fin 4096 → Fin 2816 → EReal) (t : Fin 3) (j : Fin 2816) : EReal := dweight (fun i => A i j) (fun i => D i j) t

/-- The gradient of its bias. -/
def dbM (D : Fin 4096 → Fin 2816 → EReal) (j : Fin 2816) : EReal := ∑ i, D i j

/-- What the kernel's arguments hold. -/
structure Back (V : (c : Dev nD) → (b : Ref sig .tc) → Buf (Elt Ideal) ((c : Thread nD τ).loc b)) (c : Dev nD) (A B : Fin 4096 → Fin 2816 → EReal)
    (w : Fin 3 → Fin 5632 → EReal) (b : Fin 5632 → EReal) (G : Fin 4096 → Fin 2816 → EReal) : Prop where
  hA : ∀ i j, V c main_v0 (ix2 i j) = A i j
  hB : ∀ i j, V c main_v1 (ix2 i j) = B i j
  hw : ∀ t k, V c main_arg3 (ix2 t k) = w t k
  hb : ∀ k, V c main_arg4 (ix2 0 k) = b k
  hG : ∀ i j, V c main_v4 (ix2 i j) = G i j

theorem e5_0 : ∀ t : Fin cfg5.N, win5_0.index t = ![0, t.val] := by decide +kernel
theorem e5_1 : ∀ t : Fin cfg5.N, win5_1.index t = ![0, t.val] := by decide +kernel
theorem e5_2 : ∀ t : Fin cfg5.N, win5_2.index t = ![0, t.val] := by decide +kernel
theorem e5_3 : ∀ t : Fin cfg5.N, win5_3.index t = ![0, 22 + t.val] := by decide +kernel
theorem e5_4 : ∀ t : Fin cfg5.N, win5_4.index t = ![0, t.val] := by decide +kernel
theorem e5_5 : ∀ t : Fin cfg5.N, win5_5.index t = ![0, 22 + t.val] := by decide +kernel
theorem e5_6 : ∀ t : Fin cfg5.N, win5_6.index t = ![0, t.val] := by decide +kernel
theorem e5_7 : ∀ t : Fin cfg5.N, win5_7.index t = ![0, t.val] := by decide +kernel
theorem e5_8 : ∀ t : Fin cfg5.N, win5_8.index t = ![0, t.val] := by decide +kernel
theorem e5_9 : ∀ t : Fin cfg5.N, win5_9.index t = ![0, t.val] := by decide +kernel
theorem e5_10 : ∀ t : Fin cfg5.N, win5_10.index t = ![0, t.val] := by decide +kernel
theorem e5_11 : ∀ t : Fin cfg5.N, win5_11.index t = ![0, t.val] := by decide +kernel
theorem e5_12 : ∀ t : Fin cfg5.N, win5_12.index t = ![0, t.val] := by decide +kernel
theorem lt5 (t : Fin cfg5.N) : t.val < 22 := t.isLt

variable {c : Dev nD} {A B G : Fin 4096 → Fin 2816 → EReal} {w : Fin 3 → Fin 5632 → EReal} {b : Fin 5632 → EReal}

theorem Back.x0 (H : Back V c A B w b G) (t : Fin cfg5.N) (j : Fin 128) : col (iblk5 V c 0 t) j = fun i => A i (cl t.val j) := by
  have ht := lt5 t
  funext i
  rw [← H.hA]
  blk_simp [iblk5]
  refine congrArg (V c main_v0) ?_
  blk_ext [e5_0 t]

theorem Back.x1 (H : Back V c A B w b G) (t : Fin cfg5.N) (j : Fin 128) : col (iblk5 V c 1 t) j = fun i => B i (cl t.val j) := by
  have ht := lt5 t
  funext i
  rw [← H.hB]
  blk_simp [iblk5]
  refine congrArg (V c main_v1) ?_
  blk_ext [e5_1 t]

theorem Back.x2 (H : Back V c A B w b G) (t : Fin cfg5.N) (j : Fin 128) : wcol (iblk5 V c 2 t) j = fun s => w s (lo (cl t.val j)) := by
  have ht := lt5 t
  funext s
  rw [← H.hw]
  blk_simp [iblk5]
  refine congrArg (V c main_arg3) ?_
  blk_ext [e5_2 t]

theorem Back.x3 (H : Back V c A B w b G) (t : Fin cfg5.N) (j : Fin 128) : wcol (iblk5 V c 3 t) j = fun s => w s (hi (cl t.val j)) := by
  have ht := lt5 t
  funext s
  rw [← H.hw]
  blk_simp [iblk5]
  refine congrArg (V c main_arg3) ?_
  blk_ext [e5_3 t]

theorem Back.x4 (H : Back V c A B w b G) (t : Fin cfg5.N) (j : Fin 128) : (iblk5 V c 4 t : FVec Ideal S1x128 .f32) (ix2 0 j) = b (lo (cl t.val j)) := by
  have ht := lt5 t
  rw [← H.hb]
  blk_simp [iblk5]
  refine congrArg (V c main_arg4) ?_
  blk_ext [e5_4 t]

theorem Back.x5 (H : Back V c A B w b G) (t : Fin cfg5.N) (j : Fin 128) : (iblk5 V c 5 t : FVec Ideal S1x128 .f32) (ix2 0 j) = b (hi (cl t.val j)) := by
  have ht := lt5 t
  rw [← H.hb]
  blk_simp [iblk5]
  refine congrArg (V c main_arg4) ?_
  blk_ext [e5_5 t]

theorem Back.x6 (H : Back V c A B w b G) (t : Fin cfg5.N) (i : Fin 4096) (j : Fin 128) : (iblk5 V c 6 t : FVec Ideal S4096x128 .f32) (ix2 i j) = G i (cl t.val j) := by
  have ht := lt5 t
  rw [← H.hG]
  blk_simp [iblk5]
  refine congrArg (V c main_v4) ?_
  blk_ext [e5_6 t]

/-- A block of what the gate is applied to. -/
theorem Back.p (H : Back V c A B w b G) (t : Fin cfg5.N) (i : Fin 4096) (j : Fin 128) :
    convV (iblk5 V c 0 t) (iblk5 V c 2 t) (iblk5 V c 4 t) (ix2 i j) = gateP A w b i (cl t.val j) :=
  (convV_at _ _ _ _ _).trans (congrFun (congr (congrArg₂ conv (H.x2 t j) (H.x4 t j)) (H.x0 t j)) i)

/-- A block of what the gate's value multiplies. -/
theorem Back.q (H : Back V c A B w b G) (t : Fin cfg5.N) (i : Fin 4096) (j : Fin 128) :
    convV (iblk5 V c 1 t) (iblk5 V c 3 t) (iblk5 V c 5 t) (ix2 i j) = gateQ B w b i (cl t.val j) :=
  (convV_at _ _ _ _ _).trans (congrFun (congr (congrArg₂ conv (H.x3 t j) (H.x5 t j)) (H.x1 t j)) i)

theorem Back.dp (H : Back V c A B w b G) (t : Fin cfg5.N) (j : Fin 128) :
    col (dpB (iblk5 V c 0 t) (iblk5 V c 1 t) (iblk5 V c 2 t) (iblk5 V c 3 t) (iblk5 V c 4 t) (iblk5 V c 5 t) (iblk5 V c 6 t)) j
      = fun i => dP (gateP A w b) (gateQ B w b) G i (cl t.val j) := by
  funext i
  refine (dpV_at _ _ _ _ _).trans ?_
  rw [H.p, H.q, H.x6]
  rfl

theorem Back.dq (H : Back V c A B w b G) (t : Fin cfg5.N) (j : Fin 128) :
    col (dqB (iblk5 V c 0 t) (iblk5 V c 2 t) (iblk5 V c 4 t) (iblk5 V c 6 t)) j = fun i => dQ (gateP A w b) G i (cl t.val j) := by
  funext i
  refine (dqV_at _ _ _ _).trans ?_
  rw [H.p, H.x6]
  rfl

theorem array5_7 (H : Back V c A B w b G) :
    (dat5 V c).arrAt 7 cfg5.N = fun y : S4096x2816.Idx => backP w (dP (gateP A w b) (gateQ B w b) G) (y 0) (y 1) := by
  refine (dat5 V c).arrAt_eq_of_covers 7 _ (by decide +kernel) fun t hf y => ?_
  blk_simp
  rw [after5_7]
  idx_vars y
  have ht := lt5 t
  have e : (win5_7.blk t).view.emb (ix2 y0 y1) = ix2 y0 (cl t.val y1) := by
    blk_ext [e5_7 t]
  rw [e]
  refine (out5_7_eq _ _ _ _ _ _ _ _ _).trans ((backV_at _ _ _ _).trans ?_)
  rw [H.x2, H.dp]
  rfl

theorem array5_8 (H : Back V c A B w b G) :
    (dat5 V c).arrAt 8 cfg5.N = fun y : S4096x2816.Idx => backQ w (dQ (gateP A w b) G) (y 0) (y 1) := by
  refine (dat5 V c).arrAt_eq_of_covers 8 _ (by decide +kernel) fun t hf y => ?_
  blk_simp
  rw [after5_8]
  idx_vars y
  have ht := lt5 t
  have e : (win5_8.blk t).view.emb (ix2 y0 y1) = ix2 y0 (cl t.val y1) := by
    blk_ext [e5_8 t]
  rw [e]
  refine (out5_8_eq _ _ _ _ _ _ _ _ _).trans ((backV_at _ _ _ _).trans ?_)
  rw [H.x3, H.dq]
  rfl

theorem array5_9 (H : Back V c A B w b G) :
    (dat5 V c).arrAt 9 cfg5.N = fun y : S3x2816.Idx => dwM A (dP (gateP A w b) (gateQ B w b) G) (y 0) (y 1) := by
  refine (dat5 V c).arrAt_eq_of_covers 9 _ (by decide +kernel) fun t hf y => ?_
  blk_simp
  rw [after5_9]
  idx_vars y
  have ht := lt5 t
  have e : (win5_9.blk t).view.emb (ix2 y0 y1) = ix2 y0 (cl t.val y1) := by
    blk_ext [e5_9 t]
  rw [e]
  refine (out5_9_eq _ _ _ _ _ _ _ _ _).trans ((dwV_at _ _ _ _).trans ?_)
  rw [H.x0, H.dp]
  rfl

theorem array5_10 (H : Back V c A B w b G) :
    (dat5 V c).arrAt 10 cfg5.N = fun y : S3x2816.Idx => dwM B (dQ (gateP A w b) G) (y 0) (y 1) := by
  refine (dat5 V c).arrAt_eq_of_covers 10 _ (by decide +kernel) fun t hf y => ?_
  blk_simp
  rw [after5_10]
  idx_vars y
  have ht := lt5 t
  have e : (win5_10.blk t).view.emb (ix2 y0 y1) = ix2 y0 (cl t.val y1) := by
    blk_ext [e5_10 t]
  rw [e]
  refine (out5_10_eq _ _ _ _ _ _ _ _ _).trans ((dwV_at _ _ _ _).trans ?_)
  rw [H.x1, H.dq]
  rfl

theorem array5_11 (H : Back V c A B w b G) :
    (dat5 V c).arrAt 11 cfg5.N = fun y : S1x2816.Idx => dbM (dP (gateP A w b) (gateQ B w b) G) (y 1) := by
  refine (dat5 V c).arrAt_eq_of_covers 11 _ (by decide +kernel) fun t hf y => ?_
  blk_simp
  rw [after5_11]
  idx_vars y
  have ht := lt5 t
  have e : (win5_11.blk t).view.emb (ix2 y0 y1) = ix2 y0 (cl t.val y1) := by
    blk_ext [e5_11 t]
  rw [e]
  refine (out5_11_eq _ _ _ _ _ _ _ _ _).trans ((sumV_at _ _ _).trans ?_)
  rw [H.dp]
  rfl

theorem array5_12 (H : Back V c A B w b G) :
    (dat5 V c).arrAt 12 cfg5.N = fun y : S1x2816.Idx => dbM (dQ (gateP A w b) G) (y 1) := by
  refine (dat5 V c).arrAt_eq_of_covers 12 _ (by decide +kernel) fun t hf y => ?_
  blk_simp
  rw [after5_12]
  idx_vars y
  have ht := lt5 t
  have e : (win5_12.blk t).view.emb (ix2 y0 y1) = ix2 y0 (cl t.val y1) := by
    blk_ext [e5_12 t]
  rw [e]
  refine (out5_12_eq _ _ _ _ _ _ _ _ _).trans ((sumV_at _ _ _).trans ?_)
  rw [H.dq]
  rfl

end Cert.MlpTiles

end
-- ==== Proof.MlpReference.lean ====
/- What the gated MLP's reference computes: its result and its gradients at an index, out of what the arguments hold. -/
module

public import proofs.«01_k».proof.Proof.Gen.MlpReferenceIdeal.Read
public import proofs.«01_k».proof.Proof.MlpBackArrays

@[expose] public section

set_option maxRecDepth 16384

noncomputable section

namespace Cert.MlpReference

open Idealize.ShloMosaic Cert.MlpReferenceIdeal Cert.MlpReferenceIdeal.Gen Cert.MlpReferenceIdeal.Read Cert.MlpMath Cert.MlpTiles

variable (x0 : (⟨S4096x1024, .bf16⟩ : BufTy).Contents (Elt Ideal)) (x1 : (⟨S5632x1024, .bf16⟩ : BufTy).Contents (Elt Ideal))
  (x2 : (⟨S2816x1024, .bf16⟩ : BufTy).Contents (Elt Ideal)) (x3 : (⟨S3x5632, .f32⟩ : BufTy).Contents (Elt Ideal))
  (x4 : (⟨S1x5632, .f32⟩ : BufTy).Contents (Elt Ideal)) (x5 : (⟨S4096x1024, .bf16⟩ : BufTy).Contents (Elt Ideal))
  (x6 : (⟨S4096x1024, .f32⟩ : BufTy).Contents (Elt Ideal))
  (X : Fin 4096 → Fin 1024 → EReal) (U : Fin 5632 → Fin 1024 → EReal) (D : Fin 2816 → Fin 1024 → EReal) (w : Fin 3 → Fin 5632 → EReal)
  (b : Fin 5632 → EReal) (E : Fin 4096 → Fin 1024 → EReal) (R : Fin 4096 → Fin 1024 → EReal)

/-- What the arguments hold. -/
structure Args : Prop where
  h0 : ∀ i k, x0 (ix2 i k) = X i k
  h1 : ∀ i k, x1 (ix2 i k) = U i k
  h2 : ∀ i k, x2 (ix2 i k) = D i k
  h3 : ∀ t j, x3 (ix2 t j) = w t j
  h4 : ∀ j, x4 (ix2 0 j) = b j
  h5 : ∀ i k, x5 (ix2 i k) = E i k
  h6 : ∀ i k, x6 (ix2 i k) = R i k

variable {x0 x1 x2 x3 x4 x5 x6 X U D w b E R}

/-- The hidden values before the convolution. -/
theorem v5_at (A : Args x0 x1 x2 x3 x4 x5 x6 X U D w b E R) (i : Fin 4096) (j : Fin 5632) : val_main_v5 (F := Ideal) x0 x1 (ix2 i j) = prodT X U i j := by
  pointwise [val_main_v5, val_main_v0, val_main_v3, val_main_v2]
  simp only [A.h0, A.h1]
  rfl

theorem v8_at (A : Args x0 x1 x2 x3 x4 x5 x6 X U D w b E R) (i : Fin 4096) (j : Fin 5632) :
    val_main_v8 (F := Ideal) x0 x1 (ix2 i j) = before (fun i => prodT X U i j) i := by
  have e := v5_at A
  pointwise [val_main_v8, val_main_v6, val_main_cst, val_main_v7]
  unfold before
  by_cases h : i.val < 1
  · rw [dif_pos h, dif_pos (by omega)]
  · rw [dif_neg h, dif_neg (by omega)]
    exact e _ _

theorem v11_at (A : Args x0 x1 x2 x3 x4 x5 x6 X U D w b E R) (i : Fin 4096) (j : Fin 5632) :
    val_main_v11 (F := Ideal) x0 x1 (ix2 i j) = after (fun i => prodT X U i j) i := by
  have e := v5_at A
  pointwise [val_main_v11, val_main_v10, val_main_v6, val_main_cst]
  have hi := i.isLt
  unfold after
  by_cases h : i.val < 4095
  · rw [dif_pos h, dif_neg (by omega)]
    refine (e _ _).trans ?_
    exact congrArg (fun i => prodT X U i j) (Fin.ext (Nat.add_comm 1 i.val))
  · rw [dif_neg h, dif_pos (by omega)]

theorem v16_at (A : Args x0 x1 x2 x3 x4 x5 x6 X U D w b E R) (i : Fin 4096) (j : Fin 5632) : val_main_v16 (F := Ideal) x3 (ix2 i j) = w 0 j := by
  rw [← A.h3]
  pointwise [val_main_v16, val_main_v15, val_main_v14, val_main_v13]

theorem v21_at (A : Args x0 x1 x2 x3 x4 x5 x6 X U D w b E R) (i : Fin 4096) (j : Fin 5632) : val_main_v21 (F := Ideal) x3 (ix2 i j) = w 1 j := by
  rw [← A.h3]
  pointwise [val_main_v21, val_main_v20, val_main_v19, val_main_v18]

theorem v27_at (A : Args x0 x1 x2 x3 x4 x5 x6 X U D w b E R) (i : Fin 4096) (j : Fin 5632) : val_main_v27 (F := Ideal) x3 (ix2 i j) = w 2 j := by
  rw [← A.h3]
  pointwise [val_main_v27, val_main_v26, val_main_v25, val_main_v24]

theorem v31_at (A : Args x0 x1 x2 x3 x4 x5 x6 X U D w b E R) (i : Fin 4096) (j : Fin 5632) : val_main_v31 (F := Ideal) x4 (ix2 i j) = b j := by
  rw [← A.h4]
  pointwise [val_main_v31, val_main_v30, val_main_v1]

/-- The hidden values after the convolution. -/
theorem v32_at (A : Args x0 x1 x2 x3 x4 x5 x6 X U D w b E R) (i : Fin 4096) (j : Fin 5632) :
    val_main_v32 (F := Ideal) x0 x1 x3 x4 (ix2 i j) = conv (fun t => w t j) (b j) (fun i => prodT X U i j) i := by
  have e1 : val_main_v32 (F := Ideal) x0 x1 x3 x4 (ix2 i j) = val_main_v8 (F := Ideal) x0 x1 (ix2 i j) * val_main_v16 (F := Ideal) x3 (ix2 i j)
    + val_main_v5 (F := Ideal) x0 x1 (ix2 i j) * val_main_v21 (F := Ideal) x3 (ix2 i j) + val_main_v11 (F := Ideal) x0 x1 (ix2 i j) * val_main_v27 (F := Ideal) x3 (ix2 i j)
    + val_main_v31 (F := Ideal) x4 (ix2 i j) := rfl
  rw [e1, v8_at A, v16_at A, v5_at A, v21_at A, v11_at A, v27_at A, v31_at A]
  rfl

/-- The gate's input. -/
theorem v33_at (A : Args x0 x1 x2 x3 x4 x5 x6 X U D w b E R) (i : Fin 4096) (j : Fin 2816) :
    val_main_v33 (F := Ideal) x0 x1 x3 x4 (ix2 i j) = gateP (prodT X (fun j => U (lo j))) w b i j := by
  have e := v32_at A i (lo j)
  refine Eq.trans ?_ e
  pointwise [val_main_v33]

/-- What the gate multiplies. -/
theorem v35_at (A : Args x0 x1 x2 x3 x4 x5 x6 X U D w b E R) (i : Fin 4096) (j : Fin 2816) :
    val_main_v35 (F := Ideal) x0 x1 x3 x4 (ix2 i j) = gateQ (prodT X (fun j => U (hi j))) w b i j := by
  have e := v32_at A i (hi j)
  refine Eq.trans ?_ e
  pointwise [val_main_v35]

/-- The logistic function of the gate's input. -/
theorem v34_2_at (A : Args x0 x1 x2 x3 x4 x5 x6 X U D w b E R) (i : Fin 4096) (j : Fin 2816) :
    val_main_v34_2 (F := Ideal) x0 x1 x3 x4 (ix2 i j) = sg (gateP (prodT X (fun j => U (lo j))) w b i j) := by
  rw [← sg_eq, ← v33_at A]
  pointwise [val_main_v34_2, val_main_call0_v4, val_main_call0_v3, val_main_call0_v2, val_main_call0_v1, val_main_call0_v0, val_main_call0_cst, val_main_call0_cst_0]
  rfl

/-- One less the logistic function, times it. -/
theorem v34_1_at (A : Args x0 x1 x2 x3 x4 x5 x6 X U D w b E R) (i : Fin 4096) (j : Fin 2816) :
    val_main_v34_1 (F := Ideal) x0 x1 x3 x4 (ix2 i j) = sg (gateP (prodT X (fun j => U (lo j))) w b i j) * (1 - sg (gateP (prodT X (fun j => U (lo j))) w b i j)) := by
  rw [← v34_2_at A]
  pointwise [val_main_v34_1, val_main_call0_v7, val_main_call0_v6, val_main_call0_cst_1]

theorem v34_0_at (A : Args x0 x1 x2 x3 x4 x5 x6 X U D w b E R) (i : Fin 4096) (j : Fin 2816) :
    val_main_v34_0 (F := Ideal) x0 x1 x3 x4 (ix2 i j) = gateP (prodT X (fun j => U (lo j))) w b i j * sg (gateP (prodT X (fun j => U (lo j))) w b i j) := by
  rw [← v34_2_at A, ← v33_at A]
  rfl

/-- The gated values. -/
theorem v36_at (A : Args x0 x1 x2 x3 x4 x5 x6 X U D w b E R) (i : Fin 4096) (j : Fin 2816) :
    val_main_v36 (F := Ideal) x0 x1 x3 x4 (ix2 i j) = actM (gateP (prodT X (fun j => U (lo j))) w b) (gateQ (prodT X (fun j => U (hi j))) w b) i j := by
  have e : val_main_v36 (F := Ideal) x0 x1 x3 x4 (ix2 i j) = val_main_v34_0 (F := Ideal) x0 x1 x3 x4 (ix2 i j) * val_main_v35 (F := Ideal) x0 x1 x3 x4 (ix2 i j) := rfl
  rw [e, v34_0_at A, v35_at A]
  rfl

/-- The block's result. -/
theorem v37_at (A : Args x0 x1 x2 x3 x4 x5 x6 X U D w b E R) (i : Fin 4096) (k : Fin 1024) : val_main_v37 (F := Ideal) x0 x1 x2 x3 x4 (ix2 i k)
    = prodN (actM (gateP (prodT X (fun j => U (lo j))) w b) (gateQ (prodT X (fun j => U (hi j))) w b)) D i k := by
  have e := v36_at A
  pointwise [val_main_v37, val_main_v4]
  simp only [e, A.h2]
  rfl

/-- The gradient of the gated values. -/
theorem v39_at (A : Args x0 x1 x2 x3 x4 x5 x6 X U D w b E R) (i : Fin 4096) (j : Fin 2816) : val_main_v39 (F := Ideal) x2 x5 (ix2 i j) = prodT E D i j := by
  pointwise [val_main_v39, val_main_v38, val_main_v4]
  simp only [A.h5, A.h2]
  rfl

theorem v40_at (A : Args x0 x1 x2 x3 x4 x5 x6 X U D w b E R) (i : Fin 4096) (j : Fin 2816) : val_main_v40 (F := Ideal) x0 x1 x2 x3 x4 x5 (ix2 i j)
    = dQ (gateP (prodT X (fun j => U (lo j))) w b) (prodT E D) i j := by
  have e : val_main_v40 (F := Ideal) x0 x1 x2 x3 x4 x5 (ix2 i j) = val_main_v34_0 (F := Ideal) x0 x1 x3 x4 (ix2 i j) * val_main_v39 (F := Ideal) x2 x5 (ix2 i j) := rfl
  rw [e, v34_0_at A, v39_at A]
  rfl

theorem v43_at (A : Args x0 x1 x2 x3 x4 x5 x6 X U D w b E R) (i : Fin 4096) (j : Fin 2816) : val_main_v43 (F := Ideal) x0 x1 x2 x3 x4 x5 (ix2 i j)
    = dP (gateP (prodT X (fun j => U (lo j))) w b) (gateQ (prodT X (fun j => U (hi j))) w b) (prodT E D) i j := by
  have e : val_main_v43 (F := Ideal) x0 x1 x2 x3 x4 x5 (ix2 i j)
      = val_main_v39 (F := Ideal) x2 x5 (ix2 i j) * val_main_v35 (F := Ideal) x0 x1 x3 x4 (ix2 i j) * val_main_v34_2 (F := Ideal) x0 x1 x3 x4 (ix2 i j)
        + val_main_v33 (F := Ideal) x0 x1 x3 x4 (ix2 i j) * (val_main_v39 (F := Ideal) x2 x5 (ix2 i j) * val_main_v35 (F := Ideal) x0 x1 x3 x4 (ix2 i j))
          * val_main_v34_1 (F := Ideal) x0 x1 x3 x4 (ix2 i j) := rfl
  rw [e, v39_at A, v35_at A, v34_2_at A, v33_at A, v34_1_at A]
  exact dgate_eq _ _ _

/-- Two halves of the hidden axis, side by side. -/
def join (P Q : Fin 2816 → EReal) (j : Fin 5632) : EReal := if h : j.val < 2816 then P ⟨j.val, h⟩ else Q ⟨j.val - 2816, by omega⟩

theorem join_lo (P Q : Fin 2816 → EReal) (j : Fin 2816) : join P Q (lo j) = P j := dif_pos j.isLt

theorem join_hi (P Q : Fin 2816 → EReal) (j : Fin 2816) : join P Q (hi j) = Q j := by
  have h : ¬ (hi j).val < 2816 := by show ¬ 2816 + j.val < 2816; omega
  refine (dif_neg h).trans (congrArg Q (Fin.ext ?_))
  show 2816 + j.val - 2816 = j.val
  omega

/-- The gradient of the hidden values after the convolution. -/
def dhid (X : Fin 4096 → Fin 1024 → EReal) (U : Fin 5632 → Fin 1024 → EReal) (D : Fin 2816 → Fin 1024 → EReal) (w : Fin 3 → Fin 5632 → EReal)
    (b : Fin 5632 → EReal) (E : Fin 4096 → Fin 1024 → EReal) (i : Fin 4096) (j : Fin 5632) : EReal :=
  join (dP (gateP (prodT X (fun j => U (lo j))) w b) (gateQ (prodT X (fun j => U (hi j))) w b) (prodT E D) i)
    (dQ (gateP (prodT X (fun j => U (lo j))) w b) (prodT E D) i) j

theorem v45_at (A : Args x0 x1 x2 x3 x4 x5 x6 X U D w b E R) (i : Fin 4096) (j : Fin 5632) :
    val_main_v45 (F := Ideal) x0 x1 x2 x3 x4 x5 (ix2 i j) = dhid X U D w b E i j := by
  have e0 := v40_at A
  have e1 := v43_at A
  pointwise [val_main_v45, val_main_v42, val_main_v44, val_main_cst_2, val_main_cst_3]
  have hj := j.isLt
  unfold dhid join
  by_cases h : j.val < 2816
  · rw [dif_neg (by omega), dif_pos h, dif_pos h, zero_add]
    exact e1 _ _
  · rw [dif_pos (by omega), dif_neg h, dif_neg h, add_zero]
    exact e0 _ _

/-- The gradient of the convolution's bias. -/
theorem v85_at (A : Args x0 x1 x2 x3 x4 x5 x6 X U D w b E R) (j : Fin 5632) :
    val_main_v85 (F := Ideal) x0 x1 x2 x3 x4 x5 (ix2 0 j) = ∑ i, dhid X U D w b E i j := by
  have e := v45_at A
  pointwise [val_main_v85, val_main_v48, val_main_v47, val_main_v46, val_main_cst_4, val_main_cst_5]
  simp only [Fin.sum_univ_one, e]

/-- The gradient of the convolution's weights. -/
theorem v74_at (A : Args x0 x1 x2 x3 x4 x5 x6 X U D w b E R) (t : Fin 3) (j : Fin 5632) :
    val_main_v74 (F := Ideal) x0 x1 x2 x3 x4 x5 (ix2 t j) = dweight (fun i => prodT X U i j) (fun i => dhid X U D w b E i j) t := by
  have e := v45_at A
  have e5 := v5_at A
  have e8 := v8_at A
  have e11 := v11_at A
  pointwise [val_main_v74, val_main_v65, val_main_v73, val_main_v56, val_main_v64, val_main_v55, val_main_v63, val_main_v72,
    val_main_v54, val_main_v62, val_main_v71, val_main_v51, val_main_v59, val_main_v68, val_main_v50, val_main_v58, val_main_v67, val_main_v49, val_main_v57, val_main_v66,
    val_main_cst_6, val_main_cst_7, val_main_cst_8, val_main_cst_9, val_main_cst_10, val_main_cst_11, val_main_cst_12, val_main_cst_13, val_main_cst_14]
  fin_cases t <;> simp [dweight, e, e5, e8, e11]

/-- The gradient of the hidden values before the convolution. -/
theorem v82_at (A : Args x0 x1 x2 x3 x4 x5 x6 X U D w b E R) (i : Fin 4096) (j : Fin 5632) :
    val_main_v82 (F := Ideal) x0 x1 x2 x3 x4 x5 (ix2 i j) = back (fun t => w t j) (fun i => dhid X U D w b E i j) i := by
  have e := v45_at A
  have h3 := A.h3
  pointwise [val_main_v82, val_main_v78, val_main_v81, val_main_v61, val_main_v77, val_main_v75, val_main_v80, val_main_v53, val_main_v70,
    val_main_v52, val_main_v60, val_main_v69, val_main_v26, val_main_v25, val_main_v24, val_main_v20, val_main_v19, val_main_v18, val_main_v15, val_main_v14, val_main_v13,
    val_main_cst_15, val_main_cst_16]
  have hi := i.isLt
  simp only [e, h3]
  unfold back
  rw [add_comm (before _ _)]
  refine congrArg₂ (· + ·) (congrArg₂ (· + ·) rfl ?_) ?_
  · unfold before
    by_cases h : i.val = 0
    · rw [dif_pos h, dif_neg (by omega)]
    · rw [dif_neg h, dif_pos (by omega)]
  · unfold after
    by_cases h : i.val = 4095
    · rw [dif_pos h, dif_neg (by omega)]
    · rw [dif_neg h, dif_pos (by omega)]
      exact congrArg (fun i => dhid X U D w b E i j * w 0 j) (Fin.ext (Nat.add_comm 1 i.val))

/-- The gradient of the block's input. -/
theorem v84_at (A : Args x0 x1 x2 x3 x4 x5 x6 X U D w b E R) (i : Fin 4096) (k : Fin 1024) :
    val_main_v84 (F := Ideal) x0 x1 x2 x3 x4 x5 x6 (ix2 i k)
      = (∑ j, back (fun t => w t j) (fun i => dhid X U D w b E i j) i * U j k) + R i k := by
  have e := v82_at A
  pointwise [val_main_v84, val_main_v83, val_main_v3, val_main_v2]
  simp only [e, A.h1, A.h6]

end Cert.MlpReference

end
-- ==== Proof.MlpRun.lean ====
/- The gated MLP's run with its results: each of the four result arrays ends at what the pipelines' write-backs leave, and the arguments end unchanged. -/
module

public import proofs.«01_k».proof.Proof.Gen.MlpIdeal.Frame

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- Every fair execution ends, with the results at the last contents and the arguments as launched. -/
theorem run_results : θ_run defs (onTc (τ := τ) (main (F := F))) ⟨m, fun _ => 0, ρ⟩ (fun r => ∀ c : Dev nD,
      r.2.mem ((c.tc : Thread nD τ).loc main_v3) = W8 m ρ c (Proc.devRef .tc main_v3)
      ∧ r.2.mem ((c.tc : Thread nD τ).loc main_v8) = W8 m ρ c (Proc.devRef .tc main_v8)
      ∧ r.2.mem ((c.tc : Thread nD τ).loc main_v6) = W8 m ρ c (Proc.devRef .tc main_v6)
      ∧ r.2.mem ((c.tc : Thread nD τ).loc main_v7) = W8 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨h c _ (mem_uc main_v3 (by decide)), h c _ (mem_uc main_v8 (by decide)), h c _ (mem_uc main_v6 (by decide)), h c _ (mem_uc main_v7 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.MlpIdeal.Gen

end
-- ==== Proof.MlpResults.lean ====
/- The contents the gated MLP's run ends with are what its reference computes. -/
module

public import proofs.«01_k».proof.Proof.MlpReference
public import proofs.«01_k».proof.Proof.MlpRun

@[expose] public section

set_option maxRecDepth 16384

noncomputable section

namespace Cert.MlpResults

open Idealize.ShloMosaic Idealize.ShloMosaic.TcCoe Cert.MlpIdeal Cert.MlpIdeal.Gen Cert.MlpMath Cert.MlpTiles Cert.MlpReference

variable (m : (ℓ : Loc nD τ sig) → Buf (Elt Ideal) ℓ) (ρ : Dev nD → PrngReg) (c : Dev nD)

/-- The arguments as the run is launched. -/
abbrev a0 : (⟨S4096x1024, .bf16⟩ : BufTy).Contents (Elt Ideal) := m ((c.tc : Thread nD τ).loc main_arg0)
abbrev a1 : (⟨S5632x1024, .bf16⟩ : BufTy).Contents (Elt Ideal) := m ((c.tc : Thread nD τ).loc main_arg1)
abbrev a2 : (⟨S2816x1024, .bf16⟩ : BufTy).Contents (Elt Ideal) := m ((c.tc : Thread nD τ).loc main_arg2)
abbrev a3 : (⟨S3x5632, .f32⟩ : BufTy).Contents (Elt Ideal) := m ((c.tc : Thread nD τ).loc main_arg3)
abbrev a4 : (⟨S1x5632, .f32⟩ : BufTy).Contents (Elt Ideal) := m ((c.tc : Thread nD τ).loc main_arg4)
abbrev a5 : (⟨S4096x1024, .bf16⟩ : BufTy).Contents (Elt Ideal) := m ((c.tc : Thread nD τ).loc main_arg5)
abbrev a6 : (⟨S4096x1024, .f32⟩ : BufTy).Contents (Elt Ideal) := m ((c.tc : Thread nD τ).loc main_arg6)

variable {m c} {X : Fin 4096 → Fin 1024 → EReal} {U : Fin 5632 → Fin 1024 → EReal} {D : Fin 2816 → Fin 1024 → EReal} {w : Fin 3 → Fin 5632 → EReal}
  {b : Fin 5632 → EReal} {E : Fin 4096 → Fin 1024 → EReal} {R : Fin 4096 → Fin 1024 → EReal}

/-- The hidden values' two halves. -/
abbrev hidA (X : Fin 4096 → Fin 1024 → EReal) (U : Fin 5632 → Fin 1024 → EReal) := prodT X (fun j => U (lo j))
abbrev hidB (X : Fin 4096 → Fin 1024 → EReal) (U : Fin 5632 → Fin 1024 → EReal) := prodT X (fun j => U (hi j))

/-- The first half, as its pipeline leaves it. -/
theorem w1_a (A : Args (a0 m c) (a1 m c) (a2 m c) (a3 m c) (a4 m c) (a5 m c) (a6 m c) X U D w b E R) :
    W1 m ρ c (Proc.devRef .tc main_v0) = fun y : S4096x2816.Idx => hidA X U (y 0) (y 1) :=
  (W1_arr m ρ c 2).trans (array0 (V := V0 m ρ) (c := c) (fun i k => A.h0 i k) (fun j k => A.h1 j k))

/-- The second half. -/
theorem w2_b (A : Args (a0 m c) (a1 m c) (a2 m c) (a3 m c) (a4 m c) (a5 m c) (a6 m c) X U D w b E R) :
    W2 m ρ c (Proc.devRef .tc main_v1) = fun y : S4096x2816.Idx => hidB X U (y 0) (y 1) :=
  (W2_arr m ρ c 2).trans (array1 (V := V1 m ρ) (c := c)
    (fun i k => (congrFun (W1_args m ρ c main_arg0 (by decide)) _).trans (A.h0 i k))
    (fun j k => (congrFun (W1_args m ρ c main_arg1 (by decide)) _).trans (A.h1 j k)))

theorem w2_a (A : Args (a0 m c) (a1 m c) (a2 m c) (a3 m c) (a4 m c) (a5 m c) (a6 m c) X U D w b E R) :
    W2 m ρ c (Proc.devRef .tc main_v0) = fun y : S4096x2816.Idx => hidA X U (y 0) (y 1) :=
  (W2_of m ρ c main_v0 (by decide)).trans (w1_a ρ A)

/-- The gated values. -/
theorem w3_h (A : Args (a0 m c) (a1 m c) (a2 m c) (a3 m c) (a4 m c) (a5 m c) (a6 m c) X U D w b E R) :
    W3 m ρ c (Proc.devRef .tc main_v2) = fun y : S4096x2816.Idx => actM (gateP (hidA X U) w b) (gateQ (hidB X U) w b) (y 0) (y 1) :=
  (W3_arr m ρ c 6).trans (array2 (V := V2 m ρ) (c := c)
    (fun i k => congrFun (w2_a ρ A) (ix2 i k)) (fun i k => congrFun (w2_b ρ A) (ix2 i k))
    (fun t k => (congrFun (W2_args m ρ c main_arg3 (by decide)) _).trans (A.h3 t k))
    (fun k => (congrFun (W2_args m ρ c main_arg4 (by decide)) _).trans (A.h4 k)))

/-- The block's result. -/
theorem w4_y (A : Args (a0 m c) (a1 m c) (a2 m c) (a3 m c) (a4 m c) (a5 m c) (a6 m c) X U D w b E R) :
    W4 m ρ c (Proc.devRef .tc main_v3)
      = fun y : S4096x1024.Idx => prodN (actM (gateP (hidA X U) w b) (gateQ (hidB X U) w b)) D (y 0) (y 1) :=
  (W4_arr m ρ c 2).trans (array3 (V := V3 m ρ) (c := c)
    (fun i k => congrFun (w3_h ρ A) (ix2 i k))
    (fun j k => (congrFun (W3_args m ρ c main_arg2 (by decide)) _).trans (A.h2 j k)))

/-- The gradient of the gated values. -/
theorem w5_g (A : Args (a0 m c) (a1 m c) (a2 m c) (a3 m c) (a4 m c) (a5 m c) (a6 m c) X U D w b E R) :
    W5 m ρ c (Proc.devRef .tc main_v4) = fun y : S4096x2816.Idx => prodT E D (y 0) (y 1) :=
  (W5_arr m ρ c 2).trans (array4 (V := V4 m ρ) (c := c)
    (fun i k => (congrFun (W4_args m ρ c main_arg5 (by decide)) _).trans (A.h5 i k))
    (fun j k => (congrFun (W4_args m ρ c main_arg2 (by decide)) _).trans (A.h2 j k)))

/-- The halves are still there when the backward gate is entered. -/
theorem w5_a (A : Args (a0 m c) (a1 m c) (a2 m c) (a3 m c) (a4 m c) (a5 m c) (a6 m c) X U D w b E R) :
    W5 m ρ c (Proc.devRef .tc main_v0) = fun y : S4096x2816.Idx => hidA X U (y 0) (y 1) :=
  (W5_of m ρ c main_v0 (by decide)).trans ((W4_of m ρ c main_v0 (by decide)).trans ((W3_of m ρ c main_v0 (by decide)).trans (w2_a ρ A)))

theorem w5_b (A : Args (a0 m c) (a1 m c) (a2 m c) (a3 m c) (a4 m c) (a5 m c) (a6 m c) X U D w b E R) :
    W5 m ρ c (Proc.devRef .tc main_v1) = fun y : S4096x2816.Idx => hidB X U (y 0) (y 1) :=
  (W5_of m ρ c main_v1 (by decide)).trans ((W4_of m ρ c main_v1 (by decide)).trans ((W3_of m ρ c main_v1 (by decide)).trans (w2_b ρ A)))

/-- What the backward gate is entered with. -/
theorem enter5 (A : Args (a0 m c) (a1 m c) (a2 m c) (a3 m c) (a4 m c) (a5 m c) (a6 m c) X U D w b E R) :
    Back (V5 m ρ) c (hidA X U) (hidB X U) w b (prodT E D) where
  hA i k := congrFun (w5_a ρ A) (ix2 i k)
  hB i k := congrFun (w5_b ρ A) (ix2 i k)
  hw t k := (congrFun (W5_args m ρ c main_arg3 (by decide)) _).trans (A.h3 t k)
  hb k := (congrFun (W5_args m ρ c main_arg4 (by decide)) _).trans (A.h4 k)
  hG i k := congrFun (w5_g ρ A) (ix2 i k)

/-- The gradients of the gate's two inputs. -/
abbrev gradP (X : Fin 4096 → Fin 1024 → EReal) (U : Fin 5632 → Fin 1024 → EReal) (D : Fin 2816 → Fin 1024 → EReal) (w : Fin 3 → Fin 5632 → EReal)
    (b : Fin 5632 → EReal) (E : Fin 4096 → Fin 1024 → EReal) := dP (gateP (hidA X U) w b) (gateQ (hidB X U) w b) (prodT E D)
abbrev gradQ (X : Fin 4096 → Fin 1024 → EReal) (U : Fin 5632 → Fin 1024 → EReal) (D : Fin 2816 → Fin 1024 → EReal) (w : Fin 3 → Fin 5632 → EReal)
    (b : Fin 5632 → EReal) (E : Fin 4096 → Fin 1024 → EReal) := dQ (gateP (hidA X U) w b) (prodT E D)

/-- The gradients of the hidden values' two halves, as the last pipeline is entered. -/
theorem w7_p (A : Args (a0 m c) (a1 m c) (a2 m c) (a3 m c) (a4 m c) (a5 m c) (a6 m c) X U D w b E R) :
    W7 m ρ c (Proc.devRef .tc main_v5_0) = fun y : S4096x2816.Idx => backP w (gradP X U D w b E) (y 0) (y 1) :=
  (W7_of m ρ c main_v5_0 (by decide)).trans ((W6_arr m ρ c 7).trans (array5_7 (enter5 ρ A)))

theorem w7_q (A : Args (a0 m c) (a1 m c) (a2 m c) (a3 m c) (a4 m c) (a5 m c) (a6 m c) X U D w b E R) :
    W7 m ρ c (Proc.devRef .tc main_v5_1) = fun y : S4096x2816.Idx => backQ w (gradQ X U D w b E) (y 0) (y 1) :=
  (W7_of m ρ c main_v5_1 (by decide)).trans ((W6_arr m ρ c 8).trans (array5_8 (enter5 ρ A)))

/-- The gradient of the block's input, as the last pipeline leaves it. -/
theorem w8_x (A : Args (a0 m c) (a1 m c) (a2 m c) (a3 m c) (a4 m c) (a5 m c) (a6 m c) X U D w b E R) :
    W8 m ρ c (Proc.devRef .tc main_v8)
      = fun y : S4096x1024.Idx => dinput (backP w (gradP X U D w b E)) (backQ w (gradQ X U D w b E)) U R (y 0) (y 1) :=
  (W8_arr m ρ c 5).trans (array6 (V := V7 m ρ) (c := c)
    (fun i k => congrFun (w7_p ρ A) (ix2 i k)) (fun i k => congrFun (w7_q ρ A) (ix2 i k))
    (fun j k => (congrFun (W7_args m ρ c main_arg1 (by decide)) _).trans (A.h1 j k))
    (fun i k => (congrFun (W7_args m ρ c main_arg6 (by decide)) _).trans (A.h6 i k)))

/-- The block's result stays. -/
theorem w8_y (A : Args (a0 m c) (a1 m c) (a2 m c) (a3 m c) (a4 m c) (a5 m c) (a6 m c) X U D w b E R) :
    W8 m ρ c (Proc.devRef .tc main_v3)
      = fun y : S4096x1024.Idx => prodN (actM (gateP (hidA X U) w b) (gateQ (hidB X U) w b)) D (y 0) (y 1) :=
  (W8_of m ρ c main_v3 (by decide)).trans ((W7_of m ρ c main_v3 (by decide)).trans ((W6_of m ρ c main_v3 (by decide)).trans
    ((W5_of m ρ c main_v3 (by decide)).trans (w4_y ρ A))))

/-- The convolution's weight gradient: the two halves, joined. -/
theorem w8_w (A : Args (a0 m c) (a1 m c) (a2 m c) (a3 m c) (a4 m c) (a5 m c) (a6 m c) X U D w b E R) :
    W8 m ρ c (Proc.devRef .tc main_v6)
      = fun y : S3x5632.Idx => join (dwM (hidA X U) (gradP X U D w b E) (y 0)) (dwM (hidB X U) (gradQ X U D w b E) (y 0)) (y 1) := by
  have e2 := (W6_arr m ρ c 9).trans (array5_9 (enter5 ρ A))
  have e3 := (W6_arr m ρ c 10).trans (array5_10 (enter5 ρ A))
  have e : W7 m ρ c (Proc.devRef .tc main_v6) = concatenate S3x5632 1 [⟨S3x2816, W6 m ρ c (Proc.devRef .tc main_v5_2)⟩,
      ⟨S3x2816, W6 m ρ c (Proc.devRef .tc main_v5_3)⟩] concatenates_S3x2816_S3x2816_S3x5632_d1 := by
    show StableHlo.after hostOps6 (W6 m ρ c) (Proc.devRef .tc main_v6) = _
    unfold hostOps6
    rfl
  refine (W8_of m ρ c main_v6 (by decide)).trans (e.trans ?_)
  refine (congrArg₂ (fun p q => concatenate S3x5632 1 [⟨S3x2816, p⟩, ⟨S3x2816, q⟩] concatenates_S3x2816_S3x2816_S3x5632_d1) e2 e3).trans ?_
  funext y
  idx_vars y
  pointwise []
  rfl

/-- The convolution's bias gradient: the two halves, joined. -/
theorem w8_b (A : Args (a0 m c) (a1 m c) (a2 m c) (a3 m c) (a4 m c) (a5 m c) (a6 m c) X U D w b E R) :
    W8 m ρ c (Proc.devRef .tc main_v7) = fun y : S1x5632.Idx => join (dbM (gradP X U D w b E)) (dbM (gradQ X U D w b E)) (y 1) := by
  have e2 := (W6_arr m ρ c 11).trans (array5_11 (enter5 ρ A))
  have e3 := (W6_arr m ρ c 12).trans (array5_12 (enter5 ρ A))
  have e : W7 m ρ c (Proc.devRef .tc main_v7) = concatenate S1x5632 1 [⟨S1x2816, W6 m ρ c (Proc.devRef .tc main_v5_4)⟩,
      ⟨S1x2816, W6 m ρ c (Proc.devRef .tc main_v5_5)⟩] concatenates_S1x2816_S1x2816_S1x5632_d1 := by
    show StableHlo.after hostOps6 (W6 m ρ c) (Proc.devRef .tc main_v7) = _
    unfold hostOps6
    rfl
  refine (W8_of m ρ c main_v7 (by decide)).trans (e.trans ?_)
  refine (congrArg₂ (fun p q => concatenate S1x5632 1 [⟨S1x2816, p⟩, ⟨S1x2816, q⟩] concatenates_S1x2816_S1x2816_S1x5632_d1) e2 e3).trans ?_
  funext y
  idx_vars y
  pointwise []
  rfl

end Cert.MlpResults

end
-- ==== Proof.MlpEqual.lean ====
/- The gated MLP's results are its reference's, as runs: the value claim and the reference's frame. -/
module

public import proofs.«01_k».proof.Proof.MlpResults
public import proofs.«01_k».proof.Proof.Gen.MlpReferenceIdeal.Run
public import proofs.«01_k».proof.Defs

@[expose] public section

set_option maxRecDepth 16384

noncomputable section

namespace Cert.MlpEqual

open Idealize.ShloMosaic Idealize.ShloMosaic.TcCoe Idealize.SL.Sem Cert.MlpMath Cert.MlpTiles Cert.MlpReference Cert.MlpResults
open Cert.MlpReferenceIdeal.Read

variable {m : (ℓ : Loc Cert.MlpIdeal.nD Cert.MlpIdeal.τ Cert.MlpIdeal.sig) → Buf (Elt Ideal) ℓ} (ρ : Dev Cert.MlpIdeal.nD → PrngReg) {c : Dev Cert.MlpIdeal.nD}
  {X : Fin 4096 → Fin 1024 → EReal} {U : Fin 5632 → Fin 1024 → EReal} {D : Fin 2816 → Fin 1024 → EReal} {w : Fin 3 → Fin 5632 → EReal}
  {b : Fin 5632 → EReal} {E : Fin 4096 → Fin 1024 → EReal} {R : Fin 4096 → Fin 1024 → EReal}

/-- Arguments hold what they hold. -/
theorem args (m : (ℓ : Loc Cert.MlpIdeal.nD Cert.MlpIdeal.τ Cert.MlpIdeal.sig) → Buf (Elt Ideal) ℓ) (c : Dev Cert.MlpIdeal.nD) :
    ∃ X U D w b E R, Args (a0 m c) (a1 m c) (a2 m c) (a3 m c) (a4 m c) (a5 m c) (a6 m c) X U D w b E R :=
  ⟨fun i k => a0 m c (ix2 i k), fun i k => a1 m c (ix2 i k), fun i k => a2 m c (ix2 i k), fun t j => a3 m c (ix2 t j), fun j => a4 m c (ix2 0 j),
    fun i k => a5 m c (ix2 i k), fun i k => a6 m c (ix2 i k),
    ⟨fun _ _ => rfl, fun _ _ => rfl, fun _ _ => rfl, fun _ _ => rfl, fun _ => rfl, fun _ _ => rfl, fun _ _ => rfl⟩⟩

/-- A sum over the hidden axis is the sum over its two halves. -/
theorem sum_halves (f : Fin 5632 → EReal) : ∑ j, f j = ∑ j, f (lo j) + ∑ j, f (hi j) :=
  Fin.sum_univ_add (a := 2816) (b := 2816) f

/-- Every hidden index is in one half. -/
theorem half_cases (j : Fin 5632) : (∃ k, j = lo k) ∨ ∃ k, j = hi k := by
  have hj := j.isLt
  by_cases h : j.val < 2816
  · exact .inl ⟨⟨j.val, h⟩, rfl⟩
  · exact .inr ⟨⟨j.val - 2816, by omega⟩, Fin.ext (by show j.val = 2816 + (j.val - 2816); omega)⟩

/-- The gradient after the convolution, at either half. -/
theorem dhid_lo (i : Fin 4096) (j : Fin 2816) : dhid X U D w b E i (lo j) = gradP X U D w b E i j := join_lo _ _ j
theorem dhid_hi (i : Fin 4096) (j : Fin 2816) : dhid X U D w b E i (hi j) = gradQ X U D w b E i j := join_hi _ _ j

theorem y_eq (A : Args (a0 m c) (a1 m c) (a2 m c) (a3 m c) (a4 m c) (a5 m c) (a6 m c) X U D w b E R) :
    val_main_v37 (F := Ideal) (a0 m c) (a1 m c) (a2 m c) (a3 m c) (a4 m c) = Cert.MlpIdeal.Gen.W8 m ρ c (Proc.devRef .tc Cert.MlpIdeal.main_v3) := by
  rw [w8_y ρ A]
  funext y
  idx_vars y
  exact v37_at A y0 y1

theorem x_eq (A : Args (a0 m c) (a1 m c) (a2 m c) (a3 m c) (a4 m c) (a5 m c) (a6 m c) X U D w b E R) :
    val_main_v84 (F := Ideal) (a0 m c) (a1 m c) (a2 m c) (a3 m c) (a4 m c) (a5 m c) (a6 m c) = Cert.MlpIdeal.Gen.W8 m ρ c (Proc.devRef .tc Cert.MlpIdeal.main_v8) := by
  rw [w8_x ρ A]
  funext y
  idx_vars y
  refine (v84_at A y0 y1).trans ?_
  rw [sum_halves]
  simp only [dhid_lo, dhid_hi]
  rfl

theorem w_eq (A : Args (a0 m c) (a1 m c) (a2 m c) (a3 m c) (a4 m c) (a5 m c) (a6 m c) X U D w b E R) :
    val_main_v74 (F := Ideal) (a0 m c) (a1 m c) (a2 m c) (a3 m c) (a4 m c) (a5 m c) = Cert.MlpIdeal.Gen.W8 m ρ c (Proc.devRef .tc Cert.MlpIdeal.main_v6) := by
  rw [w8_w ρ A]
  funext y
  idx_vars y
  refine (v74_at A y0 y1).trans ?_
  obtain ⟨k, rfl⟩ | ⟨k, rfl⟩ := half_cases y1
  · refine Eq.trans ?_ (join_lo _ _ k).symm
    simp only [dhid_lo]
    rfl
  · refine Eq.trans ?_ (join_hi _ _ k).symm
    simp only [dhid_hi]
    rfl

theorem b_eq (A : Args (a0 m c) (a1 m c) (a2 m c) (a3 m c) (a4 m c) (a5 m c) (a6 m c) X U D w b E R) :
    val_main_v85 (F := Ideal) (a0 m c) (a1 m c) (a2 m c) (a3 m c) (a4 m c) (a5 m c) = Cert.MlpIdeal.Gen.W8 m ρ c (Proc.devRef .tc Cert.MlpIdeal.main_v7) := by
  rw [w8_b ρ A]
  funext y
  idx_vars y
  obtain rfl : y0 = 0 := Subsingleton.elim _ _
  refine (v85_at A y1).trans ?_
  obtain ⟨k, rfl⟩ | ⟨k, rfl⟩ := half_cases y1
  · refine Eq.trans ?_ (join_lo _ _ k).symm
    simp only [dhid_lo]
    rfl
  · refine Eq.trans ?_ (join_hi _ _ k).symm
    simp only [dhid_hi]
    rfl

/-- The reference's run ends with its arguments unchanged, and it has no semaphore. -/
theorem frame_reference : Cert.quiescent_MlpReferenceIdeal := by
  intro m ρ _
  exact (θ_run Cert.MlpReferenceIdeal.defs _ _).mono (fun r h => ⟨fun c => (h c).2.2.2.2, sem_eq_zero_of_no_sems (by decide) r.2⟩)
    (Cert.MlpReferenceIdeal.Value.run (F := Ideal) m ρ)

/-- The value claim: the block's result, and the gradients of its input, its convolution's weights and its convolution's bias. -/
theorem values : Cert.algebraic_MlpIdeal_MlpReferenceIdeal := by
  intro m g m' g' hpre hargs
  refine ⟨fun c => Cert.MlpIdeal.Gen.W8 m g c (Proc.devRef .tc Cert.MlpIdeal.main_v3), fun c => Cert.MlpIdeal.Gen.W8 m g c (Proc.devRef .tc Cert.MlpIdeal.main_v8),
    fun c => Cert.MlpIdeal.Gen.W8 m g c (Proc.devRef .tc Cert.MlpIdeal.main_v6), fun c => Cert.MlpIdeal.Gen.W8 m g c (Proc.devRef .tc Cert.MlpIdeal.main_v7),
    Cert.MlpIdeal.Gen.run_results (F := Ideal) m g, ?_⟩
  refine (θ_run Cert.MlpReferenceIdeal.defs _ _).mono (fun r h c => ?_) (Cert.MlpReferenceIdeal.Value.run (F := Ideal) m' g')
  obtain ⟨X, U, D, w, b, E, R, A⟩ := args m c
  obtain ⟨h0, h1, h2, h3, hr⟩ := h c
  obtain ⟨e0, e1, e2, e3, e4, e5, e6⟩ := hargs c
  refine ⟨?_, ?_, ?_, ?_, hr⟩
  · refine (h0.trans (val_main_v37_eq m' c)).trans ?_
    rw [e0, e1, e2, e3, e4]
    exact y_eq g A
  · refine (h1.trans (val_main_v84_eq m' c)).trans ?_
    rw [e0, e1, e2, e3, e4, e5, e6]
    exact x_eq g A
  · refine (h2.trans (val_main_v74_eq m' c)).trans ?_
    rw [e0, e1, e2, e3, e4, e5]
    exact w_eq g A
  · refine (h3.trans (val_main_v85_eq m' c)).trans ?_
    rw [e0, e1, e2, e3, e4, e5]
    exact b_eq g A

end Cert.MlpEqual

end
-- ==== Proof.ProjMatmul.lean ====
/- The projections' matrix products, each kernel's result as sums over its arguments. -/
module

public import proofs.«01_k».proof.Proof.MlpMatmul
public import proofs.«01_k».proof.Proof.Gen.ProjectionsIdeal.Frame

@[expose] public section

set_option maxRecDepth 16384

noncomputable section

namespace Cert.ProjMatmul

open Idealize.ShloMosaic Idealize.ShloMosaic.TcCoe Cert.ProjectionsIdeal Cert.ProjectionsIdeal.Gen
open Cert.MlpTiles (prodT prodN row)

variable {V : (c : Dev nD) → (b : Ref sig .tc) → Buf (Elt Ideal) ((c : Thread nD τ).loc b)}

/-! ## The projection into the mixer -/

theorem e0_0 : ∀ t : Fin cfg0.N, win0_0.index t = ![t.val, 0] := by decide +kernel
theorem e0_1 : ∀ t : Fin cfg0.N, win0_1.index t = ![0, 0] := by decide +kernel
theorem e0_2 : ∀ t : Fin cfg0.N, win0_2.index t = ![t.val, 0] := by decide +kernel
theorem lt0 (t : Fin cfg0.N) : t.val < 8 := t.isLt

theorem array0 {c : Dev nD} {X : Fin 4096 → Fin 1024 → EReal} {B : Fin 2048 → Fin 1024 → EReal} (hX : ∀ i k, V c main_arg0 (ix2 i k) = X i k)
    (hB : ∀ j k, V c main_arg1 (ix2 j k) = B j k) :
    (dat0 V c).arrAt 2 cfg0.N = fun y : S4096x2048.Idx => prodT X B (y 0) (y 1) := by
  refine (dat0 V c).arrAt_eq_of_covers 2 _ (by decide +kernel) fun t hf y => ?_
  blk_simp
  rw [after0_2]
  idx_vars y
  have ht := lt0 t
  have e : (win0_2.blk t).view.emb (ix2 y0 y1) = ix2 (row t.val y0) y1 := by
    blk_ext [e0_2 t]
  rw [e]
  unfold outsAt0
  frame_out
  pointwise [k0_pay1, k0_pay2]
  show _ = prodT X B (row t.val y0) y1
  refine Finset.sum_congr rfl fun k _ => congrArg₂ (· * ·) ?_ ?_
  · refine Eq.trans ?_ (hX (row t.val y0) k)
    blk_simp [iblk0]
    refine congrArg (V c main_arg0) ?_
    blk_ext [e0_0 t]
  · refine Eq.trans ?_ (hB y1 k)
    blk_simp [iblk0]
    refine congrArg (V c main_arg1) ?_
    blk_ext [e0_1 t]

/-! ## The projection out of the mixer -/

theorem e1_0 : ∀ t : Fin cfg1.N, win1_0.index t = ![t.val, 0] := by decide +kernel
theorem e1_1 : ∀ t : Fin cfg1.N, win1_1.index t = ![0, 0] := by decide +kernel
theorem e1_2 : ∀ t : Fin cfg1.N, win1_2.index t = ![t.val, 0] := by decide +kernel
theorem lt1 (t : Fin cfg1.N) : t.val < 8 := t.isLt

theorem array1 {c : Dev nD} {X : Fin 4096 → Fin 1024 → EReal} {B : Fin 1024 → Fin 1024 → EReal} (hX : ∀ i k, V c main_arg4 (ix2 i k) = X i k)
    (hB : ∀ j k, V c main_arg5 (ix2 j k) = B j k) :
    (dat1 V c).arrAt 2 cfg1.N = fun y : S4096x1024.Idx => prodN X B (y 0) (y 1) := by
  refine (dat1 V c).arrAt_eq_of_covers 2 _ (by decide +kernel) fun t hf y => ?_
  blk_simp
  rw [after1_2]
  idx_vars y
  have ht := lt1 t
  have e : (win1_2.blk t).view.emb (ix2 y0 y1) = ix2 (row t.val y0) y1 := by
    blk_ext [e1_2 t]
  rw [e]
  unfold outsAt1
  frame_out
  pointwise [k1_pay1, k1_pay2]
  show _ = prodN X B (row t.val y0) y1
  refine Finset.sum_congr rfl fun k _ => congrArg₂ (· * ·) ?_ ?_
  · refine Eq.trans ?_ (hX (row t.val y0) k)
    blk_simp [iblk1]
    refine congrArg (V c main_arg4) ?_
    blk_ext [e1_0 t]
  · refine Eq.trans ?_ (hB k y1)
    blk_simp [iblk1]
    refine congrArg (V c main_arg5) ?_
    blk_ext [e1_1 t]

/-! ## The gradient of what the projection out of the mixer takes -/

theorem e2_0 : ∀ t : Fin cfg2.N, win2_0.index t = ![t.val, 0] := by decide +kernel
theorem e2_1 : ∀ t : Fin cfg2.N, win2_1.index t = ![0, 0] := by decide +kernel
theorem e2_2 : ∀ t : Fin cfg2.N, win2_2.index t = ![t.val, 0] := by decide +kernel
theorem lt2 (t : Fin cfg2.N) : t.val < 8 := t.isLt

theorem array2 {c : Dev nD} {X : Fin 4096 → Fin 1024 → EReal} {B : Fin 1024 → Fin 1024 → EReal} (hX : ∀ i k, V c main_arg6 (ix2 i k) = X i k)
    (hB : ∀ j k, V c main_arg5 (ix2 j k) = B j k) :
    (dat2 V c).arrAt 2 cfg2.N = fun y : S4096x1024.Idx => prodT X B (y 0) (y 1) := by
  refine (dat2 V c).arrAt_eq_of_covers 2 _ (by decide +kernel) fun t hf y => ?_
  blk_simp
  rw [after2_2]
  idx_vars y
  have ht := lt2 t
  have e : (win2_2.blk t).view.emb (ix2 y0 y1) = ix2 (row t.val y0) y1 := by
    blk_ext [e2_2 t]
  rw [e]
  unfold outsAt2
  frame_out
  pointwise [k2_pay1, k2_pay2]
  show _ = prodT X B (row t.val y0) y1
  refine Finset.sum_congr rfl fun k _ => congrArg₂ (· * ·) ?_ ?_
  · refine Eq.trans ?_ (hX (row t.val y0) k)
    blk_simp [iblk2]
    refine congrArg (V c main_arg6) ?_
    blk_ext [e2_0 t]
  · refine Eq.trans ?_ (hB y1 k)
    blk_simp [iblk2]
    refine congrArg (V c main_arg5) ?_
    blk_ext [e2_1 t]

/-! ## The gradient of what the projection into the mixer takes, on top of another gradient of it -/

theorem e3_0 : ∀ t : Fin cfg3.N, win3_0.index t = ![t.val, 0] := by decide +kernel
theorem e3_1 : ∀ t : Fin cfg3.N, win3_1.index t = ![0, 0] := by decide +kernel
theorem e3_2 : ∀ t : Fin cfg3.N, win3_2.index t = ![t.val, 0] := by decide +kernel
theorem e3_3 : ∀ t : Fin cfg3.N, win3_3.index t = ![t.val, 0] := by decide +kernel
theorem lt3 (t : Fin cfg3.N) : t.val < 8 := t.isLt

theorem array3 {c : Dev nD} {X : Fin 4096 → Fin 2048 → EReal} {B : Fin 2048 → Fin 1024 → EReal} {R : Fin 4096 → Fin 1024 → EReal}
    (hX : ∀ i k, V c main_arg2 (ix2 i k) = X i k) (hB : ∀ j k, V c main_arg1 (ix2 j k) = B j k) (hR : ∀ i k, V c main_arg3 (ix2 i k) = R i k) :
    (dat3 V c).arrAt 3 cfg3.N = fun y : S4096x1024.Idx => prodN X B (y 0) (y 1) + R (y 0) (y 1) := by
  refine (dat3 V c).arrAt_eq_of_covers 3 _ (by decide +kernel) fun t hf y => ?_
  blk_simp
  rw [after3_3]
  idx_vars y
  have ht := lt3 t
  have e : (win3_3.blk t).view.emb (ix2 y0 y1) = ix2 (row t.val y0) y1 := by
    blk_ext [e3_3 t]
  rw [e]
  unfold outsAt3
  frame_out
  pointwise [k3_pay1, k3_pay2, k3_pay3]
  show _ = prodN X B (row t.val y0) y1 + R (row t.val y0) y1
  refine congrArg₂ (· + ·) (Finset.sum_congr rfl fun k _ => congrArg₂ (· * ·) ?_ ?_) ?_
  · refine Eq.trans ?_ (hX (row t.val y0) k)
    blk_simp [iblk3]
    refine congrArg (V c main_arg2) ?_
    blk_ext [e3_0 t]
  · refine Eq.trans ?_ (hB k y1)
    blk_simp [iblk3]
    refine congrArg (V c main_arg1) ?_
    blk_ext [e3_1 t]
  · refine Eq.trans ?_ (hR (row t.val y0) y1)
    blk_simp [iblk3]
    refine congrArg (V c main_arg3) ?_
    blk_ext [e3_2 t]

end Cert.ProjMatmul

end
-- ==== Proof.ProjRun.lean ====
/- The projections' run with their results: each of the four result arrays ends at what the pipelines' write-backs leave, and the arguments end unchanged. -/
module

public import proofs.«01_k».proof.Proof.Gen.ProjectionsIdeal.Frame

@[expose] public section

set_option maxRecDepth 16384

noncomputable section

namespace Cert.ProjectionsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- Every fair execution ends, with the results at the last contents and the arguments as launched. -/
theorem run_results : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_v1) = W4 m ρ c (Proc.devRef .tc main_v1)
      ∧ r.2.mem ((c.tc : Thread nD τ).loc main_v2) = W4 m ρ c (Proc.devRef .tc main_v2)
      ∧ r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v0 (by decide)), h c _ (mem_uc main_v1 (by decide)), h c _ (mem_uc main_v2 (by decide)), h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.ProjectionsIdeal.Gen

end
-- ==== Proof.ProjEqual.lean ====
/- The projections' results are their reference's: the value claim and the reference's frame. -/
module

public import proofs.«01_k».proof.Proof.ProjMatmul
public import proofs.«01_k».proof.Proof.ProjRun
public import proofs.«01_k».proof.Proof.Gen.ProjectionsReferenceIdeal.Run
public import proofs.«01_k».proof.Proof.Gen.ProjectionsReferenceIdeal.Read
public import proofs.«01_k».proof.Defs

@[expose] public section

set_option maxRecDepth 16384

noncomputable section

namespace Cert.ProjEqual

open Idealize.ShloMosaic Idealize.ShloMosaic.TcCoe Idealize.SL.Sem Cert.ProjectionsIdeal Cert.ProjectionsIdeal.Gen Cert.ProjMatmul
open Cert.ProjectionsReferenceIdeal.Read
open Cert.MlpTiles (prodT prodN)

variable (m : (ℓ : Loc nD τ sig) → Buf (Elt Ideal) ℓ) (ρ : Dev nD → PrngReg) (c : Dev nD)

/-- The arguments as the run is launched. -/
abbrev a0 : (⟨S4096x1024, .bf16⟩ : BufTy).Contents (Elt Ideal) := m ((c.tc : Thread nD τ).loc main_arg0)
abbrev a1 : (⟨S2048x1024, .bf16⟩ : BufTy).Contents (Elt Ideal) := m ((c.tc : Thread nD τ).loc main_arg1)
abbrev a2 : (⟨S4096x2048, .bf16⟩ : BufTy).Contents (Elt Ideal) := m ((c.tc : Thread nD τ).loc main_arg2)
abbrev a3 : (⟨S4096x1024, .f32⟩ : BufTy).Contents (Elt Ideal) := m ((c.tc : Thread nD τ).loc main_arg3)
abbrev a4 : (⟨S4096x1024, .bf16⟩ : BufTy).Contents (Elt Ideal) := m ((c.tc : Thread nD τ).loc main_arg4)
abbrev a5 : (⟨S1024x1024, .bf16⟩ : BufTy).Contents (Elt Ideal) := m ((c.tc : Thread nD τ).loc main_arg5)
abbrev a6 : (⟨S4096x1024, .bf16⟩ : BufTy).Contents (Elt Ideal) := m ((c.tc : Thread nD τ).loc main_arg6)

/-! ## What the run ends with -/

theorem w4_proj : W4 m ρ c (Proc.devRef .tc main_v0)
    = fun y : S4096x2048.Idx => prodT (fun i k => a0 m c (ix2 i k)) (fun j k => a1 m c (ix2 j k)) (y 0) (y 1) :=
  (W4_of m ρ c main_v0 (by decide)).trans ((W3_of m ρ c main_v0 (by decide)).trans ((W2_of m ρ c main_v0 (by decide)).trans
    ((W1_arr m ρ c 2).trans (array0 (V := V0 m ρ) (c := c) (fun _ _ => rfl) fun _ _ => rfl))))

theorem w4_mix : W4 m ρ c (Proc.devRef .tc main_v1)
    = fun y : S4096x1024.Idx => prodN (fun i k => a4 m c (ix2 i k)) (fun j k => a5 m c (ix2 j k)) (y 0) (y 1) :=
  (W4_of m ρ c main_v1 (by decide)).trans ((W3_of m ρ c main_v1 (by decide)).trans ((W2_arr m ρ c 2).trans (array1 (V := V1 m ρ) (c := c)
    (fun _ _ => congrFun (W1_args m ρ c main_arg4 (by decide)) _) fun _ _ => congrFun (W1_args m ρ c main_arg5 (by decide)) _)))

theorem w4_cat : W4 m ρ c (Proc.devRef .tc main_v2)
    = fun y : S4096x1024.Idx => prodT (fun i k => a6 m c (ix2 i k)) (fun j k => a5 m c (ix2 j k)) (y 0) (y 1) :=
  (W4_of m ρ c main_v2 (by decide)).trans ((W3_arr m ρ c 2).trans (array2 (V := V2 m ρ) (c := c)
    (fun _ _ => congrFun (W2_args m ρ c main_arg6 (by decide)) _) fun _ _ => congrFun (W2_args m ρ c main_arg5 (by decide)) _))

theorem w4_dh : W4 m ρ c (Proc.devRef .tc main_v3)
    = fun y : S4096x1024.Idx => prodN (fun i k => a2 m c (ix2 i k)) (fun j k => a1 m c (ix2 j k)) (y 0) (y 1) + a3 m c (ix2 (y 0) (y 1)) :=
  (W4_arr m ρ c 3).trans (array3 (V := V3 m ρ) (c := c) (R := fun i k => a3 m c (ix2 i k))
    (fun _ _ => congrFun (W3_args m ρ c main_arg2 (by decide)) _) (fun _ _ => congrFun (W3_args m ρ c main_arg1 (by decide)) _)
    fun _ _ => congrFun (W3_args m ρ c main_arg3 (by decide)) _)

/-! ## The reference's results -/

theorem proj_eq : val_main_v3 (F := Ideal) (a0 m c) (a1 m c) = W4 m ρ c (Proc.devRef .tc main_v0) := by
  rw [w4_proj]
  funext y
  idx_vars y
  pointwise [val_main_v3, val_main_v2, val_main_v1, val_main_v0]
  rfl

theorem mix_eq : val_main_v6 (F := Ideal) (a4 m c) (a5 m c) = W4 m ρ c (Proc.devRef .tc main_v1) := by
  rw [w4_mix]
  funext y
  idx_vars y
  pointwise [val_main_v6, val_main_v5, val_main_v4]
  rfl

theorem cat_eq : val_main_v8 (F := Ideal) (a5 m c) (a6 m c) = W4 m ρ c (Proc.devRef .tc main_v2) := by
  rw [w4_cat]
  funext y
  idx_vars y
  pointwise [val_main_v8, val_main_v7, val_main_v5]
  rfl

theorem dh_eq : val_main_v11 (F := Ideal) (a1 m c) (a2 m c) (a3 m c) = W4 m ρ c (Proc.devRef .tc main_v3) := by
  rw [w4_dh]
  funext y
  idx_vars y
  pointwise [val_main_v11, val_main_v10, val_main_v9, val_main_v2, val_main_v1]
  rfl

/-! ## The claims -/

/-- The reference's run ends with its arguments unchanged, and it has no semaphore. -/
theorem frame_reference : Cert.quiescent_ProjectionsReferenceIdeal := by
  intro m ρ _
  exact (θ_run Cert.ProjectionsReferenceIdeal.defs _ _).mono (fun r h => ⟨fun c => (h c).2.2.2.2, sem_eq_zero_of_no_sems (by decide) r.2⟩)
    (Cert.ProjectionsReferenceIdeal.Value.run (F := Ideal) m ρ)

/-- The value claim: both projections, and the gradients of what they take. -/
theorem values : Cert.algebraic_ProjectionsIdeal_ProjectionsReferenceIdeal := by
  intro m g m' g' hpre hargs
  refine ⟨fun c => W4 m g c (Proc.devRef .tc main_v0), fun c => W4 m g c (Proc.devRef .tc main_v1), fun c => W4 m g c (Proc.devRef .tc main_v2),
    fun c => W4 m g c (Proc.devRef .tc main_v3), run_results (F := Ideal) m g, ?_⟩
  refine (θ_run Cert.ProjectionsReferenceIdeal.defs _ _).mono (fun r h c => ?_) (Cert.ProjectionsReferenceIdeal.Value.run (F := Ideal) m' g')
  obtain ⟨h0, h1, h2, h3, hr⟩ := h c
  obtain ⟨e0, e1, e2, e3, e4, e5, e6⟩ := hargs c
  refine ⟨?_, ?_, ?_, ?_, hr⟩
  · refine (h0.trans (val_main_v3_eq _ _)).trans ?_
    rw [e0, e1]
    exact proj_eq m g c
  · refine (h1.trans (val_main_v6_eq _ _)).trans ?_
    rw [e4, e5]
    exact mix_eq m g c
  · refine (h2.trans (val_main_v8_eq _ _)).trans ?_
    rw [e5, e6]
    exact cat_eq m g c
  · refine (h3.trans (val_main_v11_eq _ _ _)).trans ?_
    rw [e1, e2, e3]
    exact dh_eq m g c

end Cert.ProjEqual

end
-- ==== Proof.LatentTiles.lean ====
/- The arithmetic that the latent attention's two kernels do otherwise than the other attention's: queries and keys have 128 columns, values 64, and
   the scores are scaled by one over the square root of 96. -/
module

public import proofs.«01_k».proof.Proof.Gen.LatentIdeal.Skeleton
public import proofs.«01_k».proof.Proof.FwdHeads

@[expose] public section

set_option maxRecDepth 16384

noncomputable section

namespace Cert.LatentAttn

open Idealize.ShloMosaic Cert.LatentIdeal Cert.LatentIdeal.Gen Cert.Attn Cert.RealValues
open Cert.Tiles (Re2 lsF acF Run keyAt base_two sum_keys)

/-- The scale of the scores. -/
abbrev cScale : ℝ := (Real.sqrt 96)⁻¹

/-- The factor that turns a product of a query and a key into a power of two. -/
abbrev cLog : ℝ := cScale * (Real.log 2)⁻¹

theorem named_scale : (Named.named κ "scale" 0x3DD105EC#32 : Ideal .f32) = ((cScale : ℝ) : EReal) :=
  IdealRules.named_const.ideal_named_scalar _ _ _ _ rfl

theorem named_scale_log2e : (Named.named κ "scale_log2e" 0x3E16C740#32 : Ideal .f32) = ((cLog : ℝ) : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

theorem named_ln2 : (Named.named κ "ln2" 0x3F317218#32 : Ideal .f32) = ((Real.log 2 : ℝ) : EReal) :=
  IdealRules.named_const.ideal_named_scalar _ _ _ _ rfl

/-! ## The forward kernel -/

/-- Scores of a chunk of keys (rows) against a block of queries (columns), in base two. -/
def scF (q k : FVec Ideal S512x128 .bf16) : FVec Ideal S512x512 .f32 :=
  mulf (matmul dot_S512x128_S512x128_S512x512_1_1_0_0_n_n none k q (constant S512x512 .f32 0x00000000#32))
    (broadcast S512x512 (Named.named κ "scale_log2e" 0x3E16C740#32))

/-- The log-sum at the end. -/
def lgF (m l : FVec Ideal S1x512 .f32) : FVec Ideal S1x512 .f32 :=
  addf (mulf m (broadcast S1x512 (Named.named κ "ln2" 0x3F317218#32))) (log l)

theorem scF_re {q k : FVec Ideal S512x128 .bf16} {Q K : Fin 512 → Fin 128 → ℝ} (hq : Re2 q Q) (hk : Re2 k K) :
    Re2 (scF q k) fun j i => (∑ d, K j d * Q i d) * cLog := by
  intro j i
  pointwise [scF]
  rw [named_scale_log2e]
  simp only [hq _ _, hk _ _, ← EReal.coe_mul, ← coe_sum]

/-- The log-sum after all chunks. -/
theorem lgF_at {S : Fin 512 → Fin 4096 → ℝ} {W : Fin 4096 → Fin 64 → ℝ} {m l : FVec Ideal S1x512 .f32} {a : FVec Ideal S64x512 .f32}
    (h : ∃ μ, Run (fun c j i => S i (keyAt c j) * (Real.log 2)⁻¹) (fun c d j => W (keyAt c j) d) 8 m l a μ) (i : Fin 512) :
    lgF m l (ix2 0 i) = ((Real.log (mass S i) : ℝ) : EReal) := by
  obtain ⟨μ, h⟩ := h
  pointwise [lgF]
  rw [named_ln2, h.m, h.l]
  simp only [base_two]
  rw [sum_keys fun s => Real.exp (S i s - μ i * Real.log 2), ← EReal.coe_mul]
  rw [log_real (Finset.sum_pos (fun _ _ => Real.exp_pos _) Finset.univ_nonempty), ← EReal.coe_add, add_comm, log_shift]

/-! ## The backward kernel -/

/-- Products of queries and keys. -/
def qkT (q : FVec Ideal S256x128 .bf16) (k : FVec Ideal S512x128 .bf16) : FVec Ideal S256x512 .f32 :=
  matmul dot_S256x128_S512x128_S256x512_1_1_0_0_n_n none q k (constant S256x512 .f32 0x00000000#32)

/-- The softmax out of the saved log-sum. -/
def probT (l : FVec Ideal S256x1 .f32) (s : FVec Ideal S256x512 .f32) : FVec Ideal S256x512 .f32 :=
  exp2 (subf (mulf s (broadcast S256x512 (Named.named κ "scale_log2e" 0x3E16C740#32))) (broadcastTo S256x512 l broadcasts_S256x1_S256x512))

/-- The gradient of the scores. -/
def dscoreT (d : FVec Ideal S256x1 .f32) (p g : FVec Ideal S256x512 .f32) : FVec Ideal S256x512 .bf16 :=
  truncf .bf16 (mulf p (mulf (subf g (broadcastTo S256x512 d broadcasts_S256x1_S256x512)) (broadcast S256x512 (Named.named κ "scale" 0x3DD105EC#32)))) bitsLt_bf16_f32

/-- A block of the keys' gradient, with one product of a transposed block added. -/
def dkT (x : FVec Ideal S128x256 .bf16) (y : FVec Ideal S256x512 .bf16) (old : FVec Ideal S1x128x512 .f32) : FVec Ideal S1x128x512 .f32 :=
  shapeCast S1x128x512 (addf (shapeCast S128x512 old shapeCasts_S1x128x512_S128x512) (matmul dot_S128x256_S256x512_S128x512_1_0_0_1_n_n none x y (constant S128x512 .f32 0x00000000#32))) shapeCasts_S128x512_S1x128x512

/-- The queries' gradient, with one block of keys added. -/
def dqT (a : FVec Ideal S256x128 .f32) (y : FVec Ideal S256x512 .bf16) (k : FVec Ideal S512x128 .bf16) : FVec Ideal S256x128 .f32 :=
  addf a (matmul dot_S256x512_S512x128_S256x128_1_0_0_1_n_n none y k (constant S256x128 .f32 0x00000000#32))

/-- The saved log-sum in base two. -/
def lseT (l : FVec Ideal S1x256x1 .f32) : FVec Ideal S256x1 .f32 :=
  mulf (shapeCast S256x1 l shapeCasts_S1x256x1_S256x1) (broadcast S256x1 (Named.named κ "log2e" 0x3FB8AA3B#32))

theorem qkT_re {q : FVec Ideal S256x128 .bf16} {k : FVec Ideal S512x128 .bf16} {Q : Fin 256 → Fin 128 → ℝ} {K : Fin 512 → Fin 128 → ℝ} (hq : Re2 q Q) (hk : Re2 k K) :
    Re2 (qkT q k) fun i j => ∑ d, Q i d * K j d := by
  intro i j
  pointwise [qkT]
  simp only [hq _ _, hk _ _, ← EReal.coe_mul, ← coe_sum]

theorem probT_re {l : FVec Ideal S256x1 .f32} {s : FVec Ideal S256x512 .f32} {L : Fin 256 → Fin 1 → ℝ} {S : Fin 256 → Fin 512 → ℝ}
    (hl : Re2 l L) (hs : Re2 s S) : Re2 (probT l s) fun i j => Real.rpow 2 (S i j * cLog - L i 0) := by
  intro i j
  pointwise [probT]
  rw [named_scale_log2e, hs, hl, ← EReal.coe_mul, ← EReal.coe_sub]
  exact Ideal.exp2_coe _

theorem dscoreT_re {d : FVec Ideal S256x1 .f32} {p e : FVec Ideal S256x512 .f32} {D : Fin 256 → Fin 1 → ℝ} {P E : Fin 256 → Fin 512 → ℝ}
    (hd : Re2 d D) (hp : Re2 p P) (he : Re2 e E) : Re2 (dscoreT d p e) fun i j => P i j * ((E i j - D i 0) * cScale) := by
  intro i j
  pointwise [dscoreT]
  rw [hp, he, hd, named_scale, ← EReal.coe_sub, ← EReal.coe_mul, ← EReal.coe_mul]

theorem dkT_re {x : FVec Ideal S128x256 .bf16} {y : FVec Ideal S256x512 .bf16} {old : FVec Ideal S1x128x512 .f32} {X : Fin 128 → Fin 256 → ℝ}
    {Y : Fin 256 → Fin 512 → ℝ} (hx : Re2 x X) (hy : Re2 y Y) (z : Fin 1) (d : Fin 128) (j : Fin 512) (A : ℝ) (ho : old (ix3 0 d j) = (A : EReal)) :
    dkT x y old (ix3 z d j) = ((A + ∑ i, X d i * Y i j : ℝ) : EReal) := by
  pointwise [dkT]
  rw [ho]
  simp only [hx _ _, hy _ _, ← EReal.coe_mul, ← coe_sum, ← EReal.coe_add]

theorem dqT_re {a : FVec Ideal S256x128 .f32} {y : FVec Ideal S256x512 .bf16} {k : FVec Ideal S512x128 .bf16} {A : Fin 256 → Fin 128 → ℝ} {Y : Fin 256 → Fin 512 → ℝ}
    {K : Fin 512 → Fin 128 → ℝ} (ha : Re2 a A) (hy : Re2 y Y) (hk : Re2 k K) : Re2 (dqT a y k) fun i d => A i d + ∑ j, Y i j * K j d := by
  intro i d
  pointwise [dqT]
  rw [ha]
  simp only [hy _ _, hk _ _, ← EReal.coe_mul, ← coe_sum, ← EReal.coe_add]

theorem lseT_re {l : FVec Ideal S1x256x1 .f32} {L : Fin 256 → ℝ} (hl : ∀ i, l (ix3 0 i 0) = ((L i : ℝ) : EReal)) :
    Re2 (lseT l) fun i _ => L i * (Real.log 2)⁻¹ := by
  intro i z
  pointwise [lseT]
  rw [hl, named_log2e, ← EReal.coe_mul]

end Cert.LatentAttn

end
-- ==== Proof.LatentFwd.lean ====
/- What one grid point of the latent attention's forward kernel stores: each of its two heads has its own keys and values; of each the chain of eight
   chunks of keys, and the output and the log-sum at its end. -/
module

public import proofs.«01_k».proof.Proof.LatentTiles
public import proofs.«01_k».proof.Proof.Gen.LatentIdeal.Frame
public import proofs.«01_k».proof.Proof.FwdArrays

@[expose] public section

set_option maxRecDepth 16384

noncomputable section

namespace Cert.LatentAttn

open Idealize.ShloMosaic Idealize.ShloMosaic.TcCoe Cert.LatentIdeal Cert.LatentIdeal.Gen Cert.Attn Cert.RealValues
open Cert.Tiles (Re2 mxF otF Run run_all lAll aAll keyAt at512 bot0 zero0 zeroA ld_cols_re otF_at emb_lse0 emb_lse1 emb_whole)

/-- A chunk of rows of a matrix of real numbers. -/
theorem ld_rows {W : FVec Ideal S4096x128 .bf16} {K : Fin 4096 → Fin 128 → ℝ} (hW : Re2 W K) (o : ℕ) (ho : o + 512 ≤ 4096) (inb) :
    Re2 (a := 512) (b := 128) (φ := .bf16) (View.ld (Val := Elt Ideal) (e' := .bf16) W (Rect.unit ![o, 0] ![512, 128] inb)) fun j d => K (at512 o ho j) d := by
  intro j d
  exact (View.ld_unit_apply_of (Val := Elt Ideal) (e := .bf16) W _ _ inb (ix2 j d) (ix2 (at512 o ho j) d) (by intro a; fin_cases a <;> simp [at512])).trans (hW _ _)

/-- A chunk of keys. -/
abbrev kCh (k : FVec Ideal S4096x128 .bf16) (o : ℕ) (inb : ∀ a, (![o, 0] : Fin 2 → ℕ) a + S512x128.size a ≤ S4096x128.size a) : FVec Ideal S512x128 .bf16 :=
  View.ld (Val := Elt Ideal) (e' := .bf16) k (Rect.unit (s := S4096x128) ![o, 0] S512x128.size inb)

/-- A chunk of values. -/
abbrev vCh (v : FVec Ideal S64x4096 .bf16) (o : ℕ) (inb : ∀ a, (![0, o] : Fin 2 → ℕ) a + S64x512.size a ≤ S64x4096.size a) : FVec Ideal S64x512 .bf16 :=
  View.ld (Val := Elt Ideal) (e' := .bf16) v (Rect.unit (s := S64x4096) ![0, o] S64x512.size inb)

/-! ## One head -/

/-- A head's sum of powers, out of its queries, its keys and the eight maxima. -/
abbrev lHd (q : FVec Ideal S512x128 .bf16) (k : FVec Ideal S4096x128 .bf16) (m1 m2 m3 m4 m5 m6 m7 m8 : FVec Ideal S1x512 .f32) : FVec Ideal S1x512 .f32 :=
  lAll zero0 bot0 m1 m2 m3 m4 m5 m6 m7 m8
    (scF q (kCh k 0 inb_S4096x128_S512x128_0_0)) (scF q (kCh k 512 inb_S4096x128_S512x128_512_0)) (scF q (kCh k 1024 inb_S4096x128_S512x128_1024_0)) (scF q (kCh k 1536 inb_S4096x128_S512x128_1536_0)) (scF q (kCh k 2048 inb_S4096x128_S512x128_2048_0)) (scF q (kCh k 2560 inb_S4096x128_S512x128_2560_0)) (scF q (kCh k 3072 inb_S4096x128_S512x128_3072_0)) (scF q (kCh k 3584 inb_S4096x128_S512x128_3584_0))

/-- A head's weighted sum. -/
abbrev aHd (q : FVec Ideal S512x128 .bf16) (k : FVec Ideal S4096x128 .bf16) (v : FVec Ideal S64x4096 .bf16) (m1 m2 m3 m4 m5 m6 m7 m8 : FVec Ideal S1x512 .f32) : FVec Ideal S64x512 .f32 :=
  aAll zeroA bot0 m1 m2 m3 m4 m5 m6 m7 m8
    (scF q (kCh k 0 inb_S4096x128_S512x128_0_0)) (scF q (kCh k 512 inb_S4096x128_S512x128_512_0)) (scF q (kCh k 1024 inb_S4096x128_S512x128_1024_0)) (scF q (kCh k 1536 inb_S4096x128_S512x128_1536_0)) (scF q (kCh k 2048 inb_S4096x128_S512x128_2048_0)) (scF q (kCh k 2560 inb_S4096x128_S512x128_2560_0)) (scF q (kCh k 3072 inb_S4096x128_S512x128_3072_0)) (scF q (kCh k 3584 inb_S4096x128_S512x128_3584_0))
    (vCh v 0 inb_S64x4096_S64x512_0_0) (vCh v 512 inb_S64x4096_S64x512_0_512) (vCh v 1024 inb_S64x4096_S64x512_0_1024) (vCh v 1536 inb_S64x4096_S64x512_0_1536) (vCh v 2048 inb_S64x4096_S64x512_0_2048) (vCh v 2560 inb_S64x4096_S64x512_0_2560) (vCh v 3072 inb_S64x4096_S64x512_0_3072) (vCh v 3584 inb_S64x4096_S64x512_0_3584)

theorem run_head {q : FVec Ideal S512x128 .bf16} {k : FVec Ideal S4096x128 .bf16} {v : FVec Ideal S64x4096 .bf16} {m1 m2 m3 m4 m5 m6 m7 m8 : FVec Ideal S1x512 .f32}
    {Q : Fin 512 → Fin 128 → ℝ} {K : Fin 4096 → Fin 128 → ℝ} {W : Fin 4096 → Fin 64 → ℝ}
    (h1 : m1 = mxF bot0 (scF q (kCh k 0 inb_S4096x128_S512x128_0_0))) (h2 : m2 = mxF m1 (scF q (kCh k 512 inb_S4096x128_S512x128_512_0)))
    (h3 : m3 = mxF m2 (scF q (kCh k 1024 inb_S4096x128_S512x128_1024_0))) (h4 : m4 = mxF m3 (scF q (kCh k 1536 inb_S4096x128_S512x128_1536_0)))
    (h5 : m5 = mxF m4 (scF q (kCh k 2048 inb_S4096x128_S512x128_2048_0))) (h6 : m6 = mxF m5 (scF q (kCh k 2560 inb_S4096x128_S512x128_2560_0)))
    (h7 : m7 = mxF m6 (scF q (kCh k 3072 inb_S4096x128_S512x128_3072_0))) (h8 : m8 = mxF m7 (scF q (kCh k 3584 inb_S4096x128_S512x128_3584_0)))
    (hq : Re2 q Q) (hk : Re2 k K) (hv : Re2 v fun d s => W s d) :
    ∃ μ, Run (fun c j i => score cScale Q K i (keyAt c j) * (Real.log 2)⁻¹) (fun c d j => W (keyAt c j) d) 8 m8 (lHd q k m1 m2 m3 m4 m5 m6 m7 m8) (aHd q k v m1 m2 m3 m4 m5 m6 m7 m8) μ := by
  have ht : ∀ n (hn : n < 8) inb, Re2 (scF q (kCh k (512 * n) inb)) fun j i => score cScale Q K i (keyAt n j) * (Real.log 2)⁻¹ := by
    intro n hn inb j i
    refine (scF_re hq (ld_rows hk (512 * n) (by omega) inb) j i).trans (congrArg Real.toEReal ?_)
    have e : at512 (512 * n) (by omega) j = keyAt n j := Fin.ext (by simp only [at512, keyAt]; omega)
    show (∑ d, K (at512 (512 * n) (by omega) j) d * Q i d) * cLog = score cScale Q K i (keyAt n j) * (Real.log 2)⁻¹
    rw [e, score, cLog, ← mul_assoc]
    exact congrArg (· * _ * _) (Finset.sum_congr rfl fun d _ => mul_comm _ _)
  have hw : ∀ n (hn : n < 8) inb, Re2 (vCh v (512 * n) inb) fun d j => W (keyAt n j) d := by
    intro n hn inb d j
    refine (ld_cols_re hv (512 * n) (by omega) inb d j).trans (congrArg Real.toEReal ?_)
    have e : at512 (512 * n) (by omega) j = keyAt n j := Fin.ext (by simp only [at512, keyAt]; omega)
    exact congrArg (W · d) e
  exact run_all (fun i => ofBits_bot) (fun i => by pointwise []) (fun d i => by pointwise [])
    h1 h2 h3 h4 h5 h6 h7 h8
    (ht 0 (by decide) inb_S4096x128_S512x128_0_0) (hw 0 (by decide) inb_S64x4096_S64x512_0_0) (ht 1 (by decide) inb_S4096x128_S512x128_512_0) (hw 1 (by decide) inb_S64x4096_S64x512_0_512) (ht 2 (by decide) inb_S4096x128_S512x128_1024_0) (hw 2 (by decide) inb_S64x4096_S64x512_0_1024) (ht 3 (by decide) inb_S4096x128_S512x128_1536_0) (hw 3 (by decide) inb_S64x4096_S64x512_0_1536) (ht 4 (by decide) inb_S4096x128_S512x128_2048_0) (hw 4 (by decide) inb_S64x4096_S64x512_0_2048) (ht 5 (by decide) inb_S4096x128_S512x128_2560_0) (hw 5 (by decide) inb_S64x4096_S64x512_0_2560) (ht 6 (by decide) inb_S4096x128_S512x128_3072_0) (hw 6 (by decide) inb_S64x4096_S64x512_0_3072) (ht 7 (by decide) inb_S4096x128_S512x128_3584_0) (hw 7 (by decide) inb_S64x4096_S64x512_0_3584)

/-! ## The two heads of a grid point -/

variable (x0 : Vec Ideal S2x512x128 .bf16) (x1 : Vec Ideal S2x4096x128 .bf16) (x2 : Vec Ideal S2x64x4096 .bf16)

/-- The first head's keys. -/
abbrev fK0 : FVec Ideal S4096x128 .bf16 := shapeCast S4096x128 (View.ld x1 r0_1) squeezes_S1x4096x128_S4096x128.numel_eq

/-- The second head's keys. -/
abbrev fK1 : FVec Ideal S4096x128 .bf16 := shapeCast S4096x128 (View.ld x1 r0_21) squeezes_S1x4096x128_S4096x128.numel_eq

/-- The first head's transposed values. -/
abbrev fV0 : FVec Ideal S64x4096 .bf16 := shapeCast S64x4096 (View.ld x2 r0_4) squeezes_S1x64x4096_S64x4096.numel_eq

/-- The second head's transposed values. -/
abbrev fV1 : FVec Ideal S64x4096 .bf16 := shapeCast S64x4096 (View.ld x2 r0_22) squeezes_S1x64x4096_S64x4096.numel_eq

abbrev lH0 : FVec Ideal S1x512 .f32 :=
  lHd (k0_pay109 x0 x1 x2) (fK0 x1) (k0_pay111 x0 x1 x2) (k0_pay112 x0 x1 x2) (k0_pay20 (k0_pay112 x0 x1 x2) (k0_pay114 x0 x1 x2)) (k0_pay116 x0 x1 x2) (k0_pay118 x0 x1 x2) (k0_pay38 (k0_pay117 x0 x1 x2) (k0_pay118 x0 x1 x2)) (k0_pay120 x0 x1 x2) (k0_pay50 (k0_pay119 x0 x1 x2) (k0_pay120 x0 x1 x2))

abbrev aH0 : FVec Ideal S64x512 .f32 :=
  aHd (k0_pay109 x0 x1 x2) (fK0 x1) (fV0 x2) (k0_pay111 x0 x1 x2) (k0_pay112 x0 x1 x2) (k0_pay20 (k0_pay112 x0 x1 x2) (k0_pay114 x0 x1 x2)) (k0_pay116 x0 x1 x2) (k0_pay118 x0 x1 x2) (k0_pay38 (k0_pay117 x0 x1 x2) (k0_pay118 x0 x1 x2)) (k0_pay120 x0 x1 x2) (k0_pay50 (k0_pay119 x0 x1 x2) (k0_pay120 x0 x1 x2))

/-- The first head's last maximum. -/
abbrev mH0 : FVec Ideal S1x512 .f32 := k0_pay50 (k0_pay119 x0 x1 x2) (k0_pay120 x0 x1 x2)

theorem o_head0 : k0_pay54 (k0_pay41 (k0_pay117 x0 x1 x2) (k0_pay118 x0 x1 x2) (k0_pay36 (k0_pay115 x0 x1 x2) (k0_pay116 x0 x1 x2) (k0_pay27 (k0_pay112 x0 x1 x2) (k0_pay113 x0 x1 x2) (k0_pay114 x0 x1 x2)) (k0_pay29 (k0_pay112 x0 x1 x2) (k0_pay17 (k0_pay110 x0 x1 x2) (k0_pay111 x0 x1 x2) (k0_pay9 (View.ld x0 r0_0) (View.ld (shapeCast S4096x128 (View.ld x1 r0_1) squeezes_S1x4096x128_S4096x128.numel_eq) r0_2)) (k0_pay11 (View.ld x0 r0_0) (View.ld (shapeCast S4096x128 (View.ld x1 r0_1) squeezes_S1x4096x128_S4096x128.numel_eq) r0_2)) (View.ld (shapeCast S64x4096 (View.ld x2 r0_4) squeezes_S1x64x4096_S64x4096.numel_eq) r0_5) (View.ld (shapeCast S64x4096 (View.ld x2 r0_4) squeezes_S1x64x4096_S64x4096.numel_eq) r0_7)) (k0_pay113 x0 x1 x2) (k0_pay114 x0 x1 x2) (View.ld (shapeCast S64x4096 (View.ld x2 r0_4) squeezes_S1x64x4096_S64x4096.numel_eq) r0_9)) (View.ld (shapeCast S64x4096 (View.ld x2 r0_4) squeezes_S1x64x4096_S64x4096.numel_eq) r0_11) (View.ld (shapeCast S64x4096 (View.ld x2 r0_4) squeezes_S1x64x4096_S64x4096.numel_eq) r0_13)) (View.ld (shapeCast S64x4096 (View.ld x2 r0_4) squeezes_S1x64x4096_S64x4096.numel_eq) r0_15)) (k0_pay119 x0 x1 x2) (k0_pay120 x0 x1 x2) (k0_pay45 (k0_pay109 x0 x1 x2) (k0_pay117 x0 x1 x2) (k0_pay118 x0 x1 x2) (View.ld (shapeCast S4096x128 (View.ld x1 r0_1) squeezes_S1x4096x128_S4096x128.numel_eq) r0_14)) (k0_pay46 (k0_pay109 x0 x1 x2) (k0_pay117 x0 x1 x2) (k0_pay118 x0 x1 x2) (View.ld (shapeCast S4096x128 (View.ld x1 r0_1) squeezes_S1x4096x128_S4096x128.numel_eq) r0_14)) (k0_pay121 x0 x1 x2) (k0_pay122 x0 x1 x2) (View.ld (shapeCast S64x4096 (View.ld x2 r0_4) squeezes_S1x64x4096_S64x4096.numel_eq) r0_17) (View.ld (shapeCast S64x4096 (View.ld x2 r0_4) squeezes_S1x64x4096_S64x4096.numel_eq) r0_18) = transpose S512x64 [1, 0] (otF (lH0 x0 x1 x2) (aH0 x0 x1 x2)) transposes_S64x512_p1_0_S512x64 := rfl

theorem l_head0 : k0_pay55 (k0_pay119 x0 x1 x2) (k0_pay120 x0 x1 x2) (k0_pay121 x0 x1 x2) (k0_pay122 x0 x1 x2) = lgF (mH0 x0 x1 x2) (lH0 x0 x1 x2) := rfl

theorem run_head0 {Q : Fin 512 → Fin 128 → ℝ} {K : Fin 4096 → Fin 128 → ℝ} {W : Fin 4096 → Fin 64 → ℝ} (hq : Re2 (k0_pay109 x0 x1 x2) Q) (hk : Re2 (fK0 x1) K) (hv : Re2 (fV0 x2) fun d s => W s d) :
    ∃ μ, Run (fun c j i => score cScale Q K i (keyAt c j) * (Real.log 2)⁻¹) (fun c d j => W (keyAt c j) d) 8 (mH0 x0 x1 x2) (lH0 x0 x1 x2) (aH0 x0 x1 x2) μ :=
  run_head rfl rfl rfl rfl rfl rfl rfl rfl hq hk hv

abbrev lH1 : FVec Ideal S1x512 .f32 :=
  lHd (k0_pay123 x0 x1 x2) (fK1 x1) (k0_pay125 x0 x1 x2) (k0_pay127 x0 x1 x2) (k0_pay74 (k0_pay126 x0 x1 x2) (k0_pay127 x0 x1 x2)) (k0_pay129 x0 x1 x2) (k0_pay131 x0 x1 x2) (k0_pay93 (k0_pay130 x0 x1 x2) (k0_pay131 x0 x1 x2)) (k0_pay135 x0 x1 x2) (k0_pay104 (k0_pay133 x0 x1 x2) (k0_pay135 x0 x1 x2))

abbrev aH1 : FVec Ideal S64x512 .f32 :=
  aHd (k0_pay123 x0 x1 x2) (fK1 x1) (fV1 x2) (k0_pay125 x0 x1 x2) (k0_pay127 x0 x1 x2) (k0_pay74 (k0_pay126 x0 x1 x2) (k0_pay127 x0 x1 x2)) (k0_pay129 x0 x1 x2) (k0_pay131 x0 x1 x2) (k0_pay93 (k0_pay130 x0 x1 x2) (k0_pay131 x0 x1 x2)) (k0_pay135 x0 x1 x2) (k0_pay104 (k0_pay133 x0 x1 x2) (k0_pay135 x0 x1 x2))

/-- The second head's last maximum. -/
abbrev mH1 : FVec Ideal S1x512 .f32 := k0_pay104 (k0_pay133 x0 x1 x2) (k0_pay135 x0 x1 x2)

theorem o_head1 : k0_pay108 (k0_pay132 x0 x1 x2) (k0_pay97 (k0_pay130 x0 x1 x2) (k0_pay131 x0 x1 x2) (k0_pay91 (k0_pay77 (k0_pay126 x0 x1 x2) (k0_pay127 x0 x1 x2) (k0_pay72 (k0_pay124 x0 x1 x2) (k0_pay125 x0 x1 x2) (k0_pay63 (View.ld x0 r0_20) (View.ld (shapeCast S4096x128 (View.ld x1 r0_21) squeezes_S1x4096x128_S4096x128.numel_eq) r0_2)) (k0_pay65 (View.ld x0 r0_20) (View.ld (shapeCast S4096x128 (View.ld x1 r0_21) squeezes_S1x4096x128_S4096x128.numel_eq) r0_2)) (View.ld (shapeCast S64x4096 (View.ld x2 r0_22) squeezes_S1x64x4096_S64x4096.numel_eq) r0_5) (View.ld (shapeCast S64x4096 (View.ld x2 r0_22) squeezes_S1x64x4096_S64x4096.numel_eq) r0_7)) (View.ld (shapeCast S64x4096 (View.ld x2 r0_22) squeezes_S1x64x4096_S64x4096.numel_eq) r0_9)) (k0_pay128 x0 x1 x2) (k0_pay129 x0 x1 x2) (k0_pay81 (k0_pay123 x0 x1 x2) (k0_pay126 x0 x1 x2) (k0_pay127 x0 x1 x2) (View.ld (shapeCast S4096x128 (View.ld x1 r0_21) squeezes_S1x4096x128_S4096x128.numel_eq) r0_8)) (k0_pay82 (k0_pay123 x0 x1 x2) (k0_pay126 x0 x1 x2) (k0_pay127 x0 x1 x2) (View.ld (shapeCast S4096x128 (View.ld x1 r0_21) squeezes_S1x4096x128_S4096x128.numel_eq) r0_8)) (View.ld (shapeCast S64x4096 (View.ld x2 r0_22) squeezes_S1x64x4096_S64x4096.numel_eq) r0_11) (View.ld (shapeCast S64x4096 (View.ld x2 r0_22) squeezes_S1x64x4096_S64x4096.numel_eq) r0_13)) (View.ld (shapeCast S64x4096 (View.ld x2 r0_22) squeezes_S1x64x4096_S64x4096.numel_eq) r0_15)) (k0_pay133 x0 x1 x2) (k0_pay134 x0 x1 x2) (k0_pay135 x0 x1 x2) (k0_pay136 x0 x1 x2) (View.ld (shapeCast S64x4096 (View.ld x2 r0_22) squeezes_S1x64x4096_S64x4096.numel_eq) r0_17) (View.ld (shapeCast S64x4096 (View.ld x2 r0_22) squeezes_S1x64x4096_S64x4096.numel_eq) r0_18) = otF (lH1 x0 x1 x2) (aH1 x0 x1 x2) := rfl

theorem l_head1 : k0_pay107 (k0_pay132 x0 x1 x2) (k0_pay133 x0 x1 x2) (k0_pay134 x0 x1 x2) (k0_pay135 x0 x1 x2) (k0_pay136 x0 x1 x2) = lH1 x0 x1 x2 := rfl

theorem run_head1 {Q : Fin 512 → Fin 128 → ℝ} {K : Fin 4096 → Fin 128 → ℝ} {W : Fin 4096 → Fin 64 → ℝ} (hq : Re2 (k0_pay123 x0 x1 x2) Q) (hk : Re2 (fK1 x1) K) (hv : Re2 (fV1 x2) fun d s => W s d) :
    ∃ μ, Run (fun c j i => score cScale Q K i (keyAt c j) * (Real.log 2)⁻¹) (fun c d j => W (keyAt c j) d) 8 (mH1 x0 x1 x2) (lH1 x0 x1 x2) (aH1 x0 x1 x2) μ :=
  run_head rfl rfl rfl rfl rfl rfl rfl rfl hq hk hv

/-! ## The blocks -/

/-- What a grid point's blocks hold: two heads' queries and keys, and their values transposed. -/
structure Fwd (Q : Fin 2 → Fin 512 → Fin 128 → ℝ) (K : Fin 2 → Fin 4096 → Fin 128 → ℝ) (W : Fin 2 → Fin 4096 → Fin 64 → ℝ) : Prop where
  q : ∀ h i d, x0 (ix3 h i d) = ((Q h i d : ℝ) : EReal)
  k : ∀ h s d, x1 (ix3 h s d) = ((K h s d : ℝ) : EReal)
  v : ∀ h d s, x2 (ix3 h d s) = ((W h s d : ℝ) : EReal)

variable {x0 x1 x2} {Q : Fin 2 → Fin 512 → Fin 128 → ℝ} {K : Fin 2 → Fin 4096 → Fin 128 → ℝ} {W : Fin 2 → Fin 4096 → Fin 64 → ℝ}

theorem Fwd.q0 (H : Fwd x0 x1 x2 Q K W) : Re2 (k0_pay109 x0 x1 x2) (Q 0) := by
  intro i d
  rw [← H.q]
  pointwise [k0_pay109, k0_pay3]

theorem Fwd.q1 (H : Fwd x0 x1 x2 Q K W) : Re2 (k0_pay123 x0 x1 x2) (Q 1) := by
  intro i d
  rw [← H.q]
  pointwise [k0_pay123, k0_pay57]

theorem Fwd.k0 (H : Fwd x0 x1 x2 Q K W) : Re2 (fK0 x1) (K 0) := by
  intro i d
  rw [← H.k]
  pointwise [fK0]

theorem Fwd.k1 (H : Fwd x0 x1 x2 Q K W) : Re2 (fK1 x1) (K 1) := by
  intro i d
  rw [← H.k]
  pointwise [fK1]

theorem Fwd.v0 (H : Fwd x0 x1 x2 Q K W) : Re2 (fV0 x2) fun d s => W 0 s d := by
  intro i d
  rw [← H.v]
  pointwise [fV0]

theorem Fwd.v1 (H : Fwd x0 x1 x2 Q K W) : Re2 (fV1 x2) fun d s => W 1 s d := by
  intro i d
  rw [← H.v]
  pointwise [fV1]

/-- Two heads' outputs side by side. -/
theorem o_join {oA : FVec Ideal S512x64 .f32} {oB : FVec Ideal S64x512 .f32} (f : Fin 2 → Fin 512 → Fin 64 → ℝ) (hA : ∀ i d, oA (ix2 i d) = ((f 0 i d : ℝ) : EReal))
    (hB : ∀ i d, oB (ix2 d i) = ((f 1 i d : ℝ) : EReal)) (i : Fin 512) (e : Fin 128) :
    k0_pay2 oA oB (ix2 i e) = ((f ⟨e.val / 64, by omega⟩ i ⟨e.val % 64, by omega⟩ : ℝ) : EReal) :=
  Cert.Tiles.o_join f hA hB i e

/-- The output's block. -/
theorem o_block (H : Fwd x0 x1 x2 Q K W) (i : Fin 512) (e : Fin 128) :
    out0_3 x0 x1 x2 (ix2 i e) = ((outp (score cScale (Q ⟨e.val / 64, by omega⟩) (K ⟨e.val / 64, by omega⟩)) (W ⟨e.val / 64, by omega⟩) i ⟨e.val % 64, by omega⟩ : ℝ) : EReal) := by
  unfold out0_3
  rw [o_head0, o_head1]
  have hA := otF_at (run_head0 x0 x1 x2 H.q0 H.k0 H.v0)
  have hB := otF_at (run_head1 x0 x1 x2 H.q1 H.k1 H.v1)
  generalize otF (lH0 x0 x1 x2) (aH0 x0 x1 x2) = oA at hA ⊢
  generalize otF (lH1 x0 x1 x2) (aH1 x0 x1 x2) = oB at hB ⊢
  refine (View.canon_append_of_piecesOf (Val := Elt Ideal) (e := .f32) (k0_pay2 (transpose S512x64 [1, 0] oA transposes_S64x512_p1_0_S512x64) oB) [] [_] ⟨?_, trivial⟩ (ix2 i e) (View.cover_of_tiledL _ ![512, 128] (by rfl) _)).trans ?_
  · intro x
    idx_vars x
    rw [emb_whole]
  · refine o_join (fun h => outp (score cScale (Q h) (K h)) (W h)) (fun i d => ?_) (fun i d => hB d i) i e
    pointwise []
    exact hA d i

theorem l_join {m l : FVec Ideal S1x512 .f32} {f : Fin 512 → ℝ} (h : ∀ i, lgF m l (ix2 0 i) = ((f i : ℝ) : EReal)) (z : Fin 1) (i : Fin 512) (u : Fin 1) :
    k0_pay56 (lgF m l) (ix3 z i u) = ((f i : ℝ) : EReal) := by
  generalize lgF m l = x at h ⊢
  have e : k0_pay56 x (ix3 z i u) = x (ix2 0 i) := by
    pointwise [k0_pay56]
  rw [e, h]

/-- The log-sum's block. -/
theorem l_block (H : Fwd x0 x1 x2 Q K W) (h : Fin 2) (i : Fin 512) (u : Fin 1) :
    out0_4 x0 x1 x2 (ix3 h i u) = ((Real.log (mass (score cScale (Q h) (K h)) i) : ℝ) : EReal) := by
  unfold out0_4
  rw [l_head0, l_head1]
  have hA := lgF_at (run_head0 x0 x1 x2 H.q0 H.k0 H.v0)
  have hB := lgF_at (run_head1 x0 x1 x2 H.q1 H.k1 H.v1)
  refine (View.canon_append_of_piecesOf (Val := Elt Ideal) (e := .f32) (fun y : S2x512x1.Idx => ((Real.log (mass (score cScale (Q (y 0)) (K (y 0))) (y 1)) : ℝ) : EReal)) [] [_, _] ⟨?_, ?_, trivial⟩ (ix3 h i u) (View.cover_of_tiledL _ ![1, 512, 1] (by rfl) _))
  · intro x
    idx_vars x
    rw [emb_lse1]
    exact l_join hB _ _ _
  · intro x
    idx_vars x
    rw [emb_lse0]
    exact l_join hA _ _ _

/-! ## The arrays -/

variable (V : (c : Dev nD) → (b : Ref sig .tc) → Buf (Elt Ideal) ((c : Thread nD τ).loc b))

/-- The forward kernel's arguments, as real numbers. -/
structure Entry0 (c : Dev nD) (Q K : Fin 4 → Fin 4096 → Fin 128 → ℝ) (W : Fin 4 → Fin 4096 → Fin 64 → ℝ) : Prop where
  q : ∀ h i d, V c main_arg0 (ix3 h i d) = ((Q h i d : ℝ) : EReal)
  k : ∀ h s d, V c main_arg1 (ix3 h s d) = ((K h s d : ℝ) : EReal)
  v : ∀ h d s, V c main_v0 (ix3 h d s) = ((W h s d : ℝ) : EReal)

theorem e0_0 : ∀ t : Fin cfg0.N, win0_0.index t = ![t.val / 8, t.val % 8, 0] := by decide +kernel
theorem e0_1 : ∀ t : Fin cfg0.N, win0_1.index t = ![t.val / 8, 0, 0] := by decide +kernel
theorem e0_2 : ∀ t : Fin cfg0.N, win0_2.index t = ![t.val / 8, 0, 0] := by decide +kernel
theorem e0_3 : ∀ t : Fin cfg0.N, win0_3.index t = ![t.val % 8, t.val / 8] := by decide +kernel
theorem e0_4 : ∀ t : Fin cfg0.N, win0_4.index t = ![t.val / 8, t.val % 8, 0] := by decide +kernel
theorem lt16 (t : Fin cfg0.N) : t.val < 16 := t.isLt

/-- Head `h` of the two that a grid point works on. -/
abbrev hd0 (n : ℕ) (h : Fin 2) : Fin 4 := ⟨2 * (n / 8 % 2) + h.val, by omega⟩

/-- The row `i` of the queries that a grid point works on. -/
abbrev row0 (n : ℕ) (i : Fin 512) : Fin 4096 := ⟨512 * (n % 8) + i.val, by omega⟩

variable {Q K : Fin 4 → Fin 4096 → Fin 128 → ℝ} {W : Fin 4 → Fin 4096 → Fin 64 → ℝ} {V}

theorem Entry0.at {c : Dev nD} (E : Entry0 V c Q K W) (t : Fin cfg0.N) :
    Fwd (iblk0 V c 0 t) (iblk0 V c 1 t) (iblk0 V c 2 t) (fun h i d => Q (hd0 t.val h) (row0 t.val i) d) (fun h => K (hd0 t.val h)) (fun h => W (hd0 t.val h)) where
  q h i d := by
    have ht := lt16 t
    rw [← E.q]
    blk_simp [iblk0]
    refine congrArg (V c main_arg0) ?_
    blk_ext [e0_0 t]
  k h s d := by
    have ht := lt16 t
    rw [← E.k]
    blk_simp [iblk0]
    refine congrArg (V c main_arg1) ?_
    blk_ext [e0_1 t]
  v h d s := by
    have ht := lt16 t
    rw [← E.v]
    blk_simp [iblk0]
    refine congrArg (V c main_v0) ?_
    blk_ext [e0_2 t]

/-- The log-sum of a head's row. -/
def lG (Q K : Fin 4 → Fin 4096 → Fin 128 → ℝ) (p : Fin 4) (i : Fin 4096) : ℝ :=
  Real.log (mass (score cScale (Q p) (K p)) i)

/-- The output at a row and a column: the heads stand side by side. -/
def oG (Q K : Fin 4 → Fin 4096 → Fin 128 → ℝ) (W : Fin 4 → Fin 4096 → Fin 64 → ℝ) (i : Fin 4096) (e : Fin 256) : ℝ :=
  outp (score cScale (Q ⟨e.val / 64, by omega⟩) (K ⟨e.val / 64, by omega⟩)) (W ⟨e.val / 64, by omega⟩) i ⟨e.val % 64, by omega⟩

/-- The log-sums. -/
theorem l_array {c : Dev nD} (E : Entry0 V c Q K W) :
    (dat0 V c).arrAt 4 cfg0.N = fun y : S4x4096x1.Idx => ((lG Q K (y 0) (y 1) : ℝ) : EReal) := by
  refine (dat0 V c).arrAt_eq_of_covers 4 _ (by decide +kernel) fun t hf y => ?_
  blk_simp
  rw [after0_4]
  idx_vars y
  have ht := lt16 t
  refine (l_block (E.at t) _ _ _).trans ?_
  have e : (win0_4.blk t).view.emb (ix3 y0 y1 y2) = ix3 (hd0 t.val y0) (row0 t.val y1) y2 := by
    blk_ext [e0_4 t]
  rw [e]
  rfl

/-- The outputs. -/
theorem o_array {c : Dev nD} (E : Entry0 V c Q K W) :
    (dat0 V c).arrAt 3 cfg0.N = fun y : S4096x256.Idx => ((oG Q K W (y 0) (y 1) : ℝ) : EReal) := by
  refine (dat0 V c).arrAt_eq_of_covers 3 _ (by decide +kernel) fun t hf y => ?_
  blk_simp
  rw [after0_3]
  idx_vars y
  have ht := lt16 t
  refine (o_block (E.at t) _ _).trans ?_
  have e : (win0_3.blk t).view.emb (ix2 y0 y1) = ix2 (row0 t.val y0) (⟨128 * (t.val / 8) + y1.val, by omega⟩ : Fin 256) := by
    blk_ext [e0_3 t]
  rw [e]
  show _ = ((oG Q K W (row0 t.val y0) ⟨128 * (t.val / 8) + y1.val, by omega⟩ : ℝ) : EReal)
  have e2 : ∀ p, (⟨(128 * (t.val / 8) + y1.val) / 64, p⟩ : Fin 4) = hd0 t.val ⟨y1.val / 64, by omega⟩ := fun p => Fin.ext (by simp only [hd0]; omega)
  have e3 : ∀ p, (⟨(128 * (t.val / 8) + y1.val) % 64, p⟩ : Fin 64) = ⟨y1.val % 64, by omega⟩ := fun p => Fin.ext (by simp only; omega)
  simp only [oG, e2, e3]
  rfl

end Cert.LatentAttn

end
-- ==== Proof.LatentPieces.lean ====
/- What one grid point of the latent attention's backward kernel stores, piece by piece, of one head: each piece is a block of one function of the
   whole block. -/
module

public import proofs.«01_k».proof.Proof.LatentFwd

@[expose] public section

set_option maxRecDepth 16384

noncomputable section

namespace Cert.LatentAttn

open Idealize.ShloMosaic Cert.LatentIdeal Cert.LatentIdeal.Gen Cert.Attn Cert.RealValues
open Cert.Tiles (Re2 at512 scoresT scoresT_re accT accT_re deltaT_re trunc_re sum_chunks)

/-- A chunk of rows of the values. -/
theorem ld_rowsV {W : FVec Ideal S4096x64 .bf16} {K : Fin 4096 → Fin 64 → ℝ} (hW : Re2 W K) (o : ℕ) (ho : o + 512 ≤ 4096) (inb) :
    Re2 (a := 512) (b := 64) (φ := .bf16) (View.ld (Val := Elt Ideal) (e' := .bf16) W (Rect.unit ![o, 0] ![512, 64] inb)) fun j d => K (at512 o ho j) d :=
  Cert.Tiles.ld_rows hW o ho inb

/-- The bounds of a chunk of columns of one head's part of a gradient. -/
abbrev Inb (n h o : ℕ) : Prop := ∀ a, (![h, 0, o] : Fin 3 → ℕ) a + (![1, n, 512] : Fin 3 → ℕ) a ≤ (⟨3, ![2, n, 4096]⟩ : Shape).size a

theorem Inb.head {n h o : ℕ} (inb : Inb n h o) : h < 2 := Nat.lt_of_succ_le (by simpa using inb 0)

theorem Inb.le {n h o : ℕ} (inb : Inb n h o) : o + 512 ≤ 4096 := by simpa using inb 2

/-- A chunk of columns of one head's part of a gradient. -/
theorem ld_cols {n : ℕ} (X : FVec Ideal ⟨3, ![2, n, 4096]⟩ .f32) (h o : ℕ) (inb : Inb n h o) (z : Fin 1) (d : Fin n) (j : Fin 512) :
    View.ld (e' := .f32) (Val := Elt Ideal) X (Rect.unit (s := ⟨3, ![2, n, 4096]⟩) ![h, 0, o] ![1, n, 512] inb) (ix3 z d j) = X (ix3 ⟨h, inb.head⟩ d (at512 o inb.le j)) :=
  View.ld_unit_apply_of (Val := Elt Ideal) (e := .f32) X _ _ inb (ix3 z d j) (ix3 ⟨h, inb.head⟩ d (at512 o inb.le j)) (by intro a; fin_cases a <;> simp [at512])

/-- Where a chunk of columns stands. -/
theorem emb_cols {n : ℕ} (h o : ℕ) (inb : Inb n h o) (z : Fin 1) (d : Fin n) (j : Fin 512) :
    (Rect.unit (s := ⟨3, ![2, n, 4096]⟩) ![h, 0, o] ![1, n, 512] inb).emb (ix3 z d j) = ix3 ⟨h, inb.head⟩ d (at512 o inb.le j) :=
  funext fun a => Fin.ext (by
    refine (Rect.idx_unit_val (s := ⟨3, ![2, n, 4096]⟩) ![h, 0, o] ![1, n, 512] inb (ix3 z d j) a).trans ?_
    fin_cases a <;> simp [at512])

/-- The softmax of row `i` at key `s`. -/
def pR {I : Type} (Q : I → Fin 128 → ℝ) (L : I → ℝ) (K : Fin 4096 → Fin 128 → ℝ) (i : I) (s : Fin 4096) : ℝ :=
  Real.rpow 2 ((∑ d, Q i d * K s d) * cLog - L i * (Real.log 2)⁻¹)

/-- The gradient of the score of row `i` at key `s`. -/
def dsR {I : Type} (Q : I → Fin 128 → ℝ) (G O : I → Fin 64 → ℝ) (L : I → ℝ) (K : Fin 4096 → Fin 128 → ℝ) (V : Fin 4096 → Fin 64 → ℝ) (i : I) (s : Fin 4096) : ℝ :=
  pR Q L K i s * ((∑ d, G i d * V s d - ∑ d, G i d * O i d) * cScale)

/-- What one head's blocks hold: the queries `Q`, the output's gradient `G`, the output `O`, the saved log-sum `L`, the keys `K` and the values `V`. -/
structure Head (q : FVec Ideal S256x128 .bf16) (g : FVec Ideal S256x64 .f32) (l d : FVec Ideal S256x1 .f32) (W1 : FVec Ideal S4096x128 .bf16) (W2 : FVec Ideal S4096x64 .bf16)
    (Q : Fin 256 → Fin 128 → ℝ) (G O : Fin 256 → Fin 64 → ℝ) (L : Fin 256 → ℝ) (K : Fin 4096 → Fin 128 → ℝ) (V : Fin 4096 → Fin 64 → ℝ) : Prop where
  q : Re2 q Q
  g : Re2 g G
  l : Re2 l fun i _ => L i * (Real.log 2)⁻¹
  d : Re2 d fun i _ => ∑ e, G i e * O i e
  k : Re2 W1 K
  v : Re2 W2 V

variable {q : FVec Ideal S256x128 .bf16} {g : FVec Ideal S256x64 .f32} {l d : FVec Ideal S256x1 .f32} {W1 : FVec Ideal S4096x128 .bf16} {W2 : FVec Ideal S4096x64 .bf16}
  {Q : Fin 256 → Fin 128 → ℝ} {G O : Fin 256 → Fin 64 → ℝ} {L : Fin 256 → ℝ} {K : Fin 4096 → Fin 128 → ℝ} {V : Fin 4096 → Fin 64 → ℝ}

theorem trans_re {x : FVec Ideal S256x64 .f32} {f : Fin 256 → Fin 64 → ℝ} (hx : Re2 x f) : Re2 (k1_pay79 x) fun d i => f i d := by
  intro d i
  pointwise [k1_pay79]
  exact hx i d

theorem transq_re {x : FVec Ideal S256x128 .bf16} {f : Fin 256 → Fin 128 → ℝ} (hx : Re2 x f) : Re2 (k1_pay80 x) fun d i => f i d := by
  intro d i
  pointwise [k1_pay80]
  exact hx i d

/-- A chunk of the keys. -/
abbrev kC (W1 : FVec Ideal S4096x128 .bf16) (o : ℕ) (inb : ∀ a, (![o, 0] : Fin 2 → ℕ) a + (![512, 128] : Fin 2 → ℕ) a ≤ S4096x128.size a) : FVec Ideal S512x128 .bf16 :=
  View.ld (Val := Elt Ideal) (e' := .bf16) W1 (Rect.unit ![o, 0] ![512, 128] inb)

/-- A chunk of the values. -/
abbrev vC (W2 : FVec Ideal S4096x64 .bf16) (o : ℕ) (inb : ∀ a, (![o, 0] : Fin 2 → ℕ) a + (![512, 64] : Fin 2 → ℕ) a ≤ S4096x64.size a) : FVec Ideal S512x64 .bf16 :=
  View.ld (Val := Elt Ideal) (e' := .bf16) W2 (Rect.unit ![o, 0] ![512, 64] inb)

/-- The softmax on a chunk of keys. -/
theorem p_re (H : Head q g l d W1 W2 Q G O L K V) (o : ℕ) (ho : o + 512 ≤ 4096) (inb) :
    Re2 (probT l (qkT q (kC W1 o inb))) fun i j => pR Q L K i (at512 o ho j) :=
  probT_re H.l (qkT_re H.q (ld_rows H.k o ho inb))

/-- The gradient of the scores on the chunk of keys that begins at `o`. -/
abbrev dsC (q : FVec Ideal S256x128 .bf16) (g : FVec Ideal S256x64 .f32) (l d : FVec Ideal S256x1 .f32) (W1 : FVec Ideal S4096x128 .bf16) (W2 : FVec Ideal S4096x64 .bf16) (o : ℕ)
    (inb : ∀ a, (![o, 0] : Fin 2 → ℕ) a + (![512, 128] : Fin 2 → ℕ) a ≤ S4096x128.size a)
    (inb' : ∀ a, (![o, 0] : Fin 2 → ℕ) a + (![512, 64] : Fin 2 → ℕ) a ≤ S4096x64.size a) : FVec Ideal S256x512 .bf16 :=
  dscoreT d (probT l (qkT q (kC W1 o inb))) (scoresT (truncf .bf16 g bitsLt_bf16_f32) (vC W2 o inb'))

theorem ds_re (H : Head q g l d W1 W2 Q G O L K V) (o : ℕ) (ho : o + 512 ≤ 4096) (inb inb') :
    Re2 (dsC q g l d W1 W2 o inb inb') fun i j => dsR Q G O L K V i (at512 o ho j) :=
  dscoreT_re H.d (p_re H o ho inb) (scoresT_re (trunc_re H.g) (ld_rowsV H.v o ho inb'))

/-- What the values' gradient gains at a point. -/
def dvAdd (Q : Fin 256 → Fin 128 → ℝ) (G : Fin 256 → Fin 64 → ℝ) (L : Fin 256 → ℝ) (K : Fin 4096 → Fin 128 → ℝ) (d : Fin 64) (s : Fin 4096) : ℝ :=
  ∑ i, G i d * pR Q L K i s

/-- What the keys' gradient gains. -/
def dkAdd (Q : Fin 256 → Fin 128 → ℝ) (G O : Fin 256 → Fin 64 → ℝ) (L : Fin 256 → ℝ) (K : Fin 4096 → Fin 128 → ℝ) (V : Fin 4096 → Fin 64 → ℝ) (d : Fin 128) (s : Fin 4096) : ℝ :=
  ∑ i, Q i d * dsR Q G O L K V i s

/-- What a chunk of the values' gradient holds after the point. -/
theorem dv_piece (H : Head q g l d W1 W2 Q G O L K V) (X : FVec Ideal S2x64x4096 .f32) (A : Fin 2 → Fin 64 → Fin 4096 → ℝ)
    (hX : ∀ h d s, X (ix3 h d s) = ((A h d s : ℝ) : EReal)) (h o : ℕ) (inb' : Inb 64 h o) (inb) (z : Fin 1) (e : Fin 64) (j : Fin 512) :
    accT (k1_pay79 g) (truncf .bf16 (probT l (qkT q (kC W1 o inb))) bitsLt_bf16_f32)
        (View.ld (Val := Elt Ideal) (e' := .f32) X (Rect.unit (s := S2x64x4096) ![h, 0, o] ![1, 64, 512] inb')) (ix3 z e j)
      = ((A ⟨h, inb'.head⟩ e (at512 o inb'.le j) + dvAdd Q G L K e (at512 o inb'.le j) : ℝ) : EReal) :=
  accT_re (trans_re H.g) (trunc_re (p_re H o inb'.le inb)) z e j _ ((ld_cols X h o inb' 0 e j).trans (hX _ e _))

/-- What a chunk of the keys' gradient holds after the point. -/
theorem dk_piece (H : Head q g l d W1 W2 Q G O L K V) (X : FVec Ideal S2x128x4096 .f32) (A : Fin 2 → Fin 128 → Fin 4096 → ℝ)
    (hX : ∀ h d s, X (ix3 h d s) = ((A h d s : ℝ) : EReal)) (h o : ℕ) (inb' : Inb 128 h o) (inb inb2) (z : Fin 1) (e : Fin 128) (j : Fin 512) :
    dkT (k1_pay80 q) (dsC q g l d W1 W2 o inb inb2)
        (View.ld (Val := Elt Ideal) (e' := .f32) X (Rect.unit (s := S2x128x4096) ![h, 0, o] ![1, 128, 512] inb')) (ix3 z e j)
      = ((A ⟨h, inb'.head⟩ e (at512 o inb'.le j) + dkAdd Q G O L K V e (at512 o inb'.le j) : ℝ) : EReal) :=
  dkT_re (transq_re H.q) (ds_re H o inb'.le inb inb2) z e j _ ((ld_cols X h o inb' 0 e j).trans (hX _ e _))

/-! ## The queries' gradient -/

/-- The queries' gradient of one head, summed over the chunks of keys. -/
def dqHead (q : FVec Ideal S256x128 .bf16) (g : FVec Ideal S256x64 .f32) (l d : FVec Ideal S256x1 .f32) (W1 : FVec Ideal S4096x128 .bf16) (W2 : FVec Ideal S4096x64 .bf16) : FVec Ideal S256x128 .f32 :=
  dqT (dqT (dqT (dqT (dqT (dqT (dqT (dqT (broadcast S256x128 (Scalar.ofBits .f32 0x00000000#32)) (dsC q g l d W1 W2 0 inb_S4096x128_S512x128_0_0 inb_S4096x64_S512x64_0_0) (kC W1 0 inb_S4096x128_S512x128_0_0)) (dsC q g l d W1 W2 512 inb_S4096x128_S512x128_512_0 inb_S4096x64_S512x64_512_0) (kC W1 512 inb_S4096x128_S512x128_512_0)) (dsC q g l d W1 W2 1024 inb_S4096x128_S512x128_1024_0 inb_S4096x64_S512x64_1024_0) (kC W1 1024 inb_S4096x128_S512x128_1024_0)) (dsC q g l d W1 W2 1536 inb_S4096x128_S512x128_1536_0 inb_S4096x64_S512x64_1536_0) (kC W1 1536 inb_S4096x128_S512x128_1536_0)) (dsC q g l d W1 W2 2048 inb_S4096x128_S512x128_2048_0 inb_S4096x64_S512x64_2048_0) (kC W1 2048 inb_S4096x128_S512x128_2048_0)) (dsC q g l d W1 W2 2560 inb_S4096x128_S512x128_2560_0 inb_S4096x64_S512x64_2560_0) (kC W1 2560 inb_S4096x128_S512x128_2560_0)) (dsC q g l d W1 W2 3072 inb_S4096x128_S512x128_3072_0 inb_S4096x64_S512x64_3072_0) (kC W1 3072 inb_S4096x128_S512x128_3072_0)) (dsC q g l d W1 W2 3584 inb_S4096x128_S512x128_3584_0 inb_S4096x64_S512x64_3584_0) (kC W1 3584 inb_S4096x128_S512x128_3584_0)

theorem dqHead_re (H : Head q g l d W1 W2 Q G O L K V) : Re2 (dqHead q g l d W1 W2) fun i d => ∑ s, dsR Q G O L K V i s * K s d := by
  have h0 : Re2 (broadcast S256x128 (Scalar.ofBits (F := Ideal) .f32 0x00000000#32)) fun (_ : Fin 256) (_ : Fin 128) => (0 : ℝ) := by
    intro i d
    pointwise []
    simp
  have hs : ∀ o (ho : o + 512 ≤ 4096) inb inb', Re2 (dsC q g l d W1 W2 o inb inb') fun i j => dsR Q G O L K V i (at512 o ho j) :=
    fun o ho inb inb' => ds_re H o ho inb inb'
  intro i e
  beta_reduce
  rw [sum_chunks, Fin.sum_univ_eight]
  refine ((dqT_re (dqT_re (dqT_re (dqT_re (dqT_re (dqT_re (dqT_re (dqT_re h0 (hs 0 (by decide) inb_S4096x128_S512x128_0_0 inb_S4096x64_S512x64_0_0) (ld_rows H.k 0 (by decide) _)) (hs 512 (by decide) inb_S4096x128_S512x128_512_0 inb_S4096x64_S512x64_512_0) (ld_rows H.k 512 (by decide) _)) (hs 1024 (by decide) inb_S4096x128_S512x128_1024_0 inb_S4096x64_S512x64_1024_0) (ld_rows H.k 1024 (by decide) _)) (hs 1536 (by decide) inb_S4096x128_S512x128_1536_0 inb_S4096x64_S512x64_1536_0) (ld_rows H.k 1536 (by decide) _)) (hs 2048 (by decide) inb_S4096x128_S512x128_2048_0 inb_S4096x64_S512x64_2048_0) (ld_rows H.k 2048 (by decide) _)) (hs 2560 (by decide) inb_S4096x128_S512x128_2560_0 inb_S4096x64_S512x64_2560_0) (ld_rows H.k 2560 (by decide) _)) (hs 3072 (by decide) inb_S4096x128_S512x128_3072_0 inb_S4096x64_S512x64_3072_0) (ld_rows H.k 3072 (by decide) _)) (hs 3584 (by decide) inb_S4096x128_S512x128_3584_0 inb_S4096x64_S512x64_3584_0) (ld_rows H.k 3584 (by decide) _)) i e).trans ?_
  simp only [zero_add]
  rfl

theorem cast_head (x : FVec Ideal S256x128 .f32) (z : Fin 1) (i : Fin 256) (d : Fin 128) : shapeCast S1x256x128 x shapeCasts_S256x128_S1x256x128 (ix3 z i d) = x (ix2 i d) := by
  pointwise []

theorem dq_piece (H : Head q g l d W1 W2 Q G O L K V) (z : Fin 1) (i : Fin 256) (e : Fin 128) :
    shapeCast S1x256x128 (dqHead q g l d W1 W2) shapeCasts_S256x128_S1x256x128 (ix3 z i e) = ((∑ s, dsR Q G O L K V i s * K s e : ℝ) : EReal) :=
  (cast_head _ z i e).trans (dqHead_re H i e)

theorem emb_head (h : ℕ) (hh : h < 2) (inb) (z : Fin 1) (i : Fin 256) (d : Fin 128) :
    (Rect.unit (s := S2x256x128) ![h, 0, 0] ![1, 256, 128] inb).emb (ix3 z i d) = ix3 ⟨h, hh⟩ i d :=
  funext fun a => Fin.ext ((Rect.idx_unit_val _ _ inb (ix3 z i d) a).trans (by fin_cases a <;> simp))

end Cert.LatentAttn

end
-- ==== Proof.LatentBlocks.lean ====
/- What one grid point of the latent attention's backward kernel leaves in the gradients' blocks: the keys' and the values' blocks gain what the
   point's queries add, head by head, and the queries' block is their own gradient. -/
module

public import proofs.«01_k».proof.Proof.LatentPieces
public import Idealize.ShloMosaic.Lib.ValueLayout

@[expose] public section

set_option maxRecDepth 16384

noncomputable section

namespace Cert.LatentAttn

open Idealize.ShloMosaic Idealize.ShloMosaic.TcCoe Cert.LatentIdeal Cert.LatentIdeal.Gen Cert.Attn Cert.RealValues
open Cert.Tiles (Re2 deltaT_re)

variable (V : (c : Dev nD) → (b : Ref sig .tc) → Buf (Elt Ideal) ((c : Thread nD τ).loc b))

/-- A slice of a whole buffer, read in another shape. -/
theorem read_slice_unread {κ : Kind} {sp : Space} {s : Shape} {e : EltTy} {m : Memref sig κ sp s e} (h : m.IsWhole) (X : s.Idx → Elt Ideal e) (R : Rect s)
    {s3 : Shape} (hn : s3.numel = R.shape.numel) (x : s3.Idx) :
    View.read (Elt Ideal) ((m.view.slice R).reshape s3 hn) (h.unread X) x = X (R.emb (Shape.reshapeEquiv hn x)) :=
  congrFun (h.read_unread X) _

theorem rowsK_numel {h : ℕ} (inb : ∀ a, (![h, 0, 0] : Fin 3 → ℕ) a + (![1, 4096, 128] : Fin 3 → ℕ) a ≤ S2x4096x128.size a) :
    S4096x128.numel = (Rect.unit (s := S2x4096x128) ![h, 0, 0] ![1, 4096, 128] inb).shape.numel := by
  simp [Shape.numel, Fin.prod_univ_succ, Rect.unit]

theorem rowsV_numel {h : ℕ} (inb : ∀ a, (![h, 0, 0] : Fin 3 → ℕ) a + (![1, 4096, 64] : Fin 3 → ℕ) a ≤ S2x4096x64.size a) :
    S4096x64.numel = (Rect.unit (s := S2x4096x64) ![h, 0, 0] ![1, 4096, 64] inb).shape.numel := by
  simp [Shape.numel, Fin.prod_univ_succ, Rect.unit]

/-- A head's keys at a point, as the kernel reads them: without the first axis. -/
abbrev rowsK (c : Dev nD) (t : Fin cfg1.N) (h : ℕ) (inb : ∀ a, (![h, 0, 0] : Fin 3 → ℕ) a + (![1, 4096, 128] : Fin 3 → ℕ) a ≤ S2x4096x128.size a) : FVec Ideal S4096x128 .bf16 :=
  View.read (Elt Ideal) (((ms1_1 t).view.slice (Rect.unit ![h, 0, 0] ![1, 4096, 128] inb)).reshape S4096x128 (rowsK_numel inb)) ((hs1_1 t).unread (iblk1 V c 1 t))

/-- A head's values at a point. -/
abbrev rowsV (c : Dev nD) (t : Fin cfg1.N) (h : ℕ) (inb : ∀ a, (![h, 0, 0] : Fin 3 → ℕ) a + (![1, 4096, 64] : Fin 3 → ℕ) a ≤ S2x4096x64.size a) : FVec Ideal S4096x64 .bf16 :=
  View.read (Elt Ideal) (((ms1_2 t).view.slice (Rect.unit ![h, 0, 0] ![1, 4096, 64] inb)).reshape S4096x64 (rowsV_numel inb)) ((hs1_2 t).unread (iblk1 V c 2 t))

theorem rowsK_at (c : Dev nD) (t : Fin cfg1.N) (h : ℕ) (hh : h < 2) (inb) (s : Fin 4096) (d : Fin 128) : rowsK V c t h inb (ix2 s d) = iblk1 V c 1 t (ix3 ⟨h, hh⟩ s d) := by
  refine (read_slice_unread (hs1_1 t) (iblk1 V c 1 t) _ (s3 := S4096x128) (rowsK_numel inb) (ix2 s d)).trans ?_
  refine congrArg (iblk1 V c 1 t) ?_
  refine (congrArg _ (ValueIdx.reshapeEquiv_ix2_1ab _ s d)).trans (funext fun a => Fin.ext ((Rect.idx_unit_val _ _ _ _ a).trans ?_))
  fin_cases a <;> simp

theorem rowsV_at (c : Dev nD) (t : Fin cfg1.N) (h : ℕ) (hh : h < 2) (inb) (s : Fin 4096) (d : Fin 64) : rowsV V c t h inb (ix2 s d) = iblk1 V c 2 t (ix3 ⟨h, hh⟩ s d) := by
  refine (read_slice_unread (hs1_2 t) (iblk1 V c 2 t) _ (s3 := S4096x64) (rowsV_numel inb) (ix2 s d)).trans ?_
  refine congrArg (iblk1 V c 2 t) ?_
  refine (congrArg _ (ValueIdx.reshapeEquiv_ix2_1ab _ s d)).trans (funext fun a => Fin.ext ((Rect.idx_unit_val _ _ _ _ a).trans ?_))
  fin_cases a <;> simp

/-- What a point's blocks hold: of each of the two heads the queries `Q`, the output's gradient `G`, the output `O`, the saved log-sum `L`, the keys `K`
    and the values `W`. -/
structure At (c : Dev nD) (t : Fin cfg1.N) (Q : Fin 2 → Fin 256 → Fin 128 → ℝ) (G O : Fin 2 → Fin 256 → Fin 64 → ℝ) (L : Fin 2 → Fin 256 → ℝ)
    (K : Fin 2 → Fin 4096 → Fin 128 → ℝ) (W : Fin 2 → Fin 4096 → Fin 64 → ℝ) : Prop where
  q : ∀ h i d, iblk1 V c 0 t (ix3 h i d) = ((Q h i d : ℝ) : EReal)
  k : ∀ h s d, iblk1 V c 1 t (ix3 h s d) = ((K h s d : ℝ) : EReal)
  v : ∀ h s d, iblk1 V c 2 t (ix3 h s d) = ((W h s d : ℝ) : EReal)
  g : ∀ (h : Fin 2) i (d : Fin 64), iblk1 V c 5 t (ix2 i ⟨64 * h.val + d.val, by omega⟩) = ((G h i d : ℝ) : EReal)
  o : ∀ (h : Fin 2) i (d : Fin 64), iblk1 V c 3 t (ix2 i ⟨64 * h.val + d.val, by omega⟩) = ((O h i d : ℝ) : EReal)
  l : ∀ h i, iblk1 V c 4 t (ix3 h i 0) = ((L h i : ℝ) : EReal)

abbrev q0 (x0 : FVec Ideal S2x256x128 .bf16) : FVec Ideal S256x128 .bf16 :=
  k1_pay6 (View.ld (Val := Elt Ideal) (e' := .bf16) x0 (Rect.unit ![0, 0, 0] ![1, 256, 128] inb_S2x256x128_S1x256x128_0_0_0))

abbrev q1 (x0 : FVec Ideal S2x256x128 .bf16) : FVec Ideal S256x128 .bf16 :=
  k1_pay75 (View.ld (Val := Elt Ideal) (e' := .bf16) x0 (Rect.unit ![1, 0, 0] ![1, 256, 128] inb_S2x256x128_S1x256x128_1_0_0))

abbrev l0 (x4 : FVec Ideal S2x256x1 .f32) : FVec Ideal S256x1 .f32 :=
  k1_pay12 (View.ld (Val := Elt Ideal) (e' := .f32) x4 (Rect.unit ![0, 0, 0] ![1, 256, 1] inb_S2x256x1_S1x256x1_0_0_0))

abbrev l1 (x4 : FVec Ideal S2x256x1 .f32) : FVec Ideal S256x1 .f32 :=
  k1_pay82 (View.ld (Val := Elt Ideal) (e' := .f32) x4 (Rect.unit ![1, 0, 0] ![1, 256, 1] inb_S2x256x1_S1x256x1_1_0_0))

abbrev dl1 (x3 x5 : FVec Ideal S256x128 .f32) : FVec Ideal S256x1 .f32 := k1_pay81 (k1_pay76 x5) (k1_pay77 (k1_pay5 x3))

variable {x0 : FVec Ideal S2x256x128 .bf16} {x3 x5 : FVec Ideal S256x128 .f32} {x4 : FVec Ideal S2x256x1 .f32}

theorem q0_re {Q : Fin 256 → Fin 128 → ℝ} (H : ∀ i d, x0 (ix3 0 i d) = ((Q i d : ℝ) : EReal)) : Re2 (q0 x0) Q := by
  intro i d
  pointwise [q0, k1_pay6]
  exact H _ _

theorem q1_re {Q : Fin 256 → Fin 128 → ℝ} (H : ∀ i d, x0 (ix3 1 i d) = ((Q i d : ℝ) : EReal)) : Re2 (q1 x0) Q := by
  intro i d
  pointwise [q1, k1_pay75]
  exact H _ _

theorem l0_re {L : Fin 256 → ℝ} (H : ∀ i, x4 (ix3 0 i 0) = ((L i : ℝ) : EReal)) : Re2 (l0 x4) fun i _ => L i * (Real.log 2)⁻¹ := by
  exact lseT_re fun i => (View.ld_unit_apply_of (Val := Elt Ideal) (e := .f32) x4 _ _ _ (ix3 0 i 0) (ix3 0 i 0) (by intro a; fin_cases a <;> simp)).trans (H i)

theorem l1_re {L : Fin 256 → ℝ} (H : ∀ i, x4 (ix3 1 i 0) = ((L i : ℝ) : EReal)) : Re2 (l1 x4) fun i _ => L i * (Real.log 2)⁻¹ := by
  exact lseT_re fun i => (View.ld_unit_apply_of (Val := Elt Ideal) (e := .f32) x4 _ _ _ (ix3 0 i 0) (ix3 1 i 0) (by intro a; fin_cases a <;> simp)).trans (H i)

/-- The first head's columns of an array of two heads' columns. -/
theorem cols0_re {G : Fin 256 → Fin 64 → ℝ} (H : ∀ i (d : Fin 64), x5 (ix2 i ⟨64 * (0 : Fin 2).val + d.val, by omega⟩) = ((G i d : ℝ) : EReal)) :
    Re2 (extractStridedSlice S256x64 ![0, 0] x5 slices_S256x128_o0_0_S256x64) G := by
  intro i d
  pointwise []
  rw [← H i d]
  exact congrArg x5 (congrArg (ix2 i) (Fin.ext (by simp)))

/-- The second head's columns. -/
theorem cols1_re {G : Fin 256 → Fin 64 → ℝ} (H : ∀ i (d : Fin 64), x5 (ix2 i ⟨64 * (1 : Fin 2).val + d.val, by omega⟩) = ((G i d : ℝ) : EReal)) :
    Re2 (extractStridedSlice S256x64 ![0, 64] x5 slices_S256x128_o0_64_S256x64) G := by
  intro i d
  pointwise []
  rw [← H i d]
  exact congrArg x5 (congrArg (ix2 i) (Fin.ext (by simp)))

theorem pay5_at (x : FVec Ideal S256x128 .f32) (y) : k1_pay5 x y = x y := by
  idx_vars y
  pointwise [k1_pay5]

variable {Q : Fin 2 → Fin 256 → Fin 128 → ℝ} {G O : Fin 2 → Fin 256 → Fin 64 → ℝ} {L : Fin 2 → Fin 256 → ℝ} {K : Fin 2 → Fin 4096 → Fin 128 → ℝ} {W : Fin 2 → Fin 4096 → Fin 64 → ℝ}
variable {V} {c : Dev nD} {t : Fin cfg1.N}

/-- The first head of a point. -/
theorem At.zero (H : At V c t Q G O L K W) :
    Head (q0 (iblk1 V c 0 t)) (k1_pay7 (iblk1 V c 5 t)) (l0 (iblk1 V c 4 t)) (k1_pay11 (iblk1 V c 5 t) (iblk1 V c 3 t))
      (rowsK V c t 0 inb_S2x4096x128_S1x4096x128_0_0_0) (rowsV V c t 0 inb_S2x4096x64_S1x4096x64_0_0_0) (Q 0) (G 0) (O 0) (L 0) (K 0) (W 0) where
  q := q0_re (H.q 0)
  g := cols0_re (H.g 0)
  l := l0_re (H.l 0)
  d := deltaT_re (cols0_re (H.g 0)) (cols0_re fun i d => (pay5_at _ _).trans (H.o 0 i d))
  k s d := (rowsK_at V c t 0 (by decide) _ s d).trans (H.k 0 s d)
  v s d := (rowsV_at V c t 0 (by decide) _ s d).trans (H.v 0 s d)

/-- The second head of a point. -/
theorem At.one (H : At V c t Q G O L K W) :
    Head (q1 (iblk1 V c 0 t)) (k1_pay76 (iblk1 V c 5 t)) (l1 (iblk1 V c 4 t)) (dl1 (iblk1 V c 3 t) (iblk1 V c 5 t))
      (rowsK V c t 1 inb_S2x4096x128_S1x4096x128_1_0_0) (rowsV V c t 1 inb_S2x4096x64_S1x4096x64_1_0_0) (Q 1) (G 1) (O 1) (L 1) (K 1) (W 1) where
  q := q1_re (H.q 1)
  g := cols1_re (H.g 1)
  l := l1_re (H.l 1)
  d := deltaT_re (cols1_re (H.g 1)) (cols1_re fun i d => (pay5_at _ _).trans (H.o 1 i d))
  k s d := (rowsK_at V c t 1 (by decide) _ s d).trans (H.k 1 s d)
  v s d := (rowsV_at V c t 1 (by decide) _ s d).trans (H.v 1 s d)

theorem zero4 (x) : k1_pay4 (F := Ideal) x = ((0 : ℝ) : EReal) := by
  pointwise [k1_pay4]
  simp

theorem zero3 (x) : k1_pay3 (F := Ideal) x = ((0 : ℝ) : EReal) := by
  pointwise [k1_pay3]
  simp

variable (V)

/-- The values' gradient after a later point of a pair of heads. -/
theorem dv_later (c : Dev nD) (t : Fin cfg1.N) (h : ¬ t.val % 16 = 0) (H : At V c t Q G O L K W) (A : Fin 2 → Fin 64 → Fin 4096 → ℝ)
    (hX : ∀ g d s, (outsAt1 V c (t.val - 1) (by omega)).2.2 (ix3 g d s) = ((A g d s : ℝ) : EReal)) (g : Fin 2) (d : Fin 64) (s : Fin 4096) :
    (outsAt1 V c t.val t.isLt).2.2 (ix3 g d s) = ((A g d s + dvAdd (Q g) (G g) (L g) (K g) d s : ℝ) : EReal) := by
  rw [outsAt1_B V c t h]
  frame_open
  simp (disch := decide) only [↓ View.readCov_skip, ↓ View.readCov_cons_toLoadRect, ↓ View.readCov_fill]
  frame_out
  refine (View.canon_append_of_piecesOf (Val := Elt Ideal) (e := .f32) (fun y : S2x64x4096.Idx => ((A (y 0) (y 1) (y 2) + dvAdd (Q (y 0)) (G (y 0)) (L (y 0)) (K (y 0)) (y 1) (y 2) : ℝ) : EReal)) [] [_, _, _, _, _, _, _, _, _, _, _, _, _, _, _, _] ⟨?_, ?_, ?_, ?_, ?_, ?_, ?_, ?_, ?_, ?_, ?_, ?_, ?_, ?_, ?_, ?_, trivial⟩ (ix3 g d s) (View.cover_of_tiledL _ ![1, 64, 512] (by rfl) _))
  iterate 8
    · intro x
      idx_vars x
      rw [emb_cols]
      exact dv_piece H.one _ A hX _ _ _ _ _ _ _
  iterate 8
    · intro x
      idx_vars x
      rw [emb_cols]
      exact dv_piece H.zero _ A hX _ _ _ _ _ _ _

/-- The values' gradient after the first point of a pair of heads. -/
theorem dv_first (c : Dev nD) (t : Fin cfg1.N) (h : t.val % 16 = 0) (H : At V c t Q G O L K W) (g : Fin 2) (d : Fin 64) (s : Fin 4096) :
    (outsAt1 V c t.val t.isLt).2.2 (ix3 g d s) = ((dvAdd (Q g) (G g) (L g) (K g) d s : ℝ) : EReal) := by
  rw [outsAt1_A V c t h]
  frame_open
  simp (disch := decide) only [↓ View.readCov_skip, ↓ View.readCov_cons_toLoadRect, ↓ View.readCov_fill]
  frame_out
  refine (View.canon_append_of_piecesOf (Val := Elt Ideal) (e := .f32) (fun y : S2x64x4096.Idx => ((dvAdd (Q (y 0)) (G (y 0)) (L (y 0)) (K (y 0)) (y 1) (y 2) : ℝ) : EReal)) [_] [_, _, _, _, _, _, _, _, _, _, _, _, _, _, _, _] ⟨?_, ?_, ?_, ?_, ?_, ?_, ?_, ?_, ?_, ?_, ?_, ?_, ?_, ?_, ?_, ?_, trivial⟩ (ix3 g d s) (View.cover_of_tiledL _ ![1, 64, 512] (by rfl) _))
  iterate 8
    · intro x
      idx_vars x
      rw [emb_cols]
      exact (dv_piece H.one _ (fun _ _ _ => 0) (fun _ _ _ => zero4 _) 1 _ (by decide) _ _ _ _).trans (congrArg Real.toEReal (zero_add _))
  iterate 8
    · intro x
      idx_vars x
      rw [emb_cols]
      exact (dv_piece H.zero _ (fun _ _ _ => 0) (fun _ _ _ => zero4 _) 0 _ (by decide) _ _ _ _).trans (congrArg Real.toEReal (zero_add _))

/-- The keys' gradient after a later point of a pair of heads. -/
theorem dk_later (c : Dev nD) (t : Fin cfg1.N) (h : ¬ t.val % 16 = 0) (H : At V c t Q G O L K W) (A : Fin 2 → Fin 128 → Fin 4096 → ℝ)
    (hX : ∀ g d s, (outsAt1 V c (t.val - 1) (by omega)).2.1 (ix3 g d s) = ((A g d s : ℝ) : EReal)) (g : Fin 2) (d : Fin 128) (s : Fin 4096) :
    (outsAt1 V c t.val t.isLt).2.1 (ix3 g d s) = ((A g d s + dkAdd (Q g) (G g) (O g) (L g) (K g) (W g) d s : ℝ) : EReal) := by
  rw [outsAt1_B V c t h]
  frame_open
  simp (disch := decide) only [↓ View.readCov_skip, ↓ View.readCov_cons_toLoadRect, ↓ View.readCov_fill]
  frame_out
  refine (View.canon_append_of_piecesOf (Val := Elt Ideal) (e := .f32) (fun y : S2x128x4096.Idx => ((A (y 0) (y 1) (y 2) + dkAdd (Q (y 0)) (G (y 0)) (O (y 0)) (L (y 0)) (K (y 0)) (W (y 0)) (y 1) (y 2) : ℝ) : EReal)) [] [_, _, _, _, _, _, _, _, _, _, _, _, _, _, _, _] ⟨?_, ?_, ?_, ?_, ?_, ?_, ?_, ?_, ?_, ?_, ?_, ?_, ?_, ?_, ?_, ?_, trivial⟩ (ix3 g d s) (View.cover_of_tiledL _ ![1, 128, 512] (by rfl) _))
  iterate 8
    · intro x
      idx_vars x
      rw [emb_cols]
      exact dk_piece H.one _ A hX _ _ _ _ _ _ _ _
  iterate 8
    · intro x
      idx_vars x
      rw [emb_cols]
      exact dk_piece H.zero _ A hX _ _ _ _ _ _ _ _

/-- The keys' gradient after the first point of a pair of heads. -/
theorem dk_first (c : Dev nD) (t : Fin cfg1.N) (h : t.val % 16 = 0) (H : At V c t Q G O L K W) (g : Fin 2) (d : Fin 128) (s : Fin 4096) :
    (outsAt1 V c t.val t.isLt).2.1 (ix3 g d s) = ((dkAdd (Q g) (G g) (O g) (L g) (K g) (W g) d s : ℝ) : EReal) := by
  rw [outsAt1_A V c t h]
  frame_open
  simp (disch := decide) only [↓ View.readCov_skip, ↓ View.readCov_cons_toLoadRect, ↓ View.readCov_fill]
  frame_out
  refine (View.canon_append_of_piecesOf (Val := Elt Ideal) (e := .f32) (fun y : S2x128x4096.Idx => ((dkAdd (Q (y 0)) (G (y 0)) (O (y 0)) (L (y 0)) (K (y 0)) (W (y 0)) (y 1) (y 2) : ℝ) : EReal)) [_] [_, _, _, _, _, _, _, _, _, _, _, _, _, _, _, _] ⟨?_, ?_, ?_, ?_, ?_, ?_, ?_, ?_, ?_, ?_, ?_, ?_, ?_, ?_, ?_, ?_, trivial⟩ (ix3 g d s) (View.cover_of_tiledL _ ![1, 128, 512] (by rfl) _))
  iterate 8
    · intro x
      idx_vars x
      rw [emb_cols]
      exact (dk_piece H.one _ (fun _ _ _ => 0) (fun _ _ _ => zero3 _) 1 _ (by decide) _ _ _ _ _).trans (congrArg Real.toEReal (zero_add _))
  iterate 8
    · intro x
      idx_vars x
      rw [emb_cols]
      exact (dk_piece H.zero _ (fun _ _ _ => 0) (fun _ _ _ => zero3 _) 0 _ (by decide) _ _ _ _ _).trans (congrArg Real.toEReal (zero_add _))

/-- The queries' gradient at a later point of a pair of heads. -/
theorem dq_later (c : Dev nD) (t : Fin cfg1.N) (h : ¬ t.val % 16 = 0) (H : At V c t Q G O L K W) (g : Fin 2) (i : Fin 256) (d : Fin 128) :
    (outsAt1 V c t.val t.isLt).1 (ix3 g i d) = ((∑ s, dsR (Q g) (G g) (O g) (L g) (K g) (W g) i s * K g s d : ℝ) : EReal) := by
  rw [outsAt1_B V c t h]
  frame_open
  simp (disch := decide) only [↓ View.readCov_skip, ↓ View.readCov_cons_toLoadRect, ↓ View.readCov_fill]
  frame_out
  refine (View.canon_append_of_piecesOf (Val := Elt Ideal) (e := .f32) (fun y : S2x256x128.Idx => ((∑ s, dsR (Q (y 0)) (G (y 0)) (O (y 0)) (L (y 0)) (K (y 0)) (W (y 0)) (y 1) s * K (y 0) s (y 2) : ℝ) : EReal)) [] [_, _] ⟨?_, ?_, trivial⟩ (ix3 g i d) (View.cover_of_tiledL _ ![1, 256, 128] (by rfl) _))
  · intro x
    idx_vars x
    rw [emb_head 1 (by decide)]
    exact dq_piece H.one _ _ _
  · intro x
    idx_vars x
    rw [emb_head 0 (by decide)]
    exact dq_piece H.zero _ _ _

/-- The queries' gradient at the first point of a pair of heads. -/
theorem dq_first (c : Dev nD) (t : Fin cfg1.N) (h : t.val % 16 = 0) (H : At V c t Q G O L K W) (g : Fin 2) (i : Fin 256) (d : Fin 128) :
    (outsAt1 V c t.val t.isLt).1 (ix3 g i d) = ((∑ s, dsR (Q g) (G g) (O g) (L g) (K g) (W g) i s * K g s d : ℝ) : EReal) := by
  rw [outsAt1_A V c t h]
  frame_open
  simp (disch := decide) only [↓ View.readCov_skip, ↓ View.readCov_cons_toLoadRect, ↓ View.readCov_fill]
  frame_out
  refine (View.canon_append_of_piecesOf (Val := Elt Ideal) (e := .f32) (fun y : S2x256x128.Idx => ((∑ s, dsR (Q (y 0)) (G (y 0)) (O (y 0)) (L (y 0)) (K (y 0)) (W (y 0)) (y 1) s * K (y 0) s (y 2) : ℝ) : EReal)) [] [_, _] ⟨?_, ?_, trivial⟩ (ix3 g i d) (View.cover_of_tiledL _ ![1, 256, 128] (by rfl) _))
  · intro x
    idx_vars x
    rw [emb_head 1 (by decide)]
    exact dq_piece H.one _ _ _
  · intro x
    idx_vars x
    rw [emb_head 0 (by decide)]
    exact dq_piece H.zero _ _ _

end Cert.LatentAttn

end
-- ==== Proof.LatentArrays.lean ====
/- The latent attention's backward kernel's three results as real numbers, out of what its six arguments hold. -/
module

public import proofs.«01_k».proof.Proof.LatentBlocks
public import proofs.«01_k».proof.Proof.Arrays
public import Idealize.ShloMosaic.Lib.Pipeline.ValueKit.Geometry

@[expose] public section

set_option maxRecDepth 16384

noncomputable section

namespace Cert.LatentAttn

open Idealize.ShloMosaic Idealize.ShloMosaic.TcCoe Cert.LatentIdeal Cert.LatentIdeal.Gen Cert.Attn Cert.RealValues
open Cert.Tiles (sum_rows)

variable (V : (c : Dev nD) → (b : Ref sig .tc) → Buf (Elt Ideal) ((c : Thread nD τ).loc b))

/-- Head `h` of the two that a grid point works on. -/
abbrev hd (n : ℕ) (h : Fin 2) : Fin 4 := ⟨2 * (n / 16 % 2) + h.val, by omega⟩

/-- The row `i` of the queries that a grid point works on. -/
abbrev row (n : ℕ) (i : Fin 256) : Fin 4096 := ⟨256 * (n % 16) + i.val, by omega⟩

/-- The rows that a grid point works on, of an array with a row of numbers for each head and place. -/
abbrev tl {X : Type} (Q : Fin 4 → Fin 4096 → X) (n : ℕ) (h : Fin 2) : Fin 256 → X := fun i => Q (hd n h) (row n i)

/-- The backward kernel's arguments, as real numbers. -/
structure Entry (c : Dev nD) (Q : Fin 4 → Fin 4096 → Fin 128 → ℝ) (G O : Fin 4 → Fin 4096 → Fin 64 → ℝ) (L : Fin 4 → Fin 4096 → ℝ) (K : Fin 4 → Fin 4096 → Fin 128 → ℝ) (W : Fin 4 → Fin 4096 → Fin 64 → ℝ) : Prop where
  q : ∀ h i d, V c main_arg0 (ix3 h i d) = ((Q h i d : ℝ) : EReal)
  k : ∀ h s d, V c main_arg1 (ix3 h s d) = ((K h s d : ℝ) : EReal)
  v : ∀ h s d, V c main_arg2 (ix3 h s d) = ((W h s d : ℝ) : EReal)
  g : ∀ (h : Fin 4) i (d : Fin 64), V c main_arg3 (ix2 i ⟨768 + (64 * h.val + d.val), by omega⟩) = ((G h i d : ℝ) : EReal)
  o : ∀ (h : Fin 4) i (d : Fin 64), V c main_v1_0 (ix2 i ⟨64 * h.val + d.val, by omega⟩) = ((O h i d : ℝ) : EReal)
  l : ∀ h i, V c main_v1_1 (ix3 h i 0) = ((L h i : ℝ) : EReal)

theorem e1_0 : ∀ t : Fin cfg1.N, win1_0.index t = ![t.val / 16, t.val % 16, 0] := by decide +kernel
theorem e1_1 : ∀ t : Fin cfg1.N, win1_1.index t = ![t.val / 16, 0, 0] := by decide +kernel
theorem e1_2 : ∀ t : Fin cfg1.N, win1_2.index t = ![t.val / 16, 0, 0] := by decide +kernel
theorem e1_3 : ∀ t : Fin cfg1.N, win1_3.index t = ![t.val % 16, t.val / 16] := by decide +kernel
theorem e1_4 : ∀ t : Fin cfg1.N, win1_4.index t = ![t.val / 16, t.val % 16, 0] := by decide +kernel
theorem e1_5 : ∀ t : Fin cfg1.N, win1_5.index t = ![t.val % 16, 6 + t.val / 16] := by decide +kernel
theorem e1_6 : ∀ t : Fin cfg1.N, win1_6.index t = ![t.val / 16, t.val % 16, 0] := by decide +kernel
theorem e1_7 : ∀ t : Fin cfg1.N, win1_7.index t = ![t.val / 16, 0, 0] := by decide +kernel
theorem e1_8 : ∀ t : Fin cfg1.N, win1_8.index t = ![t.val / 16, 0, 0] := by decide +kernel
theorem lt32 (t : Fin cfg1.N) : t.val < 32 := t.isLt

variable {Q K : Fin 4 → Fin 4096 → Fin 128 → ℝ} {G O W : Fin 4 → Fin 4096 → Fin 64 → ℝ} {L : Fin 4 → Fin 4096 → ℝ} {V}

/-- What the blocks hold at a point. -/
theorem Entry.at {c : Dev nD} (E : Entry V c Q G O L K W) (t : Fin cfg1.N) :
    At V c t (tl Q t.val) (tl G t.val) (tl O t.val) (tl L t.val) (fun h => K (hd t.val h)) (fun h => W (hd t.val h)) where
  q h i d := by
    have ht := lt32 t
    rw [← E.q]
    blk_simp [iblk1]
    refine congrArg (V c main_arg0) ?_
    blk_ext [e1_0 t]
  k h s d := by
    have ht := lt32 t
    rw [← E.k]
    blk_simp [iblk1]
    refine congrArg (V c main_arg1) ?_
    blk_ext [e1_1 t]
  v h s d := by
    have ht := lt32 t
    rw [← E.v]
    blk_simp [iblk1]
    refine congrArg (V c main_arg2) ?_
    blk_ext [e1_2 t]
  g h i d := by
    have ht := lt32 t
    rw [← E.g]
    blk_simp [iblk1]
    refine congrArg (V c main_arg3) ?_
    blk_ext [e1_5 t]
  o h i d := by
    have ht := lt32 t
    rw [← E.o]
    blk_simp [iblk1]
    refine congrArg (V c main_v1_0) ?_
    blk_ext [e1_3 t]
  l h i := by
    have ht := lt32 t
    rw [← E.l]
    blk_simp [iblk1]
    refine congrArg (V c main_v1_1) ?_
    blk_ext [e1_4 t]

/-! ## The queries' gradient -/

/-- The gradient of the scores of head `p`. -/
abbrev dsG (Q : Fin 4 → Fin 4096 → Fin 128 → ℝ) (G O : Fin 4 → Fin 4096 → Fin 64 → ℝ) (L : Fin 4 → Fin 4096 → ℝ) (K : Fin 4 → Fin 4096 → Fin 128 → ℝ) (W : Fin 4 → Fin 4096 → Fin 64 → ℝ) (p : Fin 4) : Fin 4096 → Fin 4096 → ℝ :=
  dsR (Q p) (G p) (O p) (L p) (K p) (W p)

/-- The queries' gradient at a head, a row and a column. -/
def dqG (Q : Fin 4 → Fin 4096 → Fin 128 → ℝ) (G O : Fin 4 → Fin 4096 → Fin 64 → ℝ) (L : Fin 4 → Fin 4096 → ℝ) (K : Fin 4 → Fin 4096 → Fin 128 → ℝ) (W : Fin 4 → Fin 4096 → Fin 64 → ℝ) (p : Fin 4) (i : Fin 4096) (d : Fin 128) : ℝ :=
  ∑ s, dsG Q G O L K W p i s * K p s d

/-- The values' gradient at a head, a column and a key. -/
def dvG (Q : Fin 4 → Fin 4096 → Fin 128 → ℝ) (G : Fin 4 → Fin 4096 → Fin 64 → ℝ) (L : Fin 4 → Fin 4096 → ℝ) (K : Fin 4 → Fin 4096 → Fin 128 → ℝ) (p : Fin 4) (d : Fin 64) (s : Fin 4096) : ℝ :=
  ∑ i, G p i d * pR (Q p) (L p) (K p) i s

/-- The keys' gradient at a head, a column and a key. -/
def dkG (Q : Fin 4 → Fin 4096 → Fin 128 → ℝ) (G O : Fin 4 → Fin 4096 → Fin 64 → ℝ) (L : Fin 4 → Fin 4096 → ℝ) (K : Fin 4 → Fin 4096 → Fin 128 → ℝ) (W : Fin 4 → Fin 4096 → Fin 64 → ℝ) (p : Fin 4) (d : Fin 128) (s : Fin 4096) : ℝ :=
  ∑ i, Q p i d * dsG Q G O L K W p i s

theorem dq_point {c : Dev nD} (E : Entry V c Q G O L K W) (t : Fin cfg1.N) (g : Fin 2) (i : Fin 256) (d : Fin 128) :
    (outsAt1 V c t.val t.isLt).1 (ix3 g i d) = ((dqG Q G O L K W (hd t.val g) (row t.val i) d : ℝ) : EReal) := by
  by_cases h : t.val % 16 = 0
  · exact dq_first V c t h (E.at t) g i d
  · exact dq_later V c t h (E.at t) g i d

theorem dq_array {c : Dev nD} (E : Entry V c Q G O L K W) :
    (dat1 V c).arrAt 6 cfg1.N = fun y : S4x4096x128.Idx => ((dqG Q G O L K W (y 0) (y 1) (y 2) : ℝ) : EReal) := by
  refine (dat1 V c).arrAt_eq_of_covers 6 _ (by decide +kernel) fun t hf y => ?_
  blk_simp
  rw [after1_6]
  idx_vars y
  have ht := lt32 t
  refine (dq_point E t _ _ _).trans ?_
  have e : (win1_6.blk t).view.emb (ix3 y0 y1 y2) = ix3 (hd t.val y0) (row t.val y1) y2 := by
    blk_ext [e1_6 t]
  rw [e]
  rfl

/-! ## The keys' and the values' gradients -/

/-- A sum over the sixteen points of a pair of heads is a sum over all rows. -/
theorem sum_points (j : ℕ) (hj : j < 2) (h : Fin 2) (f : Fin 4 → Fin 4096 → ℝ) :
    ∑ a ∈ Finset.range 16, ∑ i, f (hd (j * 16 + a) h) (row (j * 16 + a) i) = ∑ i, f (hd (j * 16) h) i := by
  rw [sum_rows, ← Fin.sum_univ_eq_sum_range (fun a => ∑ i, f (hd (j * 16 + a) h) (row (j * 16 + a) i)) 16]
  refine Finset.sum_congr rfl fun a _ => ?_
  have e1 : hd (j * 16 + a.val) h = hd (j * 16) h := Fin.ext (by simp only [hd]; omega)
  have e2 : ∀ i, row (j * 16 + a.val) i = ⟨256 * a.val + i.val, by omega⟩ := fun i => Fin.ext (by simp only [row]; omega)
  simp only [e1, e2]

theorem dv_point {c : Dev nD} (E : Entry V c Q G O L K W) (t : Fin cfg1.N) (h : Fin 2) (d : Fin 64) (s : Fin 4096) :
    (outsAt1 V c t.val t.isLt).2.2 (ix3 h d s) = ((∑ a ∈ Finset.range (t.val % 16 + 1), dvAdd (tl Q (t.val / 16 * 16 + a) h) (tl G (t.val / 16 * 16 + a) h) (tl L (t.val / 16 * 16 + a) h) (K (hd (t.val / 16 * 16 + a) h)) d s : ℝ) : EReal) := by
  suffices hs : ∀ n (hn : n < cfg1.N), ∀ h d s, (outsAt1 V c n hn).2.2 (ix3 h d s) = ((∑ a ∈ Finset.range (n % 16 + 1), dvAdd (tl Q (n / 16 * 16 + a) h) (tl G (n / 16 * 16 + a) h) (tl L (n / 16 * 16 + a) h) (K (hd (n / 16 * 16 + a) h)) d s : ℝ) : EReal) from hs _ t.isLt h d s
  intro n
  induction n with
  | zero =>
    intro hn h d s
    refine (dv_first V c ⟨0, hn⟩ rfl (E.at ⟨0, hn⟩) h d s).trans ?_
    simp
  | succ n ih =>
    intro hn h d s
    by_cases hz : (n + 1) % 16 = 0
    · refine (dv_first V c ⟨n + 1, hn⟩ hz (E.at ⟨n + 1, hn⟩) h d s).trans ?_
      rw [hz, Finset.sum_range_one, show (n + 1) / 16 * 16 + 0 = n + 1 by omega]
    · refine (dv_later V c ⟨n + 1, hn⟩ hz (E.at ⟨n + 1, hn⟩) _ (ih (by omega)) h d s).trans ?_
      rw [show (n + 1) % 16 = n % 16 + 1 by omega, show (n + 1) / 16 = n / 16 by omega, Finset.sum_range_succ _ (n % 16 + 1),
        show n / 16 * 16 + (n % 16 + 1) = n + 1 by omega]

theorem dv_array {c : Dev nD} (E : Entry V c Q G O L K W) :
    (dat1 V c).arrAt 8 cfg1.N = fun y : S4x64x4096.Idx => ((dvG Q G L K (y 0) (y 1) (y 2) : ℝ) : EReal) := by
  refine (dat1 V c).arrAt_eq_of_covers 8 _ (by decide +kernel) fun t hf y => ?_
  blk_simp
  rw [after1_8]
  idx_vars y
  have ht := lt32 t
  have hl : t.val % 16 = 15 := (by decide +kernel : ∀ t : Fin cfg1.N, (cfg1.win 8).flush t = true → t.val % 16 = 15) t hf
  refine (dv_point E t _ _ _).trans ?_
  have e : (win1_8.blk t).view.emb (ix3 y0 y1 y2) = ix3 (hd (t.val / 16 * 16) y0) y1 y2 := by
    blk_ext [e1_8 t]
  rw [e, hl]
  exact congrArg Real.toEReal (sum_points (t.val / 16) (by omega) y0 fun p i => G p i y1 * pR (Q p) (L p) (K p) i y2)

theorem dk_point {c : Dev nD} (E : Entry V c Q G O L K W) (t : Fin cfg1.N) (h : Fin 2) (d : Fin 128) (s : Fin 4096) :
    (outsAt1 V c t.val t.isLt).2.1 (ix3 h d s) = ((∑ a ∈ Finset.range (t.val % 16 + 1), dkAdd (tl Q (t.val / 16 * 16 + a) h) (tl G (t.val / 16 * 16 + a) h) (tl O (t.val / 16 * 16 + a) h) (tl L (t.val / 16 * 16 + a) h) (K (hd (t.val / 16 * 16 + a) h)) (W (hd (t.val / 16 * 16 + a) h)) d s : ℝ) : EReal) := by
  suffices hs : ∀ n (hn : n < cfg1.N), ∀ h d s, (outsAt1 V c n hn).2.1 (ix3 h d s) = ((∑ a ∈ Finset.range (n % 16 + 1), dkAdd (tl Q (n / 16 * 16 + a) h) (tl G (n / 16 * 16 + a) h) (tl O (n / 16 * 16 + a) h) (tl L (n / 16 * 16 + a) h) (K (hd (n / 16 * 16 + a) h)) (W (hd (n / 16 * 16 + a) h)) d s : ℝ) : EReal) from hs _ t.isLt h d s
  intro n
  induction n with
  | zero =>
    intro hn h d s
    refine (dk_first V c ⟨0, hn⟩ rfl (E.at ⟨0, hn⟩) h d s).trans ?_
    simp
  | succ n ih =>
    intro hn h d s
    by_cases hz : (n + 1) % 16 = 0
    · refine (dk_first V c ⟨n + 1, hn⟩ hz (E.at ⟨n + 1, hn⟩) h d s).trans ?_
      rw [hz, Finset.sum_range_one, show (n + 1) / 16 * 16 + 0 = n + 1 by omega]
    · refine (dk_later V c ⟨n + 1, hn⟩ hz (E.at ⟨n + 1, hn⟩) _ (ih (by omega)) h d s).trans ?_
      rw [show (n + 1) % 16 = n % 16 + 1 by omega, show (n + 1) / 16 = n / 16 by omega, Finset.sum_range_succ _ (n % 16 + 1),
        show n / 16 * 16 + (n % 16 + 1) = n + 1 by omega]

theorem dk_array {c : Dev nD} (E : Entry V c Q G O L K W) :
    (dat1 V c).arrAt 7 cfg1.N = fun y : S4x128x4096.Idx => ((dkG Q G O L K W (y 0) (y 1) (y 2) : ℝ) : EReal) := by
  refine (dat1 V c).arrAt_eq_of_covers 7 _ (by decide +kernel) fun t hf y => ?_
  blk_simp
  rw [after1_7]
  idx_vars y
  have ht := lt32 t
  have hl : t.val % 16 = 15 := (by decide +kernel : ∀ t : Fin cfg1.N, (cfg1.win 7).flush t = true → t.val % 16 = 15) t hf
  refine (dk_point E t _ _ _).trans ?_
  have e : (win1_7.blk t).view.emb (ix3 y0 y1 y2) = ix3 (hd (t.val / 16 * 16) y0) y1 y2 := by
    blk_ext [e1_7 t]
  rw [e, hl]
  exact congrArg Real.toEReal (sum_points (t.val / 16) (by omega) y0 fun p i => Q p i y1 * dsG Q G O L K W p i y2)

end Cert.LatentAttn

end
-- ==== Proof.LatentReference.lean ====
/- What the latent attention's reference computes, as real numbers: its output and its three gradients at an index, from arguments whose elements are
   real. -/
module

public import proofs.«01_k».proof.Proof.Gen.LatentReferenceIdeal.Read
public import proofs.«01_k».proof.Proof.AttnMath
public import proofs.«01_k».proof.Proof.RealValues

@[expose] public section

set_option maxRecDepth 16384

noncomputable section

namespace Cert.LatentRef

open Idealize.ShloMosaic Cert.LatentReferenceIdeal Cert.LatentReferenceIdeal.Gen Cert.LatentReferenceIdeal.Read Cert.Attn Cert.RealValues

/-- The scale of the scores. -/
abbrev cS : ℝ := (Real.sqrt 96)⁻¹

/-- The word of ninety-six. -/
theorem ofBits_96 : Ideal.ofBits .f32 0x42C00000#32 = ((96 : ℝ) : EReal) := by
  simp [Ideal.ofBits, Ideal.ieee, -EReal.coe_mul]; norm_num

/-- One over the square root of ninety-six. -/
theorem scale_at (i) : val_main_v7 (F := Ideal) i = ((cS : ℝ) : EReal) := by
  have h : Real.sqrt 96 ≠ 0 := (Real.sqrt_pos.mpr (by norm_num)).ne'
  have e : Ideal.sqrt ((96 : ℝ) : EReal) = ((Real.sqrt 96 : ℝ) : EReal) := by
    rw [Ideal.sqrt_coe, if_neg (by norm_num)]
  pointwise [val_main_v7, val_main_v6, val_main_cst, val_main_cst_0]
  rw [ofBits_96, e, ← EReal.coe_one, div_real h, one_div]

variable (x0 x1 : (⟨S4x4096x128, .bf16⟩ : BufTy).Contents (Elt Ideal)) (x2 : (⟨S4x4096x64, .bf16⟩ : BufTy).Contents (Elt Ideal))
  (x3 : (⟨S4096x1024, .f32⟩ : BufTy).Contents (Elt Ideal))
  (Q K : Fin 4 → Fin 4096 → Fin 128 → ℝ) (V G : Fin 4 → Fin 4096 → Fin 64 → ℝ)

/-- The scores of one head. -/
def sc (Q K : Fin 4 → Fin 4096 → Fin 128 → ℝ) (p : Fin 4) : Fin 4096 → Fin 4096 → ℝ :=
  score cS (Q p) (K p)

/-- The gradient of one head's softmax. -/
def dp (V G : Fin 4 → Fin 4096 → Fin 64 → ℝ) (p : Fin 4) : Fin 4096 → Fin 4096 → ℝ :=
  dprob (G p) (V p)

/-- The arguments' elements are these real numbers. -/
structure Args : Prop where
  q : ∀ h i d, x0 (ix3 h i d) = ((Q h i d : ℝ) : EReal)
  k : ∀ h i d, x1 (ix3 h i d) = ((K h i d : ℝ) : EReal)
  v : ∀ h i d, x2 (ix3 h i d) = ((V h i d : ℝ) : EReal)
  g : ∀ (h : Fin 4) (i : Fin 4096) (d : Fin 64), x3 (ix2 i ⟨768 + (64 * h.val + d.val), by omega⟩) = ((G h i d : ℝ) : EReal)

variable {x0 x1 x2 x3 Q K V G}

theorem v10_at (A : Args x0 x1 x2 x3 Q K V G) (i : Fin 4096) (p : Fin 4) (u : Fin 1) (d : Fin 128) :
    val_main_v10 (F := Ideal) x0 (ix4 i p u d) = ((Q p i d : ℝ) : EReal) := by
  rw [← A.q]
  pointwise [val_main_v10, val_main_v1, val_main_v0]

theorem v3_at (A : Args x0 x1 x2 x3 Q K V G) (s : Fin 4096) (p : Fin 4) (d : Fin 128) :
    val_main_v3 (F := Ideal) x1 (ix3 s p d) = ((K p s d : ℝ) : EReal) := by
  rw [← A.k]
  pointwise [val_main_v3, val_main_v2]

theorem v5_at (A : Args x0 x1 x2 x3 Q K V G) (s : Fin 4096) (p : Fin 4) (d : Fin 64) :
    val_main_v5 (F := Ideal) x2 (ix3 s p d) = ((V p s d : ℝ) : EReal) := by
  rw [← A.v]
  pointwise [val_main_v5, val_main_v4]

theorem v9_at (A : Args x0 x1 x2 x3 Q K V G) (i : Fin 4096) (p : Fin 4) (u : Fin 1) (d : Fin 64) :
    val_main_v9 (F := Ideal) x3 (ix4 i p u d) = ((G p i d : ℝ) : EReal) := by
  rw [← A.g]
  pointwise [val_main_v9, val_main_v8]
  exact congrArg x3 (congrArg (ix2 i) (Fin.ext (by dsimp only; omega)))

theorem v14_at (A : Args x0 x1 x2 x3 Q K V G) (p : Fin 4) (u : Fin 1) (i s : Fin 4096) :
    val_main_v14 (F := Ideal) x0 x1 (ix4 p u i s) = ((sc Q K p i s : ℝ) : EReal) := by
  pointwise [val_main_v14, val_main_v13, val_main_v12, val_main_v11]
  simp only [v10_at A, v3_at A, scale_at, ← EReal.coe_mul, ← coe_sum]
  rw [sc, score]
  simp only [mul_comm]

/-- The row's maximum is a real number. -/
theorem v22_at (A : Args x0 x1 x2 x3 Q K V G) :
    ∃ M : Fin 4 → Fin 1 → Fin 4096 → ℝ, ∀ p u i, val_main_v22 (F := Ideal) x0 x1 (ix3 p u i) = ((M p u i : ℝ) : EReal) := by
  have key : ∀ p u i, ∃ r : ℝ, val_main_v22 (F := Ideal) x0 x1 (ix3 p u i) = (r : EReal) := by
    intro p u i
    obtain ⟨r, hr⟩ := reduce_max_real (val_main_v14 (F := Ideal) x0 x1) (val_main_cst_1 (F := Ideal)) reducesTo_S4x1x4096x4096_S4x1x4096_d3 h_S_ (ix3 p u i)
      (fun j => sc Q K (j 0) (j 2) (j 3)) (fun j => by idx_vars j; exact v14_at A _ _ _ _) ofBits_bot (ix4 p u i 0)
      (by
        funext b
        match b with
        | ⟨0, _⟩ => exact Fin.ext (Shape.ReducesTo.drop_apply_val_of_eq reducesTo_S4x1x4096x4096_S4x1x4096_d3 (ix4 p u i 0) 0 0)
        | ⟨1, _⟩ => exact Fin.ext (Shape.ReducesTo.drop_apply_val_of_eq reducesTo_S4x1x4096x4096_S4x1x4096_d3 (ix4 p u i 0) 1 1)
        | ⟨2, _⟩ => exact Fin.ext (Shape.ReducesTo.drop_apply_val_of_eq reducesTo_S4x1x4096x4096_S4x1x4096_d3 (ix4 p u i 0) 2 2))
    refine ⟨r, ?_⟩
    rw [val_main_v22_apply, val_main_v15, hr]
    pointwise [val_main_v21, val_main_cst_3]
    rw [ofBits_bot]; exact max_eq_right bot_le
  exact ⟨fun p u i => (key p u i).choose, fun p u i => (key p u i).choose_spec⟩

/-- A sum over two axes of extent one is the one entry that it sums. -/
theorem reduce_unit (x : S4x1x4096x1.Idx → EReal) (p : Fin 4) (i : Fin 4096) :
    Ideal.hostReduceAdd reducesTo_S4x1x4096x1_S4x4096_d1_3 x 0 (ix2 p i) = x (ix4 p 0 i 0) := by
  have h0 : ∀ j : S4x1x4096x1.Idx, ((reducesTo_S4x1x4096x1_S4x4096_d1_3.drop j 0 : Fin _) : ℕ) = j 0 := fun j =>
    Shape.ReducesTo.drop_apply_val_of_eq reducesTo_S4x1x4096x1_S4x4096_d1_3 j 0 0
  have h1 : ∀ j : S4x1x4096x1.Idx, ((reducesTo_S4x1x4096x1_S4x4096_d1_3.drop j 1 : Fin _) : ℕ) = j 2 := fun j =>
    Shape.ReducesTo.drop_apply_val_of_eq reducesTo_S4x1x4096x1_S4x4096_d1_3 j 1 2
  show (0 : EReal) + ∑ j ∈ Finset.univ.filter (fun j => reducesTo_S4x1x4096x1_S4x4096_d1_3.drop j = ix2 p i), x j = _
  rw [zero_add, Finset.sum_eq_single (ix4 p 0 i 0)]
  · intro j hj hne
    refine absurd ?_ hne
    have hd := (Finset.mem_filter.1 hj).2
    have e0 : ((j 0 : Fin 4) : ℕ) = p := (h0 j).symm.trans (by rw [hd]; rfl)
    have e1 : ((j 2 : Fin 4096) : ℕ) = i := (h1 j).symm.trans (by rw [hd]; rfl)
    funext a
    match a with
    | ⟨0, _⟩ => exact Fin.ext e0
    | ⟨1, _⟩ => exact Subsingleton.elim (α := Fin 1) _ _
    | ⟨2, _⟩ => exact Fin.ext e1
    | ⟨3, _⟩ => exact Subsingleton.elim (α := Fin 1) _ _
  · intro hj
    refine absurd (Finset.mem_filter.2 ⟨Finset.mem_univ _, ?_⟩) hj
    funext b
    match b with
    | ⟨0, _⟩ => exact Fin.ext (h0 _)
    | ⟨1, _⟩ => exact Fin.ext (h1 _)

section
variable {M : Fin 4 → Fin 1 → Fin 4096 → ℝ} (A : Args x0 x1 x2 x3 Q K V G)
  (hM : ∀ p u i, val_main_v22 (F := Ideal) x0 x1 (ix3 p u i) = ((M p u i : ℝ) : EReal))
include A hM

theorem v35_at (p : Fin 4) (u : Fin 1) (i s : Fin 4096) :
    val_main_v35 (F := Ideal) x0 x1 (ix4 p u i s) = ((Real.exp (sc Q K p i s - M p 0 i) : ℝ) : EReal) := by
  have hu : u = 0 := Subsingleton.elim _ _
  subst hu
  pointwise [val_main_v35, val_main_v34, val_main_v33, val_main_v32]
  rw [v14_at A, hM, ← EReal.coe_sub, Ideal.exp_coe]

theorem v36_at (p : Fin 4) (u : Fin 1) (i : Fin 4096) :
    val_main_v36 (F := Ideal) x0 x1 (ix3 p u i) = ((∑ s, Real.exp (sc Q K p i s - M p 0 i) : ℝ) : EReal) := by
  pointwise [val_main_v36, val_main_cst_9]
  simp only [v35_at A hM, ← coe_sum]

theorem v39_at (p : Fin 4) (u : Fin 1) (i s : Fin 4096) :
    val_main_v39 (F := Ideal) x0 x1 (ix4 p u i s) = ((prob (sc Q K p) i s : ℝ) : EReal) := by
  pointwise [val_main_v39, val_main_v38, val_main_v37]
  rw [v35_at A hM, v36_at A hM, div_real (Finset.sum_pos (fun _ _ => Real.exp_pos _) Finset.univ_nonempty).ne', prob_shift]

theorem v46_at (p : Fin 4) (u : Fin 1) (i s : Fin 4096) :
    val_main_v46 (F := Ideal) x2 x3 (ix4 p u i s) = ((dp V G p i s : ℝ) : EReal) := by
  pointwise [val_main_v46, val_main_v45]
  simp only [v9_at A, v5_at A, ← EReal.coe_mul, ← coe_sum]
  rfl

theorem v42_at (p : Fin 4) (u : Fin 1) (i : Fin 4096) (z : Fin 1) :
    val_main_v42 (F := Ideal) x0 x1 (ix4 p u i z) = ((1 / (∑ s, Real.exp (sc Q K p i s - M p 0 i)) ^ 2 : ℝ) : EReal) := by
  have hL : (∑ s, Real.exp (sc Q K p i s - M p 0 i)) ≠ 0 := (Finset.sum_pos (fun _ _ => Real.exp_pos _) Finset.univ_nonempty).ne'
  pointwise [val_main_v42, val_main_v41, val_main_cst_10, val_main_v40, val_main_v37]
  rw [v36_at A hM, ← EReal.coe_one, ← EReal.coe_mul, div_real (mul_ne_zero hL hL), sq]

theorem v51_at (p : Fin 4) (u : Fin 1) (i s : Fin 4096) :
    val_main_v51 (F := Ideal) x0 x1 x2 x3 (ix4 p u i s)
      = ((dp V G p i s * (1 / (∑ s, Real.exp (sc Q K p i s - M p 0 i)) ^ 2) * Real.exp (sc Q K p i s - M p 0 i) : ℝ) : EReal) := by
  pointwise [val_main_v51, val_main_v50, val_main_v49]
  rw [v46_at A hM, v42_at A hM, v35_at A hM, ← EReal.coe_mul, ← EReal.coe_mul]

theorem v54_at (p : Fin 4) (u : Fin 1) (i : Fin 4096) (z : Fin 1) :
    val_main_v54 (F := Ideal) x0 x1 x2 x3 (ix4 p u i z)
      = ((-(∑ s, dp V G p i s * (1 / (∑ s, Real.exp (sc Q K p i s - M p 0 i)) ^ 2) * Real.exp (sc Q K p i s - M p 0 i)) : ℝ) : EReal) := by
  pointwise [val_main_v54, val_main_v53, val_main_v52, val_main_cst_11]
  simp only [v51_at A hM, ← coe_sum, ← EReal.coe_neg]

theorem v58_at (p : Fin 4) (u : Fin 1) (i : Fin 4096) :
    val_main_v58 (F := Ideal) x0 x1 x2 x3 (ix3 p u i)
      = ((-(∑ s, dp V G p i s * (1 / (∑ s, Real.exp (sc Q K p i s - M p 0 i)) ^ 2) * Real.exp (sc Q K p i s - M p 0 i)) : ℝ) : EReal) := by
  pointwise [val_main_v58, val_main_v57, val_main_cst_12]
  rw [reduce_unit (val_main_v54 (F := Ideal) x0 x1 x2 x3) p i, v54_at A hM]

theorem v63_at (p : Fin 4) (u : Fin 1) (i s : Fin 4096) :
    val_main_v63 (F := Ideal) x0 x1 x2 x3 (ix4 p u i s) = ((dscore cS (sc Q K p) (dp V G p) i s : ℝ) : EReal) := by
  have hL : (∑ s, Real.exp (sc Q K p i s - M p 0 i)) ≠ 0 := (Finset.sum_pos (fun _ _ => Real.exp_pos _) Finset.univ_nonempty).ne'
  pointwise [val_main_v63, val_main_v62, val_main_v61, val_main_v60, val_main_v59, val_main_v56, val_main_v55, val_main_v37]
  rw [v46_at A hM, v36_at A hM, v58_at A hM, v35_at A hM, div_real hL, scale_at, ← EReal.coe_add, ← EReal.coe_mul, ← EReal.coe_mul, quotient_rule]

end

/-- The reference's output. -/
theorem out_at (A : Args x0 x1 x2 x3 Q K V G) (i : Fin 4096) (p : Fin 4) (d : Fin 64) :
    val_main_v69 (F := Ideal) x0 x1 x2 (ix2 i ⟨64 * p.val + d.val, by omega⟩) = ((outp (sc Q K p) (V p) i d : ℝ) : EReal) := by
  obtain ⟨M, hM⟩ := v22_at A
  pointwise [val_main_v69, val_main_v44, val_main_v43]
  simp only [v5_at A, v39_at A hM, ← EReal.coe_mul, ← coe_sum]
  simp only [outp, mul_comm]

/-- The reference's gradient of the queries. -/
theorem dquery_at (A : Args x0 x1 x2 x3 Q K V G) (p : Fin 4) (i : Fin 4096) (d : Fin 128) :
    val_main_v71 (F := Ideal) x0 x1 x2 x3 (ix3 p i d) = ((dquery cS (sc Q K p) (dp V G p) (K p) i d : ℝ) : EReal) := by
  obtain ⟨M, hM⟩ := v22_at A
  pointwise [val_main_v71, val_main_v70, val_main_v66, val_main_v65, val_main_v64]
  simp only [v63_at A hM, v3_at A, ← EReal.coe_mul, ← coe_sum]
  rfl

/-- The reference's gradient of the keys. -/
theorem dkey_at (A : Args x0 x1 x2 x3 Q K V G) (p : Fin 4) (d : Fin 128) (s : Fin 4096) :
    val_main_v72 (F := Ideal) x0 x1 x2 x3 (ix3 p d s) = ((dkey cS (sc Q K p) (dp V G p) (Q p) s d : ℝ) : EReal) := by
  obtain ⟨M, hM⟩ := v22_at A
  pointwise [val_main_v72, val_main_v68, val_main_v67, val_main_v64]
  simp only [v63_at A hM, v10_at A, ← EReal.coe_mul, ← coe_sum]
  simp only [dkey, mul_comm, Finset.univ_unique, Finset.sum_singleton]

/-- The reference's gradient of the values. -/
theorem dvalue_at (A : Args x0 x1 x2 x3 Q K V G) (p : Fin 4) (d : Fin 64) (s : Fin 4096) :
    val_main_v73 (F := Ideal) x0 x1 x3 (ix3 p d s) = ((dvalue (sc Q K p) (G p) s d : ℝ) : EReal) := by
  obtain ⟨M, hM⟩ := v22_at A
  pointwise [val_main_v73, val_main_v48, val_main_v47, val_main_v45]
  simp only [v39_at A hM, v9_at A, ← EReal.coe_mul, ← coe_sum]
  simp only [dvalue, mul_comm, Finset.univ_unique, Finset.sum_singleton]

end Cert.LatentRef

end
-- ==== Proof.LatentRun.lean ====
/- The latent attention's run with its results: each of the four result arrays ends at what the pipelines' write-backs leave, and the arguments end unchanged. -/
module

public import proofs.«01_k».proof.Proof.Gen.LatentIdeal.Frame

@[expose] public section

set_option maxRecDepth 16384

noncomputable section

namespace Cert.LatentIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- Every fair execution ends, with the results at the last contents and the arguments as launched. -/
theorem run_results : θ_run defs (onTc (τ := τ) (main (F := F))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_v2_2) = W3 m ρ c (Proc.devRef .tc main_v2_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v1_0 (by decide)), h c _ (mem_uc main_v2_0 (by decide)), h c _ (mem_uc main_v2_1 (by decide)), h c _ (mem_uc main_v2_2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.LatentIdeal.Gen

end
-- ==== Proof.LatentResults.lean ====
/- The contents the latent attention's run ends with are its reference's results, on arguments whose elements are real: the softmax out of the saved
   log-sum is the softmax, and the gradient against the saved output is the softmax's mean. -/
module

public import proofs.«01_k».proof.Proof.LatentArrays
public import proofs.«01_k».proof.Proof.LatentReference
public import proofs.«01_k».proof.Proof.LatentRun

@[expose] public section

set_option maxRecDepth 16384

noncomputable section

namespace Cert.LatentResults

open Idealize.ShloMosaic Idealize.ShloMosaic.TcCoe Cert.LatentIdeal Cert.LatentIdeal.Gen Cert.LatentAttn Cert.Attn Cert.LatentRef

section
variable (Q K : Fin 4 → Fin 4096 → Fin 128 → ℝ) (G W : Fin 4 → Fin 4096 → Fin 64 → ℝ)

/-- The output of head `p`, as the forward kernel saves it. -/
def oS (p : Fin 4) (i : Fin 4096) (d : Fin 64) : ℝ := oG Q K W i ⟨64 * p.val + d.val, by omega⟩

theorem oS_eq (p : Fin 4) (i : Fin 4096) (d : Fin 64) : oS Q K W p i d = outp (sc Q K p) (W p) i d := by
  have e1 : (⟨(64 * p.val + d.val) / 64, by omega⟩ : Fin 4) = p := Fin.ext (by simp only; omega)
  have e3 : (⟨(64 * p.val + d.val) % 64, by omega⟩ : Fin 64) = d := Fin.ext (by simp only; omega)
  unfold oS oG sc
  simp only [e1, e3]

theorem pG_eq (p : Fin 4) (i s : Fin 4096) : pR (Q p) (lG Q K p) (K p) i s = prob (sc Q K p) i s :=
  prob_of_log (sc Q K p) i s _ _ rfl

theorem dsG_eq (p : Fin 4) (i s : Fin 4096) : dsG Q G (oS Q K W) (lG Q K) K W p i s = dscore cS (sc Q K p) (dp W G p) i s := by
  unfold dsG dsR dscore
  rw [pG_eq]
  simp only [oS_eq]
  rw [delta_eq]
  rfl

theorem dqG_eq (p : Fin 4) (i : Fin 4096) (d : Fin 128) :
    dqG Q G (oS Q K W) (lG Q K) K W p i d = dquery cS (sc Q K p) (dp W G p) (K p) i d :=
  Finset.sum_congr rfl fun s _ => by rw [dsG_eq]

theorem dkG_eq (p : Fin 4) (d : Fin 128) (s : Fin 4096) :
    dkG Q G (oS Q K W) (lG Q K) K W p d s = dkey cS (sc Q K p) (dp W G p) (Q p) s d :=
  Finset.sum_congr rfl fun i _ => by rw [dsG_eq]

theorem dvG_eq (p : Fin 4) (d : Fin 64) (s : Fin 4096) : dvG Q G (lG Q K) K p d s = dvalue (sc Q K p) (G p) s d :=
  Finset.sum_congr rfl fun i _ => by rw [pG_eq]

end

variable (m : (ℓ : Loc nD τ sig) → Buf (Elt Ideal) ℓ) (ρ : Dev nD → PrngReg) (c : Dev nD)

/-- The arguments as the run is launched. -/
abbrev a0 : (⟨S4x4096x128, .bf16⟩ : BufTy).Contents (Elt Ideal) := m ((c.tc : Thread nD τ).loc main_arg0)
abbrev a1 : (⟨S4x4096x128, .bf16⟩ : BufTy).Contents (Elt Ideal) := m ((c.tc : Thread nD τ).loc main_arg1)
abbrev a2 : (⟨S4x4096x64, .bf16⟩ : BufTy).Contents (Elt Ideal) := m ((c.tc : Thread nD τ).loc main_arg2)
abbrev a3 : (⟨S4096x1024, .f32⟩ : BufTy).Contents (Elt Ideal) := m ((c.tc : Thread nD τ).loc main_arg3)

variable {m c} {Q K : Fin 4 → Fin 4096 → Fin 128 → ℝ} {G W : Fin 4 → Fin 4096 → Fin 64 → ℝ}

/-- What the forward kernel is entered with. -/
theorem entry0 (A : Args (a0 m c) (a1 m c) (a2 m c) (a3 m c) Q K W G) : Entry0 (V1 m ρ) c Q K W where
  q h i d := by
    rw [← A.q]
    exact congrFun (W1_args m ρ c main_arg0 (by decide)) _
  k h s d := by
    rw [← A.k]
    exact congrFun (W1_args m ρ c main_arg1 (by decide)) _
  v h d s := by
    rw [← A.v]
    have e : V1 m ρ c main_v0 = transpose S4x64x4096 [0, 2, 1] (a2 m c) transposes_S4x4096x64_S4x64x4096_0_2_1 := by
      show StableHlo.after hostOps0 (W0 m ρ c) (Proc.devRef .tc main_v0) = _
      unfold hostOps0
      rfl
    rw [e]
    pointwise []

/-- The log-sums and the outputs, as the forward kernel leaves them. -/
theorem w2_l (A : Args (a0 m c) (a1 m c) (a2 m c) (a3 m c) Q K W G) :
    V2 m ρ c main_v1_1 = fun y : S4x4096x1.Idx => ((lG Q K (y 0) (y 1) : ℝ) : EReal) :=
  (W2_arr m ρ c 4).trans (l_array (entry0 ρ A))

theorem w2_o (A : Args (a0 m c) (a1 m c) (a2 m c) (a3 m c) Q K W G) :
    V2 m ρ c main_v1_0 = fun y : S4096x256.Idx => ((oG Q K W (y 0) (y 1) : ℝ) : EReal) :=
  (W2_arr m ρ c 3).trans (o_array (entry0 ρ A))

/-- What the backward kernel is entered with. -/
theorem entry (A : Args (a0 m c) (a1 m c) (a2 m c) (a3 m c) Q K W G) :
    Entry (V2 m ρ) c Q G (oS Q K W) (lG Q K) K W where
  q h i d := by
    rw [← A.q]
    exact congrFun (W2_args m ρ c main_arg0 (by decide)) _
  k h s d := by
    rw [← A.k]
    exact congrFun (W2_args m ρ c main_arg1 (by decide)) _
  v h s d := by
    rw [← A.v]
    exact congrFun (W2_args m ρ c main_arg2 (by decide)) _
  g h i d := by
    rw [← A.g]
    exact congrFun (W2_args m ρ c main_arg3 (by decide)) _
  o h i d := by rw [w2_o ρ A]; rfl
  l h i := by rw [w2_l ρ A]; rfl

/-- Every column of the output is a column of a head. -/
theorem col_cases (e : Fin 256) : ∃ (p : Fin 4) (d : Fin 64), e = ⟨64 * p.val + d.val, by omega⟩ :=
  ⟨⟨e.val / 64, by omega⟩, ⟨e.val % 64, by omega⟩, Fin.ext (by simp only; omega)⟩

/-- The attention's output. -/
theorem out_eq (A : Args (a0 m c) (a1 m c) (a2 m c) (a3 m c) Q K W G) :
    Cert.LatentReferenceIdeal.Read.val_main_v69 (F := Ideal) (a0 m c) (a1 m c) (a2 m c) = W3 m ρ c (Proc.devRef .tc main_v1_0) := by
  rw [W3_of m ρ c main_v1_0 (by decide)]
  refine Eq.trans ?_ (w2_o ρ A).symm
  funext y
  idx_vars y
  obtain ⟨p, d, e⟩ := col_cases y1
  rw [e]
  exact (out_at A y0 p d).trans (congrArg ((↑) : ℝ → EReal) (oS_eq Q K W p y0 d).symm)

/-- The queries' gradient. -/
theorem dq_eq (A : Args (a0 m c) (a1 m c) (a2 m c) (a3 m c) Q K W G) :
    Cert.LatentReferenceIdeal.Read.val_main_v71 (F := Ideal) (a0 m c) (a1 m c) (a2 m c) (a3 m c) = W3 m ρ c (Proc.devRef .tc main_v2_0) := by
  refine Eq.trans ?_ ((W3_arr m ρ c 6).trans (dq_array (entry ρ A))).symm
  funext y
  idx_vars y
  exact (dquery_at A y0 y1 y2).trans (congrArg ((↑) : ℝ → EReal) (dqG_eq Q K G W y0 y1 y2).symm)

/-- The keys' gradient. -/
theorem dk_eq (A : Args (a0 m c) (a1 m c) (a2 m c) (a3 m c) Q K W G) :
    Cert.LatentReferenceIdeal.Read.val_main_v72 (F := Ideal) (a0 m c) (a1 m c) (a2 m c) (a3 m c) = W3 m ρ c (Proc.devRef .tc main_v2_1) := by
  refine Eq.trans ?_ ((W3_arr m ρ c 7).trans (dk_array (entry ρ A))).symm
  funext y
  idx_vars y
  exact (dkey_at A y0 y1 y2).trans (congrArg ((↑) : ℝ → EReal) (dkG_eq Q K G W y0 y1 y2).symm)

/-- The values' gradient. -/
theorem dv_eq (A : Args (a0 m c) (a1 m c) (a2 m c) (a3 m c) Q K W G) :
    Cert.LatentReferenceIdeal.Read.val_main_v73 (F := Ideal) (a0 m c) (a1 m c) (a3 m c) = W3 m ρ c (Proc.devRef .tc main_v2_2) := by
  refine Eq.trans ?_ ((W3_arr m ρ c 8).trans (dv_array (entry ρ A))).symm
  funext y
  idx_vars y
  exact (dvalue_at A y0 y1 y2).trans (congrArg ((↑) : ℝ → EReal) (dvG_eq Q K G y0 y1 y2).symm)

end Cert.LatentResults

end
-- ==== Proof.LatentEqual.lean ====
/- The latent attention's results are its reference's, as runs: the value claim and the reference's frame. -/
module

public import proofs.«01_k».proof.Proof.Finite
public import proofs.«01_k».proof.Proof.LatentResults
public import proofs.«01_k».proof.Proof.Gen.LatentReferenceIdeal.Run
public import proofs.«01_k».proof.Proof.Gen.LatentReferenceIdeal.Read

@[expose] public section

set_option maxRecDepth 16384

noncomputable section

namespace Cert.LatentEqual

open Idealize.ShloMosaic Idealize.SL.Sem Cert.RealValues Cert.LatentRef Cert.LatentResults Cert.Pre_finite_latent

instance facts : Cert.Pre_finite_latent.Facts where
  bitsLt_bf16_f32 := by decide
  bcast_S_S4x4096x128 := by decide
  reducesTo_S4x4096x128_S_d0_1_2 := by decide
  h_S_ := by decide
  bcast_S_S4x4096x64 := by decide
  reducesTo_S4x4096x64_S_d0_1_2 := by decide
  slices_S4096x1024_S4096x256_0_768 := by decide
  bcast_S_S4096x256 := by decide
  reducesTo_S4096x256_S_d0_1 := by decide

instance : Subsingleton S_.Idx := ⟨fun a b => funext fun k => k.elim0⟩

/-- The precondition, element by element. -/
theorem reals (x0 x1 : FVec Ideal S4x4096x128 .bf16) (x2 : FVec Ideal S4x4096x64 .bf16) (x3 : FVec Ideal S4096x1024 .f32)
    (h : Cert.Pre_finite_latent.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ ∀ (i : Fin 4096) (j : Fin 256), ∃ r : ℝ, x3 (ix2 i ⟨768 + j.val, by omega⟩) = (r : EReal) := by
  have h0 := congrFun h (fun k => k.elim0)
  obtain ⟨h1, hg⟩ := IntOp.andi_eq_one.1 h0
  obtain ⟨h2, hv⟩ := IntOp.andi_eq_one.1 h1
  obtain ⟨hq, hk⟩ := IntOp.andi_eq_one.1 h2
  refine ⟨fun i => Cert.Finite.real_of_lt _ (Host.reduce_andi_all _ _ _ _ _ hq i), fun i => Cert.Finite.real_of_lt _ (Host.reduce_andi_all _ _ _ _ _ hk i),
    fun i => Cert.Finite.real_of_lt _ (Host.reduce_andi_all _ _ _ _ _ hv i), fun i j => ?_⟩
  have e := Cert.Finite.real_of_lt _ (Host.reduce_andi_all _ _ _ _ _ hg (ix2 i j))
  have e2 : extractStridedSlice S4096x256 ![0, 768] x3 facts.slices_S4096x1024_S4096x256_0_768 (ix2 i j) = x3 (ix2 i ⟨768 + j.val, by omega⟩) := by
    pointwise []
  rw [← e2]
  exact e

/-- The reference's run ends with its arguments unchanged, and it has no semaphore. -/
theorem frame_reference : Cert.quiescent_LatentReferenceIdeal := by
  intro m ρ _
  exact (θ_run Cert.LatentReferenceIdeal.defs _ _).mono (fun r h => ⟨fun c => (h c).2.2.2.2, sem_eq_zero_of_no_sems (by decide) r.2⟩)
    (Cert.LatentReferenceIdeal.Value.run (F := Ideal) m ρ)

/-- Arguments that the precondition holds of have real elements. -/
theorem real_args (m : (ℓ : Loc Cert.LatentIdeal.nD Cert.LatentIdeal.τ Cert.LatentIdeal.sig) → Buf (Elt Ideal) ℓ) (h : Cert.Pre_LatentIdeal_finite_latent m)
    (c : Dev Cert.LatentIdeal.nD) : ∃ Q K W G, Args (a0 m c) (a1 m c) (a2 m c) (a3 m c) Q K W G := by
  obtain ⟨hq, hk, hv, hg⟩ := reals _ _ _ _ (h c)
  choose Q eQ using hq
  choose K eK using hk
  choose W eW using hv
  choose G eG using hg
  exact ⟨fun h i d => Q (ix3 h i d), fun h i d => K (ix3 h i d), fun h i d => W (ix3 h i d), fun h i d => G i ⟨64 * h.val + d.val, by omega⟩,
    ⟨fun h i d => eQ _, fun h i d => eK _, fun h i d => eW _, fun h i d => eG i ⟨64 * h.val + d.val, by omega⟩⟩⟩

/-- The value claim: the output and the three gradients. -/
theorem values : Cert.algebraic_LatentIdeal_LatentReferenceIdeal_pre_finite_latent := by
  intro m g m' g' hpre hargs
  refine ⟨fun c => Cert.LatentIdeal.Gen.W3 m g c (Proc.devRef .tc Cert.LatentIdeal.main_v1_0), fun c => Cert.LatentIdeal.Gen.W3 m g c (Proc.devRef .tc Cert.LatentIdeal.main_v2_0),
    fun c => Cert.LatentIdeal.Gen.W3 m g c (Proc.devRef .tc Cert.LatentIdeal.main_v2_1), fun c => Cert.LatentIdeal.Gen.W3 m g c (Proc.devRef .tc Cert.LatentIdeal.main_v2_2),
    Cert.LatentIdeal.Gen.run_results (F := Ideal) m g, ?_⟩
  refine (θ_run Cert.LatentReferenceIdeal.defs _ _).mono (fun r h c => ?_) (Cert.LatentReferenceIdeal.Value.run (F := Ideal) m' g')
  obtain ⟨Q, K, W, G, A⟩ := real_args m hpre c
  obtain ⟨h0, h1, h2, h3, hr⟩ := h c
  obtain ⟨e0, e1, e2, e3⟩ := hargs c
  refine ⟨?_, ?_, ?_, ?_, hr⟩
  · refine (h0.trans (Cert.LatentReferenceIdeal.Read.val_main_v69_eq m' c)).trans ?_
    rw [e0, e1, e2]
    exact out_eq g A
  · refine (h1.trans (Cert.LatentReferenceIdeal.Read.val_main_v71_eq m' c)).trans ?_
    rw [e0, e1, e2, e3]
    exact dq_eq g A
  · refine (h2.trans (Cert.LatentReferenceIdeal.Read.val_main_v72_eq m' c)).trans ?_
    rw [e0, e1, e2, e3]
    exact dk_eq g A
  · refine (h3.trans (Cert.LatentReferenceIdeal.Read.val_main_v73_eq m' c)).trans ?_
    rw [e0, e1, e3]
    exact dv_eq g A

end Cert.LatentEqual

end
-- ==== Proof.GradMath.lean ====
/- The gradient of a product's matrix, as a sum over the tokens that is taken in two halves. -/
module

public import proofs.«01_k».proof.Proof.MlpMath

@[expose] public section

noncomputable section

namespace Cert.Grad

/-- The product `Aᵀ · B` of two arrays with a row for each token. -/
def prodW {n p : ℕ} (A : Fin 4096 → Fin n → EReal) (B : Fin 4096 → Fin p → EReal) (i : Fin n) (j : Fin p) : EReal := ∑ d, A d i * B d j

/-- A token of one half of the tokens. -/
abbrev tok (h : ℕ) (d : Fin 2048) : Fin 4096 := ⟨2048 * (h % 2) + d.val, by omega⟩

/-- The sums over the two halves of the tokens, added, are the product. -/
theorem prodW_halves {n p : ℕ} (A : Fin 4096 → Fin n → EReal) (B : Fin 4096 → Fin p → EReal) {s t : ℕ} (hs : s % 2 = 0) (ht : t % 2 = 1)
    (i : Fin n) (j : Fin p) :
    ∑ d, A (tok s d) i * B (tok s d) j + ∑ d, A (tok t d) i * B (tok t d) j = prodW A B i j := by
  refine Eq.trans (congrArg₂ (· + ·) (Finset.sum_congr rfl fun d _ => ?_) (Finset.sum_congr rfl fun d _ => ?_))
    (Fin.sum_univ_add (a := 2048) (b := 2048) fun d => A d i * B d j).symm
  · rw [show tok s d = Fin.castAdd 2048 d from Fin.ext (by show 2048 * (s % 2) + d.val = d.val; omega)]
  · rw [show tok t d = Fin.natAdd 2048 d from Fin.ext (by show 2048 * (t % 2) + d.val = 2048 + d.val; omega)]

end Cert.Grad

end
-- ==== Proof.DownGrad.lean ====
/- The gradient of the down-projection's matrix: what the kernel's array holds, the reference's result, and the claims. -/
module

public import proofs.«01_k».proof.Proof.GradMath
public import proofs.«01_k».proof.Proof.Gen.DownIdeal.Value
public import proofs.«01_k».proof.Proof.Gen.DownReferenceIdeal.Run
public import proofs.«01_k».proof.Proof.Gen.DownReferenceIdeal.Read
public import proofs.«01_k».proof.Defs
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.DownGrad

open Idealize.ShloMosaic Idealize.ShloMosaic.TcCoe Idealize.SL.Sem Cert.DownIdeal Cert.DownIdeal.Gen Cert.Grad Cert.DownReferenceIdeal.Read

variable (m : (ℓ : Loc nD τ sig) → Buf (Elt Ideal) ℓ)

/-- A column of the first operand. -/
abbrev col (n : ℕ) (i : Fin 1408) : Fin 2816 := ⟨1408 * (n / 2 % 2) + i.val, by omega⟩

theorem e_0 : ∀ t : Fin cfg0.N, win0_0.index t = ![t.val % 2, t.val / 2] := by decide +kernel
theorem e_1 : ∀ t : Fin cfg0.N, win0_1.index t = ![t.val % 2, 0] := by decide +kernel
theorem e_2 : ∀ t : Fin cfg0.N, win0_2.index t = ![t.val / 2, 0] := by decide +kernel
theorem lt (t : Fin cfg0.N) : t.val < 4 := t.isLt

variable {m}

/-- One half's sum, at a grid point. -/
theorem half_at {c : Dev nD} {A : Fin 4096 → Fin 2816 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j)
    (t : Fin cfg0.N) (acc : Vec Ideal S1408x1024 .f32) (i : Fin 1408) (j : Fin 1024) :
    k0_pay2 (F := Ideal) acc (iblk m c 0 t) (iblk m c 1 t) (ix2 i j) = acc (ix2 i j) + ∑ d, A (tok t.val d) (col t.val i) * B (tok t.val d) j := by
  have ht := lt t
  pointwise [k0_pay2]
  refine congrArg (_ + ·) (Finset.sum_congr rfl fun d _ => congrArg₂ (· * ·) ?_ ?_)
  · refine Eq.trans ?_ (hA (tok t.val d) (col t.val i)); blk_simp [iblk]; rw [V_main_arg0]; refine congrArg (m _) ?_; blk_ext [e_0 t]
  · refine Eq.trans ?_ (hB (tok t.val d) j); blk_simp [iblk]; rw [V_main_arg1]; refine congrArg (m _) ?_; blk_ext [e_1 t]

theorem array {c : Dev nD} {A : Fin 4096 → Fin 2816 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j) :
    (dats m 0 c).arrAt 2 cfg0.N = fun y : S2816x1024.Idx => prodW A B (y 0) (y 1) := by
  refine (dats m 0 c).arrAt_eq_of_covers 2 _ (by decide +kernel) fun t hf y => ?_
  have hm : t.val % 2 = 1 := (flush0_2 t).mp hf
  blk_simp
  rw [after0_2]
  idx_vars y
  have ht := lt t
  have e : (win0_2.blk t).view.emb (ix2 y0 y1) = ix2 (col t.val y0) y1 := by
    blk_ext [e_2 t]
  rw [e, outsAt0_B m c t (by omega) hm]
  frame_out
  pointwise [k0_pay3]
  rw [half_at hA hB, read_unread_whole, outsAt0_A m c ⟨t.val - 1, (Nat.sub_le _ _).trans_lt t.isLt⟩ (by show (t.val - 1) % 2 = 0; omega) (by show ¬(t.val - 1) % 2 = 1; omega)]
  frame_out
  rw [half_at hA hB]
  pointwise [k0_pay1]
  rw [show col (t.val - 1) y0 = col t.val y0 from Fin.ext (by show 1408 * ((t.val - 1) / 2 % 2) + _ = 1408 * (t.val / 2 % 2) + _; omega)]
  exact prodW_halves A B (by omega) hm _ _

/-- The reference's result is the same product. -/
theorem reference_at {a : (⟨S4096x2816, .bf16⟩ : BufTy).Contents (Elt Ideal)} {b : (⟨S4096x1024, .bf16⟩ : BufTy).Contents (Elt Ideal)}
    (i : Fin 2816) (j : Fin 1024) :
    val_main_v6 (F := Ideal) a b (ix2 i j) = prodW (fun d i => a (ix2 d i)) (fun d j => b (ix2 d j)) i j := by
  pointwise [val_main_v6, val_main_v5, val_main_v4, val_main_v1, val_main_v0]
  exact Finset.sum_congr rfl fun d _ => mul_comm _ _

/-- The reference's run ends with its arguments unchanged, and it has no semaphore. -/
theorem frame_reference : Cert.quiescent_DownReferenceIdeal := by
  intro m ρ _
  exact (θ_run Cert.DownReferenceIdeal.defs _ _).mono (fun r h => ⟨fun c => (h c).2, sem_eq_zero_of_no_sems (by decide) r.2⟩)
    (Cert.DownReferenceIdeal.Value.run (F := Ideal) m ρ)

/-- The value claim. -/
theorem values : Cert.algebraic_DownIdeal_DownReferenceIdeal := by
  intro m g m' g' hpre hargs
  refine ⟨fun c => (dats m 0 c).arrAt 2 cfg0.N, Cert.DownIdeal.Value.run_blocks (F := Ideal) m g, ?_⟩
  refine (θ_run Cert.DownReferenceIdeal.defs _ _).mono (fun r h c => ⟨?_, (h c).2⟩) (Cert.DownReferenceIdeal.Value.run (F := Ideal) m' g')
  obtain ⟨e0, e1⟩ := hargs c
  refine ((h c).1.trans (val_main_v6_eq _ _)).trans ?_
  rw [e0, e1]
  refine Eq.trans ?_ (array (fun _ _ => rfl) fun _ _ => rfl).symm
  funext y
  idx_vars y
  exact reference_at y0 y1

end Cert.DownGrad

end
-- ==== Proof.UpFirstGrad.lean ====
/- The gradient of the first half of the up-projection's matrix, written into the upper half of a buffer: what the kernel's array holds, the reference's result, and the claims. -/
module

public import proofs.«01_k».proof.Proof.GradMath
public import proofs.«01_k».proof.Proof.Gen.UpFirstIdeal.Value
public import proofs.«01_k».proof.Proof.Gen.UpFirstReferenceIdeal.Run
public import proofs.«01_k».proof.Proof.Gen.UpFirstReferenceIdeal.Read
public import proofs.«01_k».proof.Defs
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Partial
public import Idealize.ShloMosaic.Lib.Pointwise

@[expose] public section

set_option maxRecDepth 16384

noncomputable section

namespace Cert.UpFirstGrad

open Idealize.ShloMosaic Idealize.ShloMosaic.TcCoe Idealize.SL.Sem Cert.UpFirstIdeal Cert.UpFirstIdeal.Gen Cert.Grad Cert.UpFirstReferenceIdeal.Read

variable (m : (ℓ : Loc nD τ sig) → Buf (Elt Ideal) ℓ)

/-- A column of the first operand. -/
abbrev col (n : ℕ) (i : Fin 1408) : Fin 2816 := ⟨1408 * (n / 2 % 2) + i.val, by omega⟩

/-- A row of the buffer, in its half. -/
abbrev half (i : Fin 5632) : Fin 2816 := ⟨i.val % 2816, by omega⟩
/-- The row of the upper half that a block's row is. -/
abbrev high (n : ℕ) (i : Fin 1408) : Fin 5632 := ⟨1408 * (n / 2 % 2) + i.val, by omega⟩

theorem e_0 : ∀ t : Fin cfg0.N, win0_0.index t = ![t.val % 2, t.val / 2] := by decide +kernel
theorem e_1 : ∀ t : Fin cfg0.N, win0_1.index t = ![t.val % 2, 0] := by decide +kernel
theorem e_2 : ∀ t : Fin cfg0.N, win0_2.index t = ![t.val / 2, 0] := by decide +kernel
theorem lt (t : Fin cfg0.N) : t.val < 4 := t.isLt

variable {m}

/-- One half's sum, at a grid point. -/
theorem half_at {c : Dev nD} {A : Fin 4096 → Fin 2816 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j)
    (t : Fin cfg0.N) (acc : Vec Ideal S1408x1024 .f32) (i : Fin 1408) (j : Fin 1024) :
    k0_pay2 (F := Ideal) acc (iblk m c 0 t) (iblk m c 1 t) (ix2 i j) = acc (ix2 i j) + ∑ d, A (tok t.val d) (col t.val i) * B (tok t.val d) j := by
  have ht := lt t
  pointwise [k0_pay2]
  refine congrArg (_ + ·) (Finset.sum_congr rfl fun d _ => congrArg₂ (· * ·) ?_ ?_)
  · refine Eq.trans ?_ (hA (tok t.val d) (col t.val i)); blk_simp [iblk]; rw [V_main_arg0]; refine congrArg (m _) ?_; blk_ext [e_0 t]
  · refine Eq.trans ?_ (hB (tok t.val d) j); blk_simp [iblk]; rw [V_main_arg1]; refine congrArg (m _) ?_; blk_ext [e_1 t]

theorem array {c : Dev nD} {A : Fin 4096 → Fin 2816 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j) :
    (dats m 0 c).arrAt 2 cfg0.N
      = fun y : S5632x1024.Idx => if (y 0 : ℕ) / 1408 < 2 then prodW A B (half (y 0)) (y 1) else V m c main_v0 y := by
  refine (dats m 0 c).arrAt_eq_of_coversWhere 2 (fun y : S5632x1024.Idx => prodW A B (half (y 0)) (y 1)) (fun β => β (0 : Fin 2) < 2) (by decide +kernel)
    (fun t hf y => ?_) (fun j => Iff.rfl)
  have hm : t.val % 2 = 1 := (flush0_2 t).mp hf
  blk_simp
  rw [after0_2]
  idx_vars y
  have ht := lt t
  have e : (win0_2.blk t).view.emb (ix2 y0 y1) = ix2 (high t.val y0) y1 := by
    blk_ext [e_2 t]
  rw [e, outsAt0_B m c t (by omega) hm]
  frame_out
  pointwise [k0_pay3]
  rw [half_at hA hB, read_unread_whole, outsAt0_A m c ⟨t.val - 1, (Nat.sub_le _ _).trans_lt t.isLt⟩ (by show (t.val - 1) % 2 = 0; omega) (by show ¬(t.val - 1) % 2 = 1; omega)]
  frame_out
  rw [half_at hA hB]
  pointwise [k0_pay1]
  rw [show col (t.val - 1) y0 = col t.val y0 from Fin.ext (by show 1408 * ((t.val - 1) / 2 % 2) + _ = 1408 * (t.val / 2 % 2) + _; omega)]
  rw [prodW_halves A B (by omega) hm]
  show _ = prodW A B (half (high t.val y0)) y1
  rw [show half (high t.val y0) = col t.val y0 from Fin.ext (by show (1408 * (t.val / 2 % 2) + y0.val) % 2816 = 1408 * (t.val / 2 % 2) + y0.val; omega)]

/-- The result's buffer starts as a copy of the argument. -/
theorem entry (c : Dev nD) : V m c main_v0 = m ((c.tc : Thread nD τ).loc main_arg2) := by
  show StableHlo.after [StableHlo.unary main_arg2 main_v0 id] _ _ = _
  after_results
  rfl

/-- The reference's result is the same product above the buffer's own lower half. -/
theorem reference_at {a : (⟨S4096x2816, .bf16⟩ : BufTy).Contents (Elt Ideal)} {b : (⟨S4096x1024, .bf16⟩ : BufTy).Contents (Elt Ideal)}
    {g : (⟨S5632x1024, .bf16⟩ : BufTy).Contents (Elt Ideal)} (i : Fin 5632) (j : Fin 1024) :
    val_main_v9 (F := Ideal) a b g (ix2 i j)
      = if i.val / 1408 < 2 then prodW (fun d i => a (ix2 d i)) (fun d j => b (ix2 d j)) (half i) j else g (ix2 i j) := by
  pointwise [val_main_v9, val_main_v8, val_main_v7, val_main_v6, val_main_v5, val_main_v4, val_main_v1, val_main_v0]
  by_cases h : i.val < 2816
  · rw [dif_pos h]
    refine Eq.trans ?_ (if_pos (by omega)).symm
    exact congrArg (prodW (fun d i => a (ix2 d i)) (fun d j => b (ix2 d j)) · j) (a₁ := ⟨i.val, h⟩) (a₂ := half i) (Fin.ext (by show i.val = i.val % 2816; omega))
  · rw [dif_neg h]
    refine Eq.trans ?_ (if_neg (by omega)).symm
    exact congrArg (fun k => g (ix2 k j)) (a₁ := ⟨2816 + (i.val - 2816), by omega⟩) (Fin.ext (by show 2816 + (i.val - 2816) = i.val; omega))

/-- The reference's run ends with its arguments unchanged, and it has no semaphore. -/
theorem frame_reference : Cert.quiescent_UpFirstReferenceIdeal := by
  intro m ρ _
  exact (θ_run Cert.UpFirstReferenceIdeal.defs _ _).mono (fun r h => ⟨fun c => (h c).2, sem_eq_zero_of_no_sems (by decide) r.2⟩)
    (Cert.UpFirstReferenceIdeal.Value.run (F := Ideal) m ρ)

/-- The value claim. -/
theorem values : Cert.algebraic_UpFirstIdeal_UpFirstReferenceIdeal := by
  intro m g m' g' hpre hargs
  refine ⟨fun c => (dats m 0 c).arrAt 2 cfg0.N, Cert.UpFirstIdeal.Value.run_blocks (F := Ideal) m g, ?_⟩
  refine (θ_run Cert.UpFirstReferenceIdeal.defs _ _).mono (fun r h c => ⟨?_, (h c).2⟩) (Cert.UpFirstReferenceIdeal.Value.run (F := Ideal) m' g')
  obtain ⟨e0, e1, e2⟩ := hargs c
  refine ((h c).1.trans (val_main_v9_eq _ _ _)).trans ?_
  rw [e0, e1, e2]
  refine Eq.trans ?_ (array (fun _ _ => rfl) fun _ _ => rfl).symm
  funext y
  idx_vars y
  rw [entry]
  exact reference_at y0 y1

end Cert.UpFirstGrad

end
-- ==== Proof.UpSecondGrad.lean ====
/- The gradient of the second half of the up-projection's matrix, written into the lower half of a buffer: what the kernel's array holds, the reference's result, and the claims. -/
module

public import proofs.«01_k».proof.Proof.GradMath
public import proofs.«01_k».proof.Proof.Gen.UpSecondIdeal.Value
public import proofs.«01_k».proof.Proof.Gen.UpSecondReferenceIdeal.Run
public import proofs.«01_k».proof.Proof.Gen.UpSecondReferenceIdeal.Read
public import proofs.«01_k».proof.Defs
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Partial
public import Idealize.ShloMosaic.Lib.Pointwise

@[expose] public section

set_option maxRecDepth 16384

noncomputable section

namespace Cert.UpSecondGrad

open Idealize.ShloMosaic Idealize.ShloMosaic.TcCoe Idealize.SL.Sem Cert.UpSecondIdeal Cert.UpSecondIdeal.Gen Cert.Grad Cert.UpSecondReferenceIdeal.Read

variable (m : (ℓ : Loc nD τ sig) → Buf (Elt Ideal) ℓ)

/-- A column of the first operand. -/
abbrev col (n : ℕ) (i : Fin 1408) : Fin 2816 := ⟨1408 * (n / 2 % 2) + i.val, by omega⟩

/-- A row of the buffer, in its half. -/
abbrev half (i : Fin 5632) : Fin 2816 := ⟨i.val % 2816, by omega⟩
/-- The row of the lower half that a block's row is. -/
abbrev low (n : ℕ) (i : Fin 1408) : Fin 5632 := ⟨2816 + (1408 * (n / 2 % 2) + i.val), by omega⟩

theorem e_0 : ∀ t : Fin cfg0.N, win0_0.index t = ![t.val % 2, t.val / 2] := by decide +kernel
theorem e_1 : ∀ t : Fin cfg0.N, win0_1.index t = ![t.val % 2, 0] := by decide +kernel
theorem e_2 : ∀ t : Fin cfg0.N, win0_2.index t = ![t.val / 2 + 2, 0] := by decide +kernel
theorem lt (t : Fin cfg0.N) : t.val < 4 := t.isLt

variable {m}

/-- One half's sum, at a grid point. -/
theorem half_at {c : Dev nD} {A : Fin 4096 → Fin 2816 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j)
    (t : Fin cfg0.N) (acc : Vec Ideal S1408x1024 .f32) (i : Fin 1408) (j : Fin 1024) :
    k0_pay2 (F := Ideal) acc (iblk m c 0 t) (iblk m c 1 t) (ix2 i j) = acc (ix2 i j) + ∑ d, A (tok t.val d) (col t.val i) * B (tok t.val d) j := by
  have ht := lt t
  pointwise [k0_pay2]
  refine congrArg (_ + ·) (Finset.sum_congr rfl fun d _ => congrArg₂ (· * ·) ?_ ?_)
  · refine Eq.trans ?_ (hA (tok t.val d) (col t.val i)); blk_simp [iblk]; rw [V_main_arg0]; refine congrArg (m _) ?_; blk_ext [e_0 t]
  · refine Eq.trans ?_ (hB (tok t.val d) j); blk_simp [iblk]; rw [V_main_arg1]; refine congrArg (m _) ?_; blk_ext [e_1 t]

theorem array {c : Dev nD} {A : Fin 4096 → Fin 2816 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j) :
    (dats m 0 c).arrAt 2 cfg0.N
      = fun y : S5632x1024.Idx => if 2 ≤ (y 0 : ℕ) / 1408 then prodW A B (half (y 0)) (y 1) else V m c main_v0 y := by
  refine (dats m 0 c).arrAt_eq_of_coversWhere 2 (fun y : S5632x1024.Idx => prodW A B (half (y 0)) (y 1)) (fun β => 2 ≤ β (0 : Fin 2)) (by decide +kernel)
    (fun t hf y => ?_) (fun j => Iff.rfl)
  have hm : t.val % 2 = 1 := (flush0_2 t).mp hf
  blk_simp
  rw [after0_2]
  idx_vars y
  have ht := lt t
  have e : (win0_2.blk t).view.emb (ix2 y0 y1) = ix2 (low t.val y0) y1 := by
    blk_ext [e_2 t]
  rw [e, outsAt0_B m c t (by omega) hm]
  frame_out
  pointwise [k0_pay3]
  rw [half_at hA hB, read_unread_whole, outsAt0_A m c ⟨t.val - 1, (Nat.sub_le _ _).trans_lt t.isLt⟩ (by show (t.val - 1) % 2 = 0; omega) (by show ¬(t.val - 1) % 2 = 1; omega)]
  frame_out
  rw [half_at hA hB]
  pointwise [k0_pay1]
  rw [show col (t.val - 1) y0 = col t.val y0 from Fin.ext (by show 1408 * ((t.val - 1) / 2 % 2) + _ = 1408 * (t.val / 2 % 2) + _; omega)]
  rw [prodW_halves A B (by omega) hm]
  show _ = prodW A B (half (low t.val y0)) y1
  rw [show half (low t.val y0) = col t.val y0 from Fin.ext (by show (2816 + (1408 * (t.val / 2 % 2) + y0.val)) % 2816 = 1408 * (t.val / 2 % 2) + y0.val; omega)]

/-- The result's buffer starts as a copy of the argument. -/
theorem entry (c : Dev nD) : V m c main_v0 = m ((c.tc : Thread nD τ).loc main_arg2) := by
  show StableHlo.after [StableHlo.unary main_arg2 main_v0 id] _ _ = _
  after_results
  rfl

/-- The reference's result is the same product below the buffer's own upper half. -/
theorem reference_at {a : (⟨S4096x2816, .bf16⟩ : BufTy).Contents (Elt Ideal)} {b : (⟨S4096x1024, .bf16⟩ : BufTy).Contents (Elt Ideal)}
    {g : (⟨S5632x1024, .bf16⟩ : BufTy).Contents (Elt Ideal)} (i : Fin 5632) (j : Fin 1024) :
    val_main_v9 (F := Ideal) a b g (ix2 i j)
      = if 2 ≤ i.val / 1408 then prodW (fun d i => a (ix2 d i)) (fun d j => b (ix2 d j)) (half i) j else g (ix2 i j) := by
  pointwise [val_main_v9, val_main_v8, val_main_v7, val_main_v6, val_main_v5, val_main_v2, val_main_v1, val_main_v0]
  by_cases h : i.val < 2816
  · rw [dif_pos h, if_neg (by omega)]
  · rw [dif_neg h]
    refine Eq.trans ?_ (if_pos (by omega)).symm
    exact congrArg (prodW (fun d i => a (ix2 d i)) (fun d j => b (ix2 d j)) · j) (Fin.ext (by show i.val - 2816 = i.val % 2816; omega))

/-- The reference's run ends with its arguments unchanged, and it has no semaphore. -/
theorem frame_reference : Cert.quiescent_UpSecondReferenceIdeal := by
  intro m ρ _
  exact (θ_run Cert.UpSecondReferenceIdeal.defs _ _).mono (fun r h => ⟨fun c => (h c).2, sem_eq_zero_of_no_sems (by decide) r.2⟩)
    (Cert.UpSecondReferenceIdeal.Value.run (F := Ideal) m ρ)

/-- The value claim. -/
theorem values : Cert.algebraic_UpSecondIdeal_UpSecondReferenceIdeal := by
  intro m g m' g' hpre hargs
  refine ⟨fun c => (dats m 0 c).arrAt 2 cfg0.N, Cert.UpSecondIdeal.Value.run_blocks (F := Ideal) m g, ?_⟩
  refine (θ_run Cert.UpSecondReferenceIdeal.defs _ _).mono (fun r h c => ⟨?_, (h c).2⟩) (Cert.UpSecondReferenceIdeal.Value.run (F := Ideal) m' g')
  obtain ⟨e0, e1, e2⟩ := hargs c
  refine ((h c).1.trans (val_main_v9_eq _ _ _)).trans ?_
  rw [e0, e1, e2]
  refine Eq.trans ?_ (array (fun _ _ => rfl) fun _ _ => rfl).symm
  funext y
  idx_vars y
  rw [entry]
  exact reference_at y0 y1

end Cert.UpSecondGrad

end
-- ==== Proof.OutGrad.lean ====
/- The gradient of the output projection's matrix: what the kernel's array holds, the reference's result, and the claims. -/
module

public import proofs.«01_k».proof.Proof.GradMath
public import proofs.«01_k».proof.Proof.Gen.OutIdeal.Value
public import proofs.«01_k».proof.Proof.Gen.OutReferenceIdeal.Run
public import proofs.«01_k».proof.Proof.Gen.OutReferenceIdeal.Read
public import proofs.«01_k».proof.Defs
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.OutGrad

open Idealize.ShloMosaic Idealize.ShloMosaic.TcCoe Idealize.SL.Sem Cert.OutIdeal Cert.OutIdeal.Gen Cert.Grad Cert.OutReferenceIdeal.Read

variable (m : (ℓ : Loc nD τ sig) → Buf (Elt Ideal) ℓ)

theorem e_0 : ∀ t : Fin cfg0.N, win0_0.index t = ![t.val % 2, 0] := by decide +kernel
theorem e_1 : ∀ t : Fin cfg0.N, win0_1.index t = ![t.val % 2, 0] := by decide +kernel
theorem e_2 : ∀ t : Fin cfg0.N, win0_2.index t = ![0, 0] := by decide +kernel
theorem lt (t : Fin cfg0.N) : t.val < 2 := t.isLt

variable {m}

/-- One half's sum, at a grid point. -/
theorem half_at {c : Dev nD} {A : Fin 4096 → Fin 1024 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j)
    (t : Fin cfg0.N) (acc : Vec Ideal S1024x1024 .f32) (i : Fin 1024) (j : Fin 1024) :
    k0_pay2 (F := Ideal) acc (iblk m c 0 t) (iblk m c 1 t) (ix2 i j) = acc (ix2 i j) + ∑ d, A (tok t.val d) i * B (tok t.val d) j := by
  have ht := lt t
  pointwise [k0_pay2]
  refine congrArg (_ + ·) (Finset.sum_congr rfl fun d _ => congrArg₂ (· * ·) ?_ ?_)
  · refine Eq.trans ?_ (hA (tok t.val d) i); blk_simp [iblk]; rw [V_main_arg0]; refine congrArg (m _) ?_; blk_ext [e_0 t]
  · refine Eq.trans ?_ (hB (tok t.val d) j); blk_simp [iblk]; rw [V_main_arg1]; refine congrArg (m _) ?_; blk_ext [e_1 t]

theorem array {c : Dev nD} {A : Fin 4096 → Fin 1024 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j) :
    (dats m 0 c).arrAt 2 cfg0.N = fun y : S1024x1024.Idx => prodW A B (y 0) (y 1) := by
  refine (dats m 0 c).arrAt_eq_of_covers 2 _ (by decide +kernel) fun t hf y => ?_
  have hm : t.val % 2 = 1 := (flush0_2 t).mp hf
  blk_simp
  rw [after0_2]
  idx_vars y
  have ht := lt t
  have e : (win0_2.blk t).view.emb (ix2 y0 y1) = ix2 y0 y1 := by
    blk_ext [e_2 t]
  rw [e, outsAt0_B m c t (by omega) hm]
  frame_out
  pointwise [k0_pay3]
  rw [half_at hA hB, read_unread_whole, outsAt0_A m c ⟨t.val - 1, (Nat.sub_le _ _).trans_lt t.isLt⟩ (by show (t.val - 1) % 2 = 0; omega) (by show ¬(t.val - 1) % 2 = 1; omega)]
  frame_out
  rw [half_at hA hB]
  pointwise [k0_pay1]
  exact prodW_halves A B (by omega) hm _ _

/-- The reference's result is the same product. -/
theorem reference_at {a : (⟨S4096x1024, .bf16⟩ : BufTy).Contents (Elt Ideal)} {b : (⟨S4096x1024, .bf16⟩ : BufTy).Contents (Elt Ideal)}
    (i : Fin 1024) (j : Fin 1024) :
    val_main_v6 (F := Ideal) a b (ix2 i j) = prodW (fun d i => a (ix2 d i)) (fun d j => b (ix2 d j)) i j := by
  pointwise [val_main_v6, val_main_v5, val_main_v4, val_main_v1, val_main_v0]
  exact Finset.sum_congr rfl fun d _ => mul_comm _ _

/-- The reference's run ends with its arguments unchanged, and it has no semaphore. -/
theorem frame_reference : Cert.quiescent_OutReferenceIdeal := by
  intro m ρ _
  exact (θ_run Cert.OutReferenceIdeal.defs _ _).mono (fun r h => ⟨fun c => (h c).2, sem_eq_zero_of_no_sems (by decide) r.2⟩)
    (Cert.OutReferenceIdeal.Value.run (F := Ideal) m ρ)

/-- The value claim. -/
theorem values : Cert.algebraic_OutIdeal_OutReferenceIdeal := by
  intro m g m' g' hpre hargs
  refine ⟨fun c => (dats m 0 c).arrAt 2 cfg0.N, Cert.OutIdeal.Value.run_blocks (F := Ideal) m g, ?_⟩
  refine (θ_run Cert.OutReferenceIdeal.defs _ _).mono (fun r h c => ⟨?_, (h c).2⟩) (Cert.OutReferenceIdeal.Value.run (F := Ideal) m' g')
  obtain ⟨e0, e1⟩ := hargs c
  refine ((h c).1.trans (val_main_v6_eq _ _)).trans ?_
  rw [e0, e1]
  refine Eq.trans ?_ (array (fun _ _ => rfl) fun _ _ => rfl).symm
  funext y
  idx_vars y
  exact reference_at y0 y1

end Cert.OutGrad

end
-- ==== Proof.InGrad.lean ====
/- The gradient of the input projection's matrix: what the kernel's array holds, the reference's result, and the claims. -/
module

public import proofs.«01_k».proof.Proof.GradMath
public import proofs.«01_k».proof.Proof.Gen.InIdeal.Value
public import proofs.«01_k».proof.Proof.Gen.InReferenceIdeal.Run
public import proofs.«01_k».proof.Proof.Gen.InReferenceIdeal.Read
public import proofs.«01_k».proof.Defs
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.InGrad

open Idealize.ShloMosaic Idealize.ShloMosaic.TcCoe Idealize.SL.Sem Cert.InIdeal Cert.InIdeal.Gen Cert.Grad Cert.InReferenceIdeal.Read

variable (m : (ℓ : Loc nD τ sig) → Buf (Elt Ideal) ℓ)

/-- A column of the first operand. -/
abbrev col (n : ℕ) (i : Fin 1024) : Fin 2048 := ⟨1024 * (n / 2 % 2) + i.val, by omega⟩

theorem e_0 : ∀ t : Fin cfg0.N, win0_0.index t = ![t.val % 2, t.val / 2] := by decide +kernel
theorem e_1 : ∀ t : Fin cfg0.N, win0_1.index t = ![t.val % 2, 0] := by decide +kernel
theorem e_2 : ∀ t : Fin cfg0.N, win0_2.index t = ![t.val / 2, 0] := by decide +kernel
theorem lt (t : Fin cfg0.N) : t.val < 4 := t.isLt

variable {m}

/-- One half's sum, at a grid point. -/
theorem half_at {c : Dev nD} {A : Fin 4096 → Fin 2048 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j)
    (t : Fin cfg0.N) (acc : Vec Ideal S1024x1024 .f32) (i : Fin 1024) (j : Fin 1024) :
    k0_pay2 (F := Ideal) acc (iblk m c 0 t) (iblk m c 1 t) (ix2 i j) = acc (ix2 i j) + ∑ d, A (tok t.val d) (col t.val i) * B (tok t.val d) j := by
  have ht := lt t
  pointwise [k0_pay2]
  refine congrArg (_ + ·) (Finset.sum_congr rfl fun d _ => congrArg₂ (· * ·) ?_ ?_)
  · refine Eq.trans ?_ (hA (tok t.val d) (col t.val i)); blk_simp [iblk]; rw [V_main_arg0]; refine congrArg (m _) ?_; blk_ext [e_0 t]
  · refine Eq.trans ?_ (hB (tok t.val d) j); blk_simp [iblk]; rw [V_main_arg1]; refine congrArg (m _) ?_; blk_ext [e_1 t]

theorem array {c : Dev nD} {A : Fin 4096 → Fin 2048 → EReal} {B : Fin 4096 → Fin 1024 → EReal}
    (hA : ∀ d i, m ((c.tc : Thread nD τ).loc main_arg0) (ix2 d i) = A d i) (hB : ∀ d j, m ((c.tc : Thread nD τ).loc main_arg1) (ix2 d j) = B d j) :
    (dats m 0 c).arrAt 2 cfg0.N = fun y : S2048x1024.Idx => prodW A B (y 0) (y 1) := by
  refine (dats m 0 c).arrAt_eq_of_covers 2 _ (by decide +kernel) fun t hf y => ?_
  have hm : t.val % 2 = 1 := (flush0_2 t).mp hf
  blk_simp
  rw [after0_2]
  idx_vars y
  have ht := lt t
  have e : (win0_2.blk t).view.emb (ix2 y0 y1) = ix2 (col t.val y0) y1 := by
    blk_ext [e_2 t]
  rw [e, outsAt0_B m c t (by omega) hm]
  frame_out
  pointwise [k0_pay3]
  rw [half_at hA hB, read_unread_whole, outsAt0_A m c ⟨t.val - 1, (Nat.sub_le _ _).trans_lt t.isLt⟩ (by show (t.val - 1) % 2 = 0; omega) (by show ¬(t.val - 1) % 2 = 1; omega)]
  frame_out
  rw [half_at hA hB]
  pointwise [k0_pay1]
  rw [show col (t.val - 1) y0 = col t.val y0 from Fin.ext (by show 1024 * ((t.val - 1) / 2 % 2) + _ = 1024 * (t.val / 2 % 2) + _; omega)]
  exact prodW_halves A B (by omega) hm _ _

/-- The reference's result is the same product. -/
theorem reference_at {a : (⟨S4096x2048, .bf16⟩ : BufTy).Contents (Elt Ideal)} {b : (⟨S4096x1024, .bf16⟩ : BufTy).Contents (Elt Ideal)}
    (i : Fin 2048) (j : Fin 1024) :
    val_main_v7 (F := Ideal) a b (ix2 i j) = prodW (fun d i => a (ix2 d i)) (fun d j => b (ix2 d j)) i j := by
  pointwise [val_main_v7, val_main_v6, val_main_v5, val_main_v4, val_main_v1, val_main_v0]
  rfl

/-- The reference's run ends with its arguments unchanged, and it has no semaphore. -/
theorem frame_reference : Cert.quiescent_InReferenceIdeal := by
  intro m ρ _
  exact (θ_run Cert.InReferenceIdeal.defs _ _).mono (fun r h => ⟨fun c => (h c).2, sem_eq_zero_of_no_sems (by decide) r.2⟩)
    (Cert.InReferenceIdeal.Value.run (F := Ideal) m ρ)

/-- The value claim. -/
theorem values : Cert.algebraic_InIdeal_InReferenceIdeal := by
  intro m g m' g' hpre hargs
  refine ⟨fun c => (dats m 0 c).arrAt 2 cfg0.N, Cert.InIdeal.Value.run_blocks (F := Ideal) m g, ?_⟩
  refine (θ_run Cert.InReferenceIdeal.defs _ _).mono (fun r h c => ⟨?_, (h c).2⟩) (Cert.InReferenceIdeal.Value.run (F := Ideal) m' g')
  obtain ⟨e0, e1⟩ := hargs c
  refine ((h c).1.trans (val_main_v7_eq _ _)).trans ?_
  rw [e0, e1]
  refine Eq.trans ?_ (array (fun _ _ => rfl) fun _ _ => rfl).symm
  funext y
  idx_vars y
  exact reference_at y0 y1

end Cert.InGrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import proofs.«01_k».proof.Proof.MlpEqual
public import proofs.«01_k».proof.Proof.ProjEqual
public import proofs.«01_k».proof.Proof.LatentEqual
public import proofs.«01_k».proof.Proof.DownGrad
public import proofs.«01_k».proof.Proof.UpFirstGrad
public import proofs.«01_k».proof.Proof.UpSecondGrad
public import proofs.«01_k».proof.Proof.OutGrad
public import proofs.«01_k».proof.Proof.InGrad
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.Projections
public import proofs.«01_k».proof.Proof.Gen.Projections.Skeleton
public import proofs.«01_k».proof.Proof.Gen.Projections.Launch
public import proofs.«01_k».proof.Proof.Gen.Projections.Points
public import proofs.«01_k».proof.Proof.Gen.Projections.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame
public import proofs.«01_k».proof.Proof.Gen.ProjectionsReferenceIdeal
public import proofs.«01_k».proof.Proof.Gen.ProjectionsReferenceIdeal.Run
public import proofs.«01_k».proof.Proof.Gen.ProjectionsReferenceIdeal.Read
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentReferenceIdeal
public import proofs.«01_k».proof.Proof.Gen.LatentReferenceIdeal.Run
public import proofs.«01_k».proof.Proof.Gen.LatentReferenceIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.UpFirst
public import proofs.«01_k».proof.Proof.Gen.UpFirst.Skeleton
public import proofs.«01_k».proof.Proof.Gen.UpFirst.Launch
public import proofs.«01_k».proof.Proof.Gen.UpFirst.Points
public import proofs.«01_k».proof.Proof.Gen.UpFirst.Frame
public import proofs.«01_k».proof.Proof.Gen.UpFirstIdeal
public import proofs.«01_k».proof.Proof.Gen.UpFirstIdeal.Skeleton
public import proofs.«01_k».proof.Proof.Gen.UpFirstIdeal.Launch
public import proofs.«01_k».proof.Proof.Gen.UpFirstIdeal.Points
public import proofs.«01_k».proof.Proof.Gen.UpFirstIdeal.Frame
public import proofs.«01_k».proof.Proof.Gen.UpFirstIdeal.Value
public import proofs.«01_k».proof.Proof.Gen.UpFirstReferenceIdeal
public import proofs.«01_k».proof.Proof.Gen.UpFirstReferenceIdeal.Run
public import proofs.«01_k».proof.Proof.Gen.UpFirstReferenceIdeal.Read
public import proofs.«01_k».proof.Proof.Gen.UpSecond
public import proofs.«01_k».proof.Proof.Gen.UpSecond.Skeleton
public import proofs.«01_k».proof.Proof.Gen.UpSecond.Launch
public import proofs.«01_k».proof.Proof.Gen.UpSecond.Points
public import proofs.«01_k».proof.Proof.Gen.UpSecond.Frame
public import proofs.«01_k».proof.Proof.Gen.UpSecondIdeal
public import proofs.«01_k».proof.Proof.Gen.UpSecondIdeal.Skeleton
public import proofs.«01_k».proof.Proof.Gen.UpSecondIdeal.Launch
public import proofs.«01_k».proof.Proof.Gen.UpSecondIdeal.Points
public import proofs.«01_k».proof.Proof.Gen.UpSecondIdeal.Frame
public import proofs.«01_k».proof.Proof.Gen.UpSecondIdeal.Value
public import proofs.«01_k».proof.Proof.Gen.UpSecondReferenceIdeal
public import proofs.«01_k».proof.Proof.Gen.UpSecondReferenceIdeal.Run
public import proofs.«01_k».proof.Proof.Gen.UpSecondReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Projections.Gen.facts, Cert.ProjectionsIdeal.Gen.facts, Cert.ProjectionsReferenceIdeal.Gen.facts,
  Cert.Latent.Gen.facts, Cert.LatentIdeal.Gen.facts, Cert.LatentReferenceIdeal.Gen.facts,
  Cert.Down.Gen.facts, Cert.DownIdeal.Gen.facts, Cert.DownReferenceIdeal.Gen.facts,
  Cert.UpFirst.Gen.facts, Cert.UpFirstIdeal.Gen.facts, Cert.UpFirstReferenceIdeal.Gen.facts,
  Cert.UpSecond.Gen.facts, Cert.UpSecondIdeal.Gen.facts, Cert.UpSecondReferenceIdeal.Gen.facts,
  Cert.Out.Gen.facts, Cert.OutIdeal.Gen.facts, Cert.OutReferenceIdeal.Gen.facts,
  Cert.In.Gen.facts, Cert.InIdeal.Gen.facts, Cert.InReferenceIdeal.Gen.facts,
  Cert.Finite.facts, Cert.LatentEqual.facts,
  fun m g _ => Cert.Kernel.Gen.frame m g,
  fun m g _ => Cert.KernelIdeal.Gen.frame m g,
  fun m g _ => Cert.KernelIdeal.Gen.frame m g,
  Cert.Equal.frame_reference,
  fun m g _ => Cert.Equal.frame_reference m g trivial,
  fun m g _ => Cert.Mlp.Gen.frame m g,
  fun m g _ => Cert.MlpIdeal.Gen.frame m g,
  Cert.MlpEqual.frame_reference,
  fun m g _ => Cert.Projections.Gen.frame m g,
  fun m g _ => Cert.ProjectionsIdeal.Gen.frame m g,
  Cert.ProjEqual.frame_reference,
  fun m g _ => Cert.Latent.Gen.frame m g,
  fun m g _ => Cert.LatentIdeal.Gen.frame m g,
  fun m g _ => Cert.LatentIdeal.Gen.frame m g,
  Cert.LatentEqual.frame_reference,
  fun m g _ => Cert.LatentEqual.frame_reference m g trivial,
  fun m g _ => Cert.Down.Gen.frame m g,
  fun m g _ => Cert.DownIdeal.Gen.frame m g,
  Cert.DownGrad.frame_reference,
  fun m g _ => Cert.UpFirst.Gen.frame m g,
  fun m g _ => Cert.UpFirstIdeal.Gen.frame m g,
  Cert.UpFirstGrad.frame_reference,
  fun m g _ => Cert.UpSecond.Gen.frame m g,
  fun m g _ => Cert.UpSecondIdeal.Gen.frame m g,
  Cert.UpSecondGrad.frame_reference,
  fun m g _ => Cert.Out.Gen.frame m g,
  fun m g _ => Cert.OutIdeal.Gen.frame m g,
  Cert.OutGrad.frame_reference,
  fun m g _ => Cert.In.Gen.frame m g,
  fun m g _ => Cert.InIdeal.Gen.frame m g,
  Cert.InGrad.frame_reference,
  ⟨IdealRules.named_const.statement Cert.KernelIdeal.κ "scale_log2e" .f32 0x3E38AA3B#32 _ rfl,
   IdealRules.named_const.statement Cert.KernelIdeal.κ "ln2" .f32 0x3F317218#32 _ rfl,
   IdealRules.named_const.statement Cert.KernelIdeal.κ "log2e" .f32 0x3FB8AA3B#32 _ rfl⟩,
  Cert.Equal.values,
  trivial,
  Cert.MlpEqual.values,
  trivial,
  Cert.ProjEqual.values,
  ⟨IdealRules.named_const.statement Cert.LatentIdeal.κ "scale_log2e" .f32 0x3E16C740#32 _ rfl,
   IdealRules.named_const.statement Cert.LatentIdeal.κ "ln2" .f32 0x3F317218#32 _ rfl,
   IdealRules.named_const.statement Cert.LatentIdeal.κ "log2e" .f32 0x3FB8AA3B#32 _ rfl,
   IdealRules.named_const.statement Cert.LatentIdeal.κ "scale" .f32 0x3DD105EC#32 _ rfl⟩,
  Cert.LatentEqual.values,
  trivial,
  Cert.DownGrad.values,
  trivial,
  Cert.UpFirstGrad.values,
  trivial,
  Cert.UpSecondGrad.values,
  trivial,
  Cert.OutGrad.values,
  trivial,
  Cert.InGrad.values⟩

end Cert.Proof

end
